-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_exist : Cert.Pre_experts_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_experts_exist : Cert.Pre_experts_exist.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_router_finite [hPre_router_finite : Cert.Pre_router_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_router_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_router_finite [hPre_router_finite : Cert.Pre_router_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_router_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_experts_exist : Cert.Pre_experts_exist.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_router_finite [hKernel5Ideal : Cert.Kernel5Ideal.Facts] [hPre_router_finite : Cert.Pre_router_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_router_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_router_finite [hReference5Ideal : Cert.Reference5Ideal.Facts] [hPre_router_finite : Cert.Pre_router_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_router_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_on_rows_used [hKernel2Ideal : Cert.Kernel2Ideal.Facts] [hReference2Ideal : Cert.Reference2Ideal.Facts] [hPre_experts_exist : Cert.Pre_experts_exist.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![36864, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![36864, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v173) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "qscale" .f32 0x3E38AA3B#32 (((Real.log 256)⁻¹ : ℝ) : EReal)

def algebraic_Kernel3Ideal_Reference3Ideal_on_layer_done [hKernel3Ideal : Cert.Kernel3Ideal.Facts] [hReference3Ideal : Cert.Reference3Ideal.Facts] [hOn_layer_done : Cert.On_layer_done.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)) (v4 : (c : Dev Cert.Kernel3Ideal.nD) → Buf (Elt Ideal) ((c.tc : Thread Cert.Kernel3Ideal.nD Cert.Kernel3Ideal.τ).loc Cert.Kernel3Ideal.main_v3_4)) (v5 : (c : Dev Cert.Kernel3Ideal.nD) → Buf (Elt Ideal) ((c.tc : Thread Cert.Kernel3Ideal.nD Cert.Kernel3Ideal.τ).loc Cert.Kernel3Ideal.main_v3_5)) (v6 : (c : Dev Cert.Kernel3Ideal.nD) → Buf (Elt Ideal) ((c.tc : Thread Cert.Kernel3Ideal.nD Cert.Kernel3Ideal.τ).loc Cert.Kernel3Ideal.main_v3_6)) (v7 : (c : Dev Cert.Kernel3Ideal.nD) → Buf (Elt Ideal) ((c.tc : Thread Cert.Kernel3Ideal.nD Cert.Kernel3Ideal.τ).loc Cert.Kernel3Ideal.main_v3_7)) (v8 : (c : Dev Cert.Kernel3Ideal.nD) → Buf (Elt Ideal) ((c.tc : Thread Cert.Kernel3Ideal.nD Cert.Kernel3Ideal.τ).loc Cert.Kernel3Ideal.main_v3_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![16384, 512]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 i = 1#1 → r.2.mem ((c.tc : Thread Cert.Kernel3Ideal.nD Cert.Kernel3Ideal.τ).loc Cert.Kernel3Ideal.main_v3_0) i = v0 c i)
          ∧ (∀ i : (⟨4, ![2, 4, 512, 4096]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.1 i = 1#1 → r.2.mem ((c.tc : Thread Cert.Kernel3Ideal.nD Cert.Kernel3Ideal.τ).loc Cert.Kernel3Ideal.main_v3_1) i = v1 c i)
          ∧ (∀ i : (⟨4, ![2, 4, 512, 4096]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.1 i = 1#1 → r.2.mem ((c.tc : Thread Cert.Kernel3Ideal.nD Cert.Kernel3Ideal.τ).loc Cert.Kernel3Ideal.main_v3_2) i = v2 c i)
          ∧ (∀ i : (⟨3, ![4, 512, 4096]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.1 i = 1#1 → r.2.mem ((c.tc : Thread Cert.Kernel3Ideal.nD Cert.Kernel3Ideal.τ).loc Cert.Kernel3Ideal.main_v3_3) i = v3 c i)
          ∧ (∀ i : (⟨3, ![4, 512, 4096]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.2.1 i = 1#1 → r.2.mem ((c.tc : Thread Cert.Kernel3Ideal.nD Cert.Kernel3Ideal.τ).loc Cert.Kernel3Ideal.main_v3_4) i = v4 c i)
          ∧ (∀ i : (⟨2, ![16384, 512]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.2.2.1 i = 1#1 → r.2.mem ((c.tc : Thread Cert.Kernel3Ideal.nD Cert.Kernel3Ideal.τ).loc Cert.Kernel3Ideal.main_v3_5) i = v5 c i)
          ∧ (∀ i : (⟨2, ![16384, 512]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.2.2.2.1 i = 1#1 → r.2.mem ((c.tc : Thread Cert.Kernel3Ideal.nD Cert.Kernel3Ideal.τ).loc Cert.Kernel3Ideal.main_v3_6) i = v6 c i)
          ∧ (∀ i : (⟨2, ![16384, 1024]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.2.2.2.2.1 i = 1#1 → r.2.mem ((c.tc : Thread Cert.Kernel3Ideal.nD Cert.Kernel3Ideal.τ).loc Cert.Kernel3Ideal.main_v3_7) i = v7 c i)
          ∧ (∀ i : (⟨2, ![16384, 1024]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.2.2.2.2.2 i = 1#1 → r.2.mem ((c.tc : Thread Cert.Kernel3Ideal.nD Cert.Kernel3Ideal.τ).loc Cert.Kernel3Ideal.main_v3_8) i = v8 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![16384, 512]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 i = 1#1 → r.2.mem ((c.tc : Thread Cert.Reference3Ideal.nD Cert.Reference3Ideal.τ).loc Cert.Reference3Ideal.main_v29) i = v0 c i)
          ∧ (∀ i : (⟨4, ![2, 4, 512, 4096]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.1 i = 1#1 → r.2.mem ((c.tc : Thread Cert.Reference3Ideal.nD Cert.Reference3Ideal.τ).loc Cert.Reference3Ideal.main_v31) i = v1 c i)
          ∧ (∀ i : (⟨4, ![2, 4, 512, 4096]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.1 i = 1#1 → r.2.mem ((c.tc : Thread Cert.Reference3Ideal.nD Cert.Reference3Ideal.τ).loc Cert.Reference3Ideal.main_v33) i = v2 c i)
          ∧ (∀ i : (⟨3, ![4, 512, 4096]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.1 i = 1#1 → r.2.mem ((c.tc : Thread Cert.Reference3Ideal.nD Cert.Reference3Ideal.τ).loc Cert.Reference3Ideal.main_v34) i = v3 c i)
          ∧ (∀ i : (⟨3, ![4, 512, 4096]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.2.1 i = 1#1 → r.2.mem ((c.tc : Thread Cert.Reference3Ideal.nD Cert.Reference3Ideal.τ).loc Cert.Reference3Ideal.main_v35) i = v4 c i)
          ∧ (∀ i : (⟨2, ![16384, 512]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.2.2.1 i = 1#1 → r.2.mem ((c.tc : Thread Cert.Reference3Ideal.nD Cert.Reference3Ideal.τ).loc Cert.Reference3Ideal.main_v37) i = v5 c i)
          ∧ (∀ i : (⟨2, ![16384, 512]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.2.2.2.1 i = 1#1 → r.2.mem ((c.tc : Thread Cert.Reference3Ideal.nD Cert.Reference3Ideal.τ).loc Cert.Reference3Ideal.main_v39) i = v6 c i)
          ∧ (∀ i : (⟨2, ![16384, 1024]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.2.2.2.2.1 i = 1#1 → r.2.mem ((c.tc : Thread Cert.Reference3Ideal.nD Cert.Reference3Ideal.τ).loc Cert.Reference3Ideal.main_v47) i = v7 c i)
          ∧ (∀ i : (⟨2, ![16384, 1024]⟩ : Shape).Idx, (Cert.On_layer_done.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2.2.2.2.2.2.2 i = 1#1 → r.2.mem ((c.tc : Thread Cert.Reference3Ideal.nD Cert.Reference3Ideal.τ).loc Cert.Reference3Ideal.main_v55) i = v8 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal_on_rows_out [hKernel5Ideal : Cert.Kernel5Ideal.Facts] [hReference5Ideal : Cert.Reference5Ideal.Facts] [hOn_rows_out : Cert.On_rows_out.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)) (v4 : (c : Dev Cert.Kernel5Ideal.nD) → Buf (Elt Ideal) ((c.tc : Thread Cert.Kernel5Ideal.nD Cert.Kernel5Ideal.τ).loc Cert.Kernel5Ideal.main_v12_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![16384, 1024]⟩ : Shape).Idx, (Cert.On_rows_out.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).1 i = 1#1 → r.2.mem ((c.tc : Thread Cert.Kernel5Ideal.nD Cert.Kernel5Ideal.τ).loc Cert.Kernel5Ideal.main_v12_0) i = v0 c i)
          ∧ (∀ i : (⟨2, ![16384, 1024]⟩ : Shape).Idx, (Cert.On_rows_out.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.1 i = 1#1 → r.2.mem ((c.tc : Thread Cert.Kernel5Ideal.nD Cert.Kernel5Ideal.τ).loc Cert.Kernel5Ideal.main_v12_1) i = v1 c i)
          ∧ (∀ i : (⟨2, ![8, 16384]⟩ : Shape).Idx, (Cert.On_rows_out.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.1 i = 1#1 → r.2.mem ((c.tc : Thread Cert.Kernel5Ideal.nD Cert.Kernel5Ideal.τ).loc Cert.Kernel5Ideal.main_v12_2) i = v2 c i)
          ∧ (∀ i : (⟨2, ![8, 16384]⟩ : Shape).Idx, (Cert.On_rows_out.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.2.1 i = 1#1 → r.2.mem ((c.tc : Thread Cert.Kernel5Ideal.nD Cert.Kernel5Ideal.τ).loc Cert.Kernel5Ideal.main_v12_3) i = v3 c i)
          ∧ (∀ i : (⟨3, ![32, 16, 128]⟩ : Shape).Idx, (Cert.On_rows_out.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.2.2 i = 1#1 → r.2.mem ((c.tc : Thread Cert.Kernel5Ideal.nD Cert.Kernel5Ideal.τ).loc Cert.Kernel5Ideal.main_v12_4) i = v4 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![16384, 1024]⟩ : Shape).Idx, (Cert.On_rows_out.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).1 i = 1#1 → r.2.mem ((c.tc : Thread Cert.Reference5Ideal.nD Cert.Reference5Ideal.τ).loc Cert.Reference5Ideal.main_v35) i = v0 c i)
          ∧ (∀ i : (⟨2, ![16384, 1024]⟩ : Shape).Idx, (Cert.On_rows_out.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.1 i = 1#1 → r.2.mem ((c.tc : Thread Cert.Reference5Ideal.nD Cert.Reference5Ideal.τ).loc Cert.Reference5Ideal.main_v81) i = v1 c i)
          ∧ (∀ i : (⟨2, ![8, 16384]⟩ : Shape).Idx, (Cert.On_rows_out.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.1 i = 1#1 → r.2.mem ((c.tc : Thread Cert.Reference5Ideal.nD Cert.Reference5Ideal.τ).loc Cert.Reference5Ideal.main_v75) i = v2 c i)
          ∧ (∀ i : (⟨2, ![8, 16384]⟩ : Shape).Idx, (Cert.On_rows_out.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.2.1 i = 1#1 → r.2.mem ((c.tc : Thread Cert.Reference5Ideal.nD Cert.Reference5Ideal.τ).loc Cert.Reference5Ideal.main_v78) i = v3 c i)
          ∧ (∀ i : (⟨3, ![32, 16, 128]⟩ : Shape).Idx, (Cert.On_rows_out.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.2.2 i = 1#1 → r.2.mem ((c.tc : Thread Cert.Reference5Ideal.nD Cert.Reference5Ideal.τ).loc Cert.Reference5Ideal.main_v83) i = v4 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def algebraic_Kernel5Ideal_Reference5Ideal_pre_router_finite [hKernel5Ideal : Cert.Kernel5Ideal.Facts] [hReference5Ideal : Cert.Reference5Ideal.Facts] [hPre_router_finite : Cert.Pre_router_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_router_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)) (v4 : (c : Dev Cert.Kernel5Ideal.nD) → Buf (Elt Ideal) ((c.tc : Thread Cert.Kernel5Ideal.nD Cert.Kernel5Ideal.τ).loc Cert.Kernel5Ideal.main_v12_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_v12_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_v81) = v1 c
          ∧ r.2.mem ((c.tc : Thread Cert.Reference5Ideal.nD Cert.Reference5Ideal.τ).loc Cert.Reference5Ideal.main_v75) = v2 c
          ∧ r.2.mem ((c.tc : Thread Cert.Reference5Ideal.nD Cert.Reference5Ideal.τ).loc Cert.Reference5Ideal.main_v78) = v3 c
          ∧ r.2.mem ((c.tc : Thread Cert.Reference5Ideal.nD Cert.Reference5Ideal.τ).loc Cert.Reference5Ideal.main_v83) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_experts_exist : Cert.Pre_experts_exist.Facts) (hPre_router_finite : Cert.Pre_router_finite.Facts) (hOn_rows_used : Cert.On_rows_used.Facts) (hOn_layer_done : Cert.On_layer_done.Facts) (hOn_rows_out : Cert.On_rows_out.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_exist := hPre_experts_exist)
    ∧ quiescent_Kernel2Ideal (hKernel2Ideal := hKernel2Ideal) (hPre_experts_exist := hPre_experts_exist)
    ∧ quiescent_Reference2Ideal (hReference2Ideal := hReference2Ideal) (hPre_experts_exist := hPre_experts_exist)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_router_finite (hKernel5Ideal := hKernel5Ideal) (hPre_router_finite := hPre_router_finite)
    ∧ quiescent_Reference5Ideal (hReference5Ideal := hReference5Ideal)
    ∧ quiescent_Reference5Ideal_pre_router_finite (hReference5Ideal := hReference5Ideal) (hPre_router_finite := hPre_router_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_rows_used (hKernel2Ideal := hKernel2Ideal) (hReference2Ideal := hReference2Ideal) (hPre_experts_exist := hPre_experts_exist) (hOn_rows_used := hOn_rows_used)
    ∧ preserves_Kernel3_Kernel3Ideal
    ∧ algebraic_Kernel3Ideal_Reference3Ideal_on_layer_done (hKernel3Ideal := hKernel3Ideal) (hReference3Ideal := hReference3Ideal) (hOn_layer_done := hOn_layer_done)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_rows_out (hKernel5Ideal := hKernel5Ideal) (hReference5Ideal := hReference5Ideal) (hOn_rows_out := hOn_rows_out)
    ∧ algebraic_Kernel5Ideal_Reference5Ideal_pre_router_finite (hKernel5Ideal := hKernel5Ideal) (hReference5Ideal := hReference5Ideal) (hPre_router_finite := hPre_router_finite)
-- ==== On_layer_done.lean ====
abbrev S4x4096x1024 : Shape := ⟨3, ![4, 4096, 1024]⟩
abbrev S1024 : Shape := ⟨1, ![1024]⟩
abbrev S1024x5120 : Shape := ⟨2, ![1024, 5120]⟩
abbrev S2x4x512x4096 : Shape := ⟨4, ![2, 4, 512, 4096]⟩
abbrev S_ : Shape := ⟨0, ![]⟩
abbrev S16384x512 : Shape := ⟨2, ![16384, 512]⟩
abbrev S4x512x4096 : Shape := ⟨3, ![4, 512, 4096]⟩
abbrev S16384x1024 : Shape := ⟨2, ![16384, 1024]⟩

class Facts : Prop where
  bcast_S_S2x4x512x4096 : S_.BroadcastsInDim S2x4x512x4096 (![] : Fin 0 → Fin S2x4x512x4096.rank)
  bcast_S_S16384x512 : S_.BroadcastsInDim S16384x512 (![] : Fin 0 → Fin S16384x512.rank)
  bcast_S_S4x512x4096 : S_.BroadcastsInDim S4x512x4096 (![] : Fin 0 → Fin S4x512x4096.rank)
  bcast_S_S16384x1024 : S_.BroadcastsInDim S16384x1024 (![] : Fin 0 → Fin S16384x1024.rank)

variable [Facts]

def fn {F : FTy → Type} [FloatOps F] (main_arg0 : FVec F S4x4096x1024 .f32) (main_arg1 : FVec F S1024 .f32) (main_arg2 : FVec F S1024x5120 .f32) : IVec S16384x512 1 × IVec S2x4x512x4096 1 × IVec S2x4x512x4096 1 × IVec S4x512x4096 1 × IVec S4x512x4096 1 × IVec S16384x512 1 × IVec S16384x512 1 × IVec S16384x1024 1 × IVec S16384x1024 1 :=
  let main_v0 : IVec S2x4x512x4096 32 := iotaInDim S2x4x512x4096 32 0
  let main_c : IVec S_ 32 := constantI S_ 32 0#32
  let main_v1 : IVec S2x4x512x4096 32 := broadcastInDim S2x4x512x4096 ![] bcast_S_S2x4x512x4096 main_c
  let main_v2 : IVec S2x4x512x4096 1 := cmpi .eq main_v0 main_v1
  let main_c_0 : IVec S_ 1 := constantI S_ 1 1#1
  let main_v3 : IVec S16384x512 1 := broadcastInDim S16384x512 ![] bcast_S_S16384x512 main_c_0
  let main_c_1 : IVec S_ 1 := constantI S_ 1 1#1
  let main_v4 : IVec S4x512x4096 1 := broadcastInDim S4x512x4096 ![] bcast_S_S4x512x4096 main_c_1
  let main_c_2 : IVec S_ 1 := constantI S_ 1 1#1
  let main_v5 : IVec S4x512x4096 1 := broadcastInDim S4x512x4096 ![] bcast_S_S4x512x4096 main_c_2
  let main_c_3 : IVec S_ 1 := constantI S_ 1 1#1
  let main_v6 : IVec S16384x512 1 := broadcastInDim S16384x512 ![] bcast_S_S16384x512 main_c_3
  let main_c_4 : IVec S_ 1 := constantI S_ 1 1#1
  let main_v7 : IVec S16384x512 1 := broadcastInDim S16384x512 ![] bcast_S_S16384x512 main_c_4
  let main_c_5 : IVec S_ 1 := constantI S_ 1 1#1
  let main_v8 : IVec S16384x1024 1 := broadcastInDim S16384x1024 ![] bcast_S_S16384x1024 main_c_5
  let main_c_6 : IVec S_ 1 := constantI S_ 1 1#1
  let main_v9 : IVec S16384x1024 1 := broadcastInDim S16384x1024 ![] bcast_S_S16384x1024 main_c_6
  (main_v3, main_v2, main_v2, main_v4, main_v5, main_v6, main_v7, main_v8, main_v9)
-- ==== On_rows_out.lean ====
abbrev S16384x1024 : Shape := ⟨2, ![16384, 1024]⟩
abbrev S16384x512 : Shape := ⟨2, ![16384, 512]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S8x16384 : Shape := ⟨2, ![8, 16384]⟩
abbrev S32x16x128 : Shape := ⟨3, ![32, 16, 128]⟩

class Facts : Prop where
  bcast_S_S16384x1024 : S_.BroadcastsInDim S16384x1024 (![] : Fin 0 → Fin S16384x1024.rank)
  bcast_S_S8x16384 : S_.BroadcastsInDim S8x16384 (![] : Fin 0 → Fin S8x16384.rank)
  bcast_S_S32x16x128 : S_.BroadcastsInDim S32x16x128 (![] : Fin 0 → Fin S32x16x128.rank)

variable [Facts]

def fn {F : FTy → Type} [FloatOps F] (main_arg0 : FVec F S16384x1024 .f32) (main_arg1 : FVec F S16384x512 .bf16) (main_arg2 : FVec F S16384x512 .bf16) (main_arg3 : FVec F S16384x512 .f32) (main_arg4 : FVec F S16384x1024 .bf16) (main_arg5 : FVec F S16384x1024 .bf16) (main_arg6 : FVec F S3x512 .f32) (main_arg7 : FVec F S512x1024 .f32) (main_arg8 : FVec F S512x1024 .f32) (main_arg9 : FVec F S1024x1024 .f32) (main_arg10 : FVec F S1024 .f32) (main_arg11 : FVec F S1024x8 .f32) : IVec S16384x1024 1 × IVec S16384x1024 1 × IVec S8x16384 1 × IVec S8x16384 1 × IVec S32x16x128 1 :=
  let main_c : IVec S_ 1 := constantI S_ 1 1#1
  let main_v0 : IVec S16384x1024 1 := broadcastInDim S16384x1024 ![] bcast_S_S16384x1024 main_c
  let main_c_0 : IVec S_ 1 := constantI S_ 1 1#1
  let main_v1 : IVec S16384x1024 1 := broadcastInDim S16384x1024 ![] bcast_S_S16384x1024 main_c_0
  let main_c_1 : IVec S_ 1 := constantI S_ 1 0#1
  let main_v2 : IVec S8x16384 1 := broadcastInDim S8x16384 ![] bcast_S_S8x16384 main_c_1
  let main_c_2 : IVec S_ 1 := constantI S_ 1 0#1
  let main_v3 : IVec S8x16384 1 := broadcastInDim S8x16384 ![] bcast_S_S8x16384 main_c_2
  let main_c_3 : IVec S_ 1 := constantI S_ 1 0#1
  let main_v4 : IVec S32x16x128 1 := broadcastInDim S32x16x128 ![] bcast_S_S32x16x128 main_c_3
  (main_v0, main_v1, main_v2, main_v3, main_v4)
-- ==== On_rows_used.lean ====
abbrev S72 : Shape := ⟨1, ![72]⟩
abbrev S1 : Shape := ⟨1, ![1]⟩
abbrev S36864x1024 : Shape := ⟨2, ![36864, 1024]⟩
abbrev S36864x128 : Shape := ⟨2, ![36864, 128]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S36864x1024 : S_.BroadcastsInDim S36864x1024 (![] : Fin 0 → Fin S36864x1024.rank)
  shapeCasts_S1_S_ : S1.ShapeCasts S_

variable [Facts]

def fn_where {F : FTy → Type} [FloatOps F] (arg0 : IVec S36864x1024 1) (arg1 : IVec S36864x1024 32) (arg2 : IVec S36864x1024 32) : IVec S36864x1024 32 :=
  let v0 : IVec S36864x1024 32 := select arg0 arg1 arg2
  v0

def fn_floor_divide {F : FTy → Type} [FloatOps F] (arg0 : IVec S36864x1024 32) (arg1 : IVec S_ 32) : IVec S36864x1024 32 :=
  let v0 : IVec S_ 32 := id arg1
  let v1 : IVec S36864x1024 32 := broadcastInDim S36864x1024 ![] bcast_S_S36864x1024 v0
  let v2 : IVec S36864x1024 32 := Host.divsi arg0 v1
  let v3 : IVec S36864x1024 32 := signi arg0
  let v4 : IVec S_ 32 := signi v0
  let v5 : IVec S36864x1024 32 := broadcastInDim S36864x1024 ![] bcast_S_S36864x1024 v4
  let v6 : IVec S36864x1024 1 := cmpi .ne v3 v5
  let v7 : IVec S36864x1024 32 := broadcastInDim S36864x1024 ![] bcast_S_S36864x1024 v0
  let v8 : IVec S36864x1024 32 := Host.remsi arg0 v7
  let c : IVec S_ 32 := constantI S_ 32 0#32
  let v9 : IVec S36864x1024 32 := broadcastInDim S36864x1024 ![] bcast_S_S36864x1024 c
  let v10 : IVec S36864x1024 1 := cmpi .ne v8 v9
  let v11 : IVec S36864x1024 1 := andi v6 v10
  let c_0 : IVec S_ 32 := constantI S_ 32 1#32
  let v12 : IVec S36864x1024 32 := broadcastInDim S36864x1024 ![] bcast_S_S36864x1024 c_0
  let v13 : IVec S36864x1024 32 := subi v2 v12
  let v14 : IVec S36864x1024 32 := fn_where (F := F) v11 v13 v2
  v14

def fn {F : FTy → Type} [FloatOps F] (main_arg0 : IVec S72 32) (main_arg1 : IVec S1 32) (main_arg2 : FVec F S36864x1024 .bf16) (main_arg3 : FVec F S36864x128 .f32) (main_arg4 : FVec F S8x1024x3584 .bf16) (main_arg5 : FVec F S8x1024x3584 .bf16) (main_arg6 : FVec F S8x3584x1024 .bf16) : IVec S36864x1024 1 :=
  let main_v0 : IVec S36864x1024 32 := iotaInDim S36864x1024 32 0
  let main_c : IVec S_ 32 := constantI S_ 32 512#32
  let main_v1 : IVec S36864x1024 32 := fn_floor_divide (F := F) main_v0 main_c
  let main_v2 : IVec S_ 32 := shapeCast S_ main_arg1 shapeCasts_S1_S_
  let main_v3 : IVec S36864x1024 32 := broadcastInDim S36864x1024 ![] bcast_S_S36864x1024 main_v2
  let main_v4 : IVec S36864x1024 1 := cmpi .slt main_v1 main_v3
  main_v4
-- ==== Pre_experts_exist.lean ====
abbrev S72 : Shape := ⟨1, ![72]⟩
abbrev S1 : Shape := ⟨1, ![1]⟩
abbrev S36864x1024 : Shape := ⟨2, ![36864, 1024]⟩
abbrev S36864x128 : Shape := ⟨2, ![36864, 128]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S36864x1024 .bf16) (main_arg3 : FVec F S36864x128 .f32) (main_arg4 : FVec F S8x1024x3584 .bf16) (main_arg5 : FVec F S8x1024x3584 .bf16) (main_arg6 : FVec F S8x3584x1024 .bf16) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_router_finite.lean ====
abbrev S16384x1024 : Shape := ⟨2, ![16384, 1024]⟩
abbrev S16384x512 : Shape := ⟨2, ![16384, 512]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S1024x1 : Shape := ⟨2, ![1024, 1]⟩

class Facts : Prop where
  bcast_S_S1024x8 : S_.BroadcastsInDim S1024x8 (![] : Fin 0 → Fin S1024x8.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x8_0_1 : S1024x1.BroadcastsInDim S1024x8 (![0, 1] : Fin 2 → Fin S1024x8.rank)

variable [Facts]

def fn {F : FTy → Type} [FloatOps F] (main_arg0 : FVec F S16384x1024 .f32) (main_arg1 : FVec F S16384x512 .bf16) (main_arg2 : FVec F S16384x512 .bf16) (main_arg3 : FVec F S16384x512 .f32) (main_arg4 : FVec F S16384x1024 .bf16) (main_arg5 : FVec F S16384x1024 .bf16) (main_arg6 : FVec F S3x512 .f32) (main_arg7 : FVec F S512x1024 .f32) (main_arg8 : FVec F S512x1024 .f32) (main_arg9 : FVec F S1024x1024 .f32) (main_arg10 : FVec F S1024 .f32) (main_arg11 : FVec F S1024x8 .f32) : IVec S1024x8 1 :=
  let main_v0 : FVec F S1024x8 .f32 := Host.absf main_arg11
  let main_cst : FVec F S_ .f32 := constant S_ .f32 0x7F800000#32
  let main_v1 : FVec F S1024x8 .f32 := broadcastInDim S1024x8 ![] bcast_S_S1024x8 main_cst
  let main_v2 : IVec S1024x8 1 := cmpf .olt main_v0 main_v1
  let main_v3 : FVec F S1024 .f32 := Host.absf main_arg10
  let main_v4 : FVec F S1024x1 .f32 := broadcastInDim S1024x1 ![0] bcast_S1024_S1024x1_0 main_v3
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_v7 : IVec S1024x8 1 := broadcastInDim S1024x8 ![0, 1] bcast_S1024x1_S1024x8_0_1 main_v6
  let main_v8 : IVec S1024x8 1 := andi main_v2 main_v7
  main_v8
-- ==== Kernel.lean ====
abbrev S16384x512 : Shape := ⟨2, ![16384, 512]⟩
abbrev S4x512x4096 : Shape := ⟨3, ![4, 512, 4096]⟩
abbrev S8 : Shape := ⟨1, ![8]⟩
abbrev S_ : Shape := ⟨0, ![]⟩
abbrev S8x1 : Shape := ⟨2, ![8, 1]⟩
abbrev S8x3 : Shape := ⟨2, ![8, 3]⟩
abbrev S24 : Shape := ⟨1, ![24]⟩
abbrev S256x256 : Shape := ⟨2, ![256, 256]⟩
abbrev S1024x256 : Shape := ⟨2, ![1024, 256]⟩
abbrev S1x256x4096 : Shape := ⟨3, ![1, 256, 4096]⟩
abbrev S4x1024x128 : Shape := ⟨3, ![4, 1024, 128]⟩
abbrev S1024x128 : Shape := ⟨2, ![1024, 128]⟩
abbrev S1024x1024 : Shape := ⟨2, ![1024, 1024]⟩
abbrev S1 : Shape := ⟨1, ![1]⟩
abbrev S128x1024 : Shape := ⟨2, ![128, 1024]⟩
abbrev S1x128x1024 : Shape := ⟨3, ![1, 128, 1024]⟩
abbrev S256x1024 : Shape := ⟨2, ![256, 1024]⟩
abbrev S128x256 : Shape := ⟨2, ![128, 256]⟩
abbrev S256x1 : Shape := ⟨2, ![256, 1]⟩
abbrev S256x128 : Shape := ⟨2, ![256, 128]⟩
abbrev S1x256x128 : Shape := ⟨3, ![1, 256, 128]⟩
abbrev S256x512 : Shape := ⟨2, ![256, 512]⟩
abbrev S128x512 : Shape := ⟨2, ![128, 512]⟩
abbrev S256x768 : Shape := ⟨2, ![256, 768]⟩
abbrev S128x768 : Shape := ⟨2, ![128, 768]⟩
abbrev S1024x1 : Shape := ⟨2, ![1024, 1]⟩
abbrev S1x1024x128 : Shape := ⟨3, ![1, 1024, 128]⟩

abbrev nBuf : Space → Nat
  | .hbm => 32
  | .vmem => 10
  | .smem => 1
  | _ => 0

abbrev bufTy : (tb : Table) → Fin (tcTables nBuf tb) → BufTy
  | .hbm, ⟨0, _⟩ => ⟨S16384x512, .bf16⟩
  | .hbm, ⟨1, _⟩ => ⟨S4x512x4096, .bf16⟩
  | .hbm, ⟨2, _⟩ => ⟨S4x512x4096, .bf16⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .bf16⟩
  | .hbm, ⟨9, _⟩ => ⟨S8, .f32⟩
  | .hbm, ⟨10, _⟩ => ⟨S8, .f32⟩
  | .hbm, ⟨11, _⟩ => ⟨S8, .bf16⟩
  | .hbm, ⟨12, _⟩ => ⟨S8, .f32⟩
  | .hbm, ⟨13, _⟩ => ⟨S8, .f32⟩
  | .hbm, ⟨14, _⟩ => ⟨S8, .bf16⟩
  | .hbm, ⟨15, _⟩ => ⟨S8, .f32⟩
  | .hbm, ⟨16, _⟩ => ⟨S8, .f32⟩
  | .hbm, ⟨17, _⟩ => ⟨S8x1, .f32⟩
  | .hbm, ⟨18, _⟩ => ⟨S8x1, .f32⟩
  | .hbm, ⟨19, _⟩ => ⟨S8x1, .f32⟩
  | .hbm, ⟨20, _⟩ => ⟨S8x3, .f32⟩
  | .hbm, ⟨21, _⟩ => ⟨S24, .f32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S_, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .bf16⟩
  | .hbm, ⟨31, _⟩ => ⟨S16384x512, .bf16⟩
  | .local _ .vmem, ⟨0, _⟩ => ⟨S1024x256, .bf16⟩
  | .local _ .vmem, ⟨1, _⟩ => ⟨S1024x256, .bf16⟩
  | .local _ .vmem, ⟨2, _⟩ => ⟨S1x256x4096, .bf16⟩
  | .local _ .vmem, ⟨3, _⟩ => ⟨S1x256x4096, .bf16⟩
  | .local _ .vmem, ⟨4, _⟩ => ⟨S1x256x4096, .bf16⟩
  | .local _ .vmem, ⟨5, _⟩ => ⟨S1x256x4096, .bf16⟩
  | .local _ .vmem, ⟨6, _⟩ => ⟨S256x256, .bf16⟩
  | .local _ .vmem, ⟨7, _⟩ => ⟨S1024x256, .bf16⟩
  | .local _ .vmem, ⟨8, _⟩ => ⟨S1024x256, .bf16⟩
  | .local _ .vmem, ⟨9, _⟩ => ⟨S4x1024x128, .f32⟩
  | .local _ .smem, ⟨0, _⟩ => ⟨S24, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 2, 4], ![false, false, false]⟩

def k0_off1 (i : grid0.Coords) (c0_i32_4 : BitVec 32) (c0_i32_6 : BitVec 32) (c0_i32_8 : BitVec 32) : Fin 1 → Nat :=
  let arg1 : BitVec 32 := BitVec.ofNat 32 (i 1).val
  let c2_i32 : BitVec 32 := 2#32
  let v18 : BitVec 32 := Scalar.muli arg1 c2_i32
  let v19 : BitVec 32 := Scalar.addi v18 c0_i32_4
  let c2_i32_5 : BitVec 32 := 2#32
  let v20 : BitVec 32 := Scalar.muli v19 c2_i32_5
  let v21 : BitVec 32 := Scalar.addi v20 c0_i32_6
  let c3_i32 : BitVec 32 := 3#32
  let v25 : BitVec 32 := Scalar.muli v21 c3_i32
  let v26 : BitVec 32 := Scalar.addi v25 c0_i32_8
  let v27 : Index := Scalar.indexCast v26
  ![v27.toNat]
def k0_mult1 (i : grid0.Coords) : BitVec 32 :=
  let arg2 : BitVec 32 := BitVec.ofNat 32 (i 2).val
  let c1024_i32 : BitVec 32 := 1024#32
  let v159 : BitVec 32 := Scalar.muli arg2 c1024_i32
  v159
def k0_off2 (i : grid0.Coords) : Fin 3 → Nat :=
  let c0_64 : Index := 0#32
  let c0_65 : Index := 0#32
  let arg2 : BitVec 32 := BitVec.ofNat 32 (i 2).val
  let c1024_i32 : BitVec 32 := 1024#32
  let v159 : BitVec 32 := Scalar.muli arg2 c1024_i32
  let v160 : BitVec 32 := v159
  let v161 : Index := Scalar.indexCast v160
  ![0, 0, v161.toNat]
def k0_off3 (i : grid0.Coords) : Fin 3 → Nat :=
  let c0_204 : Index := 0#32
  let c128_205 : Index := 128#32
  let arg2 : BitVec 32 := BitVec.ofNat 32 (i 2).val
  let c1024_i32 : BitVec 32 := 1024#32
  let v159 : BitVec 32 := Scalar.muli arg2 c1024_i32
  let v160 : BitVec 32 := v159
  let v650 : Index := Scalar.indexCast v160
  ![0, 128, v650.toNat]
@[reducible] def k0_t1_loop (i : grid0.Coords) : Scf.Loop 32 :=
  let c0_i32_346 : BitVec 32 := 0#32
  let arg2 : BitVec 32 := BitVec.ofNat 32 (i 2).val
  let v1139 : BitVec 32 := Scalar.subi arg2 c0_i32_346
  let c1_i32_347 : BitVec 32 := 1#32
  let v1141 : BitVec 32 := Scalar.divsi v1139 c1_i32_347
  let v1142 : BitVec 32 := Scalar.muli v1141 c1_i32_347
  let v1143 : BitVec 32 := Scalar.addi c0_i32_346 v1142
  let c1_i32_348 : BitVec 32 := 1#32
  ⟨c0_i32_346, v1143, c1_i32_348⟩
def k0_mult2 (i : grid0.Coords) (k0_t1 : Fin (k0_t1_loop i).trips) : BitVec 32 :=
  let arg2 : BitVec 32 := BitVec.ofNat 32 (i 2).val
  let c1_i32_366 : BitVec 32 := 1#32
  let v1160 : BitVec 32 := Scalar.subi arg2 c1_i32_366
  let c0_i32_346 : BitVec 32 := 0#32
  let c1_i32_348 : BitVec 32 := 1#32
  let arg10 : BitVec 32 := Scf.iv c0_i32_346 c1_i32_348 k0_t1
  let v1161 : BitVec 32 := Scalar.subi v1160 arg10
  let c1024_i32_367 : BitVec 32 := 1024#32
  let v1162 : BitVec 32 := Scalar.muli v1161 c1024_i32_367
  v1162
def k0_off4 (i : grid0.Coords) (k0_t1 : Fin (k0_t1_loop i).trips) : Fin 3 → Nat :=
  let c0_368 : Index := 0#32
  let c0_369 : Index := 0#32
  let arg2 : BitVec 32 := BitVec.ofNat 32 (i 2).val
  let c1_i32_366 : BitVec 32 := 1#32
  let v1160 : BitVec 32 := Scalar.subi arg2 c1_i32_366
  let c0_i32_346 : BitVec 32 := 0#32
  let c1_i32_348 : BitVec 32 := 1#32
  let arg10 : BitVec 32 := Scf.iv c0_i32_346 c1_i32_348 k0_t1
  let v1161 : BitVec 32 := Scalar.subi v1160 arg10
  let c1024_i32_367 : BitVec 32 := 1024#32
  let v1162 : BitVec 32 := Scalar.muli v1161 c1024_i32_367
  let v1163 : BitVec 32 := v1162
  let v1164 : Index := Scalar.indexCast v1163
  ![0, 0, v1164.toNat]
def k0_off5 (i : grid0.Coords) (k0_t1 : Fin (k0_t1_loop i).trips) : Fin 3 → Nat :=
  let c0_404 : Index := 0#32
  let c128_405 : Index := 128#32
  let arg2 : BitVec 32 := BitVec.ofNat 32 (i 2).val
  let c1_i32_366 : BitVec 32 := 1#32
  let v1160 : BitVec 32 := Scalar.subi arg2 c1_i32_366
  let c0_i32_346 : BitVec 32 := 0#32
  let c1_i32_348 : BitVec 32 := 1#32
  let arg10 : BitVec 32 := Scf.iv c0_i32_346 c1_i32_348 k0_t1
  let v1161 : BitVec 32 := Scalar.subi v1160 arg10
  let c1024_i32_367 : BitVec 32 := 1024#32
  let v1162 : BitVec 32 := Scalar.muli v1161 c1024_i32_367
  let v1163 : BitVec 32 := v1162
  let v1295 : Index := Scalar.indexCast v1163
  ![0, 128, v1295.toNat]
@[reducible] def k0_t2_loop (i : grid0.Coords) : Scf.Loop 32 :=
  let c0_i32_346 : BitVec 32 := 0#32
  let arg2 : BitVec 32 := BitVec.ofNat 32 (i 2).val
  let v1139 : BitVec 32 := Scalar.subi arg2 c0_i32_346
  let c1_i32_347 : BitVec 32 := 1#32
  let v1141 : BitVec 32 := Scalar.divsi v1139 c1_i32_347
  let v1142 : BitVec 32 := Scalar.muli v1141 c1_i32_347
  let v1143 : BitVec 32 := Scalar.addi c0_i32_346 v1142
  let v1140 : BitVec 32 := Scalar.addi c0_i32_346 v1139
  let c1_i32_349 : BitVec 32 := 1#32
  ⟨v1143, v1140, c1_i32_349⟩
def k0_mult3 (i : grid0.Coords) (k0_t2 : Fin (k0_t2_loop i).trips) : BitVec 32 :=
  let arg2 : BitVec 32 := BitVec.ofNat 32 (i 2).val
  let c1_i32_366 : BitVec 32 := 1#32
  let v1160 : BitVec 32 := Scalar.subi arg2 c1_i32_366
  let c0_i32_346 : BitVec 32 := 0#32
  let v1139 : BitVec 32 := Scalar.subi arg2 c0_i32_346
  let c1_i32_347 : BitVec 32 := 1#32
  let v1141 : BitVec 32 := Scalar.divsi v1139 c1_i32_347
  let v1142 : BitVec 32 := Scalar.muli v1141 c1_i32_347
  let v1143 : BitVec 32 := Scalar.addi c0_i32_346 v1142
  let c1_i32_349 : BitVec 32 := 1#32
  let arg10 : BitVec 32 := Scf.iv v1143 c1_i32_349 k0_t2
  let v1161 : BitVec 32 := Scalar.subi v1160 arg10
  let c1024_i32_367 : BitVec 32 := 1024#32
  let v1162 : BitVec 32 := Scalar.muli v1161 c1024_i32_367
  v1162
def k0_off6 (i : grid0.Coords) (k0_t2 : Fin (k0_t2_loop i).trips) : Fin 3 → Nat :=
  let c0_368 : Index := 0#32
  let c0_369 : Index := 0#32
  let arg2 : BitVec 32 := BitVec.ofNat 32 (i 2).val
  let c1_i32_366 : BitVec 32 := 1#32
  let v1160 : BitVec 32 := Scalar.subi arg2 c1_i32_366
  let c0_i32_346 : BitVec 32 := 0#32
  let v1139 : BitVec 32 := Scalar.subi arg2 c0_i32_346
  let c1_i32_347 : BitVec 32 := 1#32
  let v1141 : BitVec 32 := Scalar.divsi v1139 c1_i32_347
  let v1142 : BitVec 32 := Scalar.muli v1141 c1_i32_347
  let v1143 : BitVec 32 := Scalar.addi c0_i32_346 v1142
  let c1_i32_349 : BitVec 32 := 1#32
  let arg10 : BitVec 32 := Scf.iv v1143 c1_i32_349 k0_t2
  let v1161 : BitVec 32 := Scalar.subi v1160 arg10
  let c1024_i32_367 : BitVec 32 := 1024#32
  let v1162 : BitVec 32 := Scalar.muli v1161 c1024_i32_367
  let v1163 : BitVec 32 := v1162
  let v1164 : Index := Scalar.indexCast v1163
  ![0, 0, v1164.toNat]
def k0_off7 (i : grid0.Coords) (k0_t2 : Fin (k0_t2_loop i).trips) : Fin 3 → Nat :=
  let c0_404 : Index := 0#32
  let c128_405 : Index := 128#32
  let arg2 : BitVec 32 := BitVec.ofNat 32 (i 2).val
  let c1_i32_366 : BitVec 32 := 1#32
  let v1160 : BitVec 32 := Scalar.subi arg2 c1_i32_366
  let c0_i32_346 : BitVec 32 := 0#32
  let v1139 : BitVec 32 := Scalar.subi arg2 c0_i32_346
  let c1_i32_347 : BitVec 32 := 1#32
  let v1141 : BitVec 32 := Scalar.divsi v1139 c1_i32_347
  let v1142 : BitVec 32 := Scalar.muli v1141 c1_i32_347
  let v1143 : BitVec 32 := Scalar.addi c0_i32_346 v1142
  let c1_i32_349 : BitVec 32 := 1#32
  let arg10 : BitVec 32 := Scf.iv v1143 c1_i32_349 k0_t2
  let v1161 : BitVec 32 := Scalar.subi v1160 arg10
  let c1024_i32_367 : BitVec 32 := 1024#32
  let v1162 : BitVec 32 := Scalar.muli v1161 c1024_i32_367
  let v1163 : BitVec 32 := v1162
  let v1295 : Index := Scalar.indexCast v1163
  ![0, 128, v1295.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x512 : Shape := ⟨2, ![16384, 512]⟩
abbrev S4x512x4096 : Shape := ⟨3, ![4, 512, 4096]⟩
abbrev S8 : Shape := ⟨1, ![8]⟩
abbrev S4x4096x8x64 : Shape := ⟨4, ![4, 4096, 8, 64]⟩
abbrev S_ : Shape := ⟨0, ![]⟩
abbrev S4x8x64x4096 : Shape := ⟨4, ![4, 8, 64, 4096]⟩
abbrev S4x8x4096x4096 : Shape := ⟨4, ![4, 8, 4096, 4096]⟩
abbrev S1x8x1x1 : Shape := ⟨4, ![1, 8, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 80
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S4x512x4096, .bf16⟩
  | .hbm, ⟨2, _⟩ => ⟨S4x512x4096, .bf16⟩
  | .hbm, ⟨3, _⟩ => ⟨S8, .f32⟩
  | .hbm, ⟨4, _⟩ => ⟨S16384x512, .f32⟩
  | .hbm, ⟨5, _⟩ => ⟨S4x4096x8x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x8x64, .f32⟩
  | .hbm, ⟨11, _⟩ => ⟨S4x4096x8x64, .f32⟩
  | .hbm, ⟨12, _⟩ => ⟨S4x512x4096, .f32⟩
  | .hbm, ⟨13, _⟩ => ⟨S4x8x64x4096, .f32⟩
  | .hbm, ⟨14, _⟩ => ⟨S4x512x4096, .f32⟩
  | .hbm, ⟨15, _⟩ => ⟨S4x8x64x4096, .f32⟩
  | .hbm, ⟨16, _⟩ => ⟨S4x8x4096x4096, .f32⟩
  | .hbm, ⟨17, _⟩ => ⟨S_, .f32⟩
  | .hbm, ⟨18, _⟩ => ⟨S4x8x4096x4096, .f32⟩
  | .hbm, ⟨19, _⟩ => ⟨S4x8x4096x4096, .f32⟩
  | .hbm, ⟨20, _⟩ => ⟨S1x8x1x1, .f32⟩
  | .hbm, ⟨21, _⟩ => ⟨S4x8x4096x4096, .f32⟩
  | .hbm, ⟨22, _⟩ => ⟨S4x8x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .i1⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S_, .f32⟩
  | .hbm, ⟨45, _⟩ => ⟨S_, .f32⟩
  | .hbm, ⟨46, _⟩ => ⟨S4x8x4096x4096, .i1⟩
  | .hbm, ⟨47, _⟩ => ⟨S4x8x4096x4096, .f32⟩
  | .hbm, ⟨48, _⟩ => ⟨S4x8x4096x4096, .f32⟩
  | .hbm, ⟨49, _⟩ => ⟨S_, .f32⟩
  | .hbm, ⟨50, _⟩ => ⟨S_, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S_, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .i1⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S4x8x4096x4096, .f32⟩
  | .hbm, ⟨65, _⟩ => ⟨S4x8x4096x4096, .f32⟩
  | .hbm, ⟨66, _⟩ => ⟨S4x8x4096x4096, .f32⟩
  | .hbm, ⟨67, _⟩ => ⟨S4x8x4096x4096, .f32⟩
  | .hbm, ⟨68, _⟩ => ⟨S4x8x4096x4096, .f32⟩
  | .hbm, ⟨69, _⟩ => ⟨S4x8x4096x4096, .f32⟩
  | .hbm, ⟨70, _⟩ => ⟨S4x8x4096x4096, .f32⟩
  | .hbm, ⟨71, _⟩ => ⟨S_, .f32⟩
  | .hbm, ⟨72, _⟩ => ⟨S_, .f32⟩
  | .hbm, ⟨73, _⟩ => ⟨S4x8x4096x4096, .i1⟩
  | .hbm, ⟨74, _⟩ => ⟨S4x8x4096x4096, .f32⟩
  | .hbm, ⟨75, _⟩ => ⟨S4x8x4096x4096, .f32⟩
  | .hbm, ⟨76, _⟩ => ⟨S4x8x64x4096, .f32⟩
  | .hbm, ⟨77, _⟩ => ⟨S4x4096x8x64, .f32⟩
  | .hbm, ⟨78, _⟩ => ⟨S16384x512, .f32⟩
  | .hbm, ⟨79, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_call2_cst : Ref sig .tc := ⟨.hbm, 49, rfl⟩
abbrev main_call2_v0 : Ref sig .tc := ⟨.hbm, 50, rfl⟩
abbrev main_v25 : Ref sig .tc := ⟨.hbm, 51, rfl⟩
abbrev main_v26 : Ref sig .tc := ⟨.hbm, 52, rfl⟩
abbrev main_call3_v0 : Ref sig .tc := ⟨.hbm, 53, rfl⟩
abbrev main_call3_call0_cst : Ref sig .tc := ⟨.hbm, 54, rfl⟩
abbrev main_call3_call0_v0 : Ref sig .tc := ⟨.hbm, 55, rfl⟩
abbrev main_call3_call0_v1 : Ref sig .tc := ⟨.hbm, 56, rfl⟩
abbrev main_call3_call0_v2 : Ref sig .tc := ⟨.hbm, 57, rfl⟩
abbrev main_call3_call0_v3 : Ref sig .tc := ⟨.hbm, 58, rfl⟩
abbrev main_call3_call0_v4 : Ref sig .tc := ⟨.hbm, 59, rfl⟩
abbrev main_call3_call0_v5 : Ref sig .tc := ⟨.hbm, 60, rfl⟩
abbrev main_call3_call0_v6 : Ref sig .tc := ⟨.hbm, 61, rfl⟩
abbrev main_call3_call0_v7 : Ref sig .tc := ⟨.hbm, 62, rfl⟩
abbrev main_call3_call0_v8 : Ref sig .tc := ⟨.hbm, 63, rfl⟩
abbrev main_call3_call0_v9 : Ref sig .tc := ⟨.hbm, 64, rfl⟩
abbrev main_call3_call0_v10 : Ref sig .tc := ⟨.hbm, 65, rfl⟩
abbrev main_call3_call0_v11 : Ref sig .tc := ⟨.hbm, 66, rfl⟩
abbrev main_call3_v1 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_3 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩

abbrev nD : Nat := 1
abbrev τ : Topo := Topo.v7x

variable {F : FTy → Type} [FloatOps F]
-- ==== Kernel2.lean ====
abbrev S72 : Shape := ⟨1, ![72]⟩
abbrev S1 : Shape := ⟨1, ![1]⟩
abbrev S36864x1024 : Shape := ⟨2, ![36864, 1024]⟩
abbrev S36864x128 : Shape := ⟨2, ![36864, 128]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S512x128 : Shape := ⟨2, ![512, 128]⟩
abbrev S1024x1792 : Shape := ⟨2, ![1024, 1792]⟩
abbrev S512x1792 : Shape := ⟨2, ![512, 1792]⟩
abbrev S1792x1024 : Shape := ⟨2, ![1792, 1024]⟩
abbrev S512x1 : Shape := ⟨2, ![512, 1]⟩

abbrev nBuf : Space → Nat
  | .hbm => 6
  | .vmem => 13
  | .smem => 2
  | _ => 0

abbrev bufTy : (tb : Table) → Fin (tcTables nBuf tb) → BufTy
  | .hbm, ⟨0, _⟩ => ⟨S36864x1024, .bf16⟩
  | .hbm, ⟨1, _⟩ => ⟨S36864x128, .f32⟩
  | .hbm, ⟨2, _⟩ => ⟨S8x1024x3584, .bf16⟩
  | .hbm, ⟨3, _⟩ => ⟨S8x1024x3584, .bf16⟩
  | .hbm, ⟨4, _⟩ => ⟨S8x3584x1024, .bf16⟩
  | .hbm, ⟨5, _⟩ => ⟨S36864x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .smem, ⟨0, _⟩ => ⟨S72, .i32⟩
  | .local _ .smem, ⟨1, _⟩ => ⟨S1, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond4 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_20 : BitVec 32 := 0#32
  let v32 : BitVec 1 := Scalar.cmpi .ne v31 c0_i32_20
  v32

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S72 : Shape := ⟨1, ![72]⟩
abbrev S1 : Shape := ⟨1, ![1]⟩
abbrev S36864x1024 : Shape := ⟨2, ![36864, 1024]⟩
abbrev S36864x128 : Shape := ⟨2, ![36864, 128]⟩
abbrev S8x1024x3584 : Shape := ⟨3, ![8, 1024, 3584]⟩
abbrev S8x3584x1024 : Shape := ⟨3, ![8, 3584, 1024]⟩
abbrev S72x512 : Shape := ⟨2, ![72, 512]⟩
abbrev S36864 : Shape := ⟨1, ![36864]⟩
abbrev S36864x1 : Shape := ⟨2, ![36864, 1]⟩
abbrev S_ : Shape := ⟨0, ![]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S36864x3584 : Shape := ⟨2, ![36864, 3584]⟩

abbrev nBuf : Space → Nat
  | .hbm => 286
  | .vmem => 0
  | .smem => 0
  | _ => 0

abbrev hbmTy0_0 (i : Nat) : BufTy := match i % 128 with
  | 0 => ⟨S72, .i32⟩
  | 1 => ⟨S1, .i32⟩
  | 2 => ⟨S36864x1024, .bf16⟩
  | 3 => ⟨S36864x128, .f32⟩
  | 4 => ⟨S8x1024x3584, .bf16⟩
  | 5 => ⟨S8x1024x3584, .bf16⟩
  | 6 => ⟨S8x3584x1024, .bf16⟩
  | 7 => ⟨S36864x1024, .f32⟩
  | 8 => ⟨S72x512, .i32⟩
  | 9 => ⟨S36864, .i32⟩
  | 10 => ⟨S36864x1, .i32⟩
  | 11 => ⟨S_, .f32⟩
  | 12 => ⟨S36864x1024, .f32⟩
  | 13 => ⟨S1x1024x3584, .bf16⟩
  | 14 => ⟨S1024x3584, .bf16⟩
  | 15 => ⟨S1024x3584, .f32⟩
  | 16 => ⟨S1x1024x3584, .bf16⟩
  | 17 => ⟨S1024x3584, .bf16⟩
  | 18 => ⟨S1024x3584, .f32⟩
  | 19 => ⟨S1x3584x1024, .bf16⟩
  | 20 => ⟨S3584x1024, .bf16⟩
  | 21 => ⟨S3584x1024, .f32⟩
  | 22 => ⟨S36864x3584, .f32⟩
  | 23 => ⟨S36864x3584, .f32⟩
  | 24 => ⟨S36864x3584, .f32⟩
  | 25 => ⟨S_, .f32⟩
  | 26 => ⟨S36864x3584, .f32⟩
  | 27 => ⟨S36864x3584, .f32⟩
  | 28 => ⟨S_, .f32⟩
  | 29 => ⟨S36864x3584, .f32⟩
  | 30 => ⟨S36864x3584, .f32⟩
  | 31 => ⟨S36864x3584, .f32⟩
  | 32 => ⟨S36864x3584, .f32⟩
  | 33 => ⟨S36864x3584, .f32⟩
  | 34 => ⟨S36864x1024, .f32⟩
  | 35 => ⟨S_, .i32⟩
  | 36 => ⟨S36864x1, .i32⟩
  | 37 => ⟨S36864x1, .i1⟩
  | 38 => ⟨S36864x1, .f32⟩
  | 39 => ⟨S36864x1024, .f32⟩
  | 40 => ⟨S36864x1024, .f32⟩
  | 41 => ⟨S_, .f32⟩
  | 42 => ⟨S_, .f32⟩
  | 43 => ⟨S36864x1024, .i1⟩
  | 44 => ⟨S36864x1024, .f32⟩
  | 45 => ⟨S36864x1024, .f32⟩
  | 46 => ⟨S36864x1024, .f32⟩
  | 47 => ⟨S1x1024x3584, .bf16⟩
  | 48 => ⟨S1024x3584, .bf16⟩
  | 49 => ⟨S1024x3584, .f32⟩
  | 50 => ⟨S1x1024x3584, .bf16⟩
  | 51 => ⟨S1024x3584, .bf16⟩
  | 52 => ⟨S1024x3584, .f32⟩
  | 53 => ⟨S1x3584x1024, .bf16⟩
  | 54 => ⟨S3584x1024, .bf16⟩
  | 55 => ⟨S3584x1024, .f32⟩
  | 56 => ⟨S36864x3584, .f32⟩
  | 57 => ⟨S36864x3584, .f32⟩
  | 58 => ⟨S36864x3584, .f32⟩
  | 59 => ⟨S_, .f32⟩
  | 60 => ⟨S36864x3584, .f32⟩
  | 61 => ⟨S36864x3584, .f32⟩
  | 62 => ⟨S_, .f32⟩
  | 63 => ⟨S36864x3584, .f32⟩
  | 64 => ⟨S36864x3584, .f32⟩
  | 65 => ⟨S36864x3584, .f32⟩
  | 66 => ⟨S36864x3584, .f32⟩
  | 67 => ⟨S36864x3584, .f32⟩
  | 68 => ⟨S36864x1024, .f32⟩
  | 69 => ⟨S_, .i32⟩
  | 70 => ⟨S36864x1, .i32⟩
  | 71 => ⟨S36864x1, .i1⟩
  | 72 => ⟨S36864x1, .f32⟩
  | 73 => ⟨S36864x1024, .f32⟩
  | 74 => ⟨S36864x1024, .f32⟩
  | 75 => ⟨S_, .f32⟩
  | 76 => ⟨S_, .f32⟩
  | 77 => ⟨S36864x1024, .i1⟩
  | 78 => ⟨S36864x1024, .f32⟩
  | 79 => ⟨S36864x1024, .f32⟩
  | 80 => ⟨S36864x1024, .f32⟩
  | 81 => ⟨S1x1024x3584, .bf16⟩
  | 82 => ⟨S1024x3584, .bf16⟩
  | 83 => ⟨S1024x3584, .f32⟩
  | 84 => ⟨S1x1024x3584, .bf16⟩
  | 85 => ⟨S1024x3584, .bf16⟩
  | 86 => ⟨S1024x3584, .f32⟩
  | 87 => ⟨S1x3584x1024, .bf16⟩
  | 88 => ⟨S3584x1024, .bf16⟩
  | 89 => ⟨S3584x1024, .f32⟩
  | 90 => ⟨S36864x3584, .f32⟩
  | 91 => ⟨S36864x3584, .f32⟩
  | 92 => ⟨S36864x3584, .f32⟩
  | 93 => ⟨S_, .f32⟩
  | 94 => ⟨S36864x3584, .f32⟩
  | 95 => ⟨S36864x3584, .f32⟩
  | 96 => ⟨S_, .f32⟩
  | 97 => ⟨S36864x3584, .f32⟩
  | 98 => ⟨S36864x3584, .f32⟩
  | 99 => ⟨S36864x3584, .f32⟩
  | 100 => ⟨S36864x3584, .f32⟩
  | 101 => ⟨S36864x3584, .f32⟩
  | 102 => ⟨S36864x1024, .f32⟩
  | 103 => ⟨S_, .i32⟩
  | 104 => ⟨S36864x1, .i32⟩
  | 105 => ⟨S36864x1, .i1⟩
  | 106 => ⟨S36864x1, .f32⟩
  | 107 => ⟨S36864x1024, .f32⟩
  | 108 => ⟨S36864x1024, .f32⟩
  | 109 => ⟨S_, .f32⟩
  | 110 => ⟨S_, .f32⟩
  | 111 => ⟨S36864x1024, .i1⟩
  | 112 => ⟨S36864x1024, .f32⟩
  | 113 => ⟨S36864x1024, .f32⟩
  | 114 => ⟨S36864x1024, .f32⟩
  | 115 => ⟨S1x1024x3584, .bf16⟩
  | 116 => ⟨S1024x3584, .bf16⟩
  | 117 => ⟨S1024x3584, .f32⟩
  | 118 => ⟨S1x1024x3584, .bf16⟩
  | 119 => ⟨S1024x3584, .bf16⟩
  | 120 => ⟨S1024x3584, .f32⟩
  | 121 => ⟨S1x3584x1024, .bf16⟩
  | 122 => ⟨S3584x1024, .bf16⟩
  | 123 => ⟨S3584x1024, .f32⟩
  | 124 => ⟨S36864x3584, .f32⟩
  | 125 => ⟨S36864x3584, .f32⟩
  | 126 => ⟨S36864x3584, .f32⟩
  | 127 => ⟨S_, .f32⟩
  | _ => ⟨S72, .i32⟩

abbrev hbmTy0_1 (i : Nat) : BufTy := match i % 128 with
  | 0 => ⟨S36864x3584, .f32⟩
  | 1 => ⟨S36864x3584, .f32⟩
  | 2 => ⟨S_, .f32⟩
  | 3 => ⟨S36864x3584, .f32⟩
  | 4 => ⟨S36864x3584, .f32⟩
  | 5 => ⟨S36864x3584, .f32⟩
  | 6 => ⟨S36864x3584, .f32⟩
  | 7 => ⟨S36864x3584, .f32⟩
  | 8 => ⟨S36864x1024, .f32⟩
  | 9 => ⟨S_, .i32⟩
  | 10 => ⟨S36864x1, .i32⟩
  | 11 => ⟨S36864x1, .i1⟩
  | 12 => ⟨S36864x1, .f32⟩
  | 13 => ⟨S36864x1024, .f32⟩
  | 14 => ⟨S36864x1024, .f32⟩
  | 15 => ⟨S_, .f32⟩
  | 16 => ⟨S_, .f32⟩
  | 17 => ⟨S36864x1024, .i1⟩
  | 18 => ⟨S36864x1024, .f32⟩
  | 19 => ⟨S36864x1024, .f32⟩
  | 20 => ⟨S36864x1024, .f32⟩
  | 21 => ⟨S1x1024x3584, .bf16⟩
  | 22 => ⟨S1024x3584, .bf16⟩
  | 23 => ⟨S1024x3584, .f32⟩
  | 24 => ⟨S1x1024x3584, .bf16⟩
  | 25 => ⟨S1024x3584, .bf16⟩
  | 26 => ⟨S1024x3584, .f32⟩
  | 27 => ⟨S1x3584x1024, .bf16⟩
  | 28 => ⟨S3584x1024, .bf16⟩
  | 29 => ⟨S3584x1024, .f32⟩
  | 30 => ⟨S36864x3584, .f32⟩
  | 31 => ⟨S36864x3584, .f32⟩
  | 32 => ⟨S36864x3584, .f32⟩
  | 33 => ⟨S_, .f32⟩
  | 34 => ⟨S36864x3584, .f32⟩
  | 35 => ⟨S36864x3584, .f32⟩
  | 36 => ⟨S_, .f32⟩
  | 37 => ⟨S36864x3584, .f32⟩
  | 38 => ⟨S36864x3584, .f32⟩
  | 39 => ⟨S36864x3584, .f32⟩
  | 40 => ⟨S36864x3584, .f32⟩
  | 41 => ⟨S36864x3584, .f32⟩
  | 42 => ⟨S36864x1024, .f32⟩
  | 43 => ⟨S_, .i32⟩
  | 44 => ⟨S36864x1, .i32⟩
  | 45 => ⟨S36864x1, .i1⟩
  | 46 => ⟨S36864x1, .f32⟩
  | 47 => ⟨S36864x1024, .f32⟩
  | 48 => ⟨S36864x1024, .f32⟩
  | 49 => ⟨S_, .f32⟩
  | 50 => ⟨S_, .f32⟩
  | 51 => ⟨S36864x1024, .i1⟩
  | 52 => ⟨S36864x1024, .f32⟩
  | 53 => ⟨S36864x1024, .f32⟩
  | 54 => ⟨S36864x1024, .f32⟩
  | 55 => ⟨S1x1024x3584, .bf16⟩
  | 56 => ⟨S1024x3584, .bf16⟩
  | 57 => ⟨S1024x3584, .f32⟩
  | 58 => ⟨S1x1024x3584, .bf16⟩
  | 59 => ⟨S1024x3584, .bf16⟩
  | 60 => ⟨S1024x3584, .f32⟩
  | 61 => ⟨S1x3584x1024, .bf16⟩
  | 62 => ⟨S3584x1024, .bf16⟩
  | 63 => ⟨S3584x1024, .f32⟩
  | 64 => ⟨S36864x3584, .f32⟩
  | 65 => ⟨S36864x3584, .f32⟩
  | 66 => ⟨S36864x3584, .f32⟩
  | 67 => ⟨S_, .f32⟩
  | 68 => ⟨S36864x3584, .f32⟩
  | 69 => ⟨S36864x3584, .f32⟩
  | 70 => ⟨S_, .f32⟩
  | 71 => ⟨S36864x3584, .f32⟩
  | 72 => ⟨S36864x3584, .f32⟩
  | 73 => ⟨S36864x3584, .f32⟩
  | 74 => ⟨S36864x3584, .f32⟩
  | 75 => ⟨S36864x3584, .f32⟩
  | 76 => ⟨S36864x1024, .f32⟩
  | 77 => ⟨S_, .i32⟩
  | 78 => ⟨S36864x1, .i32⟩
  | 79 => ⟨S36864x1, .i1⟩
  | 80 => ⟨S36864x1, .f32⟩
  | 81 => ⟨S36864x1024, .f32⟩
  | 82 => ⟨S36864x1024, .f32⟩
  | 83 => ⟨S_, .f32⟩
  | 84 => ⟨S_, .f32⟩
  | 85 => ⟨S36864x1024, .i1⟩
  | 86 => ⟨S36864x1024, .f32⟩
  | 87 => ⟨S36864x1024, .f32⟩
  | 88 => ⟨S36864x1024, .f32⟩
  | 89 => ⟨S1x1024x3584, .bf16⟩
  | 90 => ⟨S1024x3584, .bf16⟩
  | 91 => ⟨S1024x3584, .f32⟩
  | 92 => ⟨S1x1024x3584, .bf16⟩
  | 93 => ⟨S1024x3584, .bf16⟩
  | 94 => ⟨S1024x3584, .f32⟩
  | 95 => ⟨S1x3584x1024, .bf16⟩
  | 96 => ⟨S3584x1024, .bf16⟩
  | 97 => ⟨S3584x1024, .f32⟩
  | 98 => ⟨S36864x3584, .f32⟩
  | 99 => ⟨S36864x3584, .f32⟩
  | 100 => ⟨S36864x3584, .f32⟩
  | 101 => ⟨S_, .f32⟩
  | 102 => ⟨S36864x3584, .f32⟩
  | 103 => ⟨S36864x3584, .f32⟩
  | 104 => ⟨S_, .f32⟩
  | 105 => ⟨S36864x3584, .f32⟩
  | 106 => ⟨S36864x3584, .f32⟩
  | 107 => ⟨S36864x3584, .f32⟩
  | 108 => ⟨S36864x3584, .f32⟩
  | 109 => ⟨S36864x3584, .f32⟩
  | 110 => ⟨S36864x1024, .f32⟩
  | 111 => ⟨S_, .i32⟩
  | 112 => ⟨S36864x1, .i32⟩
  | 113 => ⟨S36864x1, .i1⟩
  | 114 => ⟨S36864x1, .f32⟩
  | 115 => ⟨S36864x1024, .f32⟩
  | 116 => ⟨S36864x1024, .f32⟩
  | 117 => ⟨S_, .f32⟩
  | 118 => ⟨S_, .f32⟩
  | 119 => ⟨S36864x1024, .i1⟩
  | 120 => ⟨S36864x1024, .f32⟩
  | 121 => ⟨S36864x1024, .f32⟩
  | 122 => ⟨S36864x1024, .f32⟩
  | 123 => ⟨S1x1024x3584, .bf16⟩
  | 124 => ⟨S1024x3584, .bf16⟩
  | 125 => ⟨S1024x3584, .f32⟩
  | 126 => ⟨S1x1024x3584, .bf16⟩
  | 127 => ⟨S1024x3584, .bf16⟩
  | _ => ⟨S72, .i32⟩

abbrev hbmTy0_2 (i : Nat) : BufTy := match i % 128 with
  | 0 => ⟨S1024x3584, .f32⟩
  | 1 => ⟨S1x3584x1024, .bf16⟩
  | 2 => ⟨S3584x1024, .bf16⟩
  | 3 => ⟨S3584x1024, .f32⟩
  | 4 => ⟨S36864x3584, .f32⟩
  | 5 => ⟨S36864x3584, .f32⟩
  | 6 => ⟨S36864x3584, .f32⟩
  | 7 => ⟨S_, .f32⟩
  | 8 => ⟨S36864x3584, .f32⟩
  | 9 => ⟨S36864x3584, .f32⟩
  | 10 => ⟨S_, .f32⟩
  | 11 => ⟨S36864x3584, .f32⟩
  | 12 => ⟨S36864x3584, .f32⟩
  | 13 => ⟨S36864x3584, .f32⟩
  | 14 => ⟨S36864x3584, .f32⟩
  | 15 => ⟨S36864x3584, .f32⟩
  | 16 => ⟨S36864x1024, .f32⟩
  | 17 => ⟨S_, .i32⟩
  | 18 => ⟨S36864x1, .i32⟩
  | 19 => ⟨S36864x1, .i1⟩
  | 20 => ⟨S36864x1, .f32⟩
  | 21 => ⟨S36864x1024, .f32⟩
  | 22 => ⟨S36864x1024, .f32⟩
  | 23 => ⟨S_, .f32⟩
  | 24 => ⟨S_, .f32⟩
  | 25 => ⟨S36864x1024, .i1⟩
  | 26 => ⟨S36864x1024, .f32⟩
  | 27 => ⟨S36864x1024, .f32⟩
  | 28 => ⟨S36864x1024, .f32⟩
  | 29 => ⟨S36864x1024, .bf16⟩
  | _ => ⟨S72, .i32⟩

abbrev hbmTy (i : Nat) : BufTy := match i / 128 with
  | 0 => hbmTy0_0 i
  | 1 => hbmTy0_1 i
  | 2 => hbmTy0_2 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_1 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_2 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_call4_v0 : Ref sig .tc := ⟨.hbm, 91, rfl⟩
abbrev main_call4_v1 : Ref sig .tc := ⟨.hbm, 92, rfl⟩
abbrev main_call4_cst : Ref sig .tc := ⟨.hbm, 93, rfl⟩
abbrev main_call4_v2 : Ref sig .tc := ⟨.hbm, 94, rfl⟩
abbrev main_call4_v3 : Ref sig .tc := ⟨.hbm, 95, rfl⟩
abbrev main_call4_cst_0 : Ref sig .tc := ⟨.hbm, 96, rfl⟩
abbrev main_call4_v4 : Ref sig .tc := ⟨.hbm, 97, rfl⟩
abbrev main_call4_v5 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_3 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_4 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_call6_v0 : Ref sig .tc := ⟨.hbm, 125, rfl⟩
abbrev main_call6_v1 : Ref sig .tc := ⟨.hbm, 126, rfl⟩
abbrev main_call6_cst : Ref sig .tc := ⟨.hbm, 127, rfl⟩
abbrev main_call6_v2 : Ref sig .tc := ⟨.hbm, 128, rfl⟩
abbrev main_call6_v3 : Ref sig .tc := ⟨.hbm, 129, rfl⟩
abbrev main_call6_cst_0 : Ref sig .tc := ⟨.hbm, 130, rfl⟩
abbrev main_call6_v4 : Ref sig .tc := ⟨.hbm, 131, rfl⟩
abbrev main_call6_v5 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_c_5 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_6 : Ref sig .tc := ⟨.hbm, 143, rfl⟩
abbrev main_call7_v0 : Ref sig .tc := ⟨.hbm, 144, rfl⟩
abbrev main_call7_v1 : Ref sig .tc := ⟨.hbm, 145, rfl⟩
abbrev main_call7_v2 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_call8_v0 : Ref sig .tc := ⟨.hbm, 159, rfl⟩
abbrev main_call8_v1 : Ref sig .tc := ⟨.hbm, 160, rfl⟩
abbrev main_call8_cst : Ref sig .tc := ⟨.hbm, 161, rfl⟩
abbrev main_call8_v2 : Ref sig .tc := ⟨.hbm, 162, rfl⟩
abbrev main_call8_v3 : Ref sig .tc := ⟨.hbm, 163, rfl⟩
abbrev main_call8_cst_0 : Ref sig .tc := ⟨.hbm, 164, rfl⟩
abbrev main_call8_v4 : Ref sig .tc := ⟨.hbm, 165, rfl⟩
abbrev main_call8_v5 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_c_7 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_cst_8 : Ref sig .tc := ⟨.hbm, 177, rfl⟩
abbrev main_call9_v0 : Ref sig .tc := ⟨.hbm, 178, rfl⟩
abbrev main_call9_v1 : Ref sig .tc := ⟨.hbm, 179, rfl⟩
abbrev main_call9_v2 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_call10_v0 : Ref sig .tc := ⟨.hbm, 193, rfl⟩
abbrev main_call10_v1 : Ref sig .tc := ⟨.hbm, 194, rfl⟩
abbrev main_call10_cst : Ref sig .tc := ⟨.hbm, 195, rfl⟩
abbrev main_call10_v2 : Ref sig .tc := ⟨.hbm, 196, rfl⟩
abbrev main_call10_v3 : Ref sig .tc := ⟨.hbm, 197, rfl⟩
abbrev main_call10_cst_0 : Ref sig .tc := ⟨.hbm, 198, rfl⟩
abbrev main_call10_v4 : Ref sig .tc := ⟨.hbm, 199, rfl⟩
abbrev main_call10_v5 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_c_9 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_cst_10 : Ref sig .tc := ⟨.hbm, 211, rfl⟩
abbrev main_call11_v0 : Ref sig .tc := ⟨.hbm, 212, rfl⟩
abbrev main_call11_v1 : Ref sig .tc := ⟨.hbm, 213, rfl⟩
abbrev main_call11_v2 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_call12_v0 : Ref sig .tc := ⟨.hbm, 227, rfl⟩
abbrev main_call12_v1 : Ref sig .tc := ⟨.hbm, 228, rfl⟩
abbrev main_call12_cst : Ref sig .tc := ⟨.hbm, 229, rfl⟩
abbrev main_call12_v2 : Ref sig .tc := ⟨.hbm, 230, rfl⟩
abbrev main_call12_v3 : Ref sig .tc := ⟨.hbm, 231, rfl⟩
abbrev main_call12_cst_0 : Ref sig .tc := ⟨.hbm, 232, rfl⟩
abbrev main_call12_v4 : Ref sig .tc := ⟨.hbm, 233, rfl⟩
abbrev main_call12_v5 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_c_11 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_cst_12 : Ref sig .tc := ⟨.hbm, 245, rfl⟩
abbrev main_call13_v0 : Ref sig .tc := ⟨.hbm, 246, rfl⟩
abbrev main_call13_v1 : Ref sig .tc := ⟨.hbm, 247, rfl⟩
abbrev main_call13_v2 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_call14_v0 : Ref sig .tc := ⟨.hbm, 261, rfl⟩
abbrev main_call14_v1 : Ref sig .tc := ⟨.hbm, 262, rfl⟩
abbrev main_call14_cst : Ref sig .tc := ⟨.hbm, 263, rfl⟩
abbrev main_call14_v2 : Ref sig .tc := ⟨.hbm, 264, rfl⟩
abbrev main_call14_v3 : Ref sig .tc := ⟨.hbm, 265, rfl⟩
abbrev main_call14_cst_0 : Ref sig .tc := ⟨.hbm, 266, rfl⟩
abbrev main_call14_v4 : Ref sig .tc := ⟨.hbm, 267, rfl⟩
abbrev main_call14_v5 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_c_13 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_cst_14 : Ref sig .tc := ⟨.hbm, 279, rfl⟩
abbrev main_call15_v0 : Ref sig .tc := ⟨.hbm, 280, rfl⟩
abbrev main_call15_v1 : Ref sig .tc := ⟨.hbm, 281, rfl⟩
abbrev main_call15_v2 : Ref sig .tc := ⟨.hbm, 282, rfl⟩
abbrev main_v171 : Ref sig .tc := ⟨.hbm, 283, rfl⟩
abbrev main_v172 : Ref sig .tc := ⟨.hbm, 284, rfl⟩
abbrev main_v173 : Ref sig .tc := ⟨.hbm, 285, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x5120 : Shape := ⟨2, ![1024, 5120]⟩
abbrev S16384x1024 : Shape := ⟨2, ![16384, 1024]⟩
abbrev S1x1024 : Shape := ⟨2, ![1, 1024]⟩
abbrev S16384x512 : Shape := ⟨2, ![16384, 512]⟩
abbrev S2x4x512x4096 : Shape := ⟨4, ![2, 4, 512, 4096]⟩
abbrev S4x512x4096 : Shape := ⟨3, ![4, 512, 4096]⟩
abbrev S512x1024 : Shape := ⟨2, ![512, 1024]⟩
abbrev S512x512 : Shape := ⟨2, ![512, 512]⟩
abbrev S1x1x512x512 : Shape := ⟨4, ![1, 1, 512, 512]⟩
abbrev S1x512x512 : Shape := ⟨3, ![1, 512, 512]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩

abbrev nBuf : Space → Nat
  | .hbm => 15
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5120, .f32⟩
  | .hbm, ⟨3, _⟩ => ⟨S16384x1024, .f32⟩
  | .hbm, ⟨4, _⟩ => ⟨S1x1024, .f32⟩
  | .hbm, ⟨5, _⟩ => ⟨S1024x5120, .bf16⟩
  | .hbm, ⟨6, _⟩ => ⟨S16384x512, .bf16⟩
  | .hbm, ⟨7, _⟩ => ⟨S2x4x512x4096, .f32⟩
  | .hbm, ⟨8, _⟩ => ⟨S2x4x512x4096, .f32⟩
  | .hbm, ⟨9, _⟩ => ⟨S4x512x4096, .bf16⟩
  | .hbm, ⟨10, _⟩ => ⟨S4x512x4096, .bf16⟩
  | .hbm, ⟨11, _⟩ => ⟨S16384x512, .bf16⟩
  | .hbm, ⟨12, _⟩ => ⟨S16384x512, .f32⟩
  | .hbm, ⟨13, _⟩ => ⟨S16384x1024, .bf16⟩
  | .hbm, ⟨14, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S512x512, .bf16⟩
  | .local _ .vmem, ⟨5, _⟩ => ⟨S512x512, .bf16⟩
  | .local _ .vmem, ⟨6, _⟩ => ⟨S1x1x512x512, .f32⟩
  | .local _ .vmem, ⟨7, _⟩ => ⟨S1x1x512x512, .f32⟩
  | .local _ .vmem, ⟨8, _⟩ => ⟨S1x1x512x512, .f32⟩
  | .local _ .vmem, ⟨9, _⟩ => ⟨S1x1x512x512, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev main_v3_8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
variable {F : FTy → Type} [FloatOps F] [Named F]
def κ : String → Option EReal := fun
  | "qscale" => some (((Real.log 256)⁻¹ : ℝ) : EReal)
  | _ => none
-- ==== Reference3Ideal.lean ====
abbrev S4x4096x1024 : Shape := ⟨3, ![4, 4096, 1024]⟩
abbrev S1024 : Shape := ⟨1, ![1024]⟩
abbrev S1024x5120 : Shape := ⟨2, ![1024, 5120]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5120 : Shape := ⟨3, ![4, 4096, 5120]⟩
abbrev S4x4096x512 : Shape := ⟨3, ![4, 4096, 512]⟩
abbrev S4x512x4096 : Shape := ⟨3, ![4, 512, 4096]⟩
abbrev S16384x512 : Shape := ⟨2, ![16384, 512]⟩
abbrev S1x4x512x4096 : Shape := ⟨4, ![1, 4, 512, 4096]⟩
abbrev S2x4x512x4096 : Shape := ⟨4, ![2, 4, 512, 4096]⟩
abbrev S16384x1024 : Shape := ⟨2, ![16384, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5120, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x5120, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x1024, .f32⟩
  | .hbm, ⟨27, _⟩ => ⟨S4x4096x1024, .f32⟩
  | .hbm, ⟨28, _⟩ => ⟨S4x512x4096, .f32⟩
  | .hbm, ⟨29, _⟩ => ⟨S4x512x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x4096x512, .f32⟩
  | .hbm, ⟨35, _⟩ => ⟨S4x4096x512, .f32⟩
  | .hbm, ⟨36, _⟩ => ⟨S16384x512, .f32⟩
  | .hbm, ⟨37, _⟩ => ⟨S16384x512, .bf16⟩
  | .hbm, ⟨38, _⟩ => ⟨S1x4x512x4096, .f32⟩
  | .hbm, ⟨39, _⟩ => ⟨S2x4x512x4096, .f32⟩
  | .hbm, ⟨40, _⟩ => ⟨S1x4x512x4096, .f32⟩
  | .hbm, ⟨41, _⟩ => ⟨S2x4x512x4096, .f32⟩
  | .hbm, ⟨42, _⟩ => ⟨S4x512x4096, .bf16⟩
  | .hbm, ⟨43, _⟩ => ⟨S4x512x4096, .bf16⟩
  | .hbm, ⟨44, _⟩ => ⟨S16384x512, .f32⟩
  | .hbm, ⟨45, _⟩ => ⟨S16384x512, .bf16⟩
  | .hbm, ⟨46, _⟩ => ⟨S4x4096x512, .f32⟩
  | .hbm, ⟨47, _⟩ => ⟨S16384x512, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096x1024, .f32⟩
  | .hbm, ⟨55, _⟩ => ⟨S4x4096x1024, .f32⟩
  | .hbm, ⟨56, _⟩ => ⟨S16384x1024, .f32⟩
  | .hbm, ⟨57, _⟩ => ⟨S16384x1024, .bf16⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096x1024, .f32⟩
  | .hbm, ⟨65, _⟩ => ⟨S4x4096x1024, .f32⟩
  | .hbm, ⟨66, _⟩ => ⟨S16384x1024, .f32⟩
  | .hbm, ⟨67, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S8x512 : Shape := ⟨2, ![8, 512]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S512x2816 : Shape := ⟨2, ![512, 2816]⟩

abbrev nBuf : Space → Nat
  | .hbm => 25
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x1024, .bf16⟩
  | .hbm, ⟨5, _⟩ => ⟨S16384x1024, .bf16⟩
  | .hbm, ⟨6, _⟩ => ⟨S3x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1x1024, .f32⟩
  | .hbm, ⟨21, _⟩ => ⟨S_, .i32⟩
  | .hbm, ⟨22, _⟩ => ⟨S_, .f32⟩
  | .hbm, ⟨23, _⟩ => ⟨S8x512, .f32⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x512, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x2816, .bf16⟩
  | .local _ .vmem, ⟨20, _⟩ => ⟨S1024x2816, .bf16⟩
  | .local _ .vmem, ⟨21, _⟩ => ⟨S2816x1024, .bf16⟩
  | .local _ .vmem, ⟨22, _⟩ => ⟨S512x1024, .f32⟩
  | .local _ .vmem, ⟨23, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_call0_v0 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16384x1024 : Shape := ⟨2, ![16384, 1024]⟩
abbrev S16384x512 : Shape := ⟨2, ![16384, 512]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4x4096x512 : Shape := ⟨3, ![4, 4096, 512]⟩
abbrev S_ : Shape := ⟨0, ![]⟩
abbrev S4x2x512 : Shape := ⟨3, ![4, 2, 512]⟩
abbrev S4x4098x512 : Shape := ⟨3, ![4, 4098, 512]⟩
abbrev S1x512 : Shape := ⟨2, ![1, 512]⟩
abbrev S512 : Shape := ⟨1, ![512]⟩
abbrev S1x1x512 : Shape := ⟨3, ![1, 1, 512]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x1024, .bf16⟩
  | .hbm, ⟨5, _⟩ => ⟨S16384x1024, .bf16⟩
  | .hbm, ⟨6, _⟩ => ⟨S3x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S16384x512, .f32⟩
  | .hbm, ⟨15, _⟩ => ⟨S16384x512, .f32⟩
  | .hbm, ⟨16, _⟩ => ⟨S16384x1024, .f32⟩
  | .hbm, ⟨17, _⟩ => ⟨S16384x1024, .f32⟩
  | .hbm, ⟨18, _⟩ => ⟨S4x4096x512, .f32⟩
  | .hbm, ⟨19, _⟩ => ⟨S_, .f32⟩
  | .hbm, ⟨20, _⟩ => ⟨S4x2x512, .f32⟩
  | .hbm, ⟨21, _⟩ => ⟨S4x4098x512, .f32⟩
  | .hbm, ⟨22, _⟩ => ⟨S1x512, .f32⟩
  | .hbm, ⟨23, _⟩ => ⟨S512, .f32⟩
  | .hbm, ⟨24, _⟩ => ⟨S4x4096x512, .f32⟩
  | .hbm, ⟨25, _⟩ => ⟨S1x1x512, .f32⟩
  | .hbm, ⟨26, _⟩ => ⟨S4x4096x512, .f32⟩
  | .hbm, ⟨27, _⟩ => ⟨S4x4096x512, .f32⟩
  | .hbm, ⟨28, _⟩ => ⟨S1x512, .f32⟩
  | .hbm, ⟨29, _⟩ => ⟨S512, .f32⟩
  | .hbm, ⟨30, _⟩ => ⟨S4x4096x512, .f32⟩
  | .hbm, ⟨31, _⟩ => ⟨S1x1x512, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S1x512, .f32⟩
  | .hbm, ⟨36, _⟩ => ⟨S512, .f32⟩
  | .hbm, ⟨37, _⟩ => ⟨S4x4096x512, .f32⟩
  | .hbm, ⟨38, _⟩ => ⟨S1x1x512, .f32⟩
  | .hbm, ⟨39, _⟩ => ⟨S4x4096x512, .f32⟩
  | .hbm, ⟨40, _⟩ => ⟨S4x4096x512, .f32⟩
  | .hbm, ⟨41, _⟩ => ⟨S4x4096x512, .f32⟩
  | .hbm, ⟨42, _⟩ => ⟨S16384x512, .f32⟩
  | .hbm, ⟨43, _⟩ => ⟨S16384x1024, .f32⟩
  | .hbm, ⟨44, _⟩ => ⟨S16384x512, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S_, .f32⟩
  | .hbm, ⟨71, _⟩ => ⟨S16384x2816, .f32⟩
  | .hbm, ⟨72, _⟩ => ⟨S16384x2816, .f32⟩
  | .hbm, ⟨73, _⟩ => ⟨S_, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S16384x2816, .f32⟩
  | .hbm, ⟨79, _⟩ => ⟨S16384x1024, .f32⟩
  | .hbm, ⟨80, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_0 : Ref sig .tc := ⟨.hbm, 52, rfl⟩
abbrev main_v37 : Ref sig .tc := ⟨.hbm, 53, rfl⟩
abbrev main_v38 : Ref sig .tc := ⟨.hbm, 54, rfl⟩
abbrev main_cst_1 : Ref sig .tc := ⟨.hbm, 55, rfl⟩
abbrev main_v39 : Ref sig .tc := ⟨.hbm, 56, rfl⟩
abbrev main_v40 : Ref sig .tc := ⟨.hbm, 57, rfl⟩
abbrev main_cst_2 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S1x1024 : Shape := ⟨2, ![1, 1024]⟩
abbrev S_ : Shape := ⟨0, ![]⟩
abbrev S8x512 : Shape := ⟨2, ![8, 512]⟩
abbrev S8x1024 : Shape := ⟨2, ![8, 1024]⟩
abbrev S16x1024 : Shape := ⟨2, ![16, 1024]⟩
abbrev S512x512 : Shape := ⟨2, ![512, 512]⟩
abbrev S8x16384 : Shape := ⟨2, ![8, 16384]⟩
abbrev S32x16x128 : Shape := ⟨3, ![32, 16, 128]⟩
abbrev S1x16x128 : Shape := ⟨3, ![1, 16, 128]⟩
abbrev S1x512 : Shape := ⟨2, ![1, 512]⟩
abbrev S512 : Shape := ⟨1, ![512]⟩
abbrev S512x1 : Shape := ⟨2, ![512, 1]⟩
abbrev S16x512 : Shape := ⟨2, ![16, 512]⟩
abbrev S16 : Shape := ⟨1, ![16]⟩
abbrev S16x1 : Shape := ⟨2, ![16, 1]⟩
abbrev S16x128 : Shape := ⟨2, ![16, 128]⟩

abbrev nBuf : Space → Nat
  | .hbm => 37
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x1024, .bf16⟩
  | .hbm, ⟨5, _⟩ => ⟨S16384x1024, .bf16⟩
  | .hbm, ⟨6, _⟩ => ⟨S3x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x8, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S_, .i32⟩
  | .hbm, ⟨17, _⟩ => ⟨S_, .f32⟩
  | .hbm, ⟨18, _⟩ => ⟨S8x512, .f32⟩
  | .hbm, ⟨19, _⟩ => ⟨S8x1024, .f32⟩
  | .hbm, ⟨20, _⟩ => ⟨S_, .i32⟩
  | .hbm, ⟨21, _⟩ => ⟨S_, .f32⟩
  | .hbm, ⟨22, _⟩ => ⟨S16x1024, .f32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S_, .f32⟩
  | .hbm, ⟨27, _⟩ => ⟨S_, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S512x512, .bf16⟩
  | .hbm, ⟨32, _⟩ => ⟨S16384x1024, .f32⟩
  | .hbm, ⟨33, _⟩ => ⟨S16384x1024, .bf16⟩
  | .hbm, ⟨34, _⟩ => ⟨S8x16384, .i32⟩
  | .hbm, ⟨35, _⟩ => ⟨S8x16384, .f32⟩
  | .hbm, ⟨36, _⟩ => ⟨S32x16x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x512, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S16x1024, .f32⟩
  | .local _ .vmem, ⟨20, _⟩ => ⟨S512x512, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S8x512, .i32⟩
  | .local _ .vmem, ⟨26, _⟩ => ⟨S8x512, .i32⟩
  | .local _ .vmem, ⟨27, _⟩ => ⟨S8x512, .f32⟩
  | .local _ .vmem, ⟨28, _⟩ => ⟨S8x512, .f32⟩
  | .local _ .vmem, ⟨29, _⟩ => ⟨S1x16x128, .f32⟩
  | .local _ .vmem, ⟨30, _⟩ => ⟨S1x16x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_cst_1 : Ref sig .tc := ⟨.hbm, 27, rfl⟩
abbrev main_call2_v0 : Ref sig .tc := ⟨.hbm, 28, rfl⟩
abbrev main_call2_v1 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v12_2 : Ref sig .tc := ⟨.hbm, 34, rfl⟩
abbrev main_v12_3 : Ref sig .tc := ⟨.hbm, 35, rfl⟩
abbrev main_v12_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x16x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference5Ideal.lean ====
abbrev S16384x1024 : Shape := ⟨2, ![16384, 1024]⟩
abbrev S16384x512 : Shape := ⟨2, ![16384, 512]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S4x4096x512 : Shape := ⟨3, ![4, 4096, 512]⟩
abbrev S_ : Shape := ⟨0, ![]⟩
abbrev S4x2x512 : Shape := ⟨3, ![4, 2, 512]⟩
abbrev S4x4098x512 : Shape := ⟨3, ![4, 4098, 512]⟩
abbrev S1x512 : Shape := ⟨2, ![1, 512]⟩
abbrev S512 : Shape := ⟨1, ![512]⟩
abbrev S1x1x512 : Shape := ⟨3, ![1, 1, 512]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S32x512x8 : Shape := ⟨3, ![32, 512, 8]⟩
abbrev S16384x1x8 : Shape := ⟨3, ![16384, 1, 8]⟩
abbrev S32x8 : Shape := ⟨2, ![32, 8]⟩
abbrev S2x16384 : Shape := ⟨2, ![2, 16384]⟩
abbrev S4x16384 : Shape := ⟨2, ![4, 16384]⟩
abbrev S8x16384 : Shape := ⟨2, ![8, 16384]⟩
abbrev S6x16384 : Shape := ⟨2, ![6, 16384]⟩
abbrev S32x16 : Shape := ⟨2, ![32, 16]⟩
abbrev S32x16x1 : Shape := ⟨3, ![32, 16, 1]⟩
abbrev S32x16x128 : Shape := ⟨3, ![32, 16, 128]⟩

abbrev nBuf : Space → Nat
  | .hbm => 118
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x1024, .bf16⟩
  | .hbm, ⟨5, _⟩ => ⟨S16384x1024, .bf16⟩
  | .hbm, ⟨6, _⟩ => ⟨S3x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x8, .f32⟩
  | .hbm, ⟨12, _⟩ => ⟨S16384x512, .f32⟩
  | .hbm, ⟨13, _⟩ => ⟨S16384x512, .f32⟩
  | .hbm, ⟨14, _⟩ => ⟨S16384x1024, .f32⟩
  | .hbm, ⟨15, _⟩ => ⟨S16384x1024, .f32⟩
  | .hbm, ⟨16, _⟩ => ⟨S4x4096x512, .f32⟩
  | .hbm, ⟨17, _⟩ => ⟨S_, .f32⟩
  | .hbm, ⟨18, _⟩ => ⟨S4x2x512, .f32⟩
  | .hbm, ⟨19, _⟩ => ⟨S4x4098x512, .f32⟩
  | .hbm, ⟨20, _⟩ => ⟨S1x512, .f32⟩
  | .hbm, ⟨21, _⟩ => ⟨S512, .f32⟩
  | .hbm, ⟨22, _⟩ => ⟨S4x4096x512, .f32⟩
  | .hbm, ⟨23, _⟩ => ⟨S1x1x512, .f32⟩
  | .hbm, ⟨24, _⟩ => ⟨S4x4096x512, .f32⟩
  | .hbm, ⟨25, _⟩ => ⟨S4x4096x512, .f32⟩
  | .hbm, ⟨26, _⟩ => ⟨S1x512, .f32⟩
  | .hbm, ⟨27, _⟩ => ⟨S512, .f32⟩
  | .hbm, ⟨28, _⟩ => ⟨S4x4096x512, .f32⟩
  | .hbm, ⟨29, _⟩ => ⟨S1x1x512, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S1x512, .f32⟩
  | .hbm, ⟨34, _⟩ => ⟨S512, .f32⟩
  | .hbm, ⟨35, _⟩ => ⟨S4x4096x512, .f32⟩
  | .hbm, ⟨36, _⟩ => ⟨S1x1x512, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S16384x512, .f32⟩
  | .hbm, ⟨41, _⟩ => ⟨S16384x1024, .f32⟩
  | .hbm, ⟨42, _⟩ => ⟨S16384x512, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x8, .f32⟩
  | .hbm, ⟨66, _⟩ => ⟨S16384x2, .f32⟩
  | .hbm, ⟨67, _⟩ => ⟨S16384x2, .i32⟩
  | .hbm, ⟨68, _⟩ => ⟨S_, .f32⟩
  | .hbm, ⟨69, _⟩ => ⟨S16384, .f32⟩
  | .hbm, ⟨70, _⟩ => ⟨S_, .f32⟩
  | .hbm, ⟨71, _⟩ => ⟨S16384, .f32⟩
  | .hbm, ⟨72, _⟩ => ⟨S16384, .f32⟩
  | .hbm, ⟨73, _⟩ => ⟨S16384x1, .f32⟩
  | .hbm, ⟨74, _⟩ => ⟨S16384x2, .f32⟩
  | .hbm, ⟨75, _⟩ => ⟨S16384x2, .f32⟩
  | .hbm, ⟨76, _⟩ => ⟨S16384x2, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S16384x2, .f32⟩
  | .hbm, ⟨81, _⟩ => ⟨S16384x2, .f32⟩
  | .hbm, ⟨82, _⟩ => ⟨S16384x2x1, .i32⟩
  | .hbm, ⟨83, _⟩ => ⟨S1x1x8, .i32⟩
  | .hbm, ⟨84, _⟩ => ⟨S16384x2x8, .i32⟩
  | .hbm, ⟨85, _⟩ => ⟨S16384x2x8, .i32⟩
  | .hbm, ⟨86, _⟩ => ⟨S16384x2x8, .i1⟩
  | .hbm, ⟨87, _⟩ => ⟨S16384x2x8, .f32⟩
  | .hbm, ⟨88, _⟩ => ⟨S_, .f32⟩
  | .hbm, ⟨89, _⟩ => ⟨S16384x8, .f32⟩
  | .hbm, ⟨90, _⟩ => ⟨S32x512x8, .f32⟩
  | .hbm, ⟨91, _⟩ => ⟨S_, .f32⟩
  | .hbm, ⟨92, _⟩ => ⟨S_, .f32⟩
  | .hbm, ⟨93, _⟩ => ⟨S32x512x8, .f32⟩
  | .hbm, ⟨94, _⟩ => ⟨S32x512x8, .f32⟩
  | .hbm, ⟨95, _⟩ => ⟨S16384x1x8, .f32⟩
  | .hbm, ⟨96, _⟩ => ⟨S16384x2x8, .f32⟩
  | .hbm, ⟨97, _⟩ => ⟨S16384x2x8, .f32⟩
  | .hbm, ⟨98, _⟩ => ⟨S_, .f32⟩
  | .hbm, ⟨99, _⟩ => ⟨S16384x2, .f32⟩
  | .hbm, ⟨100, _⟩ => ⟨S16384x2, .i32⟩
  | .hbm, ⟨101, _⟩ => ⟨S_, .f32⟩
  | .hbm, ⟨102, _⟩ => ⟨S32x8, .f32⟩
  | .hbm, ⟨103, _⟩ => ⟨S2x16384, .i32⟩
  | .hbm, ⟨104, _⟩ => ⟨S2x16384, .i32⟩
  | .hbm, ⟨105, _⟩ => ⟨S_, .i32⟩
  | .hbm, ⟨106, _⟩ => ⟨S4x16384, .i32⟩
  | .hbm, ⟨107, _⟩ => ⟨S8x16384, .i32⟩
  | .hbm, ⟨108, _⟩ => ⟨S2x16384, .f32⟩
  | .hbm, ⟨109, _⟩ => ⟨S_, .f32⟩
  | .hbm, ⟨110, _⟩ => ⟨S6x16384, .f32⟩
  | .hbm, ⟨111, _⟩ => ⟨S8x16384, .f32⟩
  | .hbm, ⟨112, _⟩ => ⟨S_, .f32⟩
  | .hbm, ⟨113, _⟩ => ⟨S32x8, .f32⟩
  | .hbm, ⟨114, _⟩ => ⟨S32x16, .f32⟩
  | .hbm, ⟨115, _⟩ => ⟨S16384x1024, .bf16⟩
  | .hbm, ⟨116, _⟩ => ⟨S32x16x1, .f32⟩
  | .hbm, ⟨117, _⟩ => ⟨S32x16x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_0 : Ref sig .tc := ⟨.hbm, 50, rfl⟩
abbrev main_v37 : Ref sig .tc := ⟨.hbm, 51, rfl⟩
abbrev main_v38 : Ref sig .tc := ⟨.hbm, 52, rfl⟩
abbrev main_cst_1 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_values : Ref sig .tc := ⟨.hbm, 66, rfl⟩
abbrev main_indices : Ref sig .tc := ⟨.hbm, 67, rfl⟩
abbrev main_cst_3 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_call1_call0_cst : Ref sig .tc := ⟨.hbm, 91, rfl⟩
abbrev main_call1_call0_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_7 : Ref sig .tc := ⟨.hbm, 98, rfl⟩
abbrev main_v69 : Ref sig .tc := ⟨.hbm, 99, rfl⟩
abbrev main_v70 : Ref sig .tc := ⟨.hbm, 100, rfl⟩
abbrev main_cst_8 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_9 : Ref sig .tc := ⟨.hbm, 109, rfl⟩
abbrev main_v77 : Ref sig .tc := ⟨.hbm, 110, rfl⟩
abbrev main_v78 : Ref sig .tc := ⟨.hbm, 111, rfl⟩
abbrev main_cst_10 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]
-- ==== Proof.Tiles.lean ====
/- The chunk of the stick-breaking kernel, written once over arrays: the base-two softplus of a block of scores, the
   suffix sums of a sub-block of 256 keys, the weights and the carried total, the whole chunk of 1024 keys before the
   diagonal, and the four row blocks of the diagonal. -/
module

public import Idealize.ShloMosaic.Lib.MatmulPlain
public import proofs.«01_k».proof.Proof.Gen.KernelIdeal

@[expose] public section

set_option maxRecDepth 16384
noncomputable section

namespace Cert.Stick

open Idealize.ShloMosaic Idealize.ShloMosaic.TcCoe
open Cert.KernelIdeal Cert.KernelIdeal.Gen

variable {F : FTy → Type} [FloatOps F] [Named F]

/-- An `a × b` matrix. -/
abbrev M2 (a b : ℕ) : Shape := ⟨2, ![a, b]⟩

/-- The base-two softplus of a block of scores, as the kernel spells it. -/
def soft {s : Shape} (z : FVec F s .f32) : FVec F s .bf16 :=
  truncf .bf16
    (addf (maximumf z (broadcast s (Scalar.ofBits .f32 0x00000000#32)))
      (mulf (log (addf (broadcast s (Scalar.ofBits .f32 0x3F800000#32))
          (exp2 (subf (broadcast s (Scalar.ofBits .f32 0x00000000#32)) (absf z)))))
        (broadcast s (Named.named κ "log2e" 0x3FB8AA3B#32)))) bitsLt_bf16_f32

/-- The suffix sums of a sub-block: the product with the constant triangle. -/
def suf {R : ℕ} (sp : FVec F (M2 R 256) .bf16) (nt : FVec F (M2 256 256) .bf16) : FVec F (M2 R 256) .f32 :=
  matmul (DotDims.plain R 256 256) none sp nt (constant (M2 R 256) .f32 0x00000000#32)

/-- The weights of a sub-block: two to the scores, the suffix sums and the carried total. -/
def wts {R : ℕ} (hb : (M2 R 1).Broadcasts (M2 R 256)) (z e : FVec F (M2 R 256) .f32) (c : FVec F (M2 R 1) .f32) :
    FVec F (M2 R 256) .f32 :=
  exp2 (addf (addf z e) (broadcastTo (M2 R 256) c hb))

/-- The carried total after a sub-block. -/
def nxt {R : ℕ} (hs : (M2 R 256).Slices ![0, 0] (M2 R 1)) (c : FVec F (M2 R 1) .f32) (e : FVec F (M2 R 256) .f32) :
    FVec F (M2 R 1) .f32 :=
  addf c (extractStridedSlice (M2 R 1) ![0, 0] e hs)

/-- The suffix sums of a masked sub-block. -/
def sufM (mk : IVec (M2 256 256) 1) (sp : FVec F (M2 256 256) .bf16) (nt : FVec F (M2 256 256) .bf16) :
    FVec F (M2 256 256) .f32 :=
  suf (select mk sp (broadcast (M2 256 256) (Scalar.ofBits .bf16 0x0000#16))) nt

/-- The weights of a masked sub-block. -/
def wtsM (mk : IVec (M2 256 256) 1) (z e : FVec F (M2 256 256) .f32) (c : FVec F (M2 256 1) .f32) :
    FVec F (M2 256 256) .bf16 :=
  truncf .bf16 (select mk (wts broadcasts_S256x1_S256x256 z e c)
    (broadcast (M2 256 256) (Scalar.ofBits .f32 0x00000000#32))) bitsLt_bf16_f32

/-! ## A chunk before the diagonal -/

section Off
variable (nt : FVec F (M2 256 256) .bf16) (z : FVec F (M2 1024 1024) .f32) (c : FVec F (M2 1024 1) .f32)

/-- Sub-block 3's suffix sums. -/
def offE3 : FVec F (M2 1024 256) .f32 :=
  suf (extractStridedSlice S1024x256 ![0, 768] (soft z) slices_S1024x1024_o0_768_S1024x256) nt
/-- Sub-block 2's suffix sums. -/
def offE2 : FVec F (M2 1024 256) .f32 :=
  suf (extractStridedSlice S1024x256 ![0, 512] (soft z) slices_S1024x1024_o0_512_S1024x256) nt
/-- Sub-block 1's suffix sums. -/
def offE1 : FVec F (M2 1024 256) .f32 :=
  suf (extractStridedSlice S1024x256 ![0, 256] (soft z) slices_S1024x1024_o0_256_S1024x256) nt
/-- Sub-block 0's suffix sums. -/
def offE0 : FVec F (M2 1024 256) .f32 :=
  suf (extractStridedSlice S1024x256 ![0, 0] (soft z) slices_S1024x1024_o0_0_S1024x256) nt
/-- The total carried past sub-block 3. -/
def offC3 : FVec F (M2 1024 1) .f32 := nxt slices_S1024x256_o0_0_S1024x1 c (offE3 nt z)
/-- The total carried past sub-block 2. -/
def offC2 : FVec F (M2 1024 1) .f32 := nxt slices_S1024x256_o0_0_S1024x1 (offC3 nt z c) (offE2 nt z)
/-- The total carried past sub-block 1. -/
def offC1 : FVec F (M2 1024 1) .f32 := nxt slices_S1024x256_o0_0_S1024x1 (offC2 nt z c) (offE1 nt z)
/-- The total carried past the chunk. -/
def offC : FVec F (M2 1024 1) .f32 := nxt slices_S1024x256_o0_0_S1024x1 (offC1 nt z c) (offE0 nt z)

/-- The chunk's weights. -/
def offW : FVec F (M2 1024 1024) .bf16 :=
  concatenate S1024x1024 1
    [⟨S1024x256, truncf .bf16 (wts broadcasts_S1024x1_S1024x256
        (extractStridedSlice S1024x256 ![0, 0] z slices_S1024x1024_o0_0_S1024x256) (offE0 nt z) (offC1 nt z c)) bitsLt_bf16_f32⟩,
     ⟨S1024x256, truncf .bf16 (wts broadcasts_S1024x1_S1024x256
        (extractStridedSlice S1024x256 ![0, 256] z slices_S1024x1024_o0_256_S1024x256) (offE1 nt z) (offC2 nt z c)) bitsLt_bf16_f32⟩,
     ⟨S1024x256, truncf .bf16 (wts broadcasts_S1024x1_S1024x256
        (extractStridedSlice S1024x256 ![0, 512] z slices_S1024x1024_o0_512_S1024x256) (offE2 nt z) (offC3 nt z c)) bitsLt_bf16_f32⟩,
     ⟨S1024x256, truncf .bf16 (wts broadcasts_S1024x1_S1024x256
        (extractStridedSlice S1024x256 ![0, 768] z slices_S1024x1024_o0_768_S1024x256) (offE3 nt z) c) bitsLt_bf16_f32⟩]
    concatenates_S1024x256_S1024x256_S1024x256_S1024x256_S1024x1024_d1

end Off

/-- The keys of a chunk over the constant rows. -/
def keysX (ones : FVec F (M2 128 1024) .bf16) (kt : FVec F S1x128x1024 .bf16) : FVec F (M2 256 1024) .bf16 :=
  concatenate S256x1024 0 [⟨S128x1024, shapeCast S128x1024 kt shapeCasts_S1x128x1024_S128x1024⟩, ⟨S128x1024, ones⟩]
    concatenates_S128x1024_S128x1024_S256x1024_d0

/-- The scores of a chunk. -/
def offZ (q : FVec F (M2 1024 256) .bf16) (kx : FVec F (M2 256 1024) .bf16) : FVec F (M2 1024 1024) .f32 :=
  matmul (DotDims.plain 1024 256 1024) none q kx (constant S1024x1024 .f32 0x00000000#32)

/-- The weighted values of a chunk. -/
def offPV (w : FVec F (M2 1024 1024) .bf16) (vt : FVec F S1x128x1024 .bf16) : FVec F (M2 1024 128) .f32 :=
  matmul (DotDims.transposedRhs 1024 1024 128) none w
    (shapeCast S128x1024 vt shapeCasts_S1x128x1024_S128x1024) (constant S1024x128 .f32 0x00000000#32)

/-- What a chunk leaves in a head's accumulator that held `a`. -/
def offAcc (nt : FVec F (M2 256 256) .bf16) (z : FVec F (M2 1024 1024) .f32) (c : FVec F (M2 1024 1) .f32)
    (vt : FVec F S1x128x1024 .bf16) (a : FVec F S1x1024x128 .f32) : FVec F S1x1024x128 .f32 :=
  shapeCast S1x1024x128 (addf (shapeCast S1024x128 a shapeCasts_S1x1024x128_S1024x128) (offPV (offW nt z c) vt))
    shapeCasts_S1024x128_S1x1024x128

/-! ## The diagonal chunk -/

section Diag
variable {n : ℕ} (nt : FVec F (M2 256 256) .bf16) (o : ℕ) (h : (M2 256 n).Slices ![0, o] (M2 256 256))
  (mk : IVec (M2 256 n) 1) (z : FVec F (M2 256 n) .f32) (c : FVec F (M2 256 1) .f32)

/-- The masked suffix sums of the sub-block of 256 keys at `o`. -/
def dgE : FVec F (M2 256 256) .f32 :=
  sufM (extractStridedSlice (M2 256 256) ![0, o] mk h) (extractStridedSlice (M2 256 256) ![0, o] (soft z) h) nt

/-- The masked weights of the sub-block of 256 keys at `o`. -/
def dgW : FVec F (M2 256 256) .bf16 :=
  wtsM (extractStridedSlice (M2 256 256) ![0, o] mk h) (extractStridedSlice (M2 256 256) ![0, o] z h) (dgE nt o h mk z) c

/-- The total carried past the sub-block of 256 keys at `o`. -/
def dgC : FVec F (M2 256 1) .f32 := nxt slices_S256x256_o0_0_S256x1 c (dgE nt o h mk z)

end Diag

/-- The total a row block starts from. -/
def dg0 : FVec F (M2 256 1) .f32 := broadcast S256x1 (Scalar.ofBits .f32 0x00000000#32)

section DiagBlocks
variable (nt : FVec F (M2 256 256) .bf16)

/-- The first row block's total. -/
def dgC0 (mk : IVec (M2 256 256) 1) (z : FVec F (M2 256 256) .f32) : FVec F (M2 256 1) .f32 :=
  nxt slices_S256x256_o0_0_S256x1 dg0 (sufM mk (soft z) nt)
/-- The first row block's weights. -/
def dgW0 (mk : IVec (M2 256 256) 1) (z : FVec F (M2 256 256) .f32) : FVec F (M2 256 256) .bf16 :=
  wtsM mk z (sufM mk (soft z) nt) dg0

/-- The second row block's total past its last sub-block. -/
def dgC11 (mk : IVec (M2 256 512) 1) (z : FVec F (M2 256 512) .f32) : FVec F (M2 256 1) .f32 :=
  dgC nt 256 slices_S256x512_o0_256_S256x256 mk z dg0
/-- The second row block's total. -/
def dgC1 (mk : IVec (M2 256 512) 1) (z : FVec F (M2 256 512) .f32) : FVec F (M2 256 1) .f32 :=
  dgC nt 0 slices_S256x512_o0_0_S256x256 mk z (dgC11 nt mk z)
/-- The second row block's weights. -/
def dgW1 (mk : IVec (M2 256 512) 1) (z : FVec F (M2 256 512) .f32) : FVec F (M2 256 512) .bf16 :=
  concatenate S256x512 1
    [⟨S256x256, dgW nt 0 slices_S256x512_o0_0_S256x256 mk z (dgC11 nt mk z)⟩,
     ⟨S256x256, dgW nt 256 slices_S256x512_o0_256_S256x256 mk z dg0⟩]
    concatenates_S256x256_S256x256_S256x512_d1

/-- The third row block's total past its last sub-block. -/
def dgC22 (mk : IVec (M2 256 768) 1) (z : FVec F (M2 256 768) .f32) : FVec F (M2 256 1) .f32 :=
  dgC nt 512 slices_S256x768_o0_512_S256x256 mk z dg0
/-- The third row block's total past its last two sub-blocks. -/
def dgC21 (mk : IVec (M2 256 768) 1) (z : FVec F (M2 256 768) .f32) : FVec F (M2 256 1) .f32 :=
  dgC nt 256 slices_S256x768_o0_256_S256x256 mk z (dgC22 nt mk z)
/-- The third row block's total. -/
def dgC2 (mk : IVec (M2 256 768) 1) (z : FVec F (M2 256 768) .f32) : FVec F (M2 256 1) .f32 :=
  dgC nt 0 slices_S256x768_o0_0_S256x256 mk z (dgC21 nt mk z)
/-- The third row block's weights. -/
def dgW2 (mk : IVec (M2 256 768) 1) (z : FVec F (M2 256 768) .f32) : FVec F (M2 256 768) .bf16 :=
  concatenate S256x768 1
    [⟨S256x256, dgW nt 0 slices_S256x768_o0_0_S256x256 mk z (dgC21 nt mk z)⟩,
     ⟨S256x256, dgW nt 256 slices_S256x768_o0_256_S256x256 mk z (dgC22 nt mk z)⟩,
     ⟨S256x256, dgW nt 512 slices_S256x768_o0_512_S256x256 mk z dg0⟩]
    concatenates_S256x256_S256x256_S256x256_S256x768_d1

/-- The fourth row block's total past its last sub-block. -/
def dgC33 (mk : IVec (M2 256 1024) 1) (z : FVec F (M2 256 1024) .f32) : FVec F (M2 256 1) .f32 :=
  dgC nt 768 slices_S256x1024_o0_768_S256x256 mk z dg0
/-- The fourth row block's total past its last two sub-blocks. -/
def dgC32 (mk : IVec (M2 256 1024) 1) (z : FVec F (M2 256 1024) .f32) : FVec F (M2 256 1) .f32 :=
  dgC nt 512 slices_S256x1024_o0_512_S256x256 mk z (dgC33 nt mk z)
/-- The fourth row block's total past its last three sub-blocks. -/
def dgC31 (mk : IVec (M2 256 1024) 1) (z : FVec F (M2 256 1024) .f32) : FVec F (M2 256 1) .f32 :=
  dgC nt 256 slices_S256x1024_o0_256_S256x256 mk z (dgC32 nt mk z)
/-- The fourth row block's total. -/
def dgC3 (mk : IVec (M2 256 1024) 1) (z : FVec F (M2 256 1024) .f32) : FVec F (M2 256 1) .f32 :=
  dgC nt 0 slices_S256x1024_o0_0_S256x256 mk z (dgC31 nt mk z)
/-- The fourth row block's weights. -/
def dgW3 (mk : IVec (M2 256 1024) 1) (z : FVec F (M2 256 1024) .f32) : FVec F (M2 256 1024) .bf16 :=
  concatenate S256x1024 1
    [⟨S256x256, dgW nt 0 slices_S256x1024_o0_0_S256x256 mk z (dgC31 nt mk z)⟩,
     ⟨S256x256, dgW nt 256 slices_S256x1024_o0_256_S256x256 mk z (dgC32 nt mk z)⟩,
     ⟨S256x256, dgW nt 512 slices_S256x1024_o0_512_S256x256 mk z (dgC33 nt mk z)⟩,
     ⟨S256x256, dgW nt 768 slices_S256x1024_o0_768_S256x256 mk z dg0⟩]
    concatenates_S256x256_S256x256_S256x256_S256x256_S256x1024_d1

end DiagBlocks

/-- Scores of 256 rows against `n` keys. -/
def dgZ {n : ℕ} (q : FVec F (M2 256 256) .bf16) (kx : FVec F (M2 256 n) .bf16) : FVec F (M2 256 n) .f32 :=
  matmul (DotDims.plain 256 256 n) none q kx (constant (M2 256 n) .f32 0x00000000#32)

/-- The weighted values of 256 rows and `n` keys. -/
def dgPV {n : ℕ} (w : FVec F (M2 256 n) .bf16) (vt : FVec F (M2 128 n) .bf16) : FVec F S1x256x128 .f32 :=
  shapeCast S1x256x128 (matmul (DotDims.transposedRhs 256 n 128) none w vt (constant S256x128 .f32 0x00000000#32))
    shapeCasts_S256x128_S1x256x128

section DiagScores
variable (q : FVec F (M2 1024 256) .bf16) (kx : FVec F (M2 256 1024) .bf16)

/-- The first row block's scores. -/
def dgZ0 : FVec F (M2 256 256) .f32 :=
  dgZ (extractStridedSlice S256x256 ![0, 0] q slices_S1024x256_o0_0_S256x256)
    (extractStridedSlice S256x256 ![0, 0] kx slices_S256x1024_o0_0_S256x256)
/-- The second row block's scores. -/
def dgZ1 : FVec F (M2 256 512) .f32 :=
  dgZ (extractStridedSlice S256x256 ![256, 0] q slices_S1024x256_o256_0_S256x256)
    (extractStridedSlice S256x512 ![0, 0] kx slices_S256x1024_o0_0_S256x512)
/-- The third row block's scores. -/
def dgZ2 : FVec F (M2 256 768) .f32 :=
  dgZ (extractStridedSlice S256x256 ![512, 0] q slices_S1024x256_o512_0_S256x256)
    (extractStridedSlice S256x768 ![0, 0] kx slices_S256x1024_o0_0_S256x768)
/-- The fourth row block's scores. -/
def dgZ3 : FVec F (M2 256 1024) .f32 :=
  dgZ (extractStridedSlice S256x256 ![768, 0] q slices_S1024x256_o768_0_S256x256) kx

end DiagScores

section DiagMask
/-- The causal mask of a diagonal chunk. -/
def causal : IVec (M2 1024 1024) 1 :=
  cmpi .slt (iota .tc S1024x1024 32 [1] iota_S1024x1024_d1_w32) (iota .tc S1024x1024 32 [0] iota_S1024x1024_d0_w32)
/-- The first row block's mask. -/
def mk0 : IVec (M2 256 256) 1 := extractStridedSlice S256x256 ![0, 0] causal slices_S1024x1024_o0_0_S256x256
/-- The second row block's mask. -/
def mk1 : IVec (M2 256 512) 1 := extractStridedSlice S256x512 ![256, 0] causal slices_S1024x1024_o256_0_S256x512
/-- The third row block's mask. -/
def mk2 : IVec (M2 256 768) 1 := extractStridedSlice S256x768 ![512, 0] causal slices_S1024x1024_o512_0_S256x768
/-- The fourth row block's mask. -/
def mk3 : IVec (M2 256 1024) 1 := extractStridedSlice S256x1024 ![768, 0] causal slices_S1024x1024_o768_0_S256x1024
end DiagMask

section DiagChunk
variable (nt : FVec F (M2 256 256) .bf16) (q : FVec F (M2 1024 256) .bf16) (kx : FVec F (M2 256 1024) .bf16)
  (vt : FVec F S1x128x1024 .bf16)

/-- The totals the diagonal chunk leaves. -/
def dgCarry : FVec F (M2 1024 1) .f32 :=
  concatenate S1024x1 0 [⟨S256x1, dgC0 nt mk0 (dgZ0 q kx)⟩, ⟨S256x1, dgC1 nt mk1 (dgZ1 q kx)⟩,
    ⟨S256x1, dgC2 nt mk2 (dgZ2 q kx)⟩, ⟨S256x1, dgC3 nt mk3 (dgZ3 q kx)⟩]
    concatenates_S256x1_S256x1_S256x1_S256x1_S1024x1_d0

/-- The first row block's weighted values. -/
def dgA0 : FVec F S1x256x128 .f32 :=
  dgPV (dgW0 nt mk0 (dgZ0 q kx)) (extractStridedSlice S128x256 ![0, 0]
    (shapeCast S128x1024 vt shapeCasts_S1x128x1024_S128x1024) slices_S128x1024_o0_0_S128x256)
/-- The second row block's weighted values. -/
def dgA1 : FVec F S1x256x128 .f32 :=
  dgPV (dgW1 nt mk1 (dgZ1 q kx)) (extractStridedSlice S128x512 ![0, 0]
    (shapeCast S128x1024 vt shapeCasts_S1x128x1024_S128x1024) slices_S128x1024_o0_0_S128x512)
/-- The third row block's weighted values. -/
def dgA2 : FVec F S1x256x128 .f32 :=
  dgPV (dgW2 nt mk2 (dgZ2 q kx)) (extractStridedSlice S128x768 ![0, 0]
    (shapeCast S128x1024 vt shapeCasts_S1x128x1024_S128x1024) slices_S128x1024_o0_0_S128x768)
/-- The fourth row block's weighted values. -/
def dgA3 : FVec F S1x256x128 .f32 :=
  dgPV (dgW3 nt mk3 (dgZ3 q kx)) (shapeCast S128x1024 vt shapeCasts_S1x128x1024_S128x1024)

end DiagChunk

/-! ## The queries with their bias lanes, the constant rows, and the result -/

/-- The lane a column is. -/
def lanes : IVec (M2 1024 128) 32 := iota .tc S1024x128 32 [1] iota_S1024x128_d1_w32

/-- Where lane `k` is. -/
def laneEq (k : BitVec 32) : IVec (M2 1024 128) 1 := cmpi .eq lanes (broadcast S1024x128 k)

/-- Where the first head of a pair lies. -/
def inHead0 : IVec (M2 1024 128) 1 :=
  andi (cmpi .sge lanes (broadcast S1024x128 0#32)) (cmpi .slt lanes (broadcast S1024x128 64#32))
/-- Where the second head of a pair lies. -/
def inHead1 : IVec (M2 1024 128) 1 :=
  andi (cmpi .sge lanes (broadcast S1024x128 64#32)) (cmpi .slt lanes (broadcast S1024x128 128#32))

/-- The queries of one head, its bias terms in the first three lanes of the extension. -/
def qHead (ih : IVec (M2 1024 128) 1) (q : FVec F (M2 1024 128) .bf16) (b0 b1 b2 : F .f32) : FVec F (M2 1024 256) .bf16 :=
  truncf .bf16 (concatenate S1024x256 1
    [⟨S1024x128, select ih (extf .f32 q bitsLt_bf16_f32) (broadcast S1024x128 (Scalar.ofBits .f32 0x00000000#32))⟩,
     ⟨S1024x128, select (laneEq 2#32) (broadcast S1024x128 b2) (select (laneEq 1#32) (broadcast S1024x128 b1)
        (select (laneEq 0#32) (broadcast S1024x128 b0) (broadcast S1024x128 (Scalar.ofBits .f32 0x00000000#32))))⟩]
    concatenates_S1024x128_S1024x128_S1024x256_d1) bitsLt_bf16_f32

/-- The rows that carry the bias terms. -/
def onesRows : FVec F (M2 128 1024) .bf16 :=
  truncf .bf16 (select (cmpi .slt (iota .tc S128x1024 32 [0] iota_S128x1024_d0_w32) (broadcast S128x1024 3#32))
    (broadcast S128x1024 (Scalar.ofBits .f32 0x3F800000#32)) (broadcast S128x1024 (Scalar.ofBits .f32 0x00000000#32))) bitsLt_bf16_f32

/-- The result of a pair of heads from their accumulators. -/
def outPair (a b : FVec F S1x1024x128 .f32) : FVec F (M2 1024 128) .bf16 :=
  truncf .bf16 (select inHead1 (shapeCast S1024x128 b shapeCasts_S1x1024x128_S1024x128)
    (shapeCast S1024x128 a shapeCasts_S1x1024x128_S1024x128)) bitsLt_bf16_f32

end Cert.Stick
-- ==== Proof.Trip.lean ====
/- One trip of the kernel's loop over the chunks before the diagonal, as the generated run states it, is the chunk
   step of `Proof.Tiles` at each of the four heads. -/
module

public import proofs.«01_k».proof.Proof.Tiles
public import proofs.«01_k».proof.Proof.Gen.KernelIdeal.Loops

@[expose] public section

set_option maxRecDepth 16384
noncomputable section

namespace Cert.Stick

open Idealize.ShloMosaic Idealize.ShloMosaic.TcCoe Idealize.ShloMosaic.Tactic
open Idealize.SL Idealize.SL.Sem
open Cert.KernelIdeal Cert.KernelIdeal.Gen

variable {F : FTy → Type} [FloatOps F] [Named F]

/-- A load of 128 rows and 1024 columns of a resident key or value window. -/
def win (M : Memref sig .tc .vmem S1x256x4096 .bf16) (X : BufTy.Contents (Elt F) M.view.ty)
    (off : Fin 3 → ℕ) (h : ∀ a, off a + S1x128x1024.size a ≤ S1x256x4096.size a) : FVec F S1x128x1024 .bf16 :=
  View.readAt (Elt F) M.view (Rect.unit (s := S1x256x4096) off S1x128x1024.size h).toLoadRect X

/-- A head's accumulator in the scratch. -/
def slot0 : Rect S4x1024x128 := Rect.unit ![0, 0, 0] ![1, 1024, 128] inb_S4x1024x128_S1x1024x128_0_0_0
/-- The second head's. -/
def slot1 : Rect S4x1024x128 := Rect.unit ![1, 0, 0] ![1, 1024, 128] inb_S4x1024x128_S1x1024x128_1_0_0
/-- The third head's. -/
def slot2 : Rect S4x1024x128 := Rect.unit ![2, 0, 0] ![1, 1024, 128] inb_S4x1024x128_S1x1024x128_2_0_0
/-- The fourth head's. -/
def slot3 : Rect S4x1024x128 := Rect.unit ![3, 0, 0] ![1, 1024, 128] inb_S4x1024x128_S1x1024x128_3_0_0

/-- A bias term: a load of one cell of the bias table. -/
def cell (M : Memref sig .tc .smem S24 .f32) (X : BufTy.Contents (Elt F) M.view.ty)
    (off : Fin 1 → ℕ) (h : ∀ a, off a + S1.size a ≤ S24.size a) : F .f32 :=
  View.readAt (Elt F) M.view (Rect.unit (s := S24) off S1.size h).toLoadRect X (Shape.Idx.first (show 0 < S1.numel by decide))

/-- A load of the queries of a pair of heads. -/
def qwin (M : Memref sig .tc .vmem S1024x256 .bf16) (X : BufTy.Contents (Elt F) M.view.ty)
    (off : Fin 2 → ℕ) (h : ∀ a, off a + S1024x128.size a ≤ S1024x256.size a) : FVec F S1024x128 .bf16 :=
  View.readAt (Elt F) M.view (Rect.unit (s := S1024x256) off S1024x128.size h).toLoadRect X

theorem trip_carry (𝒱 : Variants) (c : Dev nD) (bd : Option 𝒱.V) (i : grid0.Coords) (arg3 : Memref sig .tc .smem S24 .f32) (harg3 : arg3.IsWhole) (arg4 : Memref sig .tc .vmem S1024x256 .bf16) (harg4 : arg4.IsWhole) (arg5 : Memref sig .tc .vmem S1x256x4096 .bf16) (harg5 : arg5.IsWhole) (arg6 : Memref sig .tc .vmem S1x256x4096 .bf16) (harg6 : arg6.IsWhole) (arg7 : Memref sig .tc .vmem S256x256 .bf16) (harg7 : arg7.IsWhole) (arg8 : Memref sig .tc .vmem S1024x256 .bf16) (harg8 : arg8.IsWhole) (arg9 : Memref sig .tc .vmem S4x1024x128 .f32) (harg9 : arg9.IsWhole) (arg2 : BitVec 32) (v1 : FVec F S256x256 .bf16) (v15 : IVec S1024x128 1) (v50 : FVec F S1024x256 .bf16) (v83 : FVec F S1024x256 .bf16) (v118 : FVec F S1024x256 .bf16) (v151 : FVec F S1024x256 .bf16) (v158 : FVec F S128x1024 .bf16) (v408 : FVec F S1024x1 .f32) (v649 : FVec F S1024x1 .f32) (v656 : FVec F S128x1024 .bf16) (v897 : FVec F S1024x1 .f32) (v928 : FVec F S256x1 .f32) (v981 : FVec F S256x1 .f32) (v1050 : FVec F S256x1 .f32) (v1086 : FVec F S256x256 .bf16) (v1101 : FVec F S256x256 .bf16) (v1116 : FVec F S256x256 .bf16) (v1117 : FVec F S256x1 .f32) (v1118 : IVec S256x256 1) (v1122 : FVec F S256x256 .f32) (v1123 : FVec F S256x1 .f32) (v1124 : FVec F S256x256 .f32) (X_arg5 : BufTy.Contents (Elt F) arg5.view.ty) (X_arg6 : BufTy.Contents (Elt F) arg6.view.ty) (k : Fin (k0_t1_loop i).trips) (acc : FVec F S1024x1 .f32 × FVec F S1024x1 .f32 × FVec F S1024x1 .f32 × FVec F S1024x1 .f32) (f_arg9 : BufTy.Contents (Elt F) arg9.view.ty) :
    (trip_k0_t1 (F := F) 𝒱 c bd i arg3 harg3 arg4 harg4 arg5 harg5 arg6 harg6 arg7 harg7 arg8 harg8 arg9 harg9 arg2 v1 v15 v50 v83 v118 v151 v158 v408 v649 v656 v897 v928 v981 v1050 v1086 v1101 v1116 v1117 v1118 v1122 v1123 v1124 X_arg5 X_arg6 k).1 acc f_arg9 =
      (offC v1 (offZ v50 (keysX v158 (win arg5 X_arg5 (k0_off4 i k) (k0_off4_inb i k)))) acc.1,
       offC v1 (offZ v83 (keysX v158 (win arg5 X_arg5 (k0_off4 i k) (k0_off4_inb i k)))) acc.2.1,
       offC v1 (offZ v118 (keysX v158 (win arg5 X_arg5 (k0_off5 i k) (k0_off5_inb i k)))) acc.2.2.1,
       offC v1 (offZ v151 (keysX v158 (win arg5 X_arg5 (k0_off5 i k) (k0_off5_inb i k)))) acc.2.2.2) := by
  unfold trip_k0_t1
  dsimp only
  sl_unfold_words
  rfl

theorem trip_pieces (𝒱 : Variants) (c : Dev nD) (bd : Option 𝒱.V) (i : grid0.Coords) (arg3 : Memref sig .tc .smem S24 .f32) (harg3 : arg3.IsWhole) (arg4 : Memref sig .tc .vmem S1024x256 .bf16) (harg4 : arg4.IsWhole) (arg5 : Memref sig .tc .vmem S1x256x4096 .bf16) (harg5 : arg5.IsWhole) (arg6 : Memref sig .tc .vmem S1x256x4096 .bf16) (harg6 : arg6.IsWhole) (arg7 : Memref sig .tc .vmem S256x256 .bf16) (harg7 : arg7.IsWhole) (arg8 : Memref sig .tc .vmem S1024x256 .bf16) (harg8 : arg8.IsWhole) (arg9 : Memref sig .tc .vmem S4x1024x128 .f32) (harg9 : arg9.IsWhole) (arg2 : BitVec 32) (v1 : FVec F S256x256 .bf16) (v15 : IVec S1024x128 1) (v50 : FVec F S1024x256 .bf16) (v83 : FVec F S1024x256 .bf16) (v118 : FVec F S1024x256 .bf16) (v151 : FVec F S1024x256 .bf16) (v158 : FVec F S128x1024 .bf16) (v408 : FVec F S1024x1 .f32) (v649 : FVec F S1024x1 .f32) (v656 : FVec F S128x1024 .bf16) (v897 : FVec F S1024x1 .f32) (v928 : FVec F S256x1 .f32) (v981 : FVec F S256x1 .f32) (v1050 : FVec F S256x1 .f32) (v1086 : FVec F S256x256 .bf16) (v1101 : FVec F S256x256 .bf16) (v1116 : FVec F S256x256 .bf16) (v1117 : FVec F S256x1 .f32) (v1118 : IVec S256x256 1) (v1122 : FVec F S256x256 .f32) (v1123 : FVec F S256x1 .f32) (v1124 : FVec F S256x256 .f32) (X_arg5 : BufTy.Contents (Elt F) arg5.view.ty) (X_arg6 : BufTy.Contents (Elt F) arg6.view.ty) (k : Fin (k0_t1_loop i).trips) (acc : FVec F S1024x1 .f32 × FVec F S1024x1 .f32 × FVec F S1024x1 .f32 × FVec F S1024x1 .f32) (f_arg9 : BufTy.Contents (Elt F) arg9.view.ty) :
    (trip_k0_t1 (F := F) 𝒱 c bd i arg3 harg3 arg4 harg4 arg5 harg5 arg6 harg6 arg7 harg7 arg8 harg8 arg9 harg9 arg2 v1 v15 v50 v83 v118 v151 v158 v408 v649 v656 v897 v928 v981 v1050 v1086 v1101 v1116 v1117 v1118 v1122 v1123 v1124 X_arg5 X_arg6 k).2.1 acc f_arg9 =
      [⟨slot3, offAcc v1 (offZ v151 (keysX v158 (win arg5 X_arg5 (k0_off5 i k) (k0_off5_inb i k)))) acc.2.2.2
          (win arg6 X_arg6 (k0_off5 i k) (k0_off5_inb i k)) (View.readAt (Elt F) arg9.view slot3.toLoadRect f_arg9)⟩,
       ⟨slot2, offAcc v1 (offZ v118 (keysX v158 (win arg5 X_arg5 (k0_off5 i k) (k0_off5_inb i k)))) acc.2.2.1
          (win arg6 X_arg6 (k0_off5 i k) (k0_off5_inb i k)) (View.readAt (Elt F) arg9.view slot2.toLoadRect f_arg9)⟩,
       ⟨slot1, offAcc v1 (offZ v83 (keysX v158 (win arg5 X_arg5 (k0_off4 i k) (k0_off4_inb i k)))) acc.2.1
          (win arg6 X_arg6 (k0_off4 i k) (k0_off4_inb i k)) (View.readAt (Elt F) arg9.view slot1.toLoadRect f_arg9)⟩,
       ⟨slot0, offAcc v1 (offZ v50 (keysX v158 (win arg5 X_arg5 (k0_off4 i k) (k0_off4_inb i k)))) acc.1
          (win arg6 X_arg6 (k0_off4 i k) (k0_off4_inb i k)) (View.readAt (Elt F) arg9.view slot0.toLoadRect f_arg9)⟩] := by
  unfold trip_k0_t1
  dsimp only
  sl_unfold_words
  unfold slot3 slot2 slot1 slot0
  rfl

end Cert.Stick
-- ==== Proof.Init.lean ====
/- What the run of the kernel's body holds before its loop, as arrays of `Proof.Tiles`: the queries of the four heads,
   the totals and the accumulators the diagonal chunk leaves. -/
module

public import proofs.«01_k».proof.Proof.Trip
public import proofs.«01_k».proof.Proof.Gen.KernelIdeal.Frame

@[expose] public section

set_option maxRecDepth 16384
noncomputable section

namespace Cert.Stick

open Idealize.ShloMosaic Idealize.ShloMosaic.TcCoe Idealize.ShloMosaic.Tactic
open Idealize.SL Idealize.SL.Sem
open Cert.KernelIdeal Cert.KernelIdeal.Gen

variable {F : FTy → Type} [FloatOps F] [Named F]

section
variable (c : Dev nD) (i : grid0.Coords)
  (arg3 : Memref sig .tc .smem S24 .f32) (harg3 : arg3.IsWhole)
  (arg4 : Memref sig .tc .vmem S1024x256 .bf16) (harg4 : arg4.IsWhole)
  (arg5 : Memref sig .tc .vmem S1x256x4096 .bf16) (harg5 : arg5.IsWhole)
  (arg6 : Memref sig .tc .vmem S1x256x4096 .bf16) (harg6 : arg6.IsWhole)
  (arg7 : Memref sig .tc .vmem S256x256 .bf16) (harg7 : arg7.IsWhole)
  (x0 : Vec F S24 .f32) (x1 : Vec F S1024x256 .bf16) (x2 : Vec F S1x256x4096 .bf16) (x3 : Vec F S1x256x4096 .bf16)
  (x4 : Vec F S256x256 .bf16)

theorem ones_eq : (k0_pay119 : FVec F S128x1024 .bf16) = onesRows := rfl

/-- The queries of a head, from the loads of the run. -/
def qRun (g a : Fin 2) (ih : IVec (M2 1024 128) 1) (off : Fin 2 → ℕ) (h : ∀ a, off a + S1024x128.size a ≤ S1024x256.size a) :
    FVec F (M2 1024 256) .bf16 :=
  qHead ih (qwin arg4 (harg4.unread x1) off h)
    (cell arg3 (harg3.unread x0) (k0_off1 i (BitVec.ofNat 32 g.val) (BitVec.ofNat 32 a.val) 0#32) (k0_off1_inb i g a 0))
    (cell arg3 (harg3.unread x0) (k0_off1 i (BitVec.ofNat 32 g.val) (BitVec.ofNat 32 a.val) 1#32) (k0_off1_inb i g a 1))
    (cell arg3 (harg3.unread x0) (k0_off1 i (BitVec.ofNat 32 g.val) (BitVec.ofNat 32 a.val) 2#32) (k0_off1_inb i g a 2))

/-- The triangle the run reads. -/
def ntRun : FVec F (M2 256 256) .bf16 := kernelRun0_A.sl.r_2 c arg7 harg7 x4

/-- Head 0's queries. -/
def q0 : FVec F (M2 1024 256) .bf16 := qRun i arg3 harg3 arg4 harg4 x0 x1 0 0 inHead0 ![0, 0] inb_S1024x256_S1024x128_0_0

theorem q0_eq : kernelRun0_A.sl.r_10 c i arg3 harg3 arg4 harg4 x0 x1 = q0 i arg3 harg3 arg4 harg4 x0 x1 := by
  sl_unfold_words
  unfold q0 qRun qHead
  rfl

/-- Head 1's queries. -/
def q1 : FVec F (M2 1024 256) .bf16 := qRun i arg3 harg3 arg4 harg4 x0 x1 0 1 inHead1 ![0, 0] inb_S1024x256_S1024x128_0_0

theorem q1_eq : kernelRun0_A.sl.r_15 c i arg3 harg3 arg4 harg4 x0 x1 = q1 i arg3 harg3 arg4 harg4 x0 x1 := by
  sl_unfold_words
  unfold q1 qRun qHead
  rfl

/-- Head 2's queries. -/
def q2 : FVec F (M2 1024 256) .bf16 := qRun i arg3 harg3 arg4 harg4 x0 x1 1 0 inHead0 ![0, 128] inb_S1024x256_S1024x128_0_128

theorem q2_eq : kernelRun0_A.sl.r_17 c i arg3 harg3 arg4 harg4 x0 x1 = q2 i arg3 harg3 arg4 harg4 x0 x1 := by
  sl_unfold_words
  unfold q2 qRun qHead
  rfl

/-- Head 3's queries. -/
def q3 : FVec F (M2 1024 256) .bf16 := qRun i arg3 harg3 arg4 harg4 x0 x1 1 1 inHead1 ![0, 128] inb_S1024x256_S1024x128_0_128

theorem q3_eq : kernelRun0_A.sl.r_21 c i arg3 harg3 arg4 harg4 x0 x1 = q3 i arg3 harg3 arg4 harg4 x0 x1 := by
  sl_unfold_words
  unfold q3 qRun qHead
  rfl

/-- A chunk's keys over the constant rows, at the diagonal. -/
def kRun (off : Fin 3 → ℕ) (h : ∀ a, off a + S1x128x1024.size a ≤ S1x256x4096.size a) : FVec F (M2 256 1024) .bf16 :=
  keysX onesRows (win arg5 (harg5.unread x2) off h)

/-- A chunk's values, at the diagonal. -/
def vRun (off : Fin 3 → ℕ) (h : ∀ a, off a + S1x128x1024.size a ≤ S1x256x4096.size a) : FVec F S1x128x1024 .bf16 :=
  win arg6 (harg6.unread x3) off h

theorem carry0_eq : kernelRun0_A.sl.r_45 c i arg3 harg3 arg4 harg4 arg5 harg5 arg7 harg7 x0 x1 x2 x4 =
    dgCarry (ntRun c arg7 harg7 x4) (q0 i arg3 harg3 arg4 harg4 x0 x1) (kRun arg5 harg5 x2 (k0_off2 i) (k0_off2_inb i)) := by
  rw [← q0_eq]
  unfold kRun ntRun dgCarry
  sl_unfold_words
  rfl

theorem carry1_eq : kernelRun0_A.sl.r_69 c i arg3 harg3 arg4 harg4 arg5 harg5 arg7 harg7 x0 x1 x2 x4 =
    dgCarry (ntRun c arg7 harg7 x4) (q1 i arg3 harg3 arg4 harg4 x0 x1) (kRun arg5 harg5 x2 (k0_off2 i) (k0_off2_inb i)) := by
  rw [← q1_eq]
  unfold kRun ntRun dgCarry
  sl_unfold_words
  rfl

theorem carry2_eq : kernelRun0_A.sl.r_95 c i arg3 harg3 arg4 harg4 arg5 harg5 arg7 harg7 x0 x1 x2 x4 =
    dgCarry (ntRun c arg7 harg7 x4) (q2 i arg3 harg3 arg4 harg4 x0 x1) (kRun arg5 harg5 x2 (k0_off3 i) (k0_off3_inb i)) := by
  rw [← q2_eq]
  unfold kRun ntRun dgCarry
  sl_unfold_words
  rfl

theorem carry3_eq : k0_pay369 (kernelRun0_A.sl.r_96 c i arg3 harg3 arg4 harg4 arg5 harg5 arg7 harg7 x0 x1 x2 x4) (kernelRun0_A.sl.r_100 c i arg3 harg3 arg4 harg4 arg5 harg5 arg7 harg7 x0 x1 x2 x4) (kernelRun0_A.sl.r_109 c i arg3 harg3 arg4 harg4 arg5 harg5 arg7 harg7 x0 x1 x2 x4) (kernelRun0_A.sl.r_116 c i arg3 harg3 arg4 harg4 arg5 harg5 arg7 harg7 x0 x1 x2 x4) (kernelRun0_A.sl.r_118 c i arg3 harg3 arg4 harg4 arg5 harg5 arg7 harg7 x0 x1 x2 x4) =
    dgCarry (ntRun c arg7 harg7 x4) (q3 i arg3 harg3 arg4 harg4 x0 x1) (kRun arg5 harg5 x2 (k0_off3 i) (k0_off3_inb i)) := by
  rw [← q3_eq]
  unfold kRun ntRun dgCarry
  sl_unfold_words
  rfl

theorem pieces_eq : kernelRun0_A.sl.HS0_16 c i arg3 harg3 arg4 harg4 arg5 harg5 arg6 harg6 arg7 harg7 x0 x1 x2 x3 x4 =
      [⟨Rect.unit (s := S4x1024x128) ![3, 768, 0] S1x256x128.size inb_S4x1024x128_S1x256x128_3_768_0,
         dgA3 (ntRun c arg7 harg7 x4) (q3 i arg3 harg3 arg4 harg4 x0 x1) (kRun arg5 harg5 x2 (k0_off3 i) (k0_off3_inb i)) (vRun arg6 harg6 x3 (k0_off3 i) (k0_off3_inb i))⟩,
       ⟨Rect.unit (s := S4x1024x128) ![3, 512, 0] S1x256x128.size inb_S4x1024x128_S1x256x128_3_512_0,
         dgA2 (ntRun c arg7 harg7 x4) (q3 i arg3 harg3 arg4 harg4 x0 x1) (kRun arg5 harg5 x2 (k0_off3 i) (k0_off3_inb i)) (vRun arg6 harg6 x3 (k0_off3 i) (k0_off3_inb i))⟩,
       ⟨Rect.unit (s := S4x1024x128) ![3, 256, 0] S1x256x128.size inb_S4x1024x128_S1x256x128_3_256_0,
         dgA1 (ntRun c arg7 harg7 x4) (q3 i arg3 harg3 arg4 harg4 x0 x1) (kRun arg5 harg5 x2 (k0_off3 i) (k0_off3_inb i)) (vRun arg6 harg6 x3 (k0_off3 i) (k0_off3_inb i))⟩,
       ⟨Rect.unit (s := S4x1024x128) ![3, 0, 0] S1x256x128.size inb_S4x1024x128_S1x256x128_3_0_0,
         dgA0 (ntRun c arg7 harg7 x4) (q3 i arg3 harg3 arg4 harg4 x0 x1) (kRun arg5 harg5 x2 (k0_off3 i) (k0_off3_inb i)) (vRun arg6 harg6 x3 (k0_off3 i) (k0_off3_inb i))⟩,
       ⟨Rect.unit (s := S4x1024x128) ![2, 768, 0] S1x256x128.size inb_S4x1024x128_S1x256x128_2_768_0,
         dgA3 (ntRun c arg7 harg7 x4) (q2 i arg3 harg3 arg4 harg4 x0 x1) (kRun arg5 harg5 x2 (k0_off3 i) (k0_off3_inb i)) (vRun arg6 harg6 x3 (k0_off3 i) (k0_off3_inb i))⟩,
       ⟨Rect.unit (s := S4x1024x128) ![2, 512, 0] S1x256x128.size inb_S4x1024x128_S1x256x128_2_512_0,
         dgA2 (ntRun c arg7 harg7 x4) (q2 i arg3 harg3 arg4 harg4 x0 x1) (kRun arg5 harg5 x2 (k0_off3 i) (k0_off3_inb i)) (vRun arg6 harg6 x3 (k0_off3 i) (k0_off3_inb i))⟩,
       ⟨Rect.unit (s := S4x1024x128) ![2, 256, 0] S1x256x128.size inb_S4x1024x128_S1x256x128_2_256_0,
         dgA1 (ntRun c arg7 harg7 x4) (q2 i arg3 harg3 arg4 harg4 x0 x1) (kRun arg5 harg5 x2 (k0_off3 i) (k0_off3_inb i)) (vRun arg6 harg6 x3 (k0_off3 i) (k0_off3_inb i))⟩,
       ⟨Rect.unit (s := S4x1024x128) ![2, 0, 0] S1x256x128.size inb_S4x1024x128_S1x256x128_2_0_0,
         dgA0 (ntRun c arg7 harg7 x4) (q2 i arg3 harg3 arg4 harg4 x0 x1) (kRun arg5 harg5 x2 (k0_off3 i) (k0_off3_inb i)) (vRun arg6 harg6 x3 (k0_off3 i) (k0_off3_inb i))⟩,
       ⟨Rect.unit (s := S4x1024x128) ![1, 768, 0] S1x256x128.size inb_S4x1024x128_S1x256x128_1_768_0,
         dgA3 (ntRun c arg7 harg7 x4) (q1 i arg3 harg3 arg4 harg4 x0 x1) (kRun arg5 harg5 x2 (k0_off2 i) (k0_off2_inb i)) (vRun arg6 harg6 x3 (k0_off2 i) (k0_off2_inb i))⟩,
       ⟨Rect.unit (s := S4x1024x128) ![1, 512, 0] S1x256x128.size inb_S4x1024x128_S1x256x128_1_512_0,
         dgA2 (ntRun c arg7 harg7 x4) (q1 i arg3 harg3 arg4 harg4 x0 x1) (kRun arg5 harg5 x2 (k0_off2 i) (k0_off2_inb i)) (vRun arg6 harg6 x3 (k0_off2 i) (k0_off2_inb i))⟩,
       ⟨Rect.unit (s := S4x1024x128) ![1, 256, 0] S1x256x128.size inb_S4x1024x128_S1x256x128_1_256_0,
         dgA1 (ntRun c arg7 harg7 x4) (q1 i arg3 harg3 arg4 harg4 x0 x1) (kRun arg5 harg5 x2 (k0_off2 i) (k0_off2_inb i)) (vRun arg6 harg6 x3 (k0_off2 i) (k0_off2_inb i))⟩,
       ⟨Rect.unit (s := S4x1024x128) ![1, 0, 0] S1x256x128.size inb_S4x1024x128_S1x256x128_1_0_0,
         dgA0 (ntRun c arg7 harg7 x4) (q1 i arg3 harg3 arg4 harg4 x0 x1) (kRun arg5 harg5 x2 (k0_off2 i) (k0_off2_inb i)) (vRun arg6 harg6 x3 (k0_off2 i) (k0_off2_inb i))⟩,
       ⟨Rect.unit (s := S4x1024x128) ![0, 768, 0] S1x256x128.size inb_S4x1024x128_S1x256x128_0_768_0,
         dgA3 (ntRun c arg7 harg7 x4) (q0 i arg3 harg3 arg4 harg4 x0 x1) (kRun arg5 harg5 x2 (k0_off2 i) (k0_off2_inb i)) (vRun arg6 harg6 x3 (k0_off2 i) (k0_off2_inb i))⟩,
       ⟨Rect.unit (s := S4x1024x128) ![0, 512, 0] S1x256x128.size inb_S4x1024x128_S1x256x128_0_512_0,
         dgA2 (ntRun c arg7 harg7 x4) (q0 i arg3 harg3 arg4 harg4 x0 x1) (kRun arg5 harg5 x2 (k0_off2 i) (k0_off2_inb i)) (vRun arg6 harg6 x3 (k0_off2 i) (k0_off2_inb i))⟩,
       ⟨Rect.unit (s := S4x1024x128) ![0, 256, 0] S1x256x128.size inb_S4x1024x128_S1x256x128_0_256_0,
         dgA1 (ntRun c arg7 harg7 x4) (q0 i arg3 harg3 arg4 harg4 x0 x1) (kRun arg5 harg5 x2 (k0_off2 i) (k0_off2_inb i)) (vRun arg6 harg6 x3 (k0_off2 i) (k0_off2_inb i))⟩,
       ⟨Rect.unit (s := S4x1024x128) ![0, 0, 0] S1x256x128.size inb_S4x1024x128_S1x256x128_0_0_0,
         dgA0 (ntRun c arg7 harg7 x4) (q0 i arg3 harg3 arg4 harg4 x0 x1) (kRun arg5 harg5 x2 (k0_off2 i) (k0_off2_inb i)) (vRun arg6 harg6 x3 (k0_off2 i) (k0_off2_inb i))⟩] := by
  rw [← q0_eq, ← q1_eq, ← q2_eq, ← q3_eq]
  unfold kRun vRun ntRun
  sl_unfold_words
  rfl

end
end Cert.Stick
-- ==== Proof.Body.lean ====
/- The run of the kernel's body: the diagonal chunk's totals and accumulators, one step per chunk before it, and the
   result read back from the accumulators. -/
module

public import proofs.«01_k».proof.Proof.Init

@[expose] public section

set_option maxRecDepth 16384
noncomputable section

namespace Cert.Stick

open Idealize.ShloMosaic Idealize.ShloMosaic.TcCoe Idealize.ShloMosaic.Tactic
open Idealize.SL Idealize.SL.Sem
open Cert.KernelIdeal Cert.KernelIdeal.Gen

variable {F : FTy → Type} [FloatOps F] [Named F]

/-- The second loop of the printed body never runs. -/
theorem trips2 : ∀ i : grid0.Coords, (k0_t2_loop i).trips = 0 := by decide +kernel

/-- What the loop over the chunks before the diagonal carries: the four heads' totals and the stores so far. -/
abbrev LoopSt (F : FTy → Type) : Type :=
  (FVec F S1024x1 .f32 × FVec F S1024x1 .f32 × FVec F S1024x1 .f32 × FVec F S1024x1 .f32) ×
    List (View.Piece (Elt F) S4x1024x128 .f32)

section
variable (c : Dev nD) (i : grid0.Coords)
  (arg3 : Memref sig .tc .smem S24 .f32) (harg3 : arg3.IsWhole)
  (arg4 : Memref sig .tc .vmem S1024x256 .bf16) (harg4 : arg4.IsWhole)
  (arg5 : Memref sig .tc .vmem S1x256x4096 .bf16) (harg5 : arg5.IsWhole)
  (arg6 : Memref sig .tc .vmem S1x256x4096 .bf16) (harg6 : arg6.IsWhole)
  (arg7 : Memref sig .tc .vmem S256x256 .bf16) (harg7 : arg7.IsWhole)
  (arg8 : Memref sig .tc .vmem S1024x256 .bf16) (harg8 : arg8.IsWhole)
  (arg9 : Memref sig .tc .vmem S4x1024x128 .f32) (harg9 : arg9.IsWhole)
  (x0 : Vec F S24 .f32) (x1 : Vec F S1024x256 .bf16) (x2 : Vec F S1x256x4096 .bf16) (x3 : Vec F S1x256x4096 .bf16)
  (x4 : Vec F S256x256 .bf16)

/-- The accumulators' contents when the loop begins. -/
def gRun : BufTy.Contents (Elt F) arg9.view.ty :=
  arg9.view.writes (Elt F) arg9.view.junk
    (kernelRun0_A.sl.HS0_16 c i arg3 harg3 arg4 harg4 arg5 harg5 arg6 harg6 arg7 harg7 x0 x1 x2 x3 x4)

/-- The loop's state after `k` chunks, as the run names it. -/
def loopSt : ℕ → LoopSt F :=
  st_k0_t1 (F := F) Variants.none c none i arg3 harg3 arg4 harg4 arg5 harg5 arg6 harg6 arg7 harg7 arg8 harg8 arg9 harg9
    (BitVec.ofNat 32 ↑(i 2)) (kernelRun0_A.sl.r_2 c arg7 harg7 x4) k0_pay108
    (kernelRun0_A.sl.r_10 c i arg3 harg3 arg4 harg4 x0 x1) (kernelRun0_A.sl.r_15 c i arg3 harg3 arg4 harg4 x0 x1) (kernelRun0_A.sl.r_17 c i arg3 harg3 arg4 harg4 x0 x1) (kernelRun0_A.sl.r_21 c i arg3 harg3 arg4 harg4 x0 x1) k0_pay119
    (kernelRun0_A.sl.r_45 c i arg3 harg3 arg4 harg4 arg5 harg5 arg7 harg7 x0 x1 x2 x4) (kernelRun0_A.sl.r_69 c i arg3 harg3 arg4 harg4 arg5 harg5 arg7 harg7 x0 x1 x2 x4) (kernelRun0_A.sl.r_71 c i arg6 harg6 x3)
    (kernelRun0_A.sl.r_95 c i arg3 harg3 arg4 harg4 arg5 harg5 arg7 harg7 x0 x1 x2 x4) (kernelRun0_A.sl.r_96 c i arg3 harg3 arg4 harg4 arg5 harg5 arg7 harg7 x0 x1 x2 x4) (kernelRun0_A.sl.r_100 c i arg3 harg3 arg4 harg4 arg5 harg5 arg7 harg7 x0 x1 x2 x4) (kernelRun0_A.sl.r_109 c i arg3 harg3 arg4 harg4 arg5 harg5 arg7 harg7 x0 x1 x2 x4) (kernelRun0_A.sl.r_113 c i arg3 harg3 arg4 harg4 arg5 harg5 arg7 harg7 x0 x1 x2 x4) (kernelRun0_A.sl.r_114 c i arg3 harg3 arg4 harg4 arg5 harg5 arg7 harg7 x0 x1 x2 x4) (kernelRun0_A.sl.r_115 c i arg3 harg3 arg4 harg4 arg5 harg5 arg7 harg7 x0 x1 x2 x4) (kernelRun0_A.sl.r_116 c i arg3 harg3 arg4 harg4 arg5 harg5 arg7 harg7 x0 x1 x2 x4)
    (k0_pay364 (k0_pay348 k0_pay106)) (kernelRun0_A.sl.r_117 c i arg3 harg3 arg4 harg4 arg5 harg5 arg7 harg7 x0 x1 x2 x4) (kernelRun0_A.sl.r_118 c i arg3 harg3 arg4 harg4 arg5 harg5 arg7 harg7 x0 x1 x2 x4) (kernelRun0_A.sl.r_119 c i arg3 harg3 arg4 harg4 arg5 harg5 x0 x1 x2)
    (harg5.unread x2) (harg6.unread x3)
    (arg9.view.writes (Elt F) arg9.view.junk (kernelRun0_A.sl.HS0_16 c i arg3 harg3 arg4 harg4 arg5 harg5 arg6 harg6 arg7 harg7 x0 x1 x2 x3 x4))
    ((kernelRun0_A.sl.r_45 c i arg3 harg3 arg4 harg4 arg5 harg5 arg7 harg7 x0 x1 x2 x4), (kernelRun0_A.sl.r_69 c i arg3 harg3 arg4 harg4 arg5 harg5 arg7 harg7 x0 x1 x2 x4), (kernelRun0_A.sl.r_95 c i arg3 harg3 arg4 harg4 arg5 harg5 arg7 harg7 x0 x1 x2 x4), k0_pay369 (kernelRun0_A.sl.r_96 c i arg3 harg3 arg4 harg4 arg5 harg5 arg7 harg7 x0 x1 x2 x4) (kernelRun0_A.sl.r_100 c i arg3 harg3 arg4 harg4 arg5 harg5 arg7 harg7 x0 x1 x2 x4) (kernelRun0_A.sl.r_109 c i arg3 harg3 arg4 harg4 arg5 harg5 arg7 harg7 x0 x1 x2 x4) (kernelRun0_A.sl.r_116 c i arg3 harg3 arg4 harg4 arg5 harg5 arg7 harg7 x0 x1 x2 x4) (kernelRun0_A.sl.r_118 c i arg3 harg3 arg4 harg4 arg5 harg5 arg7 harg7 x0 x1 x2 x4))

theorem loopSt_zero :
    loopSt c i arg3 harg3 arg4 harg4 arg5 harg5 arg6 harg6 arg7 harg7 arg8 harg8 arg9 harg9 x0 x1 x2 x3 x4 0 =
      ((dgCarry (ntRun c arg7 harg7 x4) (q0 i arg3 harg3 arg4 harg4 x0 x1) (kRun arg5 harg5 x2 (k0_off2 i) (k0_off2_inb i)),
         dgCarry (ntRun c arg7 harg7 x4) (q1 i arg3 harg3 arg4 harg4 x0 x1) (kRun arg5 harg5 x2 (k0_off2 i) (k0_off2_inb i)),
         dgCarry (ntRun c arg7 harg7 x4) (q2 i arg3 harg3 arg4 harg4 x0 x1) (kRun arg5 harg5 x2 (k0_off3 i) (k0_off3_inb i)),
         dgCarry (ntRun c arg7 harg7 x4) (q3 i arg3 harg3 arg4 harg4 x0 x1) (kRun arg5 harg5 x2 (k0_off3 i) (k0_off3_inb i))), []) := by
  rw [← carry0_eq, ← carry1_eq, ← carry2_eq, ← carry3_eq]
  rfl

theorem loopSt_succ (k : Fin (k0_t1_loop i).trips) (st : ℕ → LoopSt F)
    (hst : st = loopSt c i arg3 harg3 arg4 harg4 arg5 harg5 arg6 harg6 arg7 harg7 arg8 harg8 arg9 harg9 x0 x1 x2 x3 x4) :
    st (k.val + 1) =
      ((offC (ntRun c arg7 harg7 x4) (offZ (q0 i arg3 harg3 arg4 harg4 x0 x1) (kRun arg5 harg5 x2 (k0_off4 i k) (k0_off4_inb i k))) (st k).1.1,
           offC (ntRun c arg7 harg7 x4) (offZ (q1 i arg3 harg3 arg4 harg4 x0 x1) (kRun arg5 harg5 x2 (k0_off4 i k) (k0_off4_inb i k))) (st k).1.2.1,
           offC (ntRun c arg7 harg7 x4) (offZ (q2 i arg3 harg3 arg4 harg4 x0 x1) (kRun arg5 harg5 x2 (k0_off5 i k) (k0_off5_inb i k))) (st k).1.2.2.1,
           offC (ntRun c arg7 harg7 x4) (offZ (q3 i arg3 harg3 arg4 harg4 x0 x1) (kRun arg5 harg5 x2 (k0_off5 i k) (k0_off5_inb i k))) (st k).1.2.2.2),
       [⟨slot3, offAcc (ntRun c arg7 harg7 x4) (offZ (q3 i arg3 harg3 arg4 harg4 x0 x1) (kRun arg5 harg5 x2 (k0_off5 i k) (k0_off5_inb i k))) (st k).1.2.2.2
              (vRun arg6 harg6 x3 (k0_off5 i k) (k0_off5_inb i k))
              (View.readAt (Elt F) arg9.view slot3.toLoadRect (arg9.view.writes (Elt F) (gRun c i arg3 harg3 arg4 harg4 arg5 harg5 arg6 harg6 arg7 harg7 arg9 x0 x1 x2 x3 x4) (st k).2))⟩,
            ⟨slot2, offAcc (ntRun c arg7 harg7 x4) (offZ (q2 i arg3 harg3 arg4 harg4 x0 x1) (kRun arg5 harg5 x2 (k0_off5 i k) (k0_off5_inb i k))) (st k).1.2.2.1
              (vRun arg6 harg6 x3 (k0_off5 i k) (k0_off5_inb i k))
              (View.readAt (Elt F) arg9.view slot2.toLoadRect (arg9.view.writes (Elt F) (gRun c i arg3 harg3 arg4 harg4 arg5 harg5 arg6 harg6 arg7 harg7 arg9 x0 x1 x2 x3 x4) (st k).2))⟩,
            ⟨slot1, offAcc (ntRun c arg7 harg7 x4) (offZ (q1 i arg3 harg3 arg4 harg4 x0 x1) (kRun arg5 harg5 x2 (k0_off4 i k) (k0_off4_inb i k))) (st k).1.2.1
              (vRun arg6 harg6 x3 (k0_off4 i k) (k0_off4_inb i k))
              (View.readAt (Elt F) arg9.view slot1.toLoadRect (arg9.view.writes (Elt F) (gRun c i arg3 harg3 arg4 harg4 arg5 harg5 arg6 harg6 arg7 harg7 arg9 x0 x1 x2 x3 x4) (st k).2))⟩,
            ⟨slot0, offAcc (ntRun c arg7 harg7 x4) (offZ (q0 i arg3 harg3 arg4 harg4 x0 x1) (kRun arg5 harg5 x2 (k0_off4 i k) (k0_off4_inb i k))) (st k).1.1
              (vRun arg6 harg6 x3 (k0_off4 i k) (k0_off4_inb i k))
              (View.readAt (Elt F) arg9.view slot0.toLoadRect (arg9.view.writes (Elt F) (gRun c i arg3 harg3 arg4 harg4 arg5 harg5 arg6 harg6 arg7 harg7 arg9 x0 x1 x2 x3 x4) (st k).2))⟩] ++ (st k).2) := by
  subst hst
  rw [← q0_eq, ← q1_eq, ← q2_eq, ← q3_eq]
  unfold kRun vRun ntRun gRun loopSt
  rw [st_k0_t1_succ]
  refine Prod.ext ?_ ?_
  · exact trip_carry (F := F) (f_arg9 := _) ..
  · exact congrArg (· ++ _) (trip_pieces (F := F) ..)

theorem body_pieces (st : ℕ → LoopSt F)
    (hst : st = loopSt c i arg3 harg3 arg4 harg4 arg5 harg5 arg6 harg6 arg7 harg7 arg8 harg8 arg9 harg9 x0 x1 x2 x3 x4)
    (g : BufTy.Contents (Elt F) arg9.view.ty)
    (hg : g = arg9.view.writes (Elt F) (gRun c i arg3 harg3 arg4 harg4 arg5 harg5 arg6 harg6 arg7 harg7 arg9 x0 x1 x2 x3 x4) (st (k0_t1_loop i).trips).2) :
    (kernelRun0_A (F := F) c i arg3 harg3 arg4 harg4 arg5 harg5 arg6 harg6 arg7 harg7 arg8 harg8 arg9 harg9 x0 x1 x2 x3 x4).1 =
      [⟨Rect.unit (s := S1024x256) ![0, 128] S1024x128.size inb_S1024x256_S1024x128_0_128,
          outPair (View.readAt (Elt F) arg9.view slot2.toLoadRect g) (View.readAt (Elt F) arg9.view slot3.toLoadRect g)⟩,
       ⟨Rect.unit (s := S1024x256) ![0, 0] S1024x128.size inb_S1024x256_S1024x128_0_0,
          outPair (View.readAt (Elt F) arg9.view slot0.toLoadRect g) (View.readAt (Elt F) arg9.view slot1.toLoadRect g)⟩] := by
  subst hg hst
  unfold kernelRun0_A gRun loopSt slot0 slot1 slot2 slot3
  dsimp only
  sl_unfold_words
  have e : Scf.trips (k0_t2_loop i).lb (k0_t2_loop i).ub (k0_t2_loop i).st = 0 := trips2 i
  rw [e]
  simp only [← View.writes_append]
  rfl

end
end Cert.Stick
-- ==== Proof.Loads.lean ====
/- The loads of the run at an index, and the offsets it computes in closed form. -/
module

public import proofs.«01_k».proof.Proof.Body
public import Idealize.ShloMosaic.Lib.Pointwise
public import Idealize.ShloMosaic.Lib.Pipeline.ValueKit.Tiles

@[expose] public section

set_option maxRecDepth 16384
noncomputable section

namespace Cert.Stick

open Idealize.ShloMosaic Idealize.ShloMosaic.TcCoe Idealize.ShloMosaic.Tactic
open Idealize.ShloMosaic.Pointwise
open Idealize.SL Idealize.SL.Sem
open Cert.KernelIdeal Cert.KernelIdeal.Gen

theorem off1_eq : ∀ (i : grid0.Coords) (g a : Fin 2) (k : Fin 3),
    k0_off1 i (BitVec.ofNat 32 g.val) (BitVec.ofNat 32 a.val) (BitVec.ofNat 32 k.val) =
      ![((i 1).val * 4 + 2 * g.val + a.val) * 3 + k.val] := by decide +kernel
theorem off2_eq : ∀ i : grid0.Coords, k0_off2 i = ![0, 0, 1024 * (i 2).val] := by decide +kernel
theorem off3_eq : ∀ i : grid0.Coords, k0_off3 i = ![0, 128, 1024 * (i 2).val] := by decide +kernel
theorem off4_eq : ∀ (i : grid0.Coords) (k : Fin (k0_t1_loop i).trips),
    k0_off4 i k = ![0, 0, 1024 * ((i 2).val - 1 - k.val)] := by decide +kernel
theorem off5_eq : ∀ (i : grid0.Coords) (k : Fin (k0_t1_loop i).trips),
    k0_off5 i k = ![0, 128, 1024 * ((i 2).val - 1 - k.val)] := by decide +kernel
theorem trips1 : ∀ i : grid0.Coords, (k0_t1_loop i).trips = (i 2).val := by decide +kernel

theorem win_apply (M : Memref sig .tc .vmem S1x256x4096 .bf16) (hM : M.IsWhole) (x : Vec Ideal S1x256x4096 .bf16)
    (off : Fin 3 → ℕ) (h : ∀ a, off a + S1x128x1024.size a ≤ S1x256x4096.size a) (o b : ℕ) (ho : off = ![0, o, b])
    (d : Fin 128) (s : Fin 1024) (d' : Fin 256) (s' : Fin 4096) (hd : d'.val = o + d.val) (hs : s'.val = b + s.val) :
    win M (hM.unread x) off h (ix3 0 d s) = x (ix3 0 d' s') := by
  subst ho
  unfold win
  rw [View.readAt_eq_ld, hM.read_unread]
  refine congrArg x (funext fun a => Fin.ext ?_)
  match a with
  | ⟨0, _⟩ => rfl
  | ⟨1, _⟩ => exact (Rect.idx_unit_val _ _ _ _ _).trans hd.symm
  | ⟨2, _⟩ => exact (Rect.idx_unit_val _ _ _ _ _).trans hs.symm

theorem qwin_apply (M : Memref sig .tc .vmem S1024x256 .bf16) (hM : M.IsWhole) (x : Vec Ideal S1024x256 .bf16)
    (o : ℕ) (h : ∀ a, (![0, o] : Fin 2 → ℕ) a + S1024x128.size a ≤ S1024x256.size a)
    (r : Fin 1024) (d : Fin 128) (d' : Fin 256) (hd : d'.val = o + d.val) :
    qwin M (hM.unread x) ![0, o] h (ix2 r d) = x (ix2 r d') := by
  unfold qwin
  rw [View.readAt_eq_ld, hM.read_unread]
  refine congrArg x (funext fun a => Fin.ext ?_)
  match a with
  | ⟨0, _⟩ => exact (Rect.idx_unit_val _ _ _ _ _).trans (Nat.zero_add _)
  | ⟨1, _⟩ => exact (Rect.idx_unit_val _ _ _ _ _).trans hd.symm

theorem cell_apply (M : Memref sig .tc .smem S24 .f32) (hM : M.IsWhole) (x : Vec Ideal S24 .f32)
    (off : Fin 1 → ℕ) (h : ∀ a, off a + S1.size a ≤ S24.size a) (k : Fin 24) (ho : off = ![k.val]) :
    cell M (hM.unread x) off h = x (ix1 k) := by
  subst ho
  unfold cell
  rw [View.readAt_eq_ld, hM.read_unread]
  refine congrArg x (funext fun a => Fin.ext ?_)
  match a with
  | ⟨0, _⟩ => exact (Rect.idx_unit_val _ _ _ _ _).trans (Nat.add_zero _)

theorem nt_eq (c : Dev nD) (arg7 : Memref sig .tc .vmem S256x256 .bf16) (harg7 : arg7.IsWhole) (x4 : Vec Ideal S256x256 .bf16) :
    ntRun c arg7 harg7 x4 = x4 := by
  unfold ntRun
  sl_unfold_words
  unfold k0_pay105
  rw [View.readAt_eq_ld, harg7.read_unread]
  funext j
  have e : View.ld x4 (Rect.unit ![0, 0] S256x256.size inb_S256x256_S256x256_0_0) = x4 :=
    View.ld_unit_zero (funext fun a => by match a with | ⟨0, _⟩ => rfl | ⟨1, _⟩ => rfl) _ x4
  rw [e]
  pointwise

/-- The four accumulators, by head. -/
def slot (h : Fin 4) : Rect S4x1024x128 :=
  Rect.unit ![h.val, 0, 0] ![1, 1024, 128] (by
    intro a
    match a with
    | ⟨0, _⟩ => exact h.isLt
    | ⟨1, _⟩ => exact le_refl _
    | ⟨2, _⟩ => exact le_refl _)

theorem slot_apply (M : Memref sig .tc .vmem S4x1024x128 .f32) (g : BufTy.Contents (Elt Ideal) M.view.ty) (h : Fin 4)
    (r : Fin 1024) (d : Fin 128) :
    View.readAt (Elt Ideal) M.view (slot h).toLoadRect g (ix3 0 r d : S1x1024x128.Idx) =
      M.view.read (Elt Ideal) g (ix3 h r d) := by
  refine congrArg (M.view.read (Elt Ideal) g) (funext fun a => Fin.ext ?_)
  match a with
  | ⟨0, _⟩ => exact (Rect.idx_unit_val _ _ _ _ _).trans (Nat.add_zero _)
  | ⟨1, _⟩ => exact (Rect.idx_unit_val _ _ _ _ _).trans (Nat.zero_add _)
  | ⟨2, _⟩ => exact (Rect.idx_unit_val _ _ _ _ _).trans (Nat.zero_add _)

/-- After a step's four stores each accumulator holds what was stored to it. -/
theorem read_trip (M : Memref sig .tc .vmem S4x1024x128 .f32) (f : BufTy.Contents (Elt Ideal) M.view.ty)
    (P : Fin 4 → Vec Ideal S1x1024x128 .f32) (L : List (View.Piece (Elt Ideal) S4x1024x128 .f32)) (h : Fin 4) (r : Fin 1024) (d : Fin 128) :
    M.view.read (Elt Ideal) (M.view.writes (Elt Ideal) f ([⟨slot 3, P 3⟩, ⟨slot 2, P 2⟩, ⟨slot 1, P 1⟩, ⟨slot 0, P 0⟩] ++ L)) (ix3 h r d) =
      P h (ix3 0 r d) := by
  rw [View.writes_append]
  refine (View.read_writes_apply_of_pieces (Val := Elt Ideal) M.view _ (fun y => P (y 0) (ix3 0 (y 1) (y 2))) _ ?_ (ix3 h r d) ?_).trans rfl
  · have key : ∀ k : Fin 4, ∀ x : S1x1024x128.Idx, P k x = P ((slot k).emb x 0) (ix3 0 ((slot k).emb x 1) ((slot k).emb x 2)) := by
      intro k x
      have e0 : (slot k).emb x 0 = k := Fin.ext (by have := (x 0).isLt; change _ < 1 at this; show k.val + 1 * (x 0).val = k.val; omega)
      rw [e0]
      refine congrArg (P k) (funext fun a => Fin.ext ?_)
      match a with
      | ⟨0, _⟩ => have := (x 0).isLt; change _ < 1 at this; show (x 0).val = 0; omega
      | ⟨1, _⟩ => show (x 1).val = 0 + 1 * (x 1).val; omega
      | ⟨2, _⟩ => show (x 2).val = 0 + 1 * (x 2).val; omega
    intro p hp
    simp only [List.mem_cons, List.not_mem_nil, or_false] at hp
    rcases hp with rfl | rfl | rfl | rfl <;> exact key _
  · have mem : ∀ k : Fin 4, h = k → (ix3 h r d : S4x1024x128.Idx) ∈ (slot k).set := by
      intro k hk
      subst hk
      refine Rect.mem_set_unit.2 fun a => ?_
      match a with
      | ⟨0, _⟩ => exact ⟨le_refl _, Nat.lt_succ_self _⟩
      | ⟨1, _⟩ => exact ⟨Nat.zero_le _, (Nat.zero_add _).symm ▸ r.isLt⟩
      | ⟨2, _⟩ => exact ⟨Nat.zero_le _, (Nat.zero_add _).symm ▸ d.isLt⟩
    match h, mem with
    | ⟨3, _⟩, mem => exact ⟨_, .head _, mem 3 rfl⟩
    | ⟨2, _⟩, mem => exact ⟨_, .tail _ (.head _), mem 2 rfl⟩
    | ⟨1, _⟩, mem => exact ⟨_, .tail _ (.tail _ (.head _)), mem 1 rfl⟩
    | ⟨0, _⟩, mem => exact ⟨_, .tail _ (.tail _ (.tail _ (.head _))), mem 0 rfl⟩

/-- A block of 256 rows of one accumulator. -/
def rows (h rb : Fin 4) : Rect S4x1024x128 :=
  Rect.unit ![h.val, 256 * rb.val, 0] S1x256x128.size (by
    intro a
    match a with
    | ⟨0, _⟩ => exact h.isLt
    | ⟨1, _⟩ => show 256 * rb.val + 256 ≤ 1024; have := rb.isLt; omega
    | ⟨2, _⟩ => exact le_refl _)

/-- Contents written in blocks of 256 rows, each block the values of one function, read as that function. -/
theorem read_rows (M : Memref sig .tc .vmem S4x1024x128 .f32) (f : BufTy.Contents (Elt Ideal) M.view.ty)
    (D : Fin 4 → Fin 4 → Vec Ideal S1x256x128 .f32) (A : Fin 4 → ℕ → Fin 128 → EReal)
    (hD : ∀ h rb r d, D h rb (ix3 0 r d) = A h (256 * rb.val + r.val) d) (h : Fin 4) (r : Fin 1024) (d : Fin 128) :
    M.view.read (Elt Ideal) (M.view.writes (Elt Ideal) f
      [⟨rows 3 3, D 3 3⟩, ⟨rows 3 2, D 3 2⟩, ⟨rows 3 1, D 3 1⟩, ⟨rows 3 0, D 3 0⟩,
       ⟨rows 2 3, D 2 3⟩, ⟨rows 2 2, D 2 2⟩, ⟨rows 2 1, D 2 1⟩, ⟨rows 2 0, D 2 0⟩,
       ⟨rows 1 3, D 1 3⟩, ⟨rows 1 2, D 1 2⟩, ⟨rows 1 1, D 1 1⟩, ⟨rows 1 0, D 1 0⟩,
       ⟨rows 0 3, D 0 3⟩, ⟨rows 0 2, D 0 2⟩, ⟨rows 0 1, D 0 1⟩, ⟨rows 0 0, D 0 0⟩]) (ix3 h r d) = A h r.val d := by
  refine (View.read_writes_apply_of_pieces (Val := Elt Ideal) M.view _ (fun y => A (y 0) (y 1).val (y 2)) _ ?_ (ix3 h r d) ?_).trans rfl
  · have key : ∀ k rb : Fin 4, ∀ x : S1x256x128.Idx, D k rb x =
        A ((rows k rb).emb x 0) ((rows k rb).emb x 1).val ((rows k rb).emb x 2) := by
      intro k rb x
      have e0 : (rows k rb).emb x 0 = k := Fin.ext (by have := (x 0).isLt; change _ < 1 at this; show k.val + 1 * (x 0).val = k.val; omega)
      have e1 : ((rows k rb).emb x 1).val = 256 * rb.val + (x 1).val := by
        show 256 * rb.val + 1 * (x 1).val = _; omega
      have e2 : (rows k rb).emb x 2 = x 2 := Fin.ext (by show 0 + 1 * (x 2).val = (x 2).val; omega)
      rw [e0, e1, e2]
      refine Eq.trans (congrArg (D k rb) (funext fun a => Fin.ext ?_)) (hD k rb (x 1) (x 2))
      match a with
      | ⟨0, _⟩ => have := (x 0).isLt; change _ < 1 at this; show (x 0).val = 0; omega
      | ⟨1, _⟩ => rfl
      | ⟨2, _⟩ => rfl
    intro p hp
    simp only [List.mem_cons, List.not_mem_nil, or_false] at hp
    rcases hp with rfl | rfl | rfl | rfl | rfl | rfl | rfl | rfl | rfl | rfl | rfl | rfl | rfl | rfl | rfl | rfl <;> exact key _ _
  · exact View.cover_of_tiledL _ ![1, 256, 128] (by sl_kernel_rfl) _

end Cert.Stick
-- ==== Proof.Suffix.lean ====
/- A sub-block of 256 keys at the extended reals: the products with the triangle are suffix sums, the weights carry the
   sums of everything after, and the total grows by the sub-block. -/
module

public import proofs.«01_k».proof.Proof.Tiles
public import Idealize.ShloMosaic.Lib.Pointwise

@[expose] public section

set_option maxRecDepth 16384
noncomputable section

namespace Cert.Stick

open Idealize.ShloMosaic Idealize.ShloMosaic.TcCoe
open Idealize.ShloMosaic.Pointwise
open Cert.KernelIdeal Cert.KernelIdeal.Gen

/-- The base-two softplus at the extended reals. -/
def spE (x : EReal) : EReal :=
  max x 0 + Ideal.log (1 + Ideal.exp2 (0 - max x (-x))) * (((Real.log 2)⁻¹ : ℝ) : EReal)

theorem soft_apply {s : Shape} (z : FVec Ideal s .f32) (j : s.Idx) : soft z j = spE (z j) := by
  unfold soft spE
  pointwise
  rfl

section
variable {R : ℕ}

theorem suf_apply (sp : FVec Ideal (M2 R 256) .bf16) (nt : FVec Ideal (M2 256 256) .bf16) (r : Fin R) (s : Fin 256) :
    suf sp nt (ix2 r s) = ∑ j : Fin 256, sp (ix2 r j) * nt (ix2 j s) := by
  unfold suf
  refine (Ideal.matmul_plain_apply ..).trans ?_
  rw [ValueIdx.constant_apply]
  pointwise
  rfl

theorem wts_apply (hb : (M2 R 1).Broadcasts (M2 R 256)) (z e : FVec Ideal (M2 R 256) .f32) (c : FVec Ideal (M2 R 1) .f32)
    (r : Fin R) (s : Fin 256) :
    wts hb z e c (ix2 r s) = Ideal.exp2 (z (ix2 r s) + e (ix2 r s) + c (ix2 r 0)) := by
  unfold wts
  pointwise
  refine congrArg (fun j => Ideal.exp2 (_ + c j)) (funext fun a => ?_)
  match a with
  | ⟨0, _⟩ =>
    refine Fin.ext ?_
    by_cases h : R = 1
    · subst h; have := r.isLt; simp [Shape.Idx.norm];
    · simp [Shape.Idx.norm, h]
  | ⟨1, _⟩ => exact Fin.ext (by simp [Shape.Idx.norm])

theorem nxt_apply (hs : (M2 R 256).Slices ![0, 0] (M2 R 1)) (c : FVec Ideal (M2 R 1) .f32) (e : FVec Ideal (M2 R 256) .f32)
    (r : Fin R) : nxt hs c e (ix2 r 0) = c (ix2 r 0) + e (ix2 r 0) := by
  unfold nxt
  pointwise
  refine congrArg (fun j => _ + e j) (funext fun a => ?_)
  match a with
  | ⟨0, _⟩ => exact Fin.ext (by simp [Shape.Idx.norm])
  | ⟨1, _⟩ => exact Fin.ext (by simp [Shape.Idx.norm])

theorem slice_cols {α : Type} {n : ℕ} (o : ℕ) (h : (M2 R n).Slices ![0, o] (M2 R 256))
    (x : (M2 R n).Idx → α) (r : Fin R) (s : Fin 256) (hs : o + s.val < n) :
    extractStridedSlice (M2 R 256) ![0, o] x h (ix2 r s) = x (ix2 r ⟨o + s.val, hs⟩) := by
  pointwise
  refine congrArg x (funext fun a => ?_)
  match a with
  | ⟨0, _⟩ => exact Fin.ext (by simp [Shape.Idx.norm])
  | ⟨1, _⟩ => exact Fin.ext (by simp [Shape.Idx.norm])

end

/-! ## One row: the scores `ζ`, the row's own place `t` -/

/-- What a key adds to the exponents of the keys before it. -/
def nuE (ζ : ℕ → EReal) (t j : ℕ) : EReal := if j < t then spE (ζ j) * (-1) else 0

/-- The sum of what the keys from `s` on add. -/
def gE (ζ : ℕ → EReal) (t s : ℕ) : EReal := ∑ j ∈ Finset.Ico s 4096, nuE ζ t j

/-- The weight of key `s`. -/
def omE (ζ : ℕ → EReal) (t s : ℕ) : EReal := if s < t then Ideal.exp2 (ζ s + gE ζ t s) else 0

theorem gE_past (ζ : ℕ → EReal) (t s : ℕ) (h : t ≤ s) : gE ζ t s = 0 :=
  Finset.sum_eq_zero fun j hj => if_neg (by have := (Finset.mem_Ico.1 hj).1; omega)

theorem gE_split (ζ : ℕ → EReal) (t a b : ℕ) (hab : a ≤ b) (hb : b ≤ 4096) :
    gE ζ t a = (∑ j ∈ Finset.Ico a b, nuE ζ t j) + gE ζ t b :=
  (Finset.sum_Ico_consecutive _ hab hb).symm

/-- The constant triangle. -/
def Tri (nt : FVec Ideal (M2 256 256) .bf16) : Prop :=
  ∀ j s : Fin 256, nt (ix2 j s) = if s ≤ j then -1 else 0

section
variable {R : ℕ} {nt : FVec Ideal (M2 256 256) .bf16} (hnt : Tri nt) (ζ : ℕ → EReal) (t : ℕ)
include hnt

theorem suf_sum (sp : FVec Ideal (M2 R 256) .bf16) (r : Fin R) (b : ℕ)
    (hsp : ∀ j : Fin 256, sp (ix2 r j) * (-1) = nuE ζ t (b + j)) (s : Fin 256) :
    suf sp nt (ix2 r s) = ∑ j ∈ Finset.Ico (b + s) (b + 256), nuE ζ t j := by
  rw [suf_apply]
  have e : ∀ j : Fin 256, sp (ix2 r j) * nt (ix2 j s) = if s.val ≤ j.val then nuE ζ t (b + j) else 0 := fun j => by
    rw [hnt, ← hsp]
    by_cases h : s ≤ j
    · rw [if_pos h, if_pos (Fin.le_def.1 h)]
    · rw [if_neg h, if_neg (fun h' => h (Fin.le_def.2 h')), mul_zero]
  rw [Finset.sum_congr rfl fun j _ => e j,
    Fin.sum_univ_eq_sum_range (fun j => if s.val ≤ j then nuE ζ t (b + j) else 0) 256, ← Finset.sum_filter,
    Finset.sum_Ico_eq_sum_range, Finset.range_eq_Ico]
  have : (Finset.Ico 0 256).filter (fun j => s.val ≤ j) = Finset.Ico s.val 256 := by
    ext j; simp only [Finset.mem_filter, Finset.mem_Ico]; omega
  rw [this, Finset.sum_Ico_eq_sum_range, show b + 256 - (b + s.val) = 256 - s.val by omega]
  exact Finset.sum_congr rfl fun j _ => by rw [Nat.add_assoc]

omit hnt in
theorem nxt_sum (hs : (M2 R 256).Slices ![0, 0] (M2 R 1)) (c : FVec Ideal (M2 R 1) .f32) (e : FVec Ideal (M2 R 256) .f32)
    (r : Fin R) (b : ℕ) (hb : b + 256 ≤ 4096) (hc : c (ix2 r 0) = gE ζ t (b + 256))
    (he : ∀ s : Fin 256, e (ix2 r s) = ∑ j ∈ Finset.Ico (b + s) (b + 256), nuE ζ t j) :
    nxt hs c e (ix2 r 0) = gE ζ t b := by
  rw [nxt_apply, hc, he, gE_split ζ t b (b + 256) (by omega) hb, add_comm]
  rfl

omit hnt in
theorem wts_sum (hb : (M2 R 1).Broadcasts (M2 R 256)) (z e : FVec Ideal (M2 R 256) .f32) (c : FVec Ideal (M2 R 1) .f32)
    (r : Fin R) (b : ℕ) (hb' : b + 256 ≤ 4096) (hc : c (ix2 r 0) = gE ζ t (b + 256))
    (he : ∀ s : Fin 256, e (ix2 r s) = ∑ j ∈ Finset.Ico (b + s) (b + 256), nuE ζ t j) (s : Fin 256)
    (hz : z (ix2 r s) = ζ (b + s)) :
    wts hb z e c (ix2 r s) = Ideal.exp2 (ζ (b + s) + gE ζ t (b + s)) := by
  rw [wts_apply, hc, he, hz, gE_split ζ t (b + s) (b + 256) (by omega) hb', add_assoc]

/-- A masked sub-block's suffix sums. -/
theorem sufM_sum (mk : IVec (M2 256 256) 1) (sp : FVec Ideal (M2 256 256) .bf16) (r : Fin 256) (b : ℕ)
    (hmk : ∀ s : Fin 256, mk (ix2 r s) = if b + s < t then 1#1 else 0#1)
    (hsp : ∀ s : Fin 256, sp (ix2 r s) = spE (ζ (b + s))) (s : Fin 256) :
    sufM mk sp nt (ix2 r s) = ∑ j ∈ Finset.Ico (b + s) (b + 256), nuE ζ t j := by
  unfold sufM
  refine suf_sum hnt ζ t _ r b (fun j => ?_) s
  pointwise
  rw [hmk, hsp]
  unfold nuE
  split_ifs <;> simp_all [Scalar.select]

omit hnt in
theorem wtsM_sum (mk : IVec (M2 256 256) 1) (z e : FVec Ideal (M2 256 256) .f32) (c : FVec Ideal (M2 256 1) .f32)
    (r : Fin 256) (b : ℕ) (hb' : b + 256 ≤ 4096)
    (hmk : ∀ s : Fin 256, mk (ix2 r s) = if b + s < t then 1#1 else 0#1)
    (hc : c (ix2 r 0) = gE ζ t (b + 256))
    (he : ∀ s : Fin 256, e (ix2 r s) = ∑ j ∈ Finset.Ico (b + s) (b + 256), nuE ζ t j)
    (hz : ∀ s : Fin 256, z (ix2 r s) = ζ (b + s)) (s : Fin 256) :
    wtsM mk z e c (ix2 r s) = omE ζ t (b + s) := by
  have e := wts_sum ζ t broadcasts_S256x1_S256x256 z e c r b hb' hc he s (hz s)
  unfold wtsM omE
  pointwise
  rw [hmk, e]
  split_ifs <;> simp_all [Scalar.select]

end

end Cert.Stick
-- ==== Proof.Cat.lean ====
/- Concatenations of sub-blocks of 256, read by one function of the place in the whole. -/
module

public import Idealize.ShloMosaic.Lib.Pointwise
public import proofs.«01_k».proof.Proof.Tiles

@[expose] public section

set_option maxRecDepth 16384
noncomputable section

namespace Cert.Stick

open Idealize.ShloMosaic Idealize.ShloMosaic.TcCoe
open Idealize.ShloMosaic.Pointwise

section
variable {R : ℕ} {α : Type}

/-- A sub-block read at any index of the row. -/
theorem at_col {n : ℕ} {r : Fin R} {A : (M2 R n).Idx → α} {f : ℕ → α} {o k : ℕ} (hA : ∀ s : Fin n, A (ix2 r s) = f (o + s))
    (u : (M2 R n).Idx) (h0 : (u 0).val = r.val) (h1 : o + (u 1).val = k) : A u = f k := by
  have : u = ix2 r (u 1) := by
    funext a
    match a with
    | ⟨0, _⟩ => exact Fin.ext h0
    | ⟨1, _⟩ => rfl
  exact (congrArg A this).trans ((hA (u 1)).trans (congrArg f h1))

/-- A part read at any index of the column. -/
theorem at_row {n C : ℕ} {c : Fin C} {A : (M2 n C).Idx → α} {f : ℕ → α} {o k : ℕ} (hA : ∀ s : Fin n, A (ix2 s c) = f (o + s))
    (u : (M2 n C).Idx) (h0 : o + (u 0).val = k) (h1 : (u 1).val = c.val) : A u = f k := by
  have : u = ix2 (u 0) c := by
    funext a
    match a with
    | ⟨0, _⟩ => rfl
    | ⟨1, _⟩ => exact Fin.ext h1
  exact (congrArg A this).trans ((hA (u 0)).trans (congrArg f h0))

/-- Two sub-blocks side by side. -/
theorem cat2 (r : Fin R) (A0 A1 : (M2 R 256).Idx → α)
    (h : Shape.Concatenates [M2 R 256, M2 R 256] (M2 R 512) 1) (f : ℕ → α)
    (h0 : ∀ s : Fin 256, A0 (ix2 r s) = f (0 + s)) (h1 : ∀ s : Fin 256, A1 (ix2 r s) = f (256 + s)) (s : Fin 512) :
    concatenate (M2 R 512) 1 [⟨M2 R 256, A0⟩, ⟨M2 R 256, A1⟩] h (ix2 r s) = f s := by
  have hlt := s.isLt
  pointwise
  split_ifs
  · exact at_col h0 _ (by simp [Shape.Idx.norm]) (by simp [Shape.Idx.norm])
  · exact at_col h1 _ (by simp [Shape.Idx.norm]) (by simp [Shape.Idx.norm]; omega)

/-- Three sub-blocks side by side. -/
theorem cat3 (r : Fin R) (A0 A1 A2 : (M2 R 256).Idx → α)
    (h : Shape.Concatenates [M2 R 256, M2 R 256, M2 R 256] (M2 R 768) 1) (f : ℕ → α)
    (h0 : ∀ s : Fin 256, A0 (ix2 r s) = f (0 + s)) (h1 : ∀ s : Fin 256, A1 (ix2 r s) = f (256 + s)) (h2 : ∀ s : Fin 256, A2 (ix2 r s) = f (512 + s)) (s : Fin 768) :
    concatenate (M2 R 768) 1 [⟨M2 R 256, A0⟩, ⟨M2 R 256, A1⟩, ⟨M2 R 256, A2⟩] h (ix2 r s) = f s := by
  have hlt := s.isLt
  pointwise
  split_ifs
  · exact at_col h0 _ (by simp [Shape.Idx.norm]) (by simp [Shape.Idx.norm])
  · exact at_col h1 _ (by simp [Shape.Idx.norm]) (by simp [Shape.Idx.norm]; omega)
  · exact at_col h2 _ (by simp [Shape.Idx.norm]) (by simp [Shape.Idx.norm]; omega)

/-- Four sub-blocks side by side. -/
theorem cat4 (r : Fin R) (A0 A1 A2 A3 : (M2 R 256).Idx → α)
    (h : Shape.Concatenates [M2 R 256, M2 R 256, M2 R 256, M2 R 256] (M2 R 1024) 1) (f : ℕ → α)
    (h0 : ∀ s : Fin 256, A0 (ix2 r s) = f (0 + s)) (h1 : ∀ s : Fin 256, A1 (ix2 r s) = f (256 + s)) (h2 : ∀ s : Fin 256, A2 (ix2 r s) = f (512 + s)) (h3 : ∀ s : Fin 256, A3 (ix2 r s) = f (768 + s)) (s : Fin 1024) :
    concatenate (M2 R 1024) 1 [⟨M2 R 256, A0⟩, ⟨M2 R 256, A1⟩, ⟨M2 R 256, A2⟩, ⟨M2 R 256, A3⟩] h (ix2 r s) = f s := by
  have hlt := s.isLt
  pointwise
  split_ifs
  · exact at_col h0 _ (by simp [Shape.Idx.norm]) (by simp [Shape.Idx.norm])
  · exact at_col h1 _ (by simp [Shape.Idx.norm]) (by simp [Shape.Idx.norm]; omega)
  · exact at_col h2 _ (by simp [Shape.Idx.norm]) (by simp [Shape.Idx.norm]; omega)
  · exact at_col h3 _ (by simp [Shape.Idx.norm]) (by simp [Shape.Idx.norm]; omega)

/-- Two halves of 128 columns side by side. -/
theorem cat2w (r : Fin R) (A0 A1 : (M2 R 128).Idx → α)
    (h : Shape.Concatenates [M2 R 128, M2 R 128] (M2 R 256) 1) (f : ℕ → α)
    (h0 : ∀ s : Fin 128, A0 (ix2 r s) = f (0 + s)) (h1 : ∀ s : Fin 128, A1 (ix2 r s) = f (128 + s)) (s : Fin 256) :
    concatenate (M2 R 256) 1 [⟨M2 R 128, A0⟩, ⟨M2 R 128, A1⟩] h (ix2 r s) = f s := by
  have hlt := s.isLt
  pointwise
  split_ifs
  · exact at_col h0 _ (by simp [Shape.Idx.norm]) (by simp [Shape.Idx.norm])
  · exact at_col h1 _ (by simp [Shape.Idx.norm]) (by simp [Shape.Idx.norm]; omega)

/-- Two halves of 128 rows, one over the other. -/
theorem cat2h {C : ℕ} (c : Fin C) (A0 A1 : (M2 128 C).Idx → α)
    (h : Shape.Concatenates [M2 128 C, M2 128 C] (M2 256 C) 0) (f : ℕ → α)
    (h0 : ∀ s : Fin 128, A0 (ix2 s c) = f (0 + s)) (h1 : ∀ s : Fin 128, A1 (ix2 s c) = f (128 + s)) (s : Fin 256) :
    concatenate (M2 256 C) 0 [⟨M2 128 C, A0⟩, ⟨M2 128 C, A1⟩] h (ix2 s c) = f s := by
  have hlt := s.isLt
  pointwise
  split_ifs
  · exact at_row h0 _ (by simp [Shape.Idx.norm]) (by simp [Shape.Idx.norm])
  · exact at_row h1 _ (by simp [Shape.Idx.norm]; omega) (by simp [Shape.Idx.norm])

/-- Four row blocks, one over the other. -/
theorem cat4h {C : ℕ} (c : Fin C) (A0 A1 A2 A3 : (M2 256 C).Idx → α)
    (h : Shape.Concatenates [M2 256 C, M2 256 C, M2 256 C, M2 256 C] (M2 1024 C) 0) (f : ℕ → α)
    (h0 : ∀ s : Fin 256, A0 (ix2 s c) = f (0 + s)) (h1 : ∀ s : Fin 256, A1 (ix2 s c) = f (256 + s)) (h2 : ∀ s : Fin 256, A2 (ix2 s c) = f (512 + s)) (h3 : ∀ s : Fin 256, A3 (ix2 s c) = f (768 + s)) (s : Fin 1024) :
    concatenate (M2 1024 C) 0 [⟨M2 256 C, A0⟩, ⟨M2 256 C, A1⟩, ⟨M2 256 C, A2⟩, ⟨M2 256 C, A3⟩] h (ix2 s c) = f s := by
  have hlt := s.isLt
  pointwise
  split_ifs
  · exact at_row h0 _ (by simp [Shape.Idx.norm]) (by simp [Shape.Idx.norm])
  · exact at_row h1 _ (by simp [Shape.Idx.norm]; omega) (by simp [Shape.Idx.norm])
  · exact at_row h2 _ (by simp [Shape.Idx.norm]; omega) (by simp [Shape.Idx.norm])
  · exact at_row h3 _ (by simp [Shape.Idx.norm]; omega) (by simp [Shape.Idx.norm])

end
end Cert.Stick
-- ==== Proof.Chunk.lean ====
/- The chunks at the extended reals: what a chunk leaves in a head's total and accumulator, before the diagonal and
   on it. -/
module

public import proofs.«01_k».proof.Proof.Suffix
public import proofs.«01_k».proof.Proof.Cat

@[expose] public section

set_option maxRecDepth 16384
noncomputable section

namespace Cert.Stick

open Idealize.ShloMosaic Idealize.ShloMosaic.TcCoe
open Idealize.ShloMosaic.Pointwise
open Cert.KernelIdeal Cert.KernelIdeal.Gen

/-- The weighted values of the keys from `s` on. -/
def aE (ζ : ℕ → EReal) (t : ℕ) (v : ℕ → EReal) (s : ℕ) : EReal := ∑ j ∈ Finset.Ico s 4096, omE ζ t j * v j

theorem aE_split (ζ : ℕ → EReal) (t : ℕ) (v : ℕ → EReal) (a b : ℕ) (hab : a ≤ b) (hb : b ≤ 4096) :
    aE ζ t v a = (∑ j ∈ Finset.Ico a b, omE ζ t j * v j) + aE ζ t v b :=
  (Finset.sum_Ico_consecutive _ hab hb).symm

theorem aE_past (ζ : ℕ → EReal) (t : ℕ) (v : ℕ → EReal) (s : ℕ) (h : t ≤ s) : aE ζ t v s = 0 :=
  Finset.sum_eq_zero fun j hj => by
    rw [omE, if_neg (by have := (Finset.mem_Ico.1 hj).1; omega), zero_mul]

/-- A sum over the places of a chunk is the sum over its keys. -/
theorem sum_chunk {n : ℕ} (f : ℕ → EReal) (B : ℕ) : ∑ s : Fin n, f (B + s) = ∑ j ∈ Finset.Ico B (B + n), f j := by
  rw [Finset.sum_Ico_eq_sum_range, Fin.sum_univ_eq_sum_range (fun s => f (B + s)) n, Nat.add_sub_cancel_left]

/-! ## A chunk before the diagonal -/

section Off
variable {nt : FVec Ideal (M2 256 256) .bf16} (hnt : Tri nt) (ζ : ℕ → EReal) (t B : ℕ) (hB : B + 1024 ≤ t) (ht : t ≤ 4096)
  (z : FVec Ideal (M2 1024 1024) .f32) (c : FVec Ideal (M2 1024 1) .f32) (r : Fin 1024)
  (hz : ∀ s : Fin 1024, z (ix2 r s) = ζ (B + s)) (hc : c (ix2 r 0) = gE ζ t (B + 1024))
include hB hz

/-- The scores of a sub-block. -/
theorem off_z (o : ℕ) (ho : o + 256 ≤ 1024) (h : (M2 1024 1024).Slices ![0, o] (M2 1024 256)) (s : Fin 256) :
    extractStridedSlice (M2 1024 256) ![0, o] z h (ix2 r s) = ζ (B + o + s) := by
  have hs := s.isLt
  rw [slice_cols o h z r s (by omega), hz, Nat.add_assoc]

include hnt

theorem off_e (o : ℕ) (ho : o + 256 ≤ 1024) (h : (M2 1024 1024).Slices ![0, o] (M2 1024 256)) (s : Fin 256) :
    suf (extractStridedSlice (M2 1024 256) ![0, o] (soft z) h) nt (ix2 r s) =
      ∑ j ∈ Finset.Ico (B + o + s) (B + o + 256), nuE ζ t j := by
  refine suf_sum hnt ζ t _ r (B + o) (fun j => ?_) s
  have hj := j.isLt
  rw [slice_cols o h (soft z) r j (by omega), soft_apply, hz, nuE, if_pos (by omega), Nat.add_assoc]

include hc ht

theorem offC3_eq : offC3 nt z c (ix2 r 0) = gE ζ t (B + 768) :=
  nxt_sum ζ t _ c _ r (B + 768) (by omega) hc (off_e hnt ζ t B hB z r hz 768 (by omega) _)
theorem offC2_eq : offC2 nt z c (ix2 r 0) = gE ζ t (B + 512) :=
  nxt_sum ζ t _ _ _ r (B + 512) (by omega) (offC3_eq hnt ζ t B hB ht z c r hz hc) (off_e hnt ζ t B hB z r hz 512 (by omega) _)
theorem offC1_eq : offC1 nt z c (ix2 r 0) = gE ζ t (B + 256) :=
  nxt_sum ζ t _ _ _ r (B + 256) (by omega) (offC2_eq hnt ζ t B hB ht z c r hz hc) (off_e hnt ζ t B hB z r hz 256 (by omega) _)

/-- The total past the chunk. -/
theorem offC_eq : offC nt z c (ix2 r 0) = gE ζ t B :=
  nxt_sum ζ t _ _ _ r (B + 0) (by omega) (offC1_eq hnt ζ t B hB ht z c r hz hc) (off_e hnt ζ t B hB z r hz 0 (by omega) _)

/-- A sub-block's weights. -/
theorem off_w (o : ℕ) (ho : o + 256 ≤ 1024) (h : (M2 1024 1024).Slices ![0, o] (M2 1024 256)) (c' : FVec Ideal (M2 1024 1) .f32)
    (hc' : c' (ix2 r 0) = gE ζ t (B + o + 256)) (s : Fin 256) :
    (truncf .bf16 (wts broadcasts_S1024x1_S1024x256 (extractStridedSlice (M2 1024 256) ![0, o] z h)
      (suf (extractStridedSlice (M2 1024 256) ![0, o] (soft z) h) nt) c') bitsLt_bf16_f32 : FVec Ideal (M2 1024 256) .bf16) (ix2 r s) =
      omE ζ t (B + (o + s)) := by
  have hs := s.isLt
  rw [ValueIdx.truncf_apply, wts_sum ζ t _ _ _ c' r (B + o) (by omega) hc' (off_e hnt ζ t B hB z r hz o ho h) s
    (off_z ζ t B hB z r hz o ho h s), omE, if_pos (by omega), Nat.add_assoc]

/-- The chunk's weights. -/
theorem offW_eq (s : Fin 1024) : offW nt z c (ix2 r s) = omE ζ t (B + s) := by
  refine cat4 r _ _ _ _ _ (fun s => omE ζ t (B + s)) (fun s => ?_) (fun s => ?_) (fun s => ?_) (fun s => ?_) s
  · exact (off_w hnt ζ t B hB ht z c r hz hc 0 (by omega) _ _ (offC1_eq hnt ζ t B hB ht z c r hz hc) s).trans (by rw [Nat.zero_add])
  · exact off_w hnt ζ t B hB ht z c r hz hc 256 (by omega) _ _ (offC2_eq hnt ζ t B hB ht z c r hz hc) s
  · exact off_w hnt ζ t B hB ht z c r hz hc 512 (by omega) _ _ (offC3_eq hnt ζ t B hB ht z c r hz hc) s
  · exact off_w hnt ζ t B hB ht z c r hz hc 768 (by omega) _ c hc s

omit hnt hB ht hz hc in
theorem offPV_apply (w : FVec Ideal (M2 1024 1024) .bf16) (vt : FVec Ideal S1x128x1024 .bf16) (d : Fin 128) :
    offPV w vt (ix2 r d) = ∑ s : Fin 1024, w (ix2 r s) * vt (ix3 0 d s) := by
  unfold offPV
  refine (Ideal.matmul_transposedRhs_apply ..).trans ?_
  rw [ValueIdx.constant_apply]
  pointwise
  rfl

/-- The accumulator after the chunk. -/
theorem offAcc_eq (vt : FVec Ideal S1x128x1024 .bf16) (a : FVec Ideal S1x1024x128 .f32) (d : Fin 128) (v : ℕ → EReal)
    (hv : ∀ s : Fin 1024, vt (ix3 0 d s) = v (B + s)) (ha : a (ix3 0 r d) = aE ζ t v (B + 1024)) :
    offAcc nt z c vt a (ix3 0 r d) = aE ζ t v B := by
  have e : offAcc nt z c vt a (ix3 0 r d) = a (ix3 0 r d) + offPV (offW nt z c) vt (ix2 r d) := by
    unfold offAcc
    pointwise
  rw [e, offPV_apply, ha, aE_split ζ t v B (B + 1024) (by omega) (by omega), add_comm, ← sum_chunk]
  exact congrArg (· + _) (Finset.sum_congr rfl fun s _ => by rw [offW_eq hnt ζ t B hB ht z c r hz hc, hv])

end Off

/-! ## The diagonal chunk -/

section Diag
variable {nt : FVec Ideal (M2 256 256) .bf16} (hnt : Tri nt) (ζ : ℕ → EReal) (t B : ℕ)

section
variable {n : ℕ} (hn : B + n ≤ 4096) (mk : IVec (M2 256 n) 1) (z : FVec Ideal (M2 256 n) .f32) (r : Fin 256)
  (hmk : ∀ s : Fin n, mk (ix2 r s) = if B + s < t then 1#1 else 0#1)
  (hz : ∀ s : Fin n, z (ix2 r s) = ζ (B + s))
include hmk

theorem dg_mk (o : ℕ) (ho : o + 256 ≤ n) (h : (M2 256 n).Slices ![0, o] (M2 256 256)) (s : Fin 256) :
    extractStridedSlice (M2 256 256) ![0, o] mk h (ix2 r s) = if B + o + s < t then 1#1 else 0#1 := by
  have hs := s.isLt
  rw [slice_cols o h mk r s (by omega), hmk, Nat.add_assoc]

include hz hnt

theorem dgE_eq (o : ℕ) (ho : o + 256 ≤ n) (h : (M2 256 n).Slices ![0, o] (M2 256 256)) (s : Fin 256) :
    dgE nt o h mk z (ix2 r s) = ∑ j ∈ Finset.Ico (B + o + s) (B + o + 256), nuE ζ t j := by
  refine sufM_sum hnt ζ t _ _ r (B + o) (dg_mk t B mk r hmk o ho h) (fun s => ?_) s
  have hs := s.isLt
  rw [slice_cols o h (soft z) r s (by omega), soft_apply, hz, Nat.add_assoc]

include hn

theorem dgC_eq (o : ℕ) (ho : o + 256 ≤ n) (h : (M2 256 n).Slices ![0, o] (M2 256 256)) (c : FVec Ideal (M2 256 1) .f32)
    (hc : c (ix2 r 0) = gE ζ t (B + (o + 256))) : dgC nt o h mk z c (ix2 r 0) = gE ζ t (B + o) :=
  nxt_sum ζ t _ c _ r (B + o) (by omega) (by rw [hc, Nat.add_assoc]) (dgE_eq hnt ζ t B mk z r hmk hz o ho h)

theorem dgW_eq (o : ℕ) (ho : o + 256 ≤ n) (h : (M2 256 n).Slices ![0, o] (M2 256 256)) (c : FVec Ideal (M2 256 1) .f32)
    (hc : c (ix2 r 0) = gE ζ t (B + (o + 256))) (s : Fin 256) : dgW nt o h mk z c (ix2 r s) = omE ζ t (B + (o + s)) := by
  have hs := s.isLt
  rw [dgW, wtsM_sum ζ t _ _ _ c r (B + o) (by omega) (dg_mk t B mk r hmk o ho h) (by rw [hc, Nat.add_assoc])
    (dgE_eq hnt ζ t B mk z r hmk hz o ho h) (fun s => ?_) s, Nat.add_assoc]
  have hs := s.isLt
  rw [slice_cols o h z r s (by omega), hz, Nat.add_assoc]

end

theorem dg0_eq (r : Fin 256) (s : ℕ) (h : t ≤ s) : (dg0 : FVec Ideal (M2 256 1) .f32) (ix2 r 0) = gE ζ t s := by
  rw [gE_past ζ t s h]
  unfold dg0
  pointwise

theorem dgPV_eq {n : ℕ} (hn : B + n ≤ 4096) (htn : t ≤ B + n) (w : FVec Ideal (M2 256 n) .bf16) (vt : FVec Ideal (M2 128 n) .bf16)
    (r : Fin 256) (d : Fin 128) (v : ℕ → EReal) (hw : ∀ s : Fin n, w (ix2 r s) = omE ζ t (B + s))
    (hv : ∀ s : Fin n, vt (ix2 d s) = v (B + s)) : dgPV w vt (ix3 0 r d) = aE ζ t v B := by
  have e : dgPV w vt (ix3 0 r d) = matmul (DotDims.transposedRhs 256 n 128) none w vt (constant S256x128 .f32 0x00000000#32) (ix2 r d) := by
    unfold dgPV
    pointwise
  rw [e, aE_split ζ t v B (B + n) (by omega) hn, aE_past ζ t v (B + n) htn, add_zero, ← sum_chunk]
  refine (Ideal.matmul_transposedRhs_apply ..).trans ?_
  rw [ValueIdx.constant_apply]
  pointwise
  exact Finset.sum_congr rfl fun s _ => congrArg₂ (· * ·) (hw s) (hv s)

section
variable (hn : B + 256 ≤ 4096) (htn : t ≤ B + 256) (mk : IVec (M2 256 256) 1) (z : FVec Ideal (M2 256 256) .f32) (r : Fin 256)
  (hmk : ∀ s : Fin 256, mk (ix2 r s) = if B + s < t then 1#1 else 0#1)
  (hz : ∀ s : Fin 256, z (ix2 r s) = ζ (B + s))
include hn htn hmk hz hnt

theorem dgC0_eq : dgC0 nt mk z (ix2 r 0) = gE ζ t B :=
  nxt_sum ζ t _ _ _ r B hn (dg0_eq ζ t r _ htn)
    (sufM_sum hnt ζ t mk _ r B hmk fun s => by rw [soft_apply, hz])

theorem dgW0_eq (s : Fin 256) : dgW0 nt mk z (ix2 r s) = omE ζ t (B + s) :=
  wtsM_sum ζ t mk z _ _ r B hn hmk (dg0_eq ζ t r _ htn)
    (sufM_sum hnt ζ t mk _ r B hmk fun s => by rw [soft_apply, hz]) hz s

end

section
variable (hn : B + 512 ≤ 4096) (htn : t ≤ B + 512) (mk : IVec (M2 256 512) 1) (z : FVec Ideal (M2 256 512) .f32) (r : Fin 256)
  (hmk : ∀ s : Fin 512, mk (ix2 r s) = if B + s < t then 1#1 else 0#1)
  (hz : ∀ s : Fin 512, z (ix2 r s) = ζ (B + s))
include hn htn hmk hz hnt

theorem dgC11_eq : dgC11 nt mk z (ix2 r 0) = gE ζ t (B + 256) :=
  dgC_eq hnt ζ t B hn mk z r hmk hz 256 (by omega) _ _ (dg0_eq ζ t r _ htn)

theorem dgC1_eq : dgC1 nt mk z (ix2 r 0) = gE ζ t (B + 0) :=
  dgC_eq hnt ζ t B hn mk z r hmk hz 0 (by omega) _ _ (dgC11_eq hnt ζ t B hn htn mk z r hmk hz)

theorem dgW1_eq (s : Fin 512) : dgW1 nt mk z (ix2 r s) = omE ζ t (B + s) := by
  refine cat2 r _ _ _ (fun s => omE ζ t (B + s)) (fun s => ?_) (fun s => ?_) s
  · exact (dgW_eq hnt ζ t B hn mk z r hmk hz 0 (by omega) _ _ (dgC11_eq hnt ζ t B hn htn mk z r hmk hz) s).trans (by rw [Nat.zero_add])
  · exact dgW_eq hnt ζ t B hn mk z r hmk hz 256 (by omega) _ _ (dg0_eq ζ t r _ htn) s

end

section
variable (hn : B + 768 ≤ 4096) (htn : t ≤ B + 768) (mk : IVec (M2 256 768) 1) (z : FVec Ideal (M2 256 768) .f32) (r : Fin 256)
  (hmk : ∀ s : Fin 768, mk (ix2 r s) = if B + s < t then 1#1 else 0#1)
  (hz : ∀ s : Fin 768, z (ix2 r s) = ζ (B + s))
include hn htn hmk hz hnt

theorem dgC22_eq : dgC22 nt mk z (ix2 r 0) = gE ζ t (B + 512) :=
  dgC_eq hnt ζ t B hn mk z r hmk hz 512 (by omega) _ _ (dg0_eq ζ t r _ htn)

theorem dgC21_eq : dgC21 nt mk z (ix2 r 0) = gE ζ t (B + 256) :=
  dgC_eq hnt ζ t B hn mk z r hmk hz 256 (by omega) _ _ (dgC22_eq hnt ζ t B hn htn mk z r hmk hz)

theorem dgC2_eq : dgC2 nt mk z (ix2 r 0) = gE ζ t (B + 0) :=
  dgC_eq hnt ζ t B hn mk z r hmk hz 0 (by omega) _ _ (dgC21_eq hnt ζ t B hn htn mk z r hmk hz)

theorem dgW2_eq (s : Fin 768) : dgW2 nt mk z (ix2 r s) = omE ζ t (B + s) := by
  refine cat3 r _ _ _ _ (fun s => omE ζ t (B + s)) (fun s => ?_) (fun s => ?_) (fun s => ?_) s
  · exact (dgW_eq hnt ζ t B hn mk z r hmk hz 0 (by omega) _ _ (dgC21_eq hnt ζ t B hn htn mk z r hmk hz) s).trans (by rw [Nat.zero_add])
  · exact dgW_eq hnt ζ t B hn mk z r hmk hz 256 (by omega) _ _ (dgC22_eq hnt ζ t B hn htn mk z r hmk hz) s
  · exact dgW_eq hnt ζ t B hn mk z r hmk hz 512 (by omega) _ _ (dg0_eq ζ t r _ htn) s

end

section
variable (hn : B + 1024 ≤ 4096) (htn : t ≤ B + 1024) (mk : IVec (M2 256 1024) 1) (z : FVec Ideal (M2 256 1024) .f32) (r : Fin 256)
  (hmk : ∀ s : Fin 1024, mk (ix2 r s) = if B + s < t then 1#1 else 0#1)
  (hz : ∀ s : Fin 1024, z (ix2 r s) = ζ (B + s))
include hn htn hmk hz hnt

theorem dgC33_eq : dgC33 nt mk z (ix2 r 0) = gE ζ t (B + 768) :=
  dgC_eq hnt ζ t B hn mk z r hmk hz 768 (by omega) _ _ (dg0_eq ζ t r _ htn)

theorem dgC32_eq : dgC32 nt mk z (ix2 r 0) = gE ζ t (B + 512) :=
  dgC_eq hnt ζ t B hn mk z r hmk hz 512 (by omega) _ _ (dgC33_eq hnt ζ t B hn htn mk z r hmk hz)

theorem dgC31_eq : dgC31 nt mk z (ix2 r 0) = gE ζ t (B + 256) :=
  dgC_eq hnt ζ t B hn mk z r hmk hz 256 (by omega) _ _ (dgC32_eq hnt ζ t B hn htn mk z r hmk hz)

theorem dgC3_eq : dgC3 nt mk z (ix2 r 0) = gE ζ t (B + 0) :=
  dgC_eq hnt ζ t B hn mk z r hmk hz 0 (by omega) _ _ (dgC31_eq hnt ζ t B hn htn mk z r hmk hz)

theorem dgW3_eq (s : Fin 1024) : dgW3 nt mk z (ix2 r s) = omE ζ t (B + s) := by
  refine cat4 r _ _ _ _ _ (fun s => omE ζ t (B + s)) (fun s => ?_) (fun s => ?_) (fun s => ?_) (fun s => ?_) s
  · exact (dgW_eq hnt ζ t B hn mk z r hmk hz 0 (by omega) _ _ (dgC31_eq hnt ζ t B hn htn mk z r hmk hz) s).trans (by rw [Nat.zero_add])
  · exact dgW_eq hnt ζ t B hn mk z r hmk hz 256 (by omega) _ _ (dgC32_eq hnt ζ t B hn htn mk z r hmk hz) s
  · exact dgW_eq hnt ζ t B hn mk z r hmk hz 512 (by omega) _ _ (dgC33_eq hnt ζ t B hn htn mk z r hmk hz) s
  · exact dgW_eq hnt ζ t B hn mk z r hmk hz 768 (by omega) _ _ (dg0_eq ζ t r _ htn) s

end

end Diag

end Cert.Stick
-- ==== Proof.Score.lean ====
/- The scores at the extended reals: a query head against a key, and the three bias terms. -/
module

public import proofs.«01_k».proof.Proof.Suffix
public import proofs.«01_k».proof.Proof.Cat

@[expose] public section

set_option maxRecDepth 16384
noncomputable section

namespace Cert.Stick

open Idealize.ShloMosaic Idealize.ShloMosaic.TcCoe
open Idealize.ShloMosaic.Pointwise
open Cert.KernelIdeal Cert.KernelIdeal.Gen

theorem inHead0_apply (r : Fin 1024) (x : Fin 128) : inHead0 (ix2 r x) = if x.val < 64 then 1#1 else 0#1 := by
  have h : ∀ x : Fin 128, IntOp.andi (IntOp.cmpi .sge (BitVec.ofNat 32 x.val) 0#32)
      (IntOp.cmpi .slt (BitVec.ofNat 32 x.val) 64#32) = if x.val < 64 then 1#1 else 0#1 := by decide +kernel
  rw [← h x]
  unfold inHead0 lanes
  pointwise

theorem inHead1_apply (r : Fin 1024) (x : Fin 128) : inHead1 (ix2 r x) = if x.val < 64 then 0#1 else 1#1 := by
  have h : ∀ x : Fin 128, IntOp.andi (IntOp.cmpi .sge (BitVec.ofNat 32 x.val) 64#32)
      (IntOp.cmpi .slt (BitVec.ofNat 32 x.val) 128#32) = if x.val < 64 then 0#1 else 1#1 := by decide +kernel
  rw [← h x]
  unfold inHead1 lanes
  pointwise

theorem laneEq_apply (k : Fin 3) (r : Fin 1024) (x : Fin 128) :
    laneEq (BitVec.ofNat 32 k.val) (ix2 r x) = if x.val = k.val then 1#1 else 0#1 := by
  have h : ∀ (k : Fin 3) (x : Fin 128), IntOp.cmpi .eq (BitVec.ofNat 32 x.val) (BitVec.ofNat 32 k.val) =
      if x.val = k.val then 1#1 else 0#1 := by decide +kernel
  rw [← h k x]
  unfold laneEq lanes
  pointwise

theorem onesRows_apply (x : Fin 128) (s : Fin 1024) :
    (onesRows : FVec Ideal (M2 128 1024) .bf16) (ix2 x s) = if x.val < 3 then 1 else 0 := by
  have h : ∀ x : Fin 128, IntOp.cmpi .slt (BitVec.ofNat 32 x.val) 3#32 = if x.val < 3 then 1#1 else 0#1 := by
    decide +kernel
  unfold onesRows
  pointwise
  rw [h]
  split_ifs <;> simp [Scalar.select]

/-- What a lane of the extension holds. -/
def extE (b0 b1 b2 : EReal) (l : ℕ) : EReal := if l = 2 then b2 else if l = 1 then b1 else if l = 0 then b0 else 0

section
variable (ih : IVec (M2 1024 128) 1) (q : FVec Ideal (M2 1024 128) .bf16) (b0 b1 b2 : EReal)
  (K : FVec Ideal S1x128x1024 .bf16)

theorem qHead_lo (r : Fin 1024) (x : Fin 128) :
    qHead (F := Ideal) ih q b0 b1 b2 (ix2 r (Fin.castAdd 128 x)) = if ih (ix2 r x) = 1#1 then q (ix2 r x) else 0 := by
  have hx := x.isLt
  unfold qHead
  pointwise
  rw [dif_pos (by simp)]
  rfl

theorem qHead_hi (r : Fin 1024) (x : Fin 128) :
    qHead (F := Ideal) ih q b0 b1 b2 (ix2 r (Fin.natAdd 128 x)) = extE b0 b1 b2 x := by
  have l0 := laneEq_apply 0 r x
  have l1 := laneEq_apply 1 r x
  have l2 := laneEq_apply 2 r x
  unfold qHead extE
  pointwise
  rw [dif_neg (by simp)]
  have e : (⟨(Fin.natAdd 128 x).val - 128, by simp⟩ : Fin 128) = x := Fin.ext (by simp)
  simp only [e]
  simp at l0 l1 l2
  rw [l0, l1, l2]
  split_ifs <;> simp_all [Scalar.select]

theorem keysX_lo (x : Fin 128) (s : Fin 1024) : keysX onesRows K (ix2 (Fin.castAdd 128 x) s) = K (ix3 0 x s) := by
  unfold keysX
  pointwise
  rw [dif_pos (by simp)]
  rfl

theorem keysX_hi (x : Fin 128) (s : Fin 1024) :
    keysX (F := Ideal) onesRows K (ix2 (Fin.natAdd 128 x) s) = if x.val < 3 then 1 else 0 := by
  unfold keysX
  pointwise
  rw [dif_neg (by simp)]
  have e : (⟨(Fin.natAdd 128 x).val - 128, by simp⟩ : Fin 128) = x := Fin.ext (by simp)
  simp only [e]
  exact onesRows_apply x s

/-- The extension's share of a score: the three bias terms. -/
theorem ext_sum (r : Fin 1024) (s : Fin 1024) :
    ∑ x : Fin 128, qHead (F := Ideal) ih q b0 b1 b2 (ix2 r (Fin.natAdd 128 x)) *
      keysX onesRows K (ix2 (Fin.natAdd 128 x) s) = b0 + b1 + b2 := by
  simp only [qHead_hi, keysX_hi]
  rw [show (128 : ℕ) = 3 + 125 from rfl, Fin.sum_univ_add, Fin.sum_univ_three,
    Finset.sum_eq_zero (s := (Finset.univ : Finset (Fin 125))) fun x _ => by
      rw [if_neg (by simp), mul_zero]]
  simp [extE]

/-- A score of the first head of a pair. -/
theorem offZ_head0 (r s : Fin 1024) :
    offZ (qHead (F := Ideal) inHead0 q b0 b1 b2) (keysX onesRows K) (ix2 r s) =
      (∑ d : Fin 64, q (ix2 r (Fin.castAdd 64 d)) * K (ix3 0 (Fin.castAdd 64 d) s)) + (b0 + b1 + b2) := by
  unfold offZ
  refine (Ideal.matmul_plain_apply ..).trans ?_
  rw [ValueIdx.constant_apply]
  pointwise
  refine (Fin.sum_univ_add (a := 128) (b := 128) _).trans (congrArg₂ (· + ·) ?_ (ext_sum inHead0 q b0 b1 b2 K r s))
  refine (Finset.sum_congr rfl fun x _ => congrArg₂ (· * ·) (qHead_lo inHead0 q b0 b1 b2 r x) (keysX_lo K x s)).trans ?_
  simp only [inHead0_apply]
  refine (Fin.sum_univ_add (a := 64) (b := 64) _).trans ?_
  rw [Finset.sum_eq_zero (s := (Finset.univ : Finset (Fin 64))) (f := fun x => (if (if (Fin.natAdd 64 x).val < 64 then 1#1 else 0#1) = 1#1
    then q (ix2 r (Fin.natAdd 64 x)) else 0) * K (ix3 0 (Fin.natAdd 64 x) s)) fun x _ => by simp, add_zero]
  exact Finset.sum_congr rfl fun x _ => by rw [if_pos (by simp)]

/-- A score of the second head of a pair. -/
theorem offZ_head1 (r s : Fin 1024) :
    offZ (qHead (F := Ideal) inHead1 q b0 b1 b2) (keysX onesRows K) (ix2 r s) =
      (∑ d : Fin 64, q (ix2 r (Fin.natAdd 64 d)) * K (ix3 0 (Fin.natAdd 64 d) s)) + (b0 + b1 + b2) := by
  unfold offZ
  refine (Ideal.matmul_plain_apply ..).trans ?_
  rw [ValueIdx.constant_apply]
  pointwise
  refine (Fin.sum_univ_add (a := 128) (b := 128) _).trans (congrArg₂ (· + ·) ?_ (ext_sum inHead1 q b0 b1 b2 K r s))
  refine (Finset.sum_congr rfl fun x _ => congrArg₂ (· * ·) (qHead_lo inHead1 q b0 b1 b2 r x) (keysX_lo K x s)).trans ?_
  simp only [inHead1_apply]
  refine (Fin.sum_univ_add (a := 64) (b := 64) _).trans ?_
  rw [Finset.sum_eq_zero (s := (Finset.univ : Finset (Fin 64))) (f := fun x => (if (if (Fin.castAdd 64 x).val < 64 then 0#1 else 1#1) = 1#1
    then q (ix2 r (Fin.castAdd 64 x)) else 0) * K (ix3 0 (Fin.castAdd 64 x) s)) fun x _ => by simp, zero_add]
  exact Finset.sum_congr rfl fun x _ => by rw [if_pos (by simp)]

end

/-! ## The diagonal's row blocks -/

theorem cmpi_lt (a b : ℕ) (ha : a < 1024) (hb : b < 1024) :
    IntOp.cmpi .slt (BitVec.ofNat 32 a) (BitVec.ofNat 32 b) = if a < b then 1#1 else 0#1 := by
  have h : ∀ c : ℕ, c < 1024 → (BitVec.ofNat 32 c).toInt = c := fun c hc => by
    have e : (BitVec.ofNat 32 c).toNat = c := by rw [BitVec.toNat_ofNat]; omega
    rw [BitVec.toInt_eq_toNat_of_lt (by rw [e]; omega), e]
  have e : (BitVec.ofNat 32 a).slt (BitVec.ofNat 32 b) = decide (a < b) := by
    rw [BitVec.slt_eq_decide, h a ha, h b hb]
    exact decide_eq_decide.2 Int.ofNat_lt
  show BitVec.ofBool _ = _
  rw [e]
  by_cases h : a < b <;> simp [h]

section
variable (q : FVec Ideal (M2 1024 256) .bf16) (kx : FVec Ideal (M2 256 1024) .bf16) (r : Fin 256)

theorem dgZ_apply {n : ℕ} (q : FVec Ideal (M2 256 256) .bf16) (kx : FVec Ideal (M2 256 n) .bf16) (s : Fin n) :
    dgZ q kx (ix2 r s) = ∑ x : Fin 256, q (ix2 r x) * kx (ix2 x s) := by
  unfold dgZ
  refine (Ideal.matmul_plain_apply ..).trans ?_
  rw [ValueIdx.constant_apply]
  pointwise
  rfl

theorem offZ_apply (r s : Fin 1024) : offZ q kx (ix2 r s) = ∑ x : Fin 256, q (ix2 r x) * kx (ix2 x s) := by
  unfold offZ
  refine (Ideal.matmul_plain_apply ..).trans ?_
  rw [ValueIdx.constant_apply]
  pointwise
  rfl

theorem dgZ0_eq (s : Fin 256) : dgZ0 q kx (ix2 r s) = offZ q kx (ix2 ⟨0 + r, by omega⟩ ⟨s, by omega⟩) := by
  rw [dgZ0, dgZ_apply, offZ_apply]
  refine Finset.sum_congr rfl fun x _ => congrArg₂ (· * ·) ?_ ?_
  · pointwise
  · pointwise

theorem mk0_eq (s : Fin 256) : mk0 (ix2 r s) = if s.val < 0 + r.val then 1#1 else 0#1 := by
  unfold mk0 causal
  pointwise
  exact cmpi_lt _ _ (by omega) (by omega)

theorem dgZ1_eq (s : Fin 512) : dgZ1 q kx (ix2 r s) = offZ q kx (ix2 ⟨256 + r, by omega⟩ ⟨s, by omega⟩) := by
  rw [dgZ1, dgZ_apply, offZ_apply]
  refine Finset.sum_congr rfl fun x _ => congrArg₂ (· * ·) ?_ ?_
  · pointwise
  · pointwise

theorem mk1_eq (s : Fin 512) : mk1 (ix2 r s) = if s.val < 256 + r.val then 1#1 else 0#1 := by
  unfold mk1 causal
  pointwise
  exact cmpi_lt _ _ (by omega) (by omega)

theorem dgZ2_eq (s : Fin 768) : dgZ2 q kx (ix2 r s) = offZ q kx (ix2 ⟨512 + r, by omega⟩ ⟨s, by omega⟩) := by
  rw [dgZ2, dgZ_apply, offZ_apply]
  refine Finset.sum_congr rfl fun x _ => congrArg₂ (· * ·) ?_ ?_
  · pointwise
  · pointwise

theorem mk2_eq (s : Fin 768) : mk2 (ix2 r s) = if s.val < 512 + r.val then 1#1 else 0#1 := by
  unfold mk2 causal
  pointwise
  exact cmpi_lt _ _ (by omega) (by omega)

theorem dgZ3_eq (s : Fin 1024) : dgZ3 q kx (ix2 r s) = offZ q kx (ix2 ⟨768 + r, by omega⟩ ⟨s, by omega⟩) := by
  rw [dgZ3, dgZ_apply, offZ_apply]
  refine Finset.sum_congr rfl fun x _ => congrArg₂ (· * ·) ?_ ?_
  · pointwise
  · pointwise

theorem mk3_eq (s : Fin 1024) : mk3 (ix2 r s) = if s.val < 768 + r.val then 1#1 else 0#1 := by
  unfold mk3 causal
  pointwise
  exact cmpi_lt _ _ (by omega) (by omega)

end

end Cert.Stick
-- ==== Proof.Diag.lean ====
/- The diagonal chunk of one head: its totals and weighted values as sums over the keys before each query. -/
module

public import proofs.«01_k».proof.Proof.Chunk
public import proofs.«01_k».proof.Proof.Score
public import proofs.«01_k».proof.Proof.Cat

@[expose] public section

set_option maxRecDepth 16384
noncomputable section

namespace Cert.Stick

open Idealize.ShloMosaic Idealize.ShloMosaic.TcCoe Idealize.ShloMosaic.Tactic
open Idealize.ShloMosaic.Pointwise
open Idealize.SL Idealize.SL.Sem
open Cert.KernelIdeal Cert.KernelIdeal.Gen

theorem mk_before (B o s r : ℕ) : (if s < o + r then 1#1 else 0#1) = if B + s < B + (o + r) then 1#1 else 0#1 := by
  simp only [Nat.add_lt_add_iff_left]

section
variable {nt : FVec Ideal (M2 256 256) .bf16} (hnt : Tri nt) (q : FVec Ideal (M2 1024 256) .bf16) (kx : FVec Ideal (M2 256 1024) .bf16)
  (ζ : ℕ → ℕ → EReal) (B : ℕ) (hB : B + 1024 ≤ 4096)
  (hz : ∀ r s : Fin 1024, offZ q kx (ix2 r s) = ζ r.val (B + s.val))
include hnt hB hz

theorem dgCarry_eq (r : Fin 1024) : dgCarry nt q kx (ix2 r 0) = gE (ζ r.val) (B + r.val) B := by
  refine cat4h (0 : Fin 1) _ _ _ _ _ (fun r => gE (ζ r) (B + r) B) (fun r => ?_) (fun r => ?_) (fun r => ?_) (fun r => ?_) r
  · exact dgC0_eq hnt (ζ (0 + r.val)) (B + (0 + r.val)) B (by omega) (by omega) mk0 _ r
      (fun s => (mk0_eq r s).trans (mk_before B _ _ _)) (fun s => (dgZ0_eq q kx r s).trans (hz _ _))
  · exact dgC1_eq hnt (ζ (256 + r.val)) (B + (256 + r.val)) B (by omega) (by omega) mk1 _ r
      (fun s => (mk1_eq r s).trans (mk_before B _ _ _)) (fun s => (dgZ1_eq q kx r s).trans (hz _ _))
  · exact dgC2_eq hnt (ζ (512 + r.val)) (B + (512 + r.val)) B (by omega) (by omega) mk2 _ r
      (fun s => (mk2_eq r s).trans (mk_before B _ _ _)) (fun s => (dgZ2_eq q kx r s).trans (hz _ _))
  · exact dgC3_eq hnt (ζ (768 + r.val)) (B + (768 + r.val)) B (by omega) (by omega) mk3 _ r
      (fun s => (mk3_eq r s).trans (mk_before B _ _ _)) (fun s => (dgZ3_eq q kx r s).trans (hz _ _))

variable (vt : FVec Ideal S1x128x1024 .bf16) (d : Fin 128) (v : ℕ → EReal) (hv : ∀ s : Fin 1024, vt (ix3 0 d s) = v (B + s.val)) (r : Fin 256)
include hv

theorem dgA0_eq : dgA0 nt q kx vt (ix3 0 r d) = aE (ζ (0 + r.val)) (B + (0 + r.val)) v B := by
  refine dgPV_eq (ζ (0 + r.val)) (B + (0 + r.val)) B (by omega) (by omega) _ _ r d v (fun s => ?_) (fun s => ?_)
  · exact dgW0_eq hnt _ _ B (by omega) (by omega) mk0 _ r
      (fun s => (mk0_eq r s).trans (mk_before B _ _ _)) (fun s => (dgZ0_eq q kx r s).trans (hz _ _)) s
  · refine Eq.trans ?_ (hv ⟨s.val, by omega⟩)
    pointwise

theorem dgA1_eq : dgA1 nt q kx vt (ix3 0 r d) = aE (ζ (256 + r.val)) (B + (256 + r.val)) v B := by
  refine dgPV_eq (ζ (256 + r.val)) (B + (256 + r.val)) B (by omega) (by omega) _ _ r d v (fun s => ?_) (fun s => ?_)
  · exact dgW1_eq hnt _ _ B (by omega) (by omega) mk1 _ r
      (fun s => (mk1_eq r s).trans (mk_before B _ _ _)) (fun s => (dgZ1_eq q kx r s).trans (hz _ _)) s
  · refine Eq.trans ?_ (hv ⟨s.val, by omega⟩)
    pointwise

theorem dgA2_eq : dgA2 nt q kx vt (ix3 0 r d) = aE (ζ (512 + r.val)) (B + (512 + r.val)) v B := by
  refine dgPV_eq (ζ (512 + r.val)) (B + (512 + r.val)) B (by omega) (by omega) _ _ r d v (fun s => ?_) (fun s => ?_)
  · exact dgW2_eq hnt _ _ B (by omega) (by omega) mk2 _ r
      (fun s => (mk2_eq r s).trans (mk_before B _ _ _)) (fun s => (dgZ2_eq q kx r s).trans (hz _ _)) s
  · refine Eq.trans ?_ (hv ⟨s.val, by omega⟩)
    pointwise

theorem dgA3_eq : dgA3 nt q kx vt (ix3 0 r d) = aE (ζ (768 + r.val)) (B + (768 + r.val)) v B := by
  refine dgPV_eq (ζ (768 + r.val)) (B + (768 + r.val)) B (by omega) (by omega) _ _ r d v (fun s => ?_) (fun s => ?_)
  · exact dgW3_eq hnt _ _ B (by omega) (by omega) mk3 _ r
      (fun s => (mk3_eq r s).trans (mk_before B _ _ _)) (fun s => (dgZ3_eq q kx r s).trans (hz _ _)) s
  · refine Eq.trans ?_ (hv s)
    pointwise

end
end Cert.Stick
-- ==== Proof.Block.lean ====
/- One block of the kernel's result: every row and column as a sum over the keys before the row. -/
module

public import proofs.«01_k».proof.Proof.Loads
public import proofs.«01_k».proof.Proof.Diag

@[expose] public section

set_option maxRecDepth 16384
noncomputable section

namespace Cert.Stick

open Idealize.ShloMosaic Idealize.ShloMosaic.TcCoe Idealize.ShloMosaic.Tactic
open Idealize.ShloMosaic.Pointwise
open Idealize.SL Idealize.SL.Sem
open Cert.KernelIdeal Cert.KernelIdeal.Gen

/-- A block's score, base two, of head `h` of four at row `r` and key `j`: the product of queries and keys plus the
    head's three bias terms. -/
def scoreAt (x0 : Vec Ideal S24 .f32) (x1 : Vec Ideal S1024x256 .bf16) (x2 : Vec Ideal S1x256x4096 .bf16) (i1 : Fin 2) (h : Fin 4) (r j : ℕ) : EReal :=
  if hr : r < 1024 ∧ j < 4096 then
    (∑ d : Fin 64, (x1 (ix2 ⟨r, hr.1⟩ ⟨64 * h.val + d.val, by omega⟩) : EReal) * x2 (ix3 0 ⟨64 * h.val + d.val, by omega⟩ ⟨j, hr.2⟩)) +
      ((x0 (ix1 ⟨(i1.val * 4 + h.val) * 3 + 0, by omega⟩) : EReal) + x0 (ix1 ⟨(i1.val * 4 + h.val) * 3 + 1, by omega⟩) +
        x0 (ix1 ⟨(i1.val * 4 + h.val) * 3 + 2, by omega⟩))
  else 0

/-- A block's values, column by column. -/
def valAt (x3 : Vec Ideal S1x256x4096 .bf16) (c j : ℕ) : EReal :=
  if hc : c < 256 ∧ j < 4096 then x3 (ix3 0 ⟨c, hc.1⟩ ⟨j, hc.2⟩) else 0

section
variable (i : grid0.Coords)
  (arg3 : Memref sig .tc .smem S24 .f32) (harg3 : arg3.IsWhole)
  (arg4 : Memref sig .tc .vmem S1024x256 .bf16) (harg4 : arg4.IsWhole)
  (arg5 : Memref sig .tc .vmem S1x256x4096 .bf16) (harg5 : arg5.IsWhole)
  (x0 : Vec Ideal S24 .f32) (x1 : Vec Ideal S1024x256 .bf16) (x2 : Vec Ideal S1x256x4096 .bf16)
  (g : Fin 2) (off : Fin 3 → ℕ) (hoff : ∀ a, off a + S1x128x1024.size a ≤ S1x256x4096.size a) (b : ℕ)

theorem cells_eq (a : Fin 2) (h : Fin 4) (hh : h.val = 2 * g.val + a.val) (k : Fin 3)
    (hk : ∀ x, k0_off1 i (BitVec.ofNat 32 g.val) (BitVec.ofNat 32 a.val) (BitVec.ofNat 32 k.val) x + S1.size x ≤ S24.size x)
    (n : Fin 24) (hn : n.val = ((i 1).val * 4 + h.val) * 3 + k.val) :
    cell arg3 (harg3.unread x0) (k0_off1 i (BitVec.ofNat 32 g.val) (BitVec.ofNat 32 a.val) (BitVec.ofNat 32 k.val)) hk = x0 (ix1 n) :=
  cell_apply arg3 harg3 x0 _ hk n ((off1_eq i g a k).trans (by rw [hn, hh, Nat.add_assoc]))

theorem score_lo (h : Fin 4) (hh : h.val = 2 * g.val) (ho : off = ![0, 128 * g.val, b]) (hb : b + 1024 ≤ 4096)
    (hq : ∀ a, (![0, 128 * g.val] : Fin 2 → ℕ) a + S1024x128.size a ≤ S1024x256.size a) (r s : Fin 1024) :
    offZ (qRun i arg3 harg3 arg4 harg4 x0 x1 g 0 inHead0 ![0, 128 * g.val] hq) (kRun arg5 harg5 x2 off hoff) (ix2 r s) =
      scoreAt x0 x1 x2 (i 1) h r.val (b + s.val) := by
  unfold qRun kRun
  rw [offZ_head0]
  unfold scoreAt
  rw [dif_pos ⟨r.isLt, by omega⟩]
  refine congrArg₂ (· + ·) (Finset.sum_congr rfl fun d _ => congrArg₂ (· * ·) ?_ ?_) (congrArg₂ (· + ·) (congrArg₂ (· + ·) ?_ ?_) ?_)
  · exact qwin_apply arg4 harg4 x1 _ hq r _ _ (by simp only [Fin.val_castAdd]; omega)
  · exact win_apply arg5 harg5 x2 off hoff _ b ho _ s _ _ (by simp only [Fin.val_castAdd]; omega) rfl
  · exact cells_eq i arg3 harg3 x0 g 0 h hh 0 _ _ rfl
  · exact cells_eq i arg3 harg3 x0 g 0 h hh 1 _ _ rfl
  · exact cells_eq i arg3 harg3 x0 g 0 h hh 2 _ _ rfl

theorem score_hi (h : Fin 4) (hh : h.val = 2 * g.val + 1) (ho : off = ![0, 128 * g.val, b]) (hb : b + 1024 ≤ 4096)
    (hq : ∀ a, (![0, 128 * g.val] : Fin 2 → ℕ) a + S1024x128.size a ≤ S1024x256.size a) (r s : Fin 1024) :
    offZ (qRun i arg3 harg3 arg4 harg4 x0 x1 g 1 inHead1 ![0, 128 * g.val] hq) (kRun arg5 harg5 x2 off hoff) (ix2 r s) =
      scoreAt x0 x1 x2 (i 1) h r.val (b + s.val) := by
  unfold qRun kRun
  rw [offZ_head1]
  unfold scoreAt
  rw [dif_pos ⟨r.isLt, by omega⟩]
  refine congrArg₂ (· + ·) (Finset.sum_congr rfl fun d _ => congrArg₂ (· * ·) ?_ ?_) (congrArg₂ (· + ·) (congrArg₂ (· + ·) ?_ ?_) ?_)
  · exact qwin_apply arg4 harg4 x1 _ hq r _ _ (by simp only [Fin.val_natAdd]; omega)
  · exact win_apply arg5 harg5 x2 off hoff _ b ho _ s _ _ (by simp only [Fin.val_natAdd]; omega) rfl
  · exact cells_eq i arg3 harg3 x0 g 1 h hh 0 _ _ rfl
  · exact cells_eq i arg3 harg3 x0 g 1 h hh 1 _ _ rfl
  · exact cells_eq i arg3 harg3 x0 g 1 h hh 2 _ _ rfl

/-- The queries of each of the block's four heads. -/
def qOf : Fin 4 → FVec Ideal (M2 1024 256) .bf16 :=
  ![q0 i arg3 harg3 arg4 harg4 x0 x1, q1 i arg3 harg3 arg4 harg4 x0 x1, q2 i arg3 harg3 arg4 harg4 x0 x1, q3 i arg3 harg3 arg4 harg4 x0 x1]

theorem score_eq (h : Fin 4) (ho : off = ![0, 128 * (h.val / 2), b]) (hb : b + 1024 ≤ 4096) (r s : Fin 1024) :
    offZ (qOf i arg3 harg3 arg4 harg4 x0 x1 h) (kRun arg5 harg5 x2 off hoff) (ix2 r s) = scoreAt x0 x1 x2 (i 1) h r.val (b + s.val) := by
  match h, ho with
  | ⟨0, _⟩, ho => exact score_lo i arg3 harg3 arg4 harg4 arg5 harg5 x0 x1 x2 0 off hoff b 0 rfl (ho.trans (by simp)) hb _ r s
  | ⟨1, _⟩, ho => exact score_hi i arg3 harg3 arg4 harg4 arg5 harg5 x0 x1 x2 0 off hoff b 1 rfl (ho.trans (by simp)) hb _ r s
  | ⟨2, _⟩, ho => exact score_lo i arg3 harg3 arg4 harg4 arg5 harg5 x0 x1 x2 1 off hoff b 2 rfl (ho.trans (by simp)) hb _ r s
  | ⟨3, _⟩, ho => exact score_hi i arg3 harg3 arg4 harg4 arg5 harg5 x0 x1 x2 1 off hoff b 3 rfl (ho.trans (by simp)) hb _ r s

theorem vRun_apply (arg6 : Memref sig .tc .vmem S1x256x4096 .bf16) (harg6 : arg6.IsWhole) (x3 : Vec Ideal S1x256x4096 .bf16)
    (h : Fin 4) (ho : off = ![0, 128 * (h.val / 2), b]) (hb : b + 1024 ≤ 4096) (d : Fin 128) (s : Fin 1024) :
    vRun arg6 harg6 x3 off hoff (ix3 0 d s) = valAt x3 (128 * (h.val / 2) + d.val) (b + s.val) := by
  unfold vRun valAt
  rw [dif_pos ⟨by omega, by omega⟩]
  exact win_apply arg6 harg6 x3 off hoff _ b ho d s _ _ rfl rfl

end

section
variable (c : Dev nD) (i : grid0.Coords)
  (arg3 : Memref sig .tc .smem S24 .f32) (harg3 : arg3.IsWhole)
  (arg4 : Memref sig .tc .vmem S1024x256 .bf16) (harg4 : arg4.IsWhole)
  (arg5 : Memref sig .tc .vmem S1x256x4096 .bf16) (harg5 : arg5.IsWhole)
  (arg6 : Memref sig .tc .vmem S1x256x4096 .bf16) (harg6 : arg6.IsWhole)
  (arg7 : Memref sig .tc .vmem S256x256 .bf16) (harg7 : arg7.IsWhole)
  (arg8 : Memref sig .tc .vmem S1024x256 .bf16) (harg8 : arg8.IsWhole)
  (arg9 : Memref sig .tc .vmem S4x1024x128 .f32) (harg9 : arg9.IsWhole)
  (x0 : Vec Ideal S24 .f32) (x1 : Vec Ideal S1024x256 .bf16) (x2 : Vec Ideal S1x256x4096 .bf16) (x3 : Vec Ideal S1x256x4096 .bf16)
  (x4 : Vec Ideal S256x256 .bf16) (hx4 : Tri (show FVec Ideal (M2 256 256) .bf16 from x4))

/-- A head's weighted sum of values over the keys from `B` up to the block's row `r`. -/
def accAt (h : Fin 4) (B r : ℕ) (d : Fin 128) : EReal :=
  aE (scoreAt x0 x1 x2 (i 1) h r) (1024 * (i 2).val + r) (valAt x3 (128 * (h.val / 2) + d.val)) B

/-- A head's total over the keys from `B` up to the block's row `r`. -/
def totAt (h : Fin 4) (B r : ℕ) : EReal := gE (scoreAt x0 x1 x2 (i 1) h r) (1024 * (i 2).val + r) B

include hx4

theorem read_gRun (h : Fin 4) (r : Fin 1024) (d : Fin 128) :
    arg9.view.read (Elt Ideal) (gRun c i arg3 harg3 arg4 harg4 arg5 harg5 arg6 harg6 arg7 harg7 arg9 x0 x1 x2 x3 x4) (ix3 h r d) =
      accAt i x0 x1 x2 x3 h (1024 * (i 2).val) r.val d := by
  have hi : (i 2).val < 4 := (i 2).isLt
  have hnt : Tri (ntRun c arg7 harg7 x4) := by rw [nt_eq]; exact hx4
  have hz : ∀ (h : Fin 4) off hoff, off = ![0, 128 * (h.val / 2), 1024 * (i 2).val] → ∀ r s : Fin 1024,
      offZ (qOf i arg3 harg3 arg4 harg4 x0 x1 h) (kRun arg5 harg5 x2 off hoff) (ix2 r s) =
        scoreAt x0 x1 x2 (i 1) h r.val (1024 * (i 2).val + s.val) := fun h off hoff ho r s =>
    score_eq i arg3 harg3 arg4 harg4 arg5 harg5 x0 x1 x2 off hoff _ h ho (by omega) r s
  have hv : ∀ (h : Fin 4) off hoff, off = ![0, 128 * (h.val / 2), 1024 * (i 2).val] → ∀ (d : Fin 128) (s : Fin 1024),
      vRun arg6 harg6 x3 off hoff (ix3 0 d s) = valAt x3 (128 * (h.val / 2) + d.val) (1024 * (i 2).val + s.val) := fun h off hoff ho d s =>
    vRun_apply off hoff _ arg6 harg6 x3 h ho (by omega) d s
  have key : ∀ (h rb : Fin 4) off hoff, off = ![0, 128 * (h.val / 2), 1024 * (i 2).val] → ∀ (r : Fin 256) (d : Fin 128),
      ((![dgA0, dgA1, dgA2, dgA3] : Fin 4 → _) rb) (ntRun c arg7 harg7 x4) (qOf i arg3 harg3 arg4 harg4 x0 x1 h)
          (kRun arg5 harg5 x2 off hoff) (vRun arg6 harg6 x3 off hoff) (ix3 0 r d) =
        accAt i x0 x1 x2 x3 h (1024 * (i 2).val) (256 * rb.val + r.val) d := by
    intro h rb off hoff ho r d
    match rb with
    | ⟨0, _⟩ => exact dgA0_eq hnt _ _ (fun r => scoreAt x0 x1 x2 (i 1) h r) _ (by omega) (hz h off hoff ho) _ d _ (hv h off hoff ho d) r
    | ⟨1, _⟩ => exact dgA1_eq hnt _ _ (fun r => scoreAt x0 x1 x2 (i 1) h r) _ (by omega) (hz h off hoff ho) _ d _ (hv h off hoff ho d) r
    | ⟨2, _⟩ => exact dgA2_eq hnt _ _ (fun r => scoreAt x0 x1 x2 (i 1) h r) _ (by omega) (hz h off hoff ho) _ d _ (hv h off hoff ho d) r
    | ⟨3, _⟩ => exact dgA3_eq hnt _ _ (fun r => scoreAt x0 x1 x2 (i 1) h r) _ (by omega) (hz h off hoff ho) _ d _ (hv h off hoff ho d) r
  unfold gRun
  rw [pieces_eq]
  refine read_rows arg9 _ (fun h rb => ((![dgA0, dgA1, dgA2, dgA3] : Fin 4 → _) rb) (ntRun c arg7 harg7 x4)
    (qOf i arg3 harg3 arg4 harg4 x0 x1 h)
    ((![kRun arg5 harg5 x2 (k0_off2 i) (k0_off2_inb i), kRun arg5 harg5 x2 (k0_off2 i) (k0_off2_inb i),
        kRun arg5 harg5 x2 (k0_off3 i) (k0_off3_inb i), kRun arg5 harg5 x2 (k0_off3 i) (k0_off3_inb i)] : Fin 4 → _) h)
    ((![vRun arg6 harg6 x3 (k0_off2 i) (k0_off2_inb i), vRun arg6 harg6 x3 (k0_off2 i) (k0_off2_inb i),
        vRun arg6 harg6 x3 (k0_off3 i) (k0_off3_inb i), vRun arg6 harg6 x3 (k0_off3 i) (k0_off3_inb i)] : Fin 4 → _) h))
    (fun h r d => accAt i x0 x1 x2 x3 h (1024 * (i 2).val) r d) ?_ h r d
  intro h rb r d
  match h with
  | ⟨0, _⟩ => exact key 0 rb _ (k0_off2_inb i) (off2_eq i) r d
  | ⟨1, _⟩ => exact key 1 rb _ (k0_off2_inb i) (off2_eq i) r d
  | ⟨2, _⟩ => exact key 2 rb _ (k0_off3_inb i) (off3_eq i) r d
  | ⟨3, _⟩ => exact key 3 rb _ (k0_off3_inb i) (off3_eq i) r d

end
end Cert.Stick
-- ==== Proof.Result.lean ====
/- The loop over the chunks before the diagonal, and the block it leaves. -/
module

public import proofs.«01_k».proof.Proof.Block

@[expose] public section

set_option maxRecDepth 16384
noncomputable section

namespace Cert.Stick

open Idealize.ShloMosaic Idealize.ShloMosaic.TcCoe Idealize.ShloMosaic.Tactic
open Idealize.ShloMosaic.Pointwise
open Idealize.SL Idealize.SL.Sem
open Cert.KernelIdeal Cert.KernelIdeal.Gen

/-- The total a loop state carries for head `h`. -/
def carryOf (st : LoopSt Ideal) (h : Fin 4) : FVec Ideal S1024x1 .f32 :=
  (![st.1.1, st.1.2.1, st.1.2.2.1, st.1.2.2.2] : Fin 4 → _) h

/-- A block written as its two halves of 128 columns. -/
theorem read_pair (P Q : Vec Ideal S1024x128 .bf16) (r : Fin 1024) (d : Fin 256) :
    (VO0_5.read (Elt Ideal) (VO0_5.writes (Elt Ideal) VO0_5.junk
      [⟨Rect.unit (s := S1024x256) ![0, 128] S1024x128.size inb_S1024x256_S1024x128_0_128, Q⟩,
       ⟨Rect.unit (s := S1024x256) ![0, 0] S1024x128.size inb_S1024x256_S1024x128_0_0, P⟩]) : Vec Ideal S1024x256 .bf16) (ix2 r d) =
      if hd : d.val < 128 then P (ix2 r ⟨d.val, hd⟩) else Q (ix2 r ⟨d.val - 128, by omega⟩) := by
  by_cases hd : d.val < 128
  · rw [dif_pos hd]
    refine (View.read_writes_cons_miss_of_axis VO0_5 _ _ _ (ix2 r d) (1 : Fin 2) 128 128 rfl rfl rfl (.inl hd)).trans ?_
    refine View.read_writes_cons_hit_of_coords (s := S1024x256) VO0_5 _ (Rect.unit (s := S1024x256) ![0, 0] S1024x128.size inb_S1024x256_S1024x128_0_0) P _ (ix2 r ⟨d.val, hd⟩ : S1024x128.Idx) (ix2 r d) fun a => ?_
    match a with
    | ⟨0, _⟩ => show r.val = 0 + 1 * r.val; omega
    | ⟨1, _⟩ => show d.val = 0 + 1 * d.val; omega
  · rw [dif_neg hd]
    refine View.read_writes_cons_hit_of_coords (s := S1024x256) VO0_5 _ (Rect.unit (s := S1024x256) ![0, 128] S1024x128.size inb_S1024x256_S1024x128_0_128) Q _ (ix2 r ⟨d.val - 128, by omega⟩ : S1024x128.Idx) (ix2 r d) fun a => ?_
    match a with
    | ⟨0, _⟩ => show r.val = 0 + 1 * r.val; omega
    | ⟨1, _⟩ => show d.val = 128 + 1 * (d.val - 128); omega

section
variable (c : Dev nD) (i : grid0.Coords)
  (arg3 : Memref sig .tc .smem S24 .f32) (harg3 : arg3.IsWhole)
  (arg4 : Memref sig .tc .vmem S1024x256 .bf16) (harg4 : arg4.IsWhole)
  (arg5 : Memref sig .tc .vmem S1x256x4096 .bf16) (harg5 : arg5.IsWhole)
  (arg6 : Memref sig .tc .vmem S1x256x4096 .bf16) (harg6 : arg6.IsWhole)
  (arg7 : Memref sig .tc .vmem S256x256 .bf16) (harg7 : arg7.IsWhole)
  (arg8 : Memref sig .tc .vmem S1024x256 .bf16) (harg8 : arg8.IsWhole)
  (arg9 : Memref sig .tc .vmem S4x1024x128 .f32) (harg9 : arg9.IsWhole)
  (x0 : Vec Ideal S24 .f32) (x1 : Vec Ideal S1024x256 .bf16) (x2 : Vec Ideal S1x256x4096 .bf16) (x3 : Vec Ideal S1x256x4096 .bf16)
  (x4 : Vec Ideal S256x256 .bf16) (hx4 : Tri (show FVec Ideal (M2 256 256) .bf16 from x4))

/-- After `k` chunks the totals and the accumulators are the sums over the keys from the last chunk read on. -/
def Inv (k : ℕ) (st : LoopSt Ideal) : Prop :=
  (∀ h r, carryOf st h (ix2 r 0) = totAt i x0 x1 x2 h (1024 * ((i 2).val - k)) r.val) ∧
  ∀ h r d, arg9.view.read (Elt Ideal) (arg9.view.writes (Elt Ideal)
      (gRun c i arg3 harg3 arg4 harg4 arg5 harg5 arg6 harg6 arg7 harg7 arg9 x0 x1 x2 x3 x4) st.2) (ix3 h r d) =
    accAt i x0 x1 x2 x3 h (1024 * ((i 2).val - k)) r.val d

include hx4

theorem inv_zero : Inv c i arg3 harg3 arg4 harg4 arg5 harg5 arg6 harg6 arg7 harg7 arg9 x0 x1 x2 x3 x4 0
    (loopSt c i arg3 harg3 arg4 harg4 arg5 harg5 arg6 harg6 arg7 harg7 arg8 harg8 arg9 harg9 x0 x1 x2 x3 x4 0) := by
  have hi : (i 2).val < 4 := (i 2).isLt
  have hnt : Tri (ntRun c arg7 harg7 x4) := by rw [nt_eq]; exact hx4
  rw [loopSt_zero]
  refine ⟨fun h r => ?_, fun h r d => ?_⟩
  · have key : ∀ (h : Fin 4) off hoff, off = ![0, 128 * (h.val / 2), 1024 * (i 2).val] →
        dgCarry (ntRun c arg7 harg7 x4) (qOf i arg3 harg3 arg4 harg4 x0 x1 h) (kRun arg5 harg5 x2 off hoff) (ix2 r 0) =
          totAt i x0 x1 x2 h (1024 * ((i 2).val - 0)) r.val := fun h off hoff ho =>
      dgCarry_eq hnt _ _ (fun r => scoreAt x0 x1 x2 (i 1) h r) (1024 * (i 2).val) (by omega)
        (fun r s => score_eq i arg3 harg3 arg4 harg4 arg5 harg5 x0 x1 x2 off hoff _ h ho (by omega) r s) r
    match h with
    | ⟨0, _⟩ => exact key 0 _ (k0_off2_inb i) (off2_eq i)
    | ⟨1, _⟩ => exact key 1 _ (k0_off2_inb i) (off2_eq i)
    | ⟨2, _⟩ => exact key 2 _ (k0_off3_inb i) (off3_eq i)
    | ⟨3, _⟩ => exact key 3 _ (k0_off3_inb i) (off3_eq i)
  · exact read_gRun c i arg3 harg3 arg4 harg4 arg5 harg5 arg6 harg6 arg7 harg7 arg9 x0 x1 x2 x3 x4 hx4 h r d

theorem inv_succ (k : Fin (k0_t1_loop i).trips)
    (hI : Inv c i arg3 harg3 arg4 harg4 arg5 harg5 arg6 harg6 arg7 harg7 arg9 x0 x1 x2 x3 x4 k.val
      (loopSt c i arg3 harg3 arg4 harg4 arg5 harg5 arg6 harg6 arg7 harg7 arg8 harg8 arg9 harg9 x0 x1 x2 x3 x4 k.val)) :
    Inv c i arg3 harg3 arg4 harg4 arg5 harg5 arg6 harg6 arg7 harg7 arg9 x0 x1 x2 x3 x4 (k.val + 1)
      (loopSt c i arg3 harg3 arg4 harg4 arg5 harg5 arg6 harg6 arg7 harg7 arg8 harg8 arg9 harg9 x0 x1 x2 x3 x4 (k.val + 1)) := by
  have hi : (i 2).val < 4 := (i 2).isLt
  have hk : k.val < (i 2).val := (trips1 i) ▸ k.isLt
  have hnt : Tri (ntRun c arg7 harg7 x4) := by rw [nt_eq]; exact hx4
  have e1 : (i 2).val - (k.val + 1) = (i 2).val - 1 - k.val := by omega
  have e2 : 1024 * ((i 2).val - 1 - k.val) + 1024 = 1024 * ((i 2).val - k.val) := by omega
  generalize hst : loopSt c i arg3 harg3 arg4 harg4 arg5 harg5 arg6 harg6 arg7 harg7 arg8 harg8 arg9 harg9 x0 x1 x2 x3 x4 = st at hI ⊢
  obtain ⟨hC, hA⟩ := hI
  rw [loopSt_succ c i arg3 harg3 arg4 harg4 arg5 harg5 arg6 harg6 arg7 harg7 arg8 harg8 arg9 harg9 x0 x1 x2 x3 x4 k st hst.symm]
  have hz : ∀ (h : Fin 4) off hoff, off = ![0, 128 * (h.val / 2), 1024 * ((i 2).val - 1 - k.val)] → ∀ r s : Fin 1024,
      offZ (qOf i arg3 harg3 arg4 harg4 x0 x1 h) (kRun arg5 harg5 x2 off hoff) (ix2 r s) =
        scoreAt x0 x1 x2 (i 1) h r.val (1024 * ((i 2).val - 1 - k.val) + s.val) := fun h off hoff ho r s =>
    score_eq i arg3 harg3 arg4 harg4 arg5 harg5 x0 x1 x2 off hoff _ h ho (by omega) r s
  have hc : ∀ (h : Fin 4) (r : Fin 1024), carryOf (st k.val) h (ix2 r 0) =
      gE (scoreAt x0 x1 x2 (i 1) h r.val) (1024 * (i 2).val + r.val) (1024 * ((i 2).val - 1 - k.val) + 1024) := fun h r => by
    rw [e2]; exact hC h r
  refine ⟨fun h r => ?_, fun h r d => ?_⟩
  · rw [e1]
    have key : ∀ (h : Fin 4) off hoff, off = ![0, 128 * (h.val / 2), 1024 * ((i 2).val - 1 - k.val)] →
        offC (ntRun c arg7 harg7 x4) (offZ (qOf i arg3 harg3 arg4 harg4 x0 x1 h) (kRun arg5 harg5 x2 off hoff)) (carryOf (st k.val) h) (ix2 r 0) =
          totAt i x0 x1 x2 h (1024 * ((i 2).val - 1 - k.val)) r.val := fun h off hoff ho =>
      offC_eq hnt _ _ _ (by omega) (by omega) _ _ r (hz h off hoff ho r) (hc h r)
    match h with
    | ⟨0, _⟩ => exact key 0 _ (k0_off4_inb i k) (off4_eq i k)
    | ⟨1, _⟩ => exact key 1 _ (k0_off4_inb i k) (off4_eq i k)
    | ⟨2, _⟩ => exact key 2 _ (k0_off5_inb i k) (off5_eq i k)
    | ⟨3, _⟩ => exact key 3 _ (k0_off5_inb i k) (off5_eq i k)
  · rw [e1]
    have key : ∀ (h : Fin 4) off hoff, off = ![0, 128 * (h.val / 2), 1024 * ((i 2).val - 1 - k.val)] →
        offAcc (ntRun c arg7 harg7 x4) (offZ (qOf i arg3 harg3 arg4 harg4 x0 x1 h) (kRun arg5 harg5 x2 off hoff)) (carryOf (st k.val) h)
          (vRun arg6 harg6 x3 off hoff)
          (View.readAt (Elt Ideal) arg9.view (slot h).toLoadRect (arg9.view.writes (Elt Ideal)
            (gRun c i arg3 harg3 arg4 harg4 arg5 harg5 arg6 harg6 arg7 harg7 arg9 x0 x1 x2 x3 x4) (st k.val).2)) (ix3 0 r d) =
          accAt i x0 x1 x2 x3 h (1024 * ((i 2).val - 1 - k.val)) r.val d := fun h off hoff ho =>
      offAcc_eq hnt _ _ _ (by omega) (by omega) _ _ r (hz h off hoff ho r) (hc h r) _ _ d _
        (fun s => vRun_apply off hoff _ arg6 harg6 x3 h ho (by omega) d s)
        ((slot_apply arg9 _ h r d).trans (by rw [e2]; exact hA h r d))
    refine (read_trip arg9 _ (fun h => offAcc (ntRun c arg7 harg7 x4) (offZ (qOf i arg3 harg3 arg4 harg4 x0 x1 h)
          ((![kRun arg5 harg5 x2 (k0_off4 i k) (k0_off4_inb i k), kRun arg5 harg5 x2 (k0_off4 i k) (k0_off4_inb i k),
            kRun arg5 harg5 x2 (k0_off5 i k) (k0_off5_inb i k), kRun arg5 harg5 x2 (k0_off5 i k) (k0_off5_inb i k)] : Fin 4 → _) h)) (carryOf (st k.val) h)
          ((![vRun arg6 harg6 x3 (k0_off4 i k) (k0_off4_inb i k), vRun arg6 harg6 x3 (k0_off4 i k) (k0_off4_inb i k),
            vRun arg6 harg6 x3 (k0_off5 i k) (k0_off5_inb i k), vRun arg6 harg6 x3 (k0_off5 i k) (k0_off5_inb i k)] : Fin 4 → _) h)
          (View.readAt (Elt Ideal) arg9.view (slot h).toLoadRect (arg9.view.writes (Elt Ideal)
            (gRun c i arg3 harg3 arg4 harg4 arg5 harg5 arg6 harg6 arg7 harg7 arg9 x0 x1 x2 x3 x4) (st k.val).2))) (st k.val).2 h r d).trans ?_
    match h with
    | ⟨0, _⟩ => exact key 0 _ (k0_off4_inb i k) (off4_eq i k)
    | ⟨1, _⟩ => exact key 1 _ (k0_off4_inb i k) (off4_eq i k)
    | ⟨2, _⟩ => exact key 2 _ (k0_off5_inb i k) (off5_eq i k)
    | ⟨3, _⟩ => exact key 3 _ (k0_off5_inb i k) (off5_eq i k)

theorem inv_all (k : ℕ) (hk : k ≤ (k0_t1_loop i).trips) :
    Inv c i arg3 harg3 arg4 harg4 arg5 harg5 arg6 harg6 arg7 harg7 arg9 x0 x1 x2 x3 x4 k
      (loopSt c i arg3 harg3 arg4 harg4 arg5 harg5 arg6 harg6 arg7 harg7 arg8 harg8 arg9 harg9 x0 x1 x2 x3 x4 k) := by
  induction k with
  | zero => exact inv_zero c i arg3 harg3 arg4 harg4 arg5 harg5 arg6 harg6 arg7 harg7 arg8 harg8 arg9 harg9 x0 x1 x2 x3 x4 hx4
  | succ k ih =>
    exact inv_succ c i arg3 harg3 arg4 harg4 arg5 harg5 arg6 harg6 arg7 harg7 arg8 harg8 arg9 harg9 x0 x1 x2 x3 x4 hx4 ⟨k, hk⟩ (ih (by omega))

/-- The block's result at row `r` and column `d` is the weighted sum of that column's values over the keys before the row. -/
theorem block_apply (r : Fin 1024) (d : Fin 256) :
    (VO0_5.read (Elt Ideal) (VO0_5.writes (Elt Ideal) VO0_5.junk
      (kernelRun0_A (F := Ideal) c i arg3 harg3 arg4 harg4 arg5 harg5 arg6 harg6 arg7 harg7 arg8 harg8 arg9 harg9 x0 x1 x2 x3 x4).1) : Vec Ideal S1024x256 .bf16) (ix2 r d) =
      aE (scoreAt x0 x1 x2 (i 1) ⟨d.val / 64, by omega⟩ r.val) (1024 * (i 2).val + r.val) (valAt x3 d.val) 0 := by
  have hi : (i 2).val < 4 := (i 2).isLt
  have hI := (inv_all c i arg3 harg3 arg4 harg4 arg5 harg5 arg6 harg6 arg7 harg7 arg8 harg8 arg9 harg9 x0 x1 x2 x3 x4 hx4 _ (le_refl _)).2
  rw [trips1, Nat.sub_self, Nat.mul_zero] at hI
  generalize hg : arg9.view.writes (Elt Ideal) (gRun c i arg3 harg3 arg4 harg4 arg5 harg5 arg6 harg6 arg7 harg7 arg9 x0 x1 x2 x3 x4)
    (loopSt c i arg3 harg3 arg4 harg4 arg5 harg5 arg6 harg6 arg7 harg7 arg8 harg8 arg9 harg9 x0 x1 x2 x3 x4 (i 2).val).2 = g at hI
  rw [body_pieces c i arg3 harg3 arg4 harg4 arg5 harg5 arg6 harg6 arg7 harg7 arg8 harg8 arg9 harg9 x0 x1 x2 x3 x4 _ rfl g (by rw [trips1, hg])]
  have pair : ∀ (g0 : Fin 2) (h0 h1 : Fin 4) (_ : h0.val = 2 * g0.val) (_ : h1.val = 2 * g0.val + 1) (x : Fin 128) (_ : d.val = 128 * g0.val + x.val),
      outPair (F := Ideal) (View.readAt (Elt Ideal) arg9.view (slot h0).toLoadRect g) (View.readAt (Elt Ideal) arg9.view (slot h1).toLoadRect g) (ix2 r x) =
        aE (scoreAt x0 x1 x2 (i 1) ⟨d.val / 64, by omega⟩ r.val) (1024 * (i 2).val + r.val) (valAt x3 d.val) 0 := by
    intro g0 h0 h1 e0 e1 x hx
    have a0 := (slot_apply arg9 g h0 r x).trans (hI h0 r x)
    have a1 := (slot_apply arg9 g h1 r x).trans (hI h1 r x)
    unfold accAt at a0 a1
    have v0 : 128 * (h0.val / 2) + x.val = d.val := by omega
    have v1 : 128 * (h1.val / 2) + x.val = d.val := by omega
    rw [v0] at a0
    rw [v1] at a1
    have e : outPair (F := Ideal) (View.readAt (Elt Ideal) arg9.view (slot h0).toLoadRect g) (View.readAt (Elt Ideal) arg9.view (slot h1).toLoadRect g) (ix2 r x) =
        Scalar.select (inHead1 (ix2 r x)) (View.readAt (Elt Ideal) arg9.view (slot h1).toLoadRect g (ix3 0 r x : S1x1024x128.Idx))
          (View.readAt (Elt Ideal) arg9.view (slot h0).toLoadRect g (ix3 0 r x : S1x1024x128.Idx)) := by
      unfold outPair
      pointwise
    rw [e, inHead1_apply, a0, a1]
    by_cases hlt : x.val < 64
    · rw [if_pos hlt]
      have : h0 = ⟨d.val / 64, by omega⟩ := Fin.ext (by show h0.val = d.val / 64; omega)
      rw [← this]; rfl
    · rw [if_neg hlt]
      have : h1 = ⟨d.val / 64, by omega⟩ := Fin.ext (by show h1.val = d.val / 64; omega)
      rw [← this]; rfl
  refine (read_pair _ _ r d).trans ?_
  by_cases hd : d.val < 128
  · rw [dif_pos hd]
    exact pair 0 0 1 rfl rfl ⟨d.val, hd⟩ (by simp)
  · rw [dif_neg hd]
    exact pair 1 2 3 rfl rfl ⟨d.val - 128, by omega⟩ (by show d.val = 128 * 1 + (d.val - 128); omega)

end
end Cert.Stick
-- ==== Proof.Host.lean ====
/- The arrays the host computes before the kernel: the bias terms and the triangle of minus ones. -/
module

public import proofs.«01_k».proof.Proof.Suffix
public import proofs.«01_k».proof.Proof.Gen.KernelIdeal.Value
public import Idealize.ShloMosaic.Lib.StableHlo.Run
public import Idealize.ShloMosaic.Lib.Pointwise

@[expose] public section

set_option maxRecDepth 16384
noncomputable section

namespace Cert.Stick

open Idealize.ShloMosaic Idealize.ShloMosaic.TcCoe Idealize.ShloMosaic.Tactic
open Idealize.ShloMosaic.Pointwise
open Idealize.SL Idealize.SL.Sem
open Cert.KernelIdeal Cert.KernelIdeal.Gen

variable (m : (ℓ : Loc nD τ sig) → Buf (Elt Ideal) ℓ) (c : Dev nD)

/-- The triangle the host makes: minus one at and past the diagonal, zero before it. -/
def tri : FVec Ideal S256x256 .bf16 :=
  truncf .bf16 (select (cmpi .sge (iotaInDim S256x256 32 0) (iotaInDim S256x256 32 1))
    (broadcastInDim S256x256 ![] bcast_S_S256x256 (constant S_ .f32 0xBF800000#32))
    (broadcastInDim S256x256 ![] bcast_S_S256x256 (constant S_ .f32 0x00000000#32))) bitsLt_bf16_f32

theorem V_tri : V m c main_v21 = tri := by
  simp only [V, hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp
  rfl

/-- The bias in base two. -/
def b2 (b : FVec Ideal S8 .f32) : FVec Ideal S8 .f32 :=
  Host.divf b (broadcastInDim S8 ![] bcast_S_S8 (Host.log (constant S_ .f32 0x40000000#32)))
/-- An array's value rounded to the narrow format. -/
def hi (x : FVec Ideal S8 .f32) : FVec Ideal S8 .f32 := extf .f32 (truncf .bf16 x bitsLt_bf16_f32) bitsLt_bf16_f32
/-- What the rounding leaves. -/
def lo (x : FVec Ideal S8 .f32) : FVec Ideal S8 .f32 := subf x (hi x)

/-- The three bias terms of every head, one after the other. -/
def biasTerms (b : FVec Ideal S8 .f32) : FVec Ideal S24 .f32 :=
  shapeCast S24 (concatenate S8x3 1
    [⟨S8x1, broadcastInDim S8x1 ![0] bcast_S8_S8x1_0 (hi (b2 b))⟩,
     ⟨S8x1, broadcastInDim S8x1 ![0] bcast_S8_S8x1_0 (hi (lo (b2 b)))⟩,
     ⟨S8x1, broadcastInDim S8x1 ![0] bcast_S8_S8x1_0 (hi (lo (lo (b2 b))))⟩] concatenates_S8x1_S8x1_S8x1_S8x3_d1) shapeCasts_S8x3_S24

theorem V_bias : V m c main_v16 = biasTerms (m ((c : Thread nD τ).loc main_arg3)) := by
  simp only [V, hostOps0, hostOps0_1, hostOps0_2, List.flatten_cons, List.flatten_nil, List.append_nil, List.cons_append, List.nil_append,
    StableHlo.TRef.unary, StableHlo.TRef.ternary, StableHlo.TRef.toBuf, StableHlo.TRef.ofBuf, cast_eq]
  after_results_simp
  rfl

theorem cmpi_sge (a b : ℕ) (ha : a < 1024) (hb : b < 1024) :
    IntOp.cmpi .sge (BitVec.ofNat 32 a) (BitVec.ofNat 32 b) = if b ≤ a then 1#1 else 0#1 := by
  have h : ∀ c : ℕ, c < 1024 → (BitVec.ofNat 32 c).toInt = c := fun c hc => by
    have e : (BitVec.ofNat 32 c).toNat = c := by rw [BitVec.toNat_ofNat]; omega
    rw [BitVec.toInt_eq_toNat_of_lt (by rw [e]; omega), e]
  have e : (BitVec.ofNat 32 b).sle (BitVec.ofNat 32 a) = decide (b ≤ a) := by
    rw [BitVec.sle_eq_decide, h a ha, h b hb]
    exact decide_eq_decide.2 Int.ofNat_le
  show BitVec.ofBool _ = _
  rw [e]
  by_cases h : b ≤ a <;> simp [h]

theorem tri_apply (a b : Fin 256) : tri (ix2 a b) = if b.val ≤ a.val then (-1 : EReal) else 0 := by
  unfold tri
  pointwise
  have e : IntOp.cmpi CmpIPredicate.sge (BitVec.ofNat 32 a.val) (BitVec.ofNat 32 b.val) = if b.val ≤ a.val then 1#1 else 0#1 := by
    exact cmpi_sge a.val b.val (by omega) (by omega)
  rw [e]
  have e1 : Ideal.ofBits FTy.f32 3212836864#32 = (-1 : EReal) := by
    rw [show (-1 : EReal) = ((-(1 : ℝ) : ℝ) : EReal) by rw [EReal.coe_neg, EReal.coe_one]]
    simp [Ideal.ofBits, Ideal.ieee, -EReal.coe_mul, -EReal.coe_neg]; norm_num
  rw [e1]
  split_ifs <;> simp [Scalar.select]

theorem biasTerms_apply (b : FVec Ideal S8 .f32) (h : Fin 8) (k : Fin 3) (n : Fin 24) (hn : n.val = 3 * h.val + k.val) :
    biasTerms b (ix1 n) = (![hi (b2 b) (ix1 h), hi (lo (b2 b)) (ix1 h), hi (lo (lo (b2 b))) (ix1 h)] : Fin 3 → EReal) k := by
  unfold biasTerms
  pointwise
  have e : (⟨n.val / 3, by omega⟩ : Fin 8) = h := Fin.ext (by show n.val / 3 = h.val; omega)
  match k, hn with
  | ⟨0, _⟩, hn => exact (dif_pos (by simp only at hn; omega)).trans (congrArg (fun x => hi (b2 b) (ix1 x)) e)
  | ⟨1, _⟩, hn =>
    exact (dif_neg (by simp only at hn; omega)).trans ((dif_pos (by simp only at hn; omega)).trans (congrArg (fun x => hi (lo (b2 b)) (ix1 x)) e))
  | ⟨2, _⟩, hn =>
    exact (dif_neg (by simp only at hn; omega)).trans ((dif_neg (by simp only at hn; omega)).trans (congrArg (fun x => hi (lo (lo (b2 b))) (ix1 x)) e))

end Cert.Stick
-- ==== Proof.Global.lean ====
/- The kernel's result array as one function of the argument arrays. -/
module

public import proofs.«01_k».proof.Proof.Result
public import proofs.«01_k».proof.Proof.Host

@[expose] public section

set_option maxRecDepth 16384
noncomputable section

namespace Cert.Stick

open Idealize.ShloMosaic Idealize.ShloMosaic.TcCoe Idealize.ShloMosaic.Tactic
open Idealize.ShloMosaic.Pointwise
open Idealize.SL Idealize.SL.Sem
open Cert.KernelIdeal Cert.KernelIdeal.Gen Cert.KernelIdeal.Value

variable (m : (ℓ : Loc nD τ sig) → Buf (Elt Ideal) ℓ) (ρ : Dev nD → PrngReg) (c : Dev nD)

/-- The kernel's base-two score of key `j` for the query in row `R`, of batch `b` and head `h`. -/
def scoreK (q : FVec Ideal S16384x512 .bf16) (kt : FVec Ideal S4x512x4096 .bf16) (B : FVec Ideal S24 .f32)
    (b : Fin 4) (h : Fin 8) (R : Fin 16384) (j : ℕ) : EReal :=
  if hj : j < 4096 then
    (∑ d : Fin 64, q (ix2 R ⟨64 * h.val + d.val, by omega⟩) * kt (ix3 b ⟨64 * h.val + d.val, by omega⟩ ⟨j, hj⟩))
      + (B (ix1 ⟨3 * h.val + 0, by omega⟩) + B (ix1 ⟨3 * h.val + 1, by omega⟩) + B (ix1 ⟨3 * h.val + 2, by omega⟩))
  else 0

/-- The value of key `j` in column `C` of batch `b`. -/
def valK (vt : FVec Ideal S4x512x4096 .bf16) (b : Fin 4) (C : Fin 512) (j : ℕ) : EReal :=
  if hj : j < 4096 then vt (ix3 b C ⟨j, hj⟩) else 0

theorem valK_val (vt : FVec Ideal S4x512x4096 .bf16) (b : Fin 4) (C : Fin 512) (j : Fin 4096) : valK vt b C j.val = vt (ix3 b C j) :=
  dif_pos j.isLt

/-- The result at row `R`, column `C`. -/
def outK (q : FVec Ideal S16384x512 .bf16) (kt vt : FVec Ideal S4x512x4096 .bf16) (B : FVec Ideal S24 .f32)
    (R : Fin 16384) (C : Fin 512) : EReal :=
  aE (scoreK q kt B ⟨R.val / 4096, by omega⟩ ⟨C.val / 64, by omega⟩ R) (R.val % 4096) (valK vt ⟨R.val / 4096, by omega⟩ C) 0

/-- The result array. -/
def G (q : FVec Ideal S16384x512 .bf16) (kt vt : FVec Ideal S4x512x4096 .bf16) (B : FVec Ideal S24 .f32) :
    FVec Ideal S16384x512 .bf16 := fun i => outK q kt vt B (i 0) (i 1)

/-! ## Where the blocks lie -/

theorem idx1 : ∀ t : Fin cfg0.N, win0_1.index t (0 : Fin 2) = (grid0.coords t (0 : Fin 3)).val * 4 + (grid0.coords t (2 : Fin 3)).val
    ∧ win0_1.index t (1 : Fin 2) = (grid0.coords t (1 : Fin 3)).val := (by decide +kernel : ∀ t : Fin grid0.N, _)
theorem idx5 : ∀ t : Fin cfg0.N, win0_5.index t (0 : Fin 2) = (grid0.coords t (0 : Fin 3)).val * 4 + (grid0.coords t (2 : Fin 3)).val
    ∧ win0_5.index t (1 : Fin 2) = (grid0.coords t (1 : Fin 3)).val := (by decide +kernel : ∀ t : Fin grid0.N, _)
theorem idx2 : ∀ t : Fin cfg0.N, win0_2.index t (0 : Fin 3) = (grid0.coords t (0 : Fin 3)).val
    ∧ win0_2.index t (1 : Fin 3) = (grid0.coords t (1 : Fin 3)).val ∧ win0_2.index t (2 : Fin 3) = 0 :=
  (by decide +kernel : ∀ t : Fin grid0.N, _)
theorem idx3 : ∀ t : Fin cfg0.N, win0_3.index t (0 : Fin 3) = (grid0.coords t (0 : Fin 3)).val
    ∧ win0_3.index t (1 : Fin 3) = (grid0.coords t (1 : Fin 3)).val ∧ win0_3.index t (2 : Fin 3) = 0 :=
  (by decide +kernel : ∀ t : Fin grid0.N, _)
theorem idx0 : ∀ t : Fin cfg0.N, win0_0.index t (0 : Fin 1) = 0 := (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-- Every batch, head group and query block is the grid point's own. -/
theorem point_ex : ∀ (a : Fin 4) (b : Fin 2) (d : Fin 4), ∃ t : Fin cfg0.N,
    (grid0.coords t (0 : Fin 3)).val = a.val ∧ (grid0.coords t (1 : Fin 3)).val = b.val ∧ (grid0.coords t (2 : Fin 3)).val = d.val :=
  (by decide +kernel : ∀ (a : Fin 4) (b : Fin 2) (d : Fin 4), ∃ t : Fin grid0.N, _)

variable (t : Fin cfg0.N)

theorem c0_lt : (grid0.coords t (0 : Fin 3)).val < 4 := (grid0.coords t (0 : Fin 3)).isLt
theorem c1_lt : (grid0.coords t (1 : Fin 3)).val < 2 := (grid0.coords t (1 : Fin 3)).isLt
theorem c2_lt : (grid0.coords t (2 : Fin 3)).val < 4 := (grid0.coords t (2 : Fin 3)).isLt

/-- The array's row of the block's row `r`. -/
def rowG (r : Fin 1024) : Fin 16384 :=
  ⟨((grid0.coords t (0 : Fin 3)).val * 4 + (grid0.coords t (2 : Fin 3)).val) * 1024 + r.val, by
    have := c0_lt t; have := c2_lt t; omega⟩
/-- The array's column of the block's column `d`. -/
def colG (d : Fin 256) : Fin 512 := ⟨(grid0.coords t (1 : Fin 3)).val * 256 + d.val, by have := c1_lt t; omega⟩
/-- The batch of the point. -/
def batG : Fin 4 := ⟨(grid0.coords t (0 : Fin 3)).val, c0_lt t⟩

theorem emb0 (n : Fin 24) : ((cfg0.win 0).blk t).view.emb (ix1 n : S24.Idx) = (ix1 n : S24.Idx) := by
  have e := idx0 t
  funext a; apply Fin.ext
  match a with
  | ⟨0, _⟩ => show win0_0.index t (0 : Fin 1) * 24 + 1 * n.val = n.val; omega

theorem emb1 (r : Fin 1024) (d : Fin 256) :
    ((cfg0.win 1).blk t).view.emb (ix2 r d : S1024x256.Idx) = (ix2 (rowG t r) (colG t d) : S16384x512.Idx) := by
  obtain ⟨e0, e1⟩ := idx1 t
  funext a; apply Fin.ext
  match a with
  | ⟨0, _⟩ => show win0_1.index t (0 : Fin 2) * 1024 + 1 * r.val = ((grid0.coords t (0 : Fin 3)).val * 4 + (grid0.coords t (2 : Fin 3)).val) * 1024 + r.val; rw [e0]; omega
  | ⟨1, _⟩ => show win0_1.index t (1 : Fin 2) * 256 + 1 * d.val = (grid0.coords t (1 : Fin 3)).val * 256 + d.val; rw [e1]; omega

theorem emb5 (r : Fin 1024) (d : Fin 256) :
    ((cfg0.win 5).blk t).view.emb (ix2 r d : S1024x256.Idx) = (ix2 (rowG t r) (colG t d) : S16384x512.Idx) := by
  obtain ⟨e0, e1⟩ := idx5 t
  funext a; apply Fin.ext
  match a with
  | ⟨0, _⟩ => show win0_5.index t (0 : Fin 2) * 1024 + 1 * r.val = ((grid0.coords t (0 : Fin 3)).val * 4 + (grid0.coords t (2 : Fin 3)).val) * 1024 + r.val; rw [e0]; omega
  | ⟨1, _⟩ => show win0_5.index t (1 : Fin 2) * 256 + 1 * d.val = (grid0.coords t (1 : Fin 3)).val * 256 + d.val; rw [e1]; omega

theorem emb2 (d : Fin 256) (j : Fin 4096) :
    ((cfg0.win 2).blk t).view.emb (ix3 0 d j : S1x256x4096.Idx) = (ix3 (batG t) (colG t d) j : S4x512x4096.Idx) := by
  obtain ⟨e0, e1, e2⟩ := idx2 t
  funext a; apply Fin.ext
  match a with
  | ⟨0, _⟩ => show win0_2.index t (0 : Fin 3) * 1 + 1 * 0 = (grid0.coords t (0 : Fin 3)).val; rw [e0]; omega
  | ⟨1, _⟩ => show win0_2.index t (1 : Fin 3) * 256 + 1 * d.val = (grid0.coords t (1 : Fin 3)).val * 256 + d.val; rw [e1]; omega
  | ⟨2, _⟩ => show win0_2.index t (2 : Fin 3) * 4096 + 1 * j.val = j.val; rw [e2]; omega

theorem emb3 (d : Fin 256) (j : Fin 4096) :
    ((cfg0.win 3).blk t).view.emb (ix3 0 d j : S1x256x4096.Idx) = (ix3 (batG t) (colG t d) j : S4x512x4096.Idx) := by
  obtain ⟨e0, e1, e2⟩ := idx3 t
  funext a; apply Fin.ext
  match a with
  | ⟨0, _⟩ => show win0_3.index t (0 : Fin 3) * 1 + 1 * 0 = (grid0.coords t (0 : Fin 3)).val; rw [e0]; omega
  | ⟨1, _⟩ => show win0_3.index t (1 : Fin 3) * 256 + 1 * d.val = (grid0.coords t (1 : Fin 3)).val * 256 + d.val; rw [e1]; omega
  | ⟨2, _⟩ => show win0_3.index t (2 : Fin 3) * 4096 + 1 * j.val = j.val; rw [e2]; omega

theorem emb4 (a b : Fin 256) : ((cfg0.win 4).blk t).view.emb (ix2 a b : S256x256.Idx) = (ix2 a b : S256x256.Idx) := by
  obtain ⟨e0, e1⟩ := idx4 t
  funext k; apply Fin.ext
  match k with
  | ⟨0, _⟩ => show win0_4.index t (0 : Fin 2) * 256 + 1 * a.val = a.val; omega
  | ⟨1, _⟩ => show win0_4.index t (1 : Fin 2) * 256 + 1 * b.val = b.val; omega

/-! ## What the blocks hold -/

theorem iblk0 (n : Fin 24) : (iblk m c 0 t : Vec Ideal S24 .f32) (ix1 n) = biasTerms (m ((c : Thread nD τ).loc main_arg3)) (ix1 n) := by
  show V m c main_v16 (((cfg0.win 0).blk t).view.emb (ix1 n : S24.Idx)) = _
  rw [emb0, V_bias]

theorem iblk1 (r : Fin 1024) (d : Fin 256) :
    (iblk m c 1 t : Vec Ideal S1024x256 .bf16) (ix2 r d) = m ((c : Thread nD τ).loc main_arg0) (ix2 (rowG t r) (colG t d)) := by
  show V m c main_arg0 (((cfg0.win 1).blk t).view.emb (ix2 r d : S1024x256.Idx)) = _
  rw [emb1, V_main_arg0]

theorem iblk2 (d : Fin 256) (j : Fin 4096) :
    (iblk m c 2 t : Vec Ideal S1x256x4096 .bf16) (ix3 0 d j) = m ((c : Thread nD τ).loc main_arg1) (ix3 (batG t) (colG t d) j) := by
  show V m c main_arg1 (((cfg0.win 2).blk t).view.emb (ix3 0 d j : S1x256x4096.Idx)) = _
  rw [emb2, V_main_arg1]

theorem iblk3 (d : Fin 256) (j : Fin 4096) :
    (iblk m c 3 t : Vec Ideal S1x256x4096 .bf16) (ix3 0 d j) = m ((c : Thread nD τ).loc main_arg2) (ix3 (batG t) (colG t d) j) := by
  show V m c main_arg2 (((cfg0.win 3).blk t).view.emb (ix3 0 d j : S1x256x4096.Idx)) = _
  rw [emb3, V_main_arg2]

theorem iblk4 : Tri (show FVec Ideal (M2 256 256) .bf16 from (iblk m c 4 t : Vec Ideal S256x256 .bf16)) := by
  intro a b
  show V m c main_v21 (((cfg0.win 4).blk t).view.emb (ix2 a b : S256x256.Idx)) = _
  rw [emb4, V_tri, tri_apply]
  rfl

/-! ## The blocks of the result -/

theorem score_glob (r : Fin 1024) (d : Fin 256) :
    scoreAt (iblk m c 0 t) (iblk m c 1 t) (iblk m c 2 t) (grid0.coords t (1 : Fin 3)) ⟨d.val / 64, by omega⟩ r.val
      = scoreK (m ((c : Thread nD τ).loc main_arg0)) (m ((c : Thread nD τ).loc main_arg1)) (biasTerms (m ((c : Thread nD τ).loc main_arg3)))
          (batG t) ⟨(colG t d).val / 64, by omega⟩ (rowG t r) := by
  funext j
  have h1 := c1_lt t
  have hc : (colG t d).val / 64 = (grid0.coords t (1 : Fin 3)).val * 4 + d.val / 64 := by
    show ((grid0.coords t (1 : Fin 3)).val * 256 + d.val) / 64 = _
    omega
  unfold scoreAt scoreK
  by_cases hj : j < 4096
  · rw [dif_pos hj, dif_pos ⟨r.isLt, hj⟩]
    refine congrArg₂ (· + ·) (Finset.sum_congr rfl fun e _ => ?_) ?_
    · refine (congrArg₂ (fun x y : EReal => x * y) (iblk1 m c t _ _) (iblk2 m c t _ _)).trans ?_
      have ec : colG t ⟨64 * (d.val / 64) + e.val, by omega⟩ = (⟨64 * ((colG t d).val / 64) + e.val, by omega⟩ : Fin 512) := by
        apply Fin.ext
        show (grid0.coords t (1 : Fin 3)).val * 256 + (64 * (d.val / 64) + e.val) = 64 * ((colG t d).val / 64) + e.val
        omega
      exact congrArg (fun k : Fin 512 => @HMul.hMul EReal EReal EReal _ (m ((c : Thread nD τ).loc main_arg0) (ix2 (rowG t r) k)) (m ((c : Thread nD τ).loc main_arg1) (ix3 (batG t) k ⟨j, hj⟩))) ec
    · have ek : ∀ k : ℕ, k < 3 → ∀ (p : ((grid0.coords t (1 : Fin 3)).val * 4 + d.val / 64) * 3 + k < 24) (p' : 3 * ((colG t d).val / 64) + k < 24),
          (iblk m c 0 t : Vec Ideal S24 .f32) (ix1 ⟨((grid0.coords t (1 : Fin 3)).val * 4 + d.val / 64) * 3 + k, p⟩)
            = biasTerms (m ((c : Thread nD τ).loc main_arg3)) (ix1 ⟨3 * ((colG t d).val / 64) + k, p'⟩) := fun k hk p p' => by
        refine (iblk0 m c t _).trans (congrArg (fun n : Fin 24 => biasTerms (m ((c : Thread nD τ).loc main_arg3)) (ix1 n)) (Fin.ext ?_))
        show ((grid0.coords t (1 : Fin 3)).val * 4 + d.val / 64) * 3 + k = 3 * ((colG t d).val / 64) + k
        omega
      exact congrArg₂ (fun x y : EReal => x + y) (congrArg₂ (fun x y : EReal => x + y) (ek 0 (by omega) _ _) (ek 1 (by omega) _ _)) (ek 2 (by omega) _ _)
  · rw [dif_neg hj, dif_neg fun h => hj h.2]

theorem val_glob (d : Fin 256) : valAt (iblk m c 3 t) d.val = valK (m ((c : Thread nD τ).loc main_arg2)) (batG t) (colG t d) := by
  funext j
  unfold valAt valK
  by_cases hj : j < 4096
  · rw [dif_pos hj, dif_pos ⟨d.isLt, hj⟩]
    exact iblk3 m c t _ _
  · rw [dif_neg hj, dif_neg fun h => hj h.2]

/-- The kernel's result array. -/
def GK : FVec Ideal S16384x512 .bf16 :=
  G (m ((c : Thread nD τ).loc main_arg0)) (m ((c : Thread nD τ).loc main_arg1)) (m ((c : Thread nD τ).loc main_arg2))
    (biasTerms (m ((c : Thread nD τ).loc main_arg3)))

theorem GK_block (r : Fin 1024) (d : Fin 256) : GK m c (ix2 (rowG t r) (colG t d))
    = aE (scoreAt (iblk m c 0 t) (iblk m c 1 t) (iblk m c 2 t) (grid0.coords t (1 : Fin 3)) ⟨d.val / 64, by omega⟩ r.val)
        (1024 * (grid0.coords t (2 : Fin 3)).val + r.val) (valAt (iblk m c 3 t) d.val) 0 := by
  have h0 := c0_lt t
  have h2 := c2_lt t
  rw [score_glob, val_glob]
  show outK _ _ _ _ (rowG t r) (colG t d) = _
  unfold outK
  have eb : (⟨(rowG t r).val / 4096, by omega⟩ : Fin 4) = batG t := Fin.ext (by
    show (((grid0.coords t (0 : Fin 3)).val * 4 + (grid0.coords t (2 : Fin 3)).val) * 1024 + r.val) / 4096 = (grid0.coords t (0 : Fin 3)).val
    omega)
  have et : (rowG t r).val % 4096 = 1024 * (grid0.coords t (2 : Fin 3)).val + r.val := by
    show (((grid0.coords t (0 : Fin 3)).val * 4 + (grid0.coords t (2 : Fin 3)).val) * 1024 + r.val) % 4096 = _
    omega
  rw [eb, et]

theorem flushed5_eq : (dats m 0 c).flushed 5 t = ((cfg0.win 5).blk t).view.read (Elt Ideal) (GK m c) := by
  rw [flushed5_A]
  funext j
  obtain ⟨r, d, rfl⟩ : ∃ (r : Fin 1024) (d : Fin 256), j = (ix2 r d : S1024x256.Idx) :=
    ⟨j 0, j 1, by funext a; match a with | ⟨0, _⟩ => rfl | ⟨1, _⟩ => rfl⟩
  refine Eq.trans ?_ (congrArg (GK m c) (emb5 t r d)).symm
  refine Eq.trans ?_ (GK_block m c t r d).symm
  exact block_apply c (grid0.coords t) _ _ _ _ _ _ _ _ _ _ _ _ _ _ _ _ _ _ _ (iblk4 m c t) r d

theorem covered5 (i : S16384x512.Idx) : ∃ t : Fin cfg0.N, (cfg0.win 5).flush t = true ∧ i ∈ ((cfg0.win 5).blk t).view.set := by
  have h0 : (i 0).val < 16384 := (i 0).isLt
  have h1 : (i 1).val < 512 := (i 1).isLt
  obtain ⟨t, e0, e1, e2⟩ := point_ex ⟨(i 0).val / 4096, by omega⟩ ⟨(i 1).val / 256, by omega⟩ ⟨(i 0).val / 1024 % 4, by omega⟩
  refine ⟨t, flush0_5 t, ?_⟩
  have h := ((cfg0.win 5).blk t).view.emb_mem_set (ix2 ⟨(i 0).val % 1024, by omega⟩ ⟨(i 1).val % 256, by omega⟩ : S1024x256.Idx)
  rw [emb5] at h
  have e : (ix2 (rowG t ⟨(i 0).val % 1024, by omega⟩) (colG t ⟨(i 1).val % 256, by omega⟩) : S16384x512.Idx) = i := by
    funext a; apply Fin.ext
    match a with
    | ⟨0, _⟩ =>
      show ((grid0.coords t (0 : Fin 3)).val * 4 + (grid0.coords t (2 : Fin 3)).val) * 1024 + (i 0).val % 1024 = (i 0).val
      rw [e0, e2]
      show ((i 0).val / 4096 * 4 + (i 0).val / 1024 % 4) * 1024 + (i 0).val % 1024 = (i 0).val
      omega
    | ⟨1, _⟩ =>
      show (grid0.coords t (1 : Fin 3)).val * 256 + (i 1).val % 256 = (i 1).val
      rw [e1]
      show (i 1).val / 256 * 256 + (i 1).val % 256 = (i 1).val
      omega
  rwa [e] at h

/-- The result array after the run. -/
theorem final5 : (dats m 0 c).arrAt 5 cfg0.N = GK m c :=
  (dats m 0 c).arrAt_eq_of_cover 5 (GK m c) (fun t _ => flushed5_eq m c t) covered5

end Cert.Stick
-- ==== Proof.Row.lean ====
/- One row at the extended reals: the natural-base weights of the reference are the base-two weights of the kernel. -/
module

public import proofs.«01_k».proof.Proof.Chunk

@[expose] public section

set_option maxRecDepth 16384
noncomputable section

namespace Cert.Stick

open Idealize.ShloMosaic

/-- The natural softplus. -/
def spR (x : EReal) : EReal := max x 0 + Ideal.log1p (Ideal.exp (-(max (x - 0) (-(x - 0)))))

theorem real_softplus (x : ℝ) : max x 0 + Real.log (1 + Real.exp (-(max x (-x)))) = Real.log (1 + Real.exp x) := by
  rcases le_total 0 x with h | h
  · rw [max_eq_left h, max_eq_left (by linarith)]
    have e : 1 + Real.exp x = Real.exp x * (1 + Real.exp (-x)) := by
      rw [mul_add, mul_one, ← Real.exp_add, add_neg_cancel, Real.exp_zero, add_comm]
    rw [e, Real.log_mul (Real.exp_pos x).ne' (by positivity), Real.log_exp]
  · rw [max_eq_right h, max_eq_right (by linarith), zero_add, neg_neg]

theorem log_coe_pos (r : ℝ) (h : 0 < r) : Ideal.log (r : EReal) = (Real.log r : EReal) := by
  show (if r ≤ 0 then (⊥ : EReal) else (Real.log r : EReal)) = _
  rw [if_neg (not_le.2 h)]

theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem spR_coe (x : ℝ) : spR x = ((Real.log (1 + Real.exp x) : ℝ) : EReal) := by
  unfold spR Ideal.log1p
  rw [sub_zero, ← EReal.coe_neg, max_coe, ← EReal.coe_neg, ← EReal.coe_zero, max_coe]
  show ((max x 0 : ℝ) : EReal) + Ideal.log (1 + ((Real.exp (-(max x (-x))) : ℝ) : EReal)) = _
  rw [← EReal.coe_one, ← EReal.coe_add, log_coe_pos _ (by positivity), ← EReal.coe_add, real_softplus]

theorem spR_top : spR ⊤ = ⊤ := by
  unfold spR Ideal.log1p
  rw [sub_zero, max_eq_left le_top, max_eq_left le_top]
  show ⊤ + Ideal.log (1 + 0) = ⊤
  rw [add_zero, ← EReal.coe_one, log_coe_pos _ one_pos, Real.log_one]
  rfl

theorem spR_bot : spR ⊥ = 0 := by
  unfold spR Ideal.log1p
  rw [sub_zero, max_eq_right bot_le, max_eq_right bot_le]
  show 0 + Ideal.log (1 + 0) = 0
  rw [add_zero, ← EReal.coe_one, log_coe_pos _ one_pos, Real.log_one]
  simp

theorem spR_nonneg (x : EReal) : 0 ≤ spR x := by
  induction x with
  | bot => rw [spR_bot]
  | top => rw [spR_top]; exact le_top
  | coe x =>
    rw [spR_coe]
    exact EReal.coe_nonneg.2 (Real.log_nonneg (by have := Real.exp_pos x; linarith))

/-- The natural logarithm of two, the factor between the two bases. -/
def L2 : ℝ := Real.log 2

theorem L2_pos : 0 < L2 := Real.log_pos (by norm_num)

theorem exp2_eq (y : EReal) : Ideal.exp2 y = Ideal.exp ((L2 : EReal) * y) := by
  induction y with
  | bot => rw [EReal.coe_mul_bot_of_pos L2_pos]; rfl
  | top => rw [EReal.coe_mul_top_of_pos L2_pos]; rfl
  | coe y =>
    rw [← EReal.coe_mul]
    show ((Real.rpow 2 y : ℝ) : EReal) = ((Real.exp (L2 * y) : ℝ) : EReal)
    exact congrArg _ (Real.rpow_def_of_pos (by norm_num) y)

theorem L2_mul_inv (y : EReal) : (L2 : EReal) * (y * (((Real.log 2)⁻¹ : ℝ) : EReal)) = y := by
  rw [mul_comm y, ← mul_assoc, ← EReal.coe_mul]
  show ((L2 * L2⁻¹ : ℝ) : EReal) * y = y
  rw [mul_inv_cancel₀ L2_pos.ne', EReal.coe_one, one_mul]

theorem L2_add (x y : EReal) : (L2 : EReal) * (x + y) = L2 * x + L2 * y :=
  EReal.left_distrib_of_nonneg_of_ne_top (EReal.coe_nonneg.2 L2_pos.le) (EReal.coe_ne_top _) x y

theorem coe_sum (k : ℝ) (hk : 0 ≤ k) {ι : Type} (s : Finset ι) (f : ι → EReal) : (k : EReal) * ∑ i ∈ s, f i = ∑ i ∈ s, (k : EReal) * f i := by
  classical
  induction s using Finset.induction_on with
  | empty => simp
  | insert a s ha ih =>
    rw [Finset.sum_insert ha, Finset.sum_insert ha,
      EReal.left_distrib_of_nonneg_of_ne_top (EReal.coe_nonneg.2 hk) (EReal.coe_ne_top _), ih]

theorem L2_sum {ι : Type} (s : Finset ι) (f : ι → EReal) : (L2 : EReal) * ∑ i ∈ s, f i = ∑ i ∈ s, (L2 : EReal) * f i :=
  coe_sum L2 L2_pos.le s f

theorem L2_max (x : EReal) : (L2 : EReal) * max x 0 = max ((L2 : EReal) * x) 0 := by
  induction x with
  | bot => rw [EReal.coe_mul_bot_of_pos L2_pos, max_eq_right bot_le, mul_zero]
  | top => rw [EReal.coe_mul_top_of_pos L2_pos, max_eq_left le_top, EReal.coe_mul_top_of_pos L2_pos]
  | coe x =>
    rw [← EReal.coe_zero, max_coe, ← EReal.coe_mul, ← EReal.coe_mul, max_coe, mul_max_of_nonneg _ _ L2_pos.le, mul_zero]

theorem L2_abs (x : EReal) : (L2 : EReal) * (0 - max x (-x)) = -(max ((L2 : EReal) * x - 0) (-((L2 : EReal) * x - 0))) := by
  rw [sub_zero, zero_sub, mul_neg]
  refine congrArg _ ?_
  induction x with
  | bot => rw [EReal.coe_mul_bot_of_pos L2_pos, EReal.neg_bot, max_eq_right bot_le, EReal.coe_mul_top_of_pos L2_pos]
  | top => rw [EReal.coe_mul_top_of_pos L2_pos, max_eq_left le_top, EReal.coe_mul_top_of_pos L2_pos]
  | coe x =>
    rw [← EReal.coe_neg, max_coe, ← EReal.coe_mul, ← EReal.coe_mul, ← EReal.coe_neg, max_coe, mul_max_of_nonneg _ _ L2_pos.le, mul_neg]

/-- The base-two softplus is the natural one in the other base. -/
theorem L2_spE (z : EReal) : (L2 : EReal) * spE z = spR ((L2 : EReal) * z) := by
  unfold spE spR Ideal.log1p
  rw [L2_add, L2_mul_inv, L2_max, exp2_eq, L2_abs]

/-! ## The reference's row -/

/-- The logarithm of what a key leaves. -/
def lomR (x : ℕ → EReal) (t j : ℕ) : EReal := if j < t then -(spR (x j)) else 0
/-- The sum of those from key `s` on. -/
def rsum (x : ℕ → EReal) (t s : ℕ) : EReal := ∑ j ∈ Finset.Ico s 4096, lomR x t j
/-- The reference's weight of key `s`. -/
def rW (x : ℕ → EReal) (t s : ℕ) : EReal :=
  if s < t then Ideal.exp (-(spR (-(x s))) + (rsum x t s - lomR x t s)) else 0

theorem lomR_nonpos (x : ℕ → EReal) (t j : ℕ) : lomR x t j ≤ 0 := by
  unfold lomR
  split_ifs
  · exact EReal.neg_le_zero.2 (spR_nonneg _)
  · exact le_refl _

theorem rsum_ne_top (x : ℕ → EReal) (t s : ℕ) : rsum x t s ≠ ⊤ :=
  ne_of_lt (lt_of_le_of_lt (Finset.sum_nonpos fun j _ => lomR_nonpos x t j) EReal.zero_lt_top)

theorem spR_neg (x : ℝ) : Real.log (1 + Real.exp (-x)) = Real.log (1 + Real.exp x) - x := by
  have e : 1 + Real.exp x = Real.exp x * (1 + Real.exp (-x)) := by
    rw [mul_add, mul_one, ← Real.exp_add, add_neg_cancel, Real.exp_zero, add_comm]
  rw [e, Real.log_mul (Real.exp_pos x).ne' (by positivity), Real.log_exp]
  ring

theorem expo (x N : EReal) (hN : N ≠ ⊤) :
    -(spR (-x)) + ((-(spR x) + N) - -(spR x)) = x + (-(spR x) + N) := by
  induction N with
  | top => exact absurd rfl hN
  | bot => simp [EReal.add_bot, EReal.bot_add, sub_eq_add_neg]
  | coe n =>
    induction x with
    | bot => simp [spR_bot, spR_top]
    | top => simp [spR_bot, spR_top, sub_eq_add_neg]
    | coe x =>
      rw [← EReal.coe_neg, spR_coe, spR_coe, spR_neg]
      norm_cast
      ring

/-- The exponent of a weight, simplified. -/
theorem rW_eq (x : ℕ → EReal) (t s : ℕ) (hs : s < 4096) : rW x t s = if s < t then Ideal.exp (x s + rsum x t s) else 0 := by
  unfold rW
  split_ifs with h
  · have e : rsum x t s = lomR x t s + rsum x t (s + 1) := by
      unfold rsum
      exact Finset.sum_eq_sum_Ico_succ_bot hs _
    have e2 : lomR x t s = -(spR (x s)) := if_pos h
    rw [e, e2, expo _ _ (rsum_ne_top x t (s + 1))]
  · rfl

/-- Where the reference's scores are the kernel's in the other base, the weights agree. -/
theorem rW_fin (ζ x : ℕ → EReal) (t s : ℕ) (hs : s < 4096) (ht : t ≤ 4096) (hx : ∀ j, j < 4096 → x j = (L2 : EReal) * ζ j) :
    rW x t s = omE ζ t s := by
  rw [rW_eq x t s hs]
  unfold omE
  split_ifs with h
  · rw [exp2_eq, L2_add, hx s hs]
    refine congrArg (fun y => Ideal.exp ((L2 : EReal) * ζ s + y)) ?_
    unfold rsum gE
    rw [L2_sum]
    refine Finset.sum_congr rfl fun j hj => ?_
    unfold lomR nuE
    split_ifs with hj'
    · rw [hx j (by omega), ← L2_spE, mul_neg, mul_one, mul_neg]
    · rw [mul_zero]
  · rfl

/-- Where the reference's scores are all infinite, its weights are zero. -/
theorem rW_inf (x : ℕ → EReal) (t s : ℕ) (hs : s < 4096) (hx : x s = ⊤ ∨ x s = ⊥) : rW x t s = 0 := by
  rw [rW_eq x t s hs]
  split_ifs with h
  · have e : rsum x t s = lomR x t s + rsum x t (s + 1) := by
      unfold rsum
      exact Finset.sum_eq_sum_Ico_succ_bot hs _
    have e2 : lomR x t s = -(spR (x s)) := if_pos h
    rcases hx with hx | hx
    · rw [e, e2, hx, spR_top, EReal.neg_top, EReal.bot_add, EReal.add_bot]; rfl
    · rw [hx, EReal.bot_add]; rfl
  · rfl

/-- Where the kernel's score is minus infinity, its weight is zero. -/
theorem omE_bot (ζ : ℕ → EReal) (t s : ℕ) (hζ : ζ s = ⊥) : omE ζ t s = 0 := by
  unfold omE
  split_ifs
  · rw [hζ, EReal.bot_add]; rfl
  · rfl

end Cert.Stick
-- ==== Proof.Ref.lean ====
/- The reference's result, read at an index. -/
module

public import proofs.«01_k».proof.Proof.Row
public import proofs.«01_k».proof.Proof.Gen.ReferenceIdeal.Run
public import Idealize.ShloMosaic.Lib.Pointwise

@[expose] public section

set_option maxRecDepth 16384
noncomputable section

namespace Cert.Stick.Ref

open Idealize.ShloMosaic Idealize.ShloMosaic.TcCoe Idealize.ShloMosaic.Tactic
open Idealize.ShloMosaic.Pointwise
open Idealize.SL Idealize.SL.Sem
open Cert.ReferenceIdeal Cert.ReferenceIdeal.Gen Cert.ReferenceIdeal.Value

/-- Zeros, one for every query and key. -/
def zeros : FVec Ideal S4x8x4096x4096 .f32 := broadcastInDim S4x8x4096x4096 ![] bcast_S_S4x8x4096x4096 (constant S_ .f32 0x00000000#32)

/-- The scores. -/
def zA (q : FVec Ideal S16384x512 .bf16) (kt : FVec Ideal S4x512x4096 .bf16) (bias : FVec Ideal S8 .f32) : FVec Ideal S4x8x4096x4096 .f32 :=
  addf (mulf (Host.dotGeneral dot_S4x4096x8x64_S4x8x64x4096_S4x8x4096x4096_3_2_1_3_02_01 none
      (mulf (shapeCast S4x4096x8x64 (extf .f32 q bitsLt_bf16_f32) shapeCasts_S16384x512_S4x4096x8x64)
        (broadcastInDim S4x4096x8x64 ![] bcast_S_S4x4096x8x64 (Host.divf (Host.log (constant S_ .f32 0x40000000#32)) (constant S_ .f32 0x3E000000#32))))
      (shapeCast S4x8x64x4096 (extf .f32 kt bitsLt_bf16_f32) shapeCasts_S4x512x4096_S4x8x64x4096))
    (broadcastInDim S4x8x4096x4096 ![] bcast_S_S4x8x4096x4096 (constant S_ .f32 0x3E000000#32)))
    (broadcastInDim S4x8x4096x4096 ![0, 1, 2, 3] bcast_S1x8x1x1_S4x8x4096x4096_0_1_2_3 (broadcastInDim S1x8x1x1 ![1] bcast_S8_S1x8x1x1_1 bias))

/-- Which keys come before their query. -/
def maskA : IVec S4x8x4096x4096 1 :=
  broadcastInDim S4x8x4096x4096 ![2, 3] bcast_S4096x4096_S4x8x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The softplus. -/
def softA (x : FVec Ideal S4x8x4096x4096 .f32) : FVec Ideal S4x8x4096x4096 .f32 :=
  select (cmpf .une (subf x zeros) (subf x zeros)) (addf x zeros)
    (addf (maximumf x zeros) (Host.log1p (Host.exp (Host.negf (Host.absf (subf x zeros))))))

/-- The logarithm of what a key leaves. -/
def lomA (x : FVec Ideal S4x8x4096x4096 .f32) : FVec Ideal S4x8x4096x4096 .f32 := select maskA (Host.negf (softA x)) zeros

/-- The sums over the keys from each key on. -/
def sufA (y : FVec Ideal S4x8x4096x4096 .f32) : FVec Ideal S4x8x4096x4096 .f32 :=
  Host.reduceWindowAdd ![1, 1, 1, 4096] ![1, 1, 1, 1] ![0, 0, 0, 0] ![0, 0, 0, 4095] y
    (broadcastInDim S_ ![] bcast_S_S_ (constant S_ .f32 0x00000000#32))
    reduceWindows_S4x8x4096x4096_S4x8x4096x4096_w1s1p0_0_w1s1p0_0_w1s1p0_0_w4096s1p0_4095 h_S_

/-- The weights. -/
def wA (x : FVec Ideal S4x8x4096x4096 .f32) : FVec Ideal S4x8x4096x4096 .f32 :=
  select maskA (Host.exp (addf (Host.negf (softA (Host.negf x))) (subf (sufA (lomA x)) (lomA x)))) zeros

/-- The result. -/
def outA (vt : FVec Ideal S4x512x4096 .bf16) (w : FVec Ideal S4x8x4096x4096 .f32) : FVec Ideal S16384x512 .bf16 :=
  truncf .bf16 (shapeCast S16384x512 (transpose S4x4096x8x64 [0, 3, 1, 2]
    (Host.dotGeneral dot_S4x8x64x4096_S4x8x4096x4096_S4x8x64x4096_3_3_2_2_01_01 none
      (shapeCast S4x8x64x4096 (extf .f32 vt bitsLt_bf16_f32) shapeCasts_S4x512x4096_S4x8x64x4096) w)
    transposes_S4x8x64x4096_S4x4096x8x64_0_3_1_2) shapeCasts_S4x4096x8x64_S16384x512) bitsLt_bf16_f32

theorem res_eq (m : (ℓ : Loc nD τ sig) → Buf (Elt Ideal) ℓ) (c : Dev nD) : res_main_v34 m c =
    outA (m ((c.tc : Thread nD τ).loc main_arg2))
      (wA (zA (m ((c.tc : Thread nD τ).loc main_arg0)) (m ((c.tc : Thread nD τ).loc main_arg1)) (m ((c.tc : Thread nD τ).loc main_arg3)))) := by
  unfold res_main_v34
  rfl

/-! ## Its parts at an index -/

theorem zeros_apply (b : Fin 4) (h : Fin 8) (t s : Fin 4096) : zeros (ix4 b h t s) = (0 : EReal) := by
  unfold zeros
  pointwise

theorem cmpi_slt (a b : ℕ) (ha : a < 4096) (hb : b < 4096) :
    IntOp.cmpi .slt (BitVec.ofNat 32 a) (BitVec.ofNat 32 b) = if a < b then 1#1 else 0#1 := by
  have h : ∀ c : ℕ, c < 4096 → (BitVec.ofNat 32 c).toInt = c := fun c hc => by
    have e : (BitVec.ofNat 32 c).toNat = c := by rw [BitVec.toNat_ofNat]; omega
    rw [BitVec.toInt_eq_toNat_of_lt (by rw [e]; omega), e]
  have e : (BitVec.ofNat 32 a).slt (BitVec.ofNat 32 b) = decide (a < b) := by
    rw [BitVec.slt_eq_decide, h a ha, h b hb]
    exact decide_eq_decide.2 Int.ofNat_lt
  show BitVec.ofBool _ = _
  rw [e]
  by_cases h : a < b <;> simp [h]

theorem maskA_apply (b : Fin 4) (h : Fin 8) (t s : Fin 4096) : maskA (ix4 b h t s) = if s.val < t.val then 1#1 else 0#1 := by
  unfold maskA
  pointwise
  exact cmpi_slt _ _ s.isLt t.isLt

theorem mask_select (b : Fin 4) (h : Fin 8) (t s : Fin 4096) (x y : FVec Ideal S4x8x4096x4096 .f32) :
    select maskA x y (ix4 b h t s) = if s.val < t.val then x (ix4 b h t s) else y (ix4 b h t s) := by
  show Scalar.select (maskA (ix4 b h t s)) _ _ = _
  rw [maskA_apply]
  by_cases hst : s.val < t.val <;> simp [hst, Scalar.select]

theorem softA_apply (x : FVec Ideal S4x8x4096x4096 .f32) (b : Fin 4) (h : Fin 8) (t s : Fin 4096) :
    softA x (ix4 b h t s) = spR (x (ix4 b h t s)) := by
  unfold softA
  pointwise
  rw [zeros_apply, if_neg (fun h => h rfl)]
  rfl

/-- The row of scores of one batch, head and query. -/
def rowOf (x : FVec Ideal S4x8x4096x4096 .f32) (b : Fin 4) (h : Fin 8) (t : Fin 4096) (j : ℕ) : EReal :=
  if hj : j < 4096 then x (ix4 b h t ⟨j, hj⟩) else 0

theorem rowOf_val (x : FVec Ideal S4x8x4096x4096 .f32) (b : Fin 4) (h : Fin 8) (t s : Fin 4096) : rowOf x b h t s.val = x (ix4 b h t s) :=
  dif_pos s.isLt

theorem lomA_apply (x : FVec Ideal S4x8x4096x4096 .f32) (b : Fin 4) (h : Fin 8) (t s : Fin 4096) :
    lomA x (ix4 b h t s) = lomR (rowOf x b h t) t.val s.val := by
  unfold lomA lomR
  rw [mask_select, zeros_apply, rowOf_val]
  show (if s.val < t.val then -(softA x (ix4 b h t s)) else 0) = _
  rw [softA_apply]

/-! ## The sums over the keys from each key on -/

theorem foldl_sum {ι : Type} (l : List ι) (g : ι → EReal) (a : EReal) : l.foldl (fun r n => r + g n) a = a + (l.map g).sum := by
  induction l generalizing a with
  | nil => simp
  | cons x l ih => rw [List.foldl_cons, ih, List.map_cons, List.sum_cons, add_assoc]

/-- The window's places are the keys'. -/
def winEquiv : (⟨4, ![1, 1, 1, 4096]⟩ : Shape).Idx ≃ Fin 4096 where
  toFun w := w 3
  invFun n := ix4 0 0 0 n
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv n := rfl

theorem sum_window (f : ℕ → EReal) (s : ℕ) (hf : ∀ j, 4096 ≤ j → f j = 0) :
    ∑ n : Fin 4096, f (s + n.val) = ∑ j ∈ Finset.Ico s 4096, f j := by
  rw [Fin.sum_univ_eq_sum_range (fun n => f (s + n)) 4096]
  have e : ∑ n ∈ Finset.range 4096, f (s + n) = ∑ j ∈ Finset.Ico s (s + 4096), f j := by
    rw [Finset.sum_Ico_eq_sum_range, Nat.add_sub_cancel_left]
  rw [e]
  refine (Finset.sum_subset (fun j hj => ?_) fun j hj hj' => hf j ?_).symm
  · rw [Finset.mem_Ico] at hj ⊢; omega
  · rw [Finset.mem_Ico] at hj hj'; omega

/-- A float window sum, as the fold it is. -/
theorem window_add {s t u : Shape} (window strides lo hi : Fin s.rank → ℕ) (x : FVec Ideal s .f32) (init : u.Idx → EReal)
    (h : s.ReduceWindows window strides lo hi t) (hu : 0 < u.numel) (j : t.Idx) :
    (Host.reduceWindowAdd (F := Ideal) (φ := .f32) window strides lo hi x init h hu j : EReal) =
      (List.finRange (⟨s.rank, window⟩ : Shape).numel).foldl (fun r n => r +
        (if hin : ∀ a, lo a ≤ (j (a.cast h.1.symm)).val * strides a + ((⟨s.rank, window⟩ : Shape).rowMajor.symm n a).val
            ∧ (j (a.cast h.1.symm)).val * strides a + ((⟨s.rank, window⟩ : Shape).rowMajor.symm n a).val - lo a < s.size a
          then x (fun a => ⟨(j (a.cast h.1.symm)).val * strides a + ((⟨s.rank, window⟩ : Shape).rowMajor.symm n a).val - lo a, (hin a).2⟩)
          else init (Shape.Idx.first hu))) (init (Shape.Idx.first hu)) := by
  unfold Host.reduceWindowAdd
  show Ideal.hostReduceWindowAdd window strides lo hi h x (init (Shape.Idx.first hu)) j = _
  unfold Ideal.hostReduceWindowAdd Host.reduceWindow
  dsimp only
  refine List.foldl_ext _ _ _ fun r n _ => congrArg (r + ·) ?_
  split_ifs <;> rfl

theorem sufA_apply (y : FVec Ideal S4x8x4096x4096 .f32) (f : ℕ → EReal) (b : Fin 4) (h : Fin 8) (t s : Fin 4096)
    (hy : ∀ j : Fin 4096, y (ix4 b h t j) = f j.val) :
    sufA y (ix4 b h t s) = ∑ j ∈ Finset.Ico s.val 4096, f j := by
  have hv : (broadcastInDim S_ ![] bcast_S_S_ (constant (F := Ideal) S_ .f32 0x00000000#32) (Shape.Idx.first h_S_) : EReal) = 0 := by
    pointwise
  unfold sufA
  rw [window_add, hv]
  refine (foldl_sum _ _ _).trans ?_
  rw [zero_add, ← Fin.sum_univ_def]
  have key : ∀ w : (⟨4, ![1, 1, 1, 4096]⟩ : Shape).Idx,
      (if hin : ∀ a : Fin 4, (![0, 0, 0, 0] : Fin 4 → ℕ) a ≤ (ix4 b h t s a).val * (![1, 1, 1, 1] : Fin 4 → ℕ) a + (w a).val
          ∧ (ix4 b h t s a).val * (![1, 1, 1, 1] : Fin 4 → ℕ) a + (w a).val - (![0, 0, 0, 0] : Fin 4 → ℕ) a < S4x8x4096x4096.size a
        then y (fun a => ⟨(ix4 b h t s a).val * (![1, 1, 1, 1] : Fin 4 → ℕ) a + (w a).val - (![0, 0, 0, 0] : Fin 4 → ℕ) a, (hin a).2⟩) else (0 : EReal))
      = if s.val + (winEquiv w).val < 4096 then f (s.val + (winEquiv w).val) else 0 := by
    intro w
    have w0 : (w 0).val = 0 := by have := (w 0).isLt; exact Nat.lt_one_iff.1 this
    have w1 : (w 1).val = 0 := by have := (w 1).isLt; exact Nat.lt_one_iff.1 this
    have w2 : (w 2).val = 0 := by have := (w 2).isLt; exact Nat.lt_one_iff.1 this
    have w3 : (winEquiv w).val = (w 3).val := rfl
    by_cases hs : s.val + (winEquiv w).val < 4096
    · have hb := b.isLt
      have hh := h.isLt
      have ht := t.isLt
      rw [if_pos hs]
      rw [dif_pos (fun a => by
        match a with
        | ⟨0, _⟩ => show 0 ≤ b.val * 1 + (w 0).val ∧ b.val * 1 + (w 0).val - 0 < 4; omega
        | ⟨1, _⟩ => show 0 ≤ h.val * 1 + (w 1).val ∧ h.val * 1 + (w 1).val - 0 < 8; omega
        | ⟨2, _⟩ => show 0 ≤ t.val * 1 + (w 2).val ∧ t.val * 1 + (w 2).val - 0 < 4096; omega
        | ⟨3, _⟩ => show 0 ≤ s.val * 1 + (w 3).val ∧ s.val * 1 + (w 3).val - 0 < 4096; omega)]
      refine (congrArg y (funext fun a => Fin.ext ?_)).trans (hy ⟨s.val + (winEquiv w).val, hs⟩)
      match a with
      | ⟨0, _⟩ => show b.val * 1 + (w 0).val - 0 = b.val; omega
      | ⟨1, _⟩ => show h.val * 1 + (w 1).val - 0 = h.val; omega
      | ⟨2, _⟩ => show t.val * 1 + (w 2).val - 0 = t.val; omega
      | ⟨3, _⟩ => show s.val * 1 + (w 3).val - 0 = s.val + (winEquiv w).val; omega
    · rw [if_neg hs]
      refine dif_neg fun hin => hs ?_
      have h3 := (hin 3).2
      change s.val * 1 + (w 3).val - 0 < 4096 at h3
      omega
  refine (Finset.sum_congr rfl fun n _ => key _).trans ?_
  refine (Equiv.sum_comp ((⟨4, ![1, 1, 1, 4096]⟩ : Shape).rowMajor.symm)
    (fun w => if s.val + (winEquiv w).val < 4096 then f (s.val + (winEquiv w).val) else 0)).trans ?_
  refine (Equiv.sum_comp winEquiv (fun n : Fin 4096 => if s.val + n.val < 4096 then f (s.val + n.val) else 0)).trans ?_
  refine (sum_window (fun j => if j < 4096 then f j else 0) s.val fun j hj => if_neg (by omega)).trans ?_
  exact Finset.sum_congr rfl fun j hj => if_pos (Finset.mem_Ico.1 hj).2

theorem wA_apply (x : FVec Ideal S4x8x4096x4096 .f32) (b : Fin 4) (h : Fin 8) (t s : Fin 4096) :
    wA x (ix4 b h t s) = rW (rowOf x b h t) t.val s.val := by
  unfold wA rW
  rw [mask_select, zeros_apply]
  show (if s.val < t.val then Ideal.exp (-(softA (Host.negf x) (ix4 b h t s)) + (sufA (lomA x) (ix4 b h t s) - lomA x (ix4 b h t s))) else 0) = _
  rw [softA_apply, lomA_apply, sufA_apply (lomA x) (lomR (rowOf x b h t) t.val) b h t s (fun j => lomA_apply x b h t j), rowOf_val]
  rfl

/-! ## The scores and the result -/

theorem two_bits : Ideal.ofBits FTy.f32 1073741824#32 = ((2 : ℝ) : EReal) := by
  simp [Ideal.ofBits, Ideal.ieee, -EReal.coe_mul, -EReal.coe_neg]; norm_num

theorem eighth_bits : Ideal.ofBits FTy.f32 1040187392#32 = ((1 / 8 : ℝ) : EReal) := by
  simp [Ideal.ofBits, Ideal.ieee, -EReal.coe_mul, -EReal.coe_neg]; norm_num

theorem unscale : Ideal.div (Ideal.log ((2 : ℝ) : EReal)) ((1 / 8 : ℝ) : EReal) = ((L2 * 8 : ℝ) : EReal) := by
  rw [log_coe_pos _ (by norm_num)]
  unfold Ideal.div
  rw [if_neg (by rw [← EReal.coe_zero]; intro h; have := EReal.coe_injective h; norm_num at this)]
  rw [← EReal.coe_inv, ← EReal.coe_mul]
  norm_num [L2]

theorem zA_apply (q : FVec Ideal S16384x512 .bf16) (kt : FVec Ideal S4x512x4096 .bf16) (bias : FVec Ideal S8 .f32)
    (b : Fin 4) (h : Fin 8) (t s : Fin 4096) : zA q kt bias (ix4 b h t s) =
      (L2 : EReal) * (∑ d : Fin 64, q (ix2 ⟨b.val * 4096 + t.val, by omega⟩ ⟨h.val * 64 + d.val, by omega⟩) * kt (ix3 b ⟨h.val * 64 + d.val, by omega⟩ s) : EReal)
        + bias (ix1 h) := by
  unfold zA
  pointwise
  rw [two_bits, eighth_bits, unscale]
  refine congrArg (· + _) ?_
  have e : ∀ x y : EReal, x * ((L2 * 8 : ℝ) : EReal) * y = ((L2 * 8 : ℝ) : EReal) * (x * y) := fun x y => by
    rw [mul_comm x, mul_assoc]
  simp only [e]
  rw [← coe_sum _ (by have := L2_pos; positivity), mul_comm, ← mul_assoc, ← EReal.coe_mul]
  refine congrArg (fun k : ℝ => (k : EReal) * _) ?_
  ring

theorem outA_apply (vt : FVec Ideal S4x512x4096 .bf16) (w : FVec Ideal S4x8x4096x4096 .f32)
    (R : Fin 16384) (C : Fin 512) : outA vt w (ix2 R C) =
      (∑ j : Fin 4096, vt (ix3 ⟨R.val / 4096, by omega⟩ C j) * w (ix4 ⟨R.val / 4096, by omega⟩ ⟨C.val / 64, by omega⟩ ⟨R.val % 4096, by omega⟩ j) : EReal) := by
  unfold outA
  pointwise

end Cert.Stick.Ref
-- ==== Proof.Equal.lean ====
/- The reference's result is the kernel's, element by element. -/
module

public import proofs.«01_k».proof.Proof.Global
public import proofs.«01_k».proof.Proof.Ref

@[expose] public section

set_option maxRecDepth 16384
noncomputable section

namespace Cert.Stick

open Idealize.ShloMosaic Idealize.ShloMosaic.TcCoe Idealize.ShloMosaic.Tactic
open Idealize.ShloMosaic.Pointwise
open Idealize.SL Idealize.SL.Sem
open Cert.KernelIdeal Cert.KernelIdeal.Gen

/-! ## The three bias terms together -/

theorem b2_apply (b : FVec Ideal S8 .f32) (h : Fin 8) : b2 b (ix1 h) = (b (ix1 h) * ((L2⁻¹ : ℝ) : EReal) : EReal) := by
  unfold b2
  pointwise
  rw [Ref.two_bits, log_coe_pos _ (by norm_num)]
  unfold Ideal.div
  rw [if_neg (by rw [← EReal.coe_zero]; intro h; exact L2_pos.ne' (EReal.coe_injective h)), ← EReal.coe_inv]
  rfl

theorem hi_apply (x : FVec Ideal S8 .f32) (i : S8.Idx) : hi x i = x i := rfl
theorem lo_apply (x : FVec Ideal S8 .f32) (i : S8.Idx) : lo x i = (x i - x i : EReal) := rfl

/-- The sum of a head's three terms. -/
def termSum (b : FVec Ideal S8 .f32) (h : Fin 8) : EReal :=
  biasTerms b (ix1 ⟨3 * h.val + 0, by omega⟩) + biasTerms b (ix1 ⟨3 * h.val + 1, by omega⟩) + biasTerms b (ix1 ⟨3 * h.val + 2, by omega⟩)

theorem termSum_eq (b : FVec Ideal S8 .f32) (h : Fin 8) (β : EReal) (hβ : β = b (ix1 h) * ((L2⁻¹ : ℝ) : EReal)) :
    termSum b h = β + (β - β) + ((β - β) - (β - β)) := by
  unfold termSum
  rw [biasTerms_apply b h 0 _ rfl, biasTerms_apply b h 1 _ rfl, biasTerms_apply b h 2 _ rfl]
  show (hi (b2 b) (ix1 h) + hi (lo (b2 b)) (ix1 h) + hi (lo (lo (b2 b))) (ix1 h) : EReal) = _
  simp only [hi_apply, lo_apply]
  rw [b2_apply, ← hβ]

theorem termSum_coe (b : FVec Ideal S8 .f32) (h : Fin 8) (r : ℝ) (hr : b (ix1 h) = (r : EReal)) :
    (L2 : EReal) * termSum b h = r := by
  rw [termSum_eq b h ((r * L2⁻¹ : ℝ) : EReal) (by rw [hr, ← EReal.coe_mul])]
  norm_cast
  have := L2_pos.ne'
  field_simp
  ring

theorem termSum_inf (b : FVec Ideal S8 .f32) (h : Fin 8) (hr : b (ix1 h) = (⊤ : EReal) ∨ b (ix1 h) = (⊥ : EReal)) :
    termSum b h = ⊥ := by
  have hL : (0 : ℝ) < L2⁻¹ := inv_pos.2 L2_pos
  rcases hr with hr | hr
  · rw [termSum_eq b h ⊤ (by rw [hr, EReal.top_mul_coe_of_pos hL])]
    simp [sub_eq_add_neg]
  · rw [termSum_eq b h ⊥ (by rw [hr, EReal.bot_mul_coe_of_pos hL])]
    simp [sub_eq_add_neg]

/-! ## The weights -/

section
variable (q : FVec Ideal S16384x512 .bf16) (kt vt : FVec Ideal S4x512x4096 .bf16) (b : FVec Ideal S8 .f32)

theorem weight_eq (R : Fin 16384) (h : Fin 8) (s : Fin 4096) :
    rW (Ref.rowOf (Ref.zA q kt b) ⟨R.val / 4096, by omega⟩ h ⟨R.val % 4096, by omega⟩) (R.val % 4096) s.val
      = omE (scoreK q kt (biasTerms b) ⟨R.val / 4096, by omega⟩ h R) (R.val % 4096) s.val := by
  set S : Fin 4096 → EReal := fun j => ∑ d : Fin 64, q (ix2 R ⟨64 * h.val + d.val, by omega⟩) * kt (ix3 ⟨R.val / 4096, by omega⟩ ⟨64 * h.val + d.val, by omega⟩ j) with hS
  have hx : ∀ (j : ℕ) (hj : j < 4096), Ref.rowOf (Ref.zA q kt b) ⟨R.val / 4096, by omega⟩ h ⟨R.val % 4096, by omega⟩ j
      = (L2 : EReal) * S ⟨j, hj⟩ + b (ix1 h) := fun j hj => by
    refine (Ref.rowOf_val _ _ _ _ ⟨j, hj⟩).trans ((Ref.zA_apply q kt b _ _ _ _).trans ?_)
    refine congrArg (fun y : EReal => (L2 : EReal) * y + b (ix1 h)) (Finset.sum_congr rfl fun d _ => ?_)
    have e1 : (⟨R.val / 4096 * 4096 + R.val % 4096, by omega⟩ : Fin 16384) = R := Fin.ext (by show R.val / 4096 * 4096 + R.val % 4096 = R.val; omega)
    have e2 : (⟨h.val * 64 + d.val, by omega⟩ : Fin 512) = ⟨64 * h.val + d.val, by omega⟩ := Fin.ext (by show h.val * 64 + d.val = 64 * h.val + d.val; omega)
    exact congrArg₂ (fun (x : Fin 16384) (y : Fin 512) => @HMul.hMul EReal EReal EReal _ (q (ix2 x y)) (kt (ix3 ⟨R.val / 4096, by omega⟩ y ⟨j, hj⟩))) e1 e2
  have hζ : ∀ (j : ℕ) (hj : j < 4096), scoreK q kt (biasTerms b) ⟨R.val / 4096, by omega⟩ h R j = S ⟨j, hj⟩ + termSum b h := fun j hj => dif_pos hj
  have inf : (b (ix1 h) = (⊤ : EReal) ∨ b (ix1 h) = (⊥ : EReal)) →
      rW (Ref.rowOf (Ref.zA q kt b) ⟨R.val / 4096, by omega⟩ h ⟨R.val % 4096, by omega⟩) (R.val % 4096) s.val
        = omE (scoreK q kt (biasTerms b) ⟨R.val / 4096, by omega⟩ h R) (R.val % 4096) s.val := fun hb => by
    rw [omE_bot _ _ _ ((hζ s.val s.isLt).trans (by rw [termSum_inf b h hb, EReal.add_bot]))]
    refine rW_inf _ _ _ s.isLt ?_
    rw [hx s.val s.isLt]
    rcases hb with hb | hb
    · by_cases hz : (L2 : EReal) * S ⟨s.val, s.isLt⟩ = ⊥
      · right; rw [hz, EReal.bot_add]
      · left; rw [hb, EReal.add_top_of_ne_bot hz]
    · right; rw [hb, EReal.add_bot]
  rcases hb : (b (ix1 h) : EReal) with _ | _ | r
  · exact inf (Or.inr hb)
  · exact inf (Or.inl hb)
  · refine rW_fin _ _ _ _ s.isLt (by omega) fun j hj => ?_
    rw [hx j hj, hζ j hj, L2_add, termSum_coe b h r hb, hb]
    rfl

/-- The reference's result array is the kernel's. -/
theorem out_eq : Ref.outA vt (Ref.wA (Ref.zA q kt b)) = G q kt vt (biasTerms b) := by
  funext i
  obtain ⟨R, C, rfl⟩ : ∃ (R : Fin 16384) (C : Fin 512), i = (ix2 R C : S16384x512.Idx) :=
    ⟨i 0, i 1, by funext a; match a with | ⟨0, _⟩ => rfl | ⟨1, _⟩ => rfl⟩
  refine (Ref.outA_apply vt _ R C).trans ?_
  show _ = outK q kt vt (biasTerms b) R C
  unfold outK aE
  rw [Nat.Ico_zero_eq_range, ← Fin.sum_univ_eq_sum_range (fun j => omE _ (R.val % 4096) j * valK vt _ C j) 4096]
  refine Finset.sum_congr rfl fun j _ => ?_
  rw [Ref.wA_apply, mul_comm]
  refine congrArg₂ (fun x y : EReal => x * y) (weight_eq q kt b R ⟨C.val / 64, by omega⟩ j) ?_
  exact (valK_val vt _ C j).symm

end

end Cert.Stick
-- ==== Proof.MoeWords.lean ====
/- The 32-bit words by which the expert kernel steers itself: which row tile a grid point works on, whether it is in use, and which
   half of the hidden width it takes. `n` is the number of tiles in use, `k` a tile's number. -/
module

public import Idealize.ShloMosaic.PureOps

@[expose] public section

namespace Cert.MoeWords

open Idealize.ShloMosaic

/-- The tile whose rows a grid point of tile number `k` is given: `k` itself, or the last one in use. -/
def tileW (n : BitVec 32) (k : ℕ) : ℕ := (Scalar.maxsi (Scalar.minsi (BitVec.ofNat 32 k) (Scalar.subi n 1#32)) 0#32).toNat

/-- The half a grid point is given: its own, or the second one past the tiles in use. -/
def halfW (n : BitVec 32) (k h : ℕ) : ℕ :=
  (Scalar.select (Scalar.cmpi .slt (BitVec.ofNat 32 k) n) (BitVec.ofNat 32 h) (1#32 : BitVec 32)).toNat

/-- Tile `k` is in use. -/
def Live (n : BitVec 32) (k : ℕ) : Prop := (k : ℤ) < n.toInt

instance (n : BitVec 32) (k : ℕ) : Decidable (Live n k) := inferInstanceAs (Decidable (_ < _))

theorem toInt_ofNat {k : ℕ} (hk : k < 72) : (BitVec.ofNat 32 k).toInt = k := by
  rw [BitVec.toInt_ofNat'];
  simp only [Int.bmod]; omega

theorem slt_iff (n : BitVec 32) {k : ℕ} (hk : k < 72) : (BitVec.ofNat 32 k).slt n = true ↔ Live n k := by
  rw [BitVec.slt_iff_toInt_lt, toInt_ofNat hk]; rfl

theorem tileW_lt (n : BitVec 32) {k : ℕ} (hk : k < 72) : tileW n k < 72 := by
  have hki := toInt_ofNat hk
  have hkn : (BitVec.ofNat 32 k).toNat = k := by rw [BitVec.toNat_ofNat]; omega
  unfold tileW Scalar.maxsi Scalar.minsi Scalar.subi IntOp.maxsi IntOp.minsi IntOp.subi
  have h0 : (0#32 : BitVec 32).toInt = 0 := rfl
  split
  · next h1 =>
    split
    · rw [hkn]; exact hk
    · decide
  · next h1 =>
    rw [BitVec.slt_iff_toInt_lt, hki] at h1
    generalize n - 1#32 = d at *
    split
    · next h2 =>
      rw [BitVec.slt_iff_toInt_lt, h0] at h2
      rw [BitVec.toInt_eq_toNat_cond] at h1 h2
      have := d.isLt
      split at h1 <;> omega
    · decide

theorem tileW_live {n : BitVec 32} {k : ℕ} (hk : k < 72) (h : Live n k) : tileW n k = k := by
  have hki := toInt_ofNat hk
  have hkn : (BitVec.ofNat 32 k).toNat = k := by rw [BitVec.toNat_ofNat]; omega
  have h0 : (0#32 : BitVec 32).toInt = 0 := rfl
  have hd : (n - 1#32).toInt = n.toInt - 1 := by
    unfold Live at h
    rw [BitVec.toInt_sub, show (1#32 : BitVec 32).toInt = 1 from rfl]
    have := n.toInt_lt; have := n.le_toInt
    simp only [Int.bmod]; omega
  unfold Live at h
  unfold tileW Scalar.maxsi Scalar.minsi Scalar.subi IntOp.maxsi IntOp.minsi IntOp.subi
  have e : (if (BitVec.ofNat 32 k).slt (n - 1#32) then BitVec.ofNat 32 k else n - 1#32) = BitVec.ofNat 32 k := by
    split
    · rfl
    · next h2 =>
      rw [BitVec.slt_iff_toInt_lt, hki, hd] at h2
      apply BitVec.eq_of_toInt_eq
      rw [hki, hd]; omega
  rw [e]
  split
  · exact hkn
  · next h1 =>
    rw [BitVec.slt_iff_toInt_lt, hki, h0] at h1
    show 0 = k
    omega

/-- Past the tiles in use, while there is one, every point is given the last one's rows. -/
theorem tileW_dead {n : BitVec 32} {k : ℕ} (hk : k < 72) (hn : 0 < n.toInt) (h : ¬Live n k) : (tileW n k : ℤ) = n.toInt - 1 := by
  have hki := toInt_ofNat hk
  have h0 : (0#32 : BitVec 32).toInt = 0 := rfl
  have hd : (n - 1#32).toInt = n.toInt - 1 := by
    rw [BitVec.toInt_sub, show (1#32 : BitVec 32).toInt = 1 from rfl]
    have := n.toInt_lt; have := n.le_toInt
    simp only [Int.bmod]; omega
  unfold Live at h
  unfold tileW Scalar.maxsi Scalar.minsi Scalar.subi IntOp.maxsi IntOp.minsi IntOp.subi
  have e : (if (BitVec.ofNat 32 k).slt (n - 1#32) then BitVec.ofNat 32 k else n - 1#32) = n - 1#32 := by
    split
    · next h2 =>
      rw [BitVec.slt_iff_toInt_lt, hki, hd] at h2
      omega
    · rfl
  rw [e]
  split
  · next h1 =>
    rw [BitVec.slt_iff_toInt_lt, hd, h0] at h1
    rw [← hd, BitVec.toInt_eq_toNat_cond]
    rw [BitVec.toInt_eq_toNat_cond] at hd
    have := (n - 1#32).isLt
    split at hd <;> split <;> omega
  · next h1 =>
    rw [BitVec.slt_iff_toInt_lt, hd, h0] at h1
    show (0 : ℤ) = _
    omega

theorem halfW_live {n : BitVec 32} {k h : ℕ} (hk : k < 72) (hh : h < 2) (hl : Live n k) : halfW n k h = h := by
  unfold halfW Scalar.select Scalar.cmpi IntOp.cmpi
  simp only [(slt_iff n hk).mpr hl]
  rw [if_pos (by decide), BitVec.toNat_ofNat]; omega

theorem halfW_lt (n : BitVec 32) (k : ℕ) {h : ℕ} (hh : h < 2) : halfW n k h < 2 := by
  unfold halfW Scalar.select
  split
  · rw [BitVec.toNat_ofNat]; omega
  · decide

end Cert.MoeWords
-- ==== Proof.MoeBitsRuns.lean ====
/- What one grid point of the expert kernel leaves, by the branch it takes: the first half of the hidden width stores its product in the
   scratch buffer, the second adds its own to it and stores the scaled sum as the tile's rows, and a point past the tiles in use
   touches nothing. -/
module

public import proofs.«01_k».proof.Proof.MoeBitsTables
public import Idealize.ShloMosaic.Lib.VecWindow

@[expose] public section

set_option maxRecDepth 16384

noncomputable section

namespace Cert.Kernel2.Moe

open Cert.Kernel2 Cert.Kernel2.Gen Cert.MoeWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The rows' scales: the first column of their block. -/
def scaleCol (x4 : Vec Bits S512x128 .f32) : Vec Bits S512x1 .f32 :=
  fun y => x4 ((Rect.unit (s := S512x128) ![0, 0] S512x1.size inb_S512x128_S512x1_0_0).toLoadRect.idx y)

/-- The tile's rows: the second half's product added to what the scratch buffer holds, and scaled. -/
def rowsOut (x0 : Vec Bits S512x1024 .bf16) (x1 x2 : Vec Bits S1x1024x1792 .bf16) (x3 : Vec Bits S1x1792x1024 .bf16)
    (x4 : Vec Bits S512x128 .f32) (p : Vec Bits S512x1024 .f32) : Vec Bits S512x1024 .bf16 :=
  k0_pay4 (k0_pay3 x0 x1 x2 x3 p) (scaleCol x4)

section
variable (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x128 .f32) (harg8 : arg8.IsWhole) (arg9 : Memref sig .tc .vmem S512x1024 .bf16) (harg9 : arg9.IsWhole)
  (T0 : S72.Idx → Elt Bits .i32) (T1 : S1.Idx → Elt Bits .i32)
  (x0 : S512x1024.Idx → Elt Bits .bf16) (x1 : S1x1024x1792.Idx → Elt Bits .bf16) (x2 : S1x1024x1792.Idx → Elt Bits .bf16)
  (x3 : S1x1792x1024.Idx → Elt Bits .bf16) (x4 : S512x128.Idx → Elt Bits .f32)

/-- After the first half the scratch buffer holds its product. -/
theorem scratch_first (k1 k2 k3 k4) :
    scM0_0.view.read (Elt Bits) (kernelRun0_A c i arg4 harg4 arg5 harg5 arg6 harg6 arg7 harg7 arg8 harg8 arg9 harg9 T0 T1 x0 x1 x2 x3 x4 k1 k2 k3 k4).1
      = k0_pay2 x0 x1 x2 x3 := by
  unfold kernelRun0_A
  dsimp only
  unfold kernelRun0_A.sl.HS0_1
  rw [View.readAt_rep_full arg4.view x0, View.readAt_rep_full arg5.view x1, View.readAt_rep_full arg6.view x2, View.readAt_rep_full arg7.view x3]
  exact View.read_writes_full scM0_0.view _ _ _ _

/-- After the second half the output's staging buffer holds the tile's rows. -/
theorem out_second (xa0 : Buf (Elt Bits) ((c : Thread nD τ).loc cc0_scratch0)) (p : Vec Bits S512x1024 .f32)
    (hp : scM0_0.view.read (Elt Bits) xa0 = p) (f) (k1 k2 k3 k4) :
    arg9.view.read (Elt Bits) (arg9.view.writes (Elt Bits) f
        (kernelRun0_B c i arg4 harg4 arg5 harg5 arg6 harg6 arg7 harg7 arg8 harg8 arg9 harg9 T0 T1 x0 x1 x2 x3 x4 xa0 k1 k2 k3 k4).1)
      = rowsOut x0 x1 x2 x3 x4 p := by
  unfold kernelRun0_B
  dsimp only
  unfold kernelRun0_B.sl.HO5_1
  refine (View.read_writes_full arg9.view f _ _ _).trans ?_
  unfold rowsOut
  refine congrArg₂ k0_pay4 ?_ ?_
  · unfold kernelRun0_B.sl.v33 kernelRun0_B.sl.HS0_1
    refine (View.readCov_full scM0_0.view _ _ _ _).trans ?_
    rw [View.readAt_rep_full arg4.view x0, View.readAt_rep_full arg5.view x1, View.readAt_rep_full arg6.view x2, View.readAt_rep_full arg7.view x3]
    exact congrArg (k0_pay3 x0 x1 x2 x3) ((View.readAt_full scM0_0.view xa0 _).trans hp)
  · exact View.readAt_rep _ _ _

set_option backward.proofsInPublic true in
set_option maxHeartbeats 8000000 in
/-- A point past the tiles in use reads their number and returns. -/
theorem run_past (k0_h1 : ¬(k0_cond1 i (View.readAt (Elt Bits) (tbM0_1).view (Rect.unit (s := S1) ![0] S1.size inb_S1_S1_0).toLoadRect T1 (Shape.Idx.first (numel1_S1.symm ▸ Nat.one_pos))) = 1#1))
    (K : PUnit → sProp 𝕄) :
    iprop((tbM0_1.view.loc (c : Thread nD τ) ↦{fullShare.right} T1)
          ∗ ((tbM0_1.view.loc (c : Thread nD τ) ↦{fullShare.right} T1) -∗ K ⟨⟩))
      ⊢ wp frame (wpE (defs₀ (F := Bits)) Variants.none c none) Set.univ (cc0_moe_experts i tbM0_0 (Memref.isWhole_whole _) tbM0_1 (Memref.isWhole_whole _) arg4 harg4 arg5 harg5 arg6 harg6 arg7 harg7 arg8 harg8 arg9 harg9 scM0_0 (Memref.isWhole_whole _)) K := by
  rw [cc0_moe_experts_eq_skeleton]; unfold cc0_moe_experts_skel
  iintro ⟨HT1, Hk⟩
  have hT1 : tbM0_1.IsWhole := Memref.isWhole_whole _
  sl_exec! (disch := first | (guard_target = ¬(k0_cond1 _ _ = _); exact k0_h1))
  sl_step
  iapply Hk
  iexact HT1

end

end Cert.Kernel2.Moe

end
-- ==== Proof.MoeBitsBody.lean ====
/- One grid point of the expert kernel on machine words, whatever its tables hold: what the body finds in every window and what it leaves there. -/
module

public import proofs.«01_k».proof.Proof.MoeBitsRuns

@[expose] public section

set_option maxRecDepth 16384

noncomputable section

namespace Cert.Kernel2.Moe

open Cert.Kernel2 Cert.Kernel2.Gen Cert.MoeWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

local notation "𝕄" => MT nD τ sig Unit (Elt Bits) ℕ (UR sig nD τ) ℕ

variable (pf : Tabs) (hg : Good pf) (m : (ℓ : Loc nD τ sig) → Buf (Elt Bits) ℓ)

/-- The pipeline at the tables' contents. -/
def adm : (pcfg0 (F := Bits)).Adm := ⟨pf, ok_of_good hg⟩
abbrev cfgA : Pipeline.Cfg sig Λ₀ := cfg0 (F := Bits) (adm pf hg)
abbrev pcs : Fin 1 → Pipeline.Cfg sig Λ₀ := Pipeline.pin (pcfgs (F := Bits)) fun _ => adm pf hg

abbrev crd (t : Fin (cfgA pf hg).N) : (cfgA pf hg).grid.Coords := (cfgA pf hg).grid.coords t

theorem crd_val (t : Fin (cfgA pf hg).N) : ((crd pf hg t) 0).val = t.val / 2 ∧ ((crd pf hg t) 1).val = t.val % 2 := by
  have : ∀ t : Fin grid0.N, ((grid0.coords t) 0).val = t.val / 2 ∧ ((grid0.coords t) 1).val = t.val % 2 := by decide +kernel
  exact this t

theorem point_lt (t : Fin (cfgA pf hg).N) : t.val < 144 := t.isLt

abbrev ms_0 (t : Fin (cfgA pf hg).N) : Memref sig .tc .vmem S512x1024 .bf16 := spec0_0.stage ((cfgA pf hg).slots t (0 : Fin 6))
abbrev hs_0 (t : Fin (cfgA pf hg).N) : (ms_0 pf hg t).IsWhole := hstage0_0 (((cfgA pf hg).slots t (0 : Fin 6)).cast nbuf0_0)
abbrev ms_1 (t : Fin (cfgA pf hg).N) : Memref sig .tc .vmem S1x1024x1792 .bf16 := spec0_1.stage ((cfgA pf hg).slots t (1 : Fin 6))
abbrev hs_1 (t : Fin (cfgA pf hg).N) : (ms_1 pf hg t).IsWhole := hstage0_1 (((cfgA pf hg).slots t (1 : Fin 6)).cast nbuf0_1)
abbrev ms_2 (t : Fin (cfgA pf hg).N) : Memref sig .tc .vmem S1x1024x1792 .bf16 := spec0_2.stage ((cfgA pf hg).slots t (2 : Fin 6))
abbrev hs_2 (t : Fin (cfgA pf hg).N) : (ms_2 pf hg t).IsWhole := hstage0_2 (((cfgA pf hg).slots t (2 : Fin 6)).cast nbuf0_2)
abbrev ms_3 (t : Fin (cfgA pf hg).N) : Memref sig .tc .vmem S1x1792x1024 .bf16 := spec0_3.stage ((cfgA pf hg).slots t (3 : Fin 6))
abbrev hs_3 (t : Fin (cfgA pf hg).N) : (ms_3 pf hg t).IsWhole := hstage0_3 (((cfgA pf hg).slots t (3 : Fin 6)).cast nbuf0_3)
abbrev ms_4 (t : Fin (cfgA pf hg).N) : Memref sig .tc .vmem S512x128 .f32 := spec0_4.stage ((cfgA pf hg).slots t (4 : Fin 6))
abbrev hs_4 (t : Fin (cfgA pf hg).N) : (ms_4 pf hg t).IsWhole := hstage0_4 (((cfgA pf hg).slots t (4 : Fin 6)).cast nbuf0_4)
abbrev ms_5 (t : Fin (cfgA pf hg).N) : Memref sig .tc .vmem S512x1024 .bf16 := spec0_5.stage ((cfgA pf hg).slots t (5 : Fin 6))
abbrev hs_5 (t : Fin (cfgA pf hg).N) : (ms_5 pf hg t).IsWhole := hstage0_5 (((cfgA pf hg).slots t (5 : Fin 6)).cast nbuf0_5)

/-- Window `w`'s block at point `t`, read off its array at launch. -/
def iblk (c : Dev nD) (w : Fin (cfgA pf hg).W) (t : Fin (cfgA pf hg).N) :
    (((cfgA pf hg).win w).xblock (crd pf hg t)).Idx → Elt Bits ((cfgA pf hg).win w).elt :=
  (((cfgA pf hg).win w).blk t).view.read (Elt Bits) (m (((cfgA pf hg).win w).arr.view.loc (c : Thread nD τ)))

/-- What the first half of a tile leaves in the scratch buffer. -/
def accAt (c : Dev nD) (t : Fin (cfgA pf hg).N) : Vec Bits S512x1024 .f32 :=
  k0_pay2 (F := Bits) (iblk pf hg m c (0 : Fin 6) t) (iblk pf hg m c (1 : Fin 6) t) (iblk pf hg m c (2 : Fin 6) t) (iblk pf hg m c (3 : Fin 6) t)

/-- The point before. -/
def prev (t : Fin (cfgA pf hg).N) : Fin (cfgA pf hg).N := ⟨t.val - 1, Nat.lt_of_le_of_lt (Nat.sub_le _ _) t.isLt⟩

/-- What the second half of a tile leaves in the output's staging buffer. -/
def rowsAt (c : Dev nD) (t : Fin (cfgA pf hg).N) : Vec Bits S512x1024 .bf16 :=
  rowsOut (iblk pf hg m c (0 : Fin 6) t) (iblk pf hg m c (1 : Fin 6) t) (iblk pf hg m c (2 : Fin 6) t) (iblk pf hg m c (3 : Fin 6) t)
    (iblk pf hg m c (4 : Fin 6) t) (accAt pf hg m c (prev pf hg t))

/-- Point `t` is the second half of a tile in use. -/
def Done (t : ℕ) : Prop := Live (nw pf) (t / 2) ∧ t % 2 = 1

/-- Between the points: the scratch buffer holds the first half's product, if the point before was one, and the tables are held. -/
def Phi (c : Dev nD) (t : Fin ((cfgA pf hg).N + 1)) : sProp 𝕄 :=
  iprop((∃ a, ⌜∀ u : Fin (cfgA pf hg).N, u.val + 1 = t.val → u.val % 2 = 0 → Live (nw pf) (u.val / 2) →
        scM0_0.view.read (Elt Bits) a = accAt pf hg m c u⌝ ∗ (scM0_0.view.loc (c : Thread nD τ) ↦{fullShare} a))
      ∗ (tbM0_0.view.loc (c : Thread nD τ) ↦{fullShare.right} pf 0) ∗ (tbM0_1.view.loc (c : Thread nD τ) ↦{fullShare.right} pf 1))

/-- What the body may leave in a window's buffer, by what it found there: an input as it was; the output its tile's rows at the second
    half of a tile in use, and as it was elsewhere. -/
def afterR (c : Dev nD) (w : Fin (cfgA pf hg).W) (t : Fin (cfgA pf hg).N) (Y X : ((cfgA pf hg).win w).block.Idx → Elt Bits ((cfgA pf hg).win w).elt) : Prop :=
  match w, Y, X with
  | ⟨0, _⟩, Y, X => X = Y
  | ⟨1, _⟩, Y, X => X = Y
  | ⟨2, _⟩, Y, X => X = Y
  | ⟨3, _⟩, Y, X => X = Y
  | ⟨4, _⟩, Y, X => X = Y
  | ⟨5, _⟩, Y, X => (Done pf t.val → X = rowsAt pf hg m c t) ∧ (¬Done pf t.val → X = Y)

def rd (_ : Fin 1) (c : Dev nD) : RDat τ (Elt Bits) Unit ℕ (UR sig nD τ) ℕ (cfgA pf hg) c where
  A w := m (((cfgA pf hg).win w).arr.view.loc (c : Thread nD τ))
  after w t := afterR pf hg m c w t
  Φ t := Phi pf hg m c t
  q _ := fullShare
  owed _ := 0

/-! ## The inputs hold their blocks -/

theorem finds_0 (c : Dev nD) (t : Fin (cfgA pf hg).N) (Y) (h : (rd pf hg m 0 c).Finds ((0 : Fin 6) : Fin (cfgA pf hg).W) t Y) :
    Y = iblk pf hg m c (0 : Fin 6) t := by
  obtain ⟨d, hd⟩ := (rd pf hg m 0 c).finds_in_eq_fetched (0 : Fin 6) rfl (fun _ _ _ => rfl) (fun _ _ _ h => h) t Y h
  rw [hd]; unfold RDat.fetched RDat.blockOf iblk; rfl

theorem finds_1 (c : Dev nD) (t : Fin (cfgA pf hg).N) (Y) (h : (rd pf hg m 0 c).Finds ((1 : Fin 6) : Fin (cfgA pf hg).W) t Y) :
    Y = iblk pf hg m c (1 : Fin 6) t := by
  obtain ⟨d, hd⟩ := (rd pf hg m 0 c).finds_in_eq_fetched (1 : Fin 6) rfl (fun _ _ _ => rfl) (fun _ _ _ h => h) t Y h
  rw [hd]; unfold RDat.fetched RDat.blockOf iblk; rfl

theorem finds_2 (c : Dev nD) (t : Fin (cfgA pf hg).N) (Y) (h : (rd pf hg m 0 c).Finds ((2 : Fin 6) : Fin (cfgA pf hg).W) t Y) :
    Y = iblk pf hg m c (2 : Fin 6) t := by
  obtain ⟨d, hd⟩ := (rd pf hg m 0 c).finds_in_eq_fetched (2 : Fin 6) rfl (fun _ _ _ => rfl) (fun _ _ _ h => h) t Y h
  rw [hd]; unfold RDat.fetched RDat.blockOf iblk; rfl

theorem finds_3 (c : Dev nD) (t : Fin (cfgA pf hg).N) (Y) (h : (rd pf hg m 0 c).Finds ((3 : Fin 6) : Fin (cfgA pf hg).W) t Y) :
    Y = iblk pf hg m c (3 : Fin 6) t := by
  obtain ⟨d, hd⟩ := (rd pf hg m 0 c).finds_in_eq_fetched (3 : Fin 6) rfl (fun _ _ _ => rfl) (fun _ _ _ h => h) t Y h
  rw [hd]; unfold RDat.fetched RDat.blockOf iblk; rfl

theorem finds_4 (c : Dev nD) (t : Fin (cfgA pf hg).N) (Y) (h : (rd pf hg m 0 c).Finds ((4 : Fin 6) : Fin (cfgA pf hg).W) t Y) :
    Y = iblk pf hg m c (4 : Fin 6) t := by
  obtain ⟨d, hd⟩ := (rd pf hg m 0 c).finds_in_eq_fetched (4 : Fin 6) rfl (fun _ _ _ => rfl) (fun _ _ _ h => h) t Y h
  rw [hd]; unfold RDat.fetched RDat.blockOf iblk; rfl

/-! ## The body -/

abbrev bodyAt (t : Fin (cfgA pf hg).N) : Prog (TpuEff nD τ sig (Elt Bits) Λ₀ .tc) PUnit :=
  cc0_moe_experts (crd pf hg t) (Memref.whole main_arg0) (Memref.isWhole_whole _) (Memref.whole main_arg1) (Memref.isWhole_whole _) (ms_0 pf hg t) (hs_0 pf hg t) (ms_1 pf hg t) (hs_1 pf hg t) (ms_2 pf hg t) (hs_2 pf hg t) (ms_3 pf hg t) (hs_3 pf hg t) (ms_4 pf hg t) (hs_4 pf hg t) (ms_5 pf hg t) (hs_5 pf hg t) (Memref.whole cc0_scratch0) (Memref.isWhole_whole _)

set_option maxHeartbeats 4000000 in
theorem sound_body (c : Dev nD) (t : Fin (cfgA pf hg).N) (Y5 : S512x1024.Idx → Elt Bits .bf16) :
    iprop(Phi pf hg m c t.castSucc ∗ (rd pf hg m 0 c).owesAt () t.castSucc
        ∗ owns (c : Thread nD τ) (ms_0 pf hg t) fullShare (iblk pf hg m c (0 : Fin 6) t)
        ∗ owns (c : Thread nD τ) (ms_1 pf hg t) fullShare (iblk pf hg m c (1 : Fin 6) t)
        ∗ owns (c : Thread nD τ) (ms_2 pf hg t) fullShare (iblk pf hg m c (2 : Fin 6) t)
        ∗ owns (c : Thread nD τ) (ms_3 pf hg t) fullShare (iblk pf hg m c (3 : Fin 6) t)
        ∗ owns (c : Thread nD τ) (ms_4 pf hg t) fullShare (iblk pf hg m c (4 : Fin 6) t)
        ∗ owns (c : Thread nD τ) (ms_5 pf hg t) fullShare Y5)
      ⊢ wp frame (wpE (defs₀ (F := Bits)) Variants.none c none) Set.univ (bodyAt pf hg t) fun _ =>
          iprop(Phi pf hg m c t.succ ∗ (rd pf hg m 0 c).owesAt () t.castSucc
            ∗ (∃ X, ⌜X = iblk pf hg m c (0 : Fin 6) t⌝ ∗ owns (c : Thread nD τ) (ms_0 pf hg t) fullShare X)
            ∗ (∃ X, ⌜X = iblk pf hg m c (1 : Fin 6) t⌝ ∗ owns (c : Thread nD τ) (ms_1 pf hg t) fullShare X)
            ∗ (∃ X, ⌜X = iblk pf hg m c (2 : Fin 6) t⌝ ∗ owns (c : Thread nD τ) (ms_2 pf hg t) fullShare X)
            ∗ (∃ X, ⌜X = iblk pf hg m c (3 : Fin 6) t⌝ ∗ owns (c : Thread nD τ) (ms_3 pf hg t) fullShare X)
            ∗ (∃ X, ⌜X = iblk pf hg m c (4 : Fin 6) t⌝ ∗ owns (c : Thread nD τ) (ms_4 pf hg t) fullShare X)
            ∗ (∃ X, ⌜(Done pf t.val → X = rowsAt pf hg m c t) ∧ (¬Done pf t.val → X = Y5)⌝ ∗ owns (c : Thread nD τ) (ms_5 pf hg t) fullShare X)) := by
  obtain ⟨e0, e1⟩ := crd_val pf hg t
  unfold Phi
  simp only [Fin.val_castSucc, Fin.val_succ]
  by_cases hl : Live (nw pf) (t.val / 2)
  · have k1 : k0_cond1 (crd pf hg t) (View.readAt (Elt Bits) (tbM0_1).view (Rect.unit (s := S1) ![0] S1.size inb_S1_S1_0).toLoadRect (pf 1) (Shape.Idx.first (numel1_S1.symm ▸ Nat.one_pos))) = 1#1 := by
      rw [nw_read, live_iff, e0]; exact hl
    by_cases hb : t.val % 2 = 1
    · have k2 := mt (first_iff (crd pf hg t)).mp (by rw [e1, hb]; decide)
      have k3 := (later_iff (crd pf hg t)).mpr (e1.trans hb)
      have k4 := (last_iff (crd pf hg t)).mpr (e1.trans hb)
      iintro ⟨⟨⟨%a0, %ha0, HS0⟩, HT0, HT1⟩, Ho, H0, H1, H2, H3, H4, H5⟩
      have hacc : scM0_0.view.read (Elt Bits) a0 = accAt pf hg m c (prev pf hg t) :=
        ha0 (prev pf hg t) (by show t.val - 1 + 1 = t.val; omega) (by show (t.val - 1) % 2 = 0; omega)
          (by show Live (nw pf) ((t.val - 1) / 2); rwa [show (t.val - 1) / 2 = t.val / 2 by omega])
      iapply ((kernelRun0_B c (crd pf hg t) (ms_0 pf hg t) (hs_0 pf hg t) (ms_1 pf hg t) (hs_1 pf hg t) (ms_2 pf hg t) (hs_2 pf hg t) (ms_3 pf hg t) (hs_3 pf hg t) (ms_4 pf hg t) (hs_4 pf hg t) (ms_5 pf hg t) (hs_5 pf hg t) (pf 0) (pf 1) (iblk pf hg m c (0 : Fin 6) t) (iblk pf hg m c (1 : Fin 6) t) (iblk pf hg m c (2 : Fin 6) t) (iblk pf hg m c (3 : Fin 6) t) (iblk pf hg m c (4 : Fin 6) t) a0 k1 k2 k3 k4).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      iintro ⟨H0, H1, H2, H3, H4, HT0, HT1, ⟨%e5, H5⟩, HS0⟩
      isplitl [HS0 HT0 HT1]
      · isplitl [HS0]
        · iexists _; isplitr; swap
          · iexact HS0
          · ipureintro; intro u hu hu2; exact absurd hu2 (by omega)
        isplitl [HT0]
        · iexact HT0
        iexact HT1
      isplitl [Ho]; · iexact Ho
      isplitl [H0]
      · iexists _; isplitr; swap
        · iapply owns_of_rep; iexact H0
        · ipureintro; exact rfl
      isplitl [H1]
      · iexists _; isplitr; swap
        · iapply owns_of_rep; iexact H1
        · ipureintro; exact rfl
      isplitl [H2]
      · iexists _; isplitr; swap
        · iapply owns_of_rep; iexact H2
        · ipureintro; exact rfl
      isplitl [H3]
      · iexists _; isplitr; swap
        · iapply owns_of_rep; iexact H3
        · ipureintro; exact rfl
      isplitl [H4]
      · iexists _; isplitr; swap
        · iapply owns_of_rep; iexact H4
        · ipureintro; exact rfl
      iexists _; isplitr; swap
      · unfold owns; iexists _; isplitr; swap
        · iexact H5
        · ipureintro; exact out_second (hp := hacc) ..
      · ipureintro; exact ⟨fun _ => rfl, fun hn => absurd ⟨hl, hb⟩ hn⟩
    · have k2 := (first_iff (crd pf hg t)).mpr (by rw [e1]; omega)
      have k3 := mt (later_iff (crd pf hg t)).mp (by rw [e1]; exact hb)
      have k4 := mt (last_iff (crd pf hg t)).mp (by rw [e1]; exact hb)
      iintro ⟨⟨⟨%a0, %ha0, HS0⟩, HT0, HT1⟩, Ho, H0, H1, H2, H3, H4, H5⟩
      iapply ((kernelRun0_A c (crd pf hg t) (ms_0 pf hg t) (hs_0 pf hg t) (ms_1 pf hg t) (hs_1 pf hg t) (ms_2 pf hg t) (hs_2 pf hg t) (ms_3 pf hg t) (hs_3 pf hg t) (ms_4 pf hg t) (hs_4 pf hg t) (ms_5 pf hg t) (hs_5 pf hg t) (pf 0) (pf 1) (iblk pf hg m c (0 : Fin 6) t) (iblk pf hg m c (1 : Fin 6) t) (iblk pf hg m c (2 : Fin 6) t) (iblk pf hg m c (3 : Fin 6) t) (iblk pf hg m c (4 : Fin 6) t) k1 k2 k3 k4).2 _ a0 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      iintro ⟨H0, H1, H2, H3, H4, HT0, HT1, H5, HS0⟩
      isplitl [HS0 HT0 HT1]
      · isplitl [HS0]
        · iexists _; isplitr; swap
          · iexact HS0
          · ipureintro; intro u hu hu2 _
            obtain rfl : u = t := Fin.ext (by omega)
            exact scratch_first c _ _ _ _ _ _ _ _ _ _ _ _ _ _ _ _ _ _ _ _ _ _ _ _
        isplitl [HT0]
        · iexact HT0
        iexact HT1
      isplitl [Ho]; · iexact Ho
      isplitl [H0]
      · iexists _; isplitr; swap
        · iapply owns_of_rep; iexact H0
        · ipureintro; exact rfl
      isplitl [H1]
      · iexists _; isplitr; swap
        · iapply owns_of_rep; iexact H1
        · ipureintro; exact rfl
      isplitl [H2]
      · iexists _; isplitr; swap
        · iapply owns_of_rep; iexact H2
        · ipureintro; exact rfl
      isplitl [H3]
      · iexists _; isplitr; swap
        · iapply owns_of_rep; iexact H3
        · ipureintro; exact rfl
      isplitl [H4]
      · iexists _; isplitr; swap
        · iapply owns_of_rep; iexact H4
        · ipureintro; exact rfl
      iexists _; isplitr; swap
      · iexact H5
      · ipureintro; exact ⟨fun hd => absurd hd.2 hb, fun _ => rfl⟩
  · have k1 : ¬(k0_cond1 (crd pf hg t) (View.readAt (Elt Bits) (tbM0_1).view (Rect.unit (s := S1) ![0] S1.size inb_S1_S1_0).toLoadRect (pf 1) (Shape.Idx.first (numel1_S1.symm ▸ Nat.one_pos))) = 1#1) := by
      rw [nw_read, live_iff, e0]; exact hl
    iintro ⟨⟨⟨%a0, %ha0, HS0⟩, HT0, HT1⟩, Ho, H0, H1, H2, H3, H4, H5⟩
    iapply (run_past c (crd pf hg t) (ms_0 pf hg t) (hs_0 pf hg t) (ms_1 pf hg t) (hs_1 pf hg t) (ms_2 pf hg t) (hs_2 pf hg t) (ms_3 pf hg t) (hs_3 pf hg t) (ms_4 pf hg t) (hs_4 pf hg t) (ms_5 pf hg t) (hs_5 pf hg t) (pf 1) k1 _)
    isplitl [HT1]; · iexact HT1
    iintro HT1
    isplitl [HS0 HT0 HT1]
    · isplitl [HS0]
      · iexists _; isplitr; swap
        · iexact HS0
        · ipureintro; intro u hu _ hu3
          exact absurd (by rwa [show u.val / 2 = t.val / 2 by omega] at hu3) hl
      isplitl [HT0]
      · iexact HT0
      iexact HT1
    isplitl [Ho]; · iexact Ho
    isplitl [H0]
    · iexists _; isplitr; swap
      · iexact H0
      · ipureintro; exact rfl
    isplitl [H1]
    · iexists _; isplitr; swap
      · iexact H1
      · ipureintro; exact rfl
    isplitl [H2]
    · iexists _; isplitr; swap
      · iexact H2
      · ipureintro; exact rfl
    isplitl [H3]
    · iexists _; isplitr; swap
      · iexact H3
      · ipureintro; exact rfl
    isplitl [H4]
    · iexists _; isplitr; swap
      · iexact H4
      · ipureintro; exact rfl
    iexists _; isplitr; swap
    · iexact H5
    · ipureintro; exact ⟨fun hd => absurd hd.1 hl, fun _ => rfl⟩

/-- The body at every point, on whatever it may find. -/
theorem body_obligation (c : Dev nD) : (rd pf hg m 0 c).BodyObligation (defs₀ (F := Bits)) Variants.none () Set.univ := fun t Y hY => by
  have h0 := finds_0 pf hg m c t (Y (0 : Fin 6)) (hY (0 : Fin 6))
  have h1 := finds_1 pf hg m c t (Y (1 : Fin 6)) (hY (1 : Fin 6))
  have h2 := finds_2 pf hg m c t (Y (2 : Fin 6)) (hY (2 : Fin 6))
  have h3 := finds_3 pf hg m c t (Y (3 : Fin 6)) (hY (3 : Fin 6))
  have h4 := finds_4 pf hg m c t (Y (4 : Fin 6)) (hY (4 : Fin 6))
  simp only [bigSep_W0]
  rw [h0, h1, h2, h3, h4]
  exact sound_body pf hg m c t (Y (5 : Fin 6))

end Cert.Kernel2.Moe

end
-- ==== Proof.MoeBitsLaunch.lean ====
/- On machine words, the launch of the expert kernel: from any memory whose table of experts is good, it ends with every array at what the points leave there,
   its arguments unchanged and every semaphore counter at zero. -/
module

public import proofs.«01_k».proof.Proof.MoeBitsBody

@[expose] public section

set_option maxRecDepth 16384

noncomputable section

namespace Cert.Kernel2.Moe

open Cert.Kernel2 Cert.Kernel2.Gen Cert.MoeWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

local notation "𝕄" => MT nD τ sig Unit (Elt Bits) ℕ (UR sig nD τ) ℕ

abbrev EP : Emb (UR sig nD τ) 𝕄 := emb₁

variable (pf : Tabs) (hg : Good pf) (m : (ℓ : Loc nD τ sig) → Buf (Elt Bits) ℓ) (ρ : Dev nD → PrngReg)

/-- The launch element of the pipeline's rounds. -/
def u₀ : UR sig nD τ :=
  initOf (Pipeline.cells (pcs pf hg) ((launch0 (F := Bits)).cellOf_inj fun _ => adm pf hg))
    (Pipeline.launchToks (pcs pf hg) ((launch0 (F := Bits)).cellOf_inj fun _ => adm pf hg))

theorem share_eq (c : Dev nD) (w : Fin (cfgA pf hg).W) : (rd pf hg m 0 c).share w = fullShare := by unfold RDat.share; split <;> rfl

/-- The tables, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm pf hg).1 ∗ Pipeline.scopedRest spec0 c) ⊢ (rd pf hg m 0 c).Φ 0 := by
  rw [prefHeld_eq, scopedRest0_eq, show (rd pf hg m 0 c).Φ 0 = Phi pf hg m c 0 from rfl]
  unfold Phi
  iintro ⟨-, ⟨HT0, HT1⟩, ⟨%a0, HS0⟩⟩
  isplitl [HS0]
  · iexists a0; isplitr; swap
    · iexact HS0
    · ipureintro; intro u hu; exact absurd hu (Nat.succ_ne_zero _)
  isplitl [HT0]
  · iexact HT0
  iexact HT1

theorem phiN_exit (c : Dev nD) : (rd pf hg m 0 c).Φ (Fin.last (cfgA pf hg).N) ⊢ iprop(BI.emp ∗ BI.emp ∗ Pipeline.scopedRest spec0 c) := by
  rw [scopedRest0_eq, show (rd pf hg m 0 c).Φ (Fin.last (cfgA pf hg).N) = Phi pf hg m c (Fin.last _) from rfl]
  unfold Phi
  iintro ⟨⟨%a0, -, HS0⟩, -, -⟩
  isplitr; · iempintro
  isplitr; · iempintro
  iexists a0; iexact HS0

/-- What the launch ends in. -/
def QC : PUnit × MemSt nD τ sig (Elt Bits) → Prop := fun r =>
  (∀ c : Dev nD, (∀ w : Fin (cfgA pf hg).W, (rd pf hg m 0 c).ArrAt w (cfgA pf hg).N (r.2.mem (((cfgA pf hg).win w).arr.view.loc (c : Thread nD τ))))
    ∧ ∀ j, r.2.mem ((c : Thread nD τ).loc (pre0.ref j)) = pf j) ∧ r.2.sem = fun _ => 0

set_option backward.isDefEq.respectTransparency.types false in
set_option maxHeartbeats 4000000 in
theorem run_main (hp : ∀ (c : Dev nD) j, m ((c : Thread nD τ).loc (pre0.ref j)) = pf j) :
    θ_run (defs (F := Bits)) (onTc (τ := τ) (main (F := Bits))) ⟨m, fun _ => 0, ρ⟩ (QC pf hg m) := by
  classical
  have hxs (c : Dev nD) := Pipeline.ownSems0_none (nD := nD) (τ := τ) (sig := sig) (Ix := Unit) (Val := Elt Bits) (Name := ℕ) (U := UR sig nD τ) (Lvl := ℕ) c
  refine Pipeline.RDat.θ_run_region_pf_quiescent pcfgs (fun _ => adm pf hg) (rd pf hg m) () ((launch0 (F := Bits)).cellOf_inj fun _ => adm pf hg) (0 : Fin 1)
    (launch0 (F := Bits)).win.to₀ (Pipeline.OwnSemFacts.none _) (launch0 (F := Bits)).pre EP defs₀ Variants.none m ρ main
    (hbody := fun c => body_obligation pf hg m c) (hne := (launch0 (F := Bits)).block_pos)
    (harr := (launch0 (F := Bits)).arr_whole) (hstage := (launch0 (F := Bits)).stage_whole) (howed := fun _ _ => rfl)
    (G := fun _ => BI.emp) (u₀ := u₀ pf hg) (hu₀ := ?_)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.RDat.arrays_split pcfgs (fun _ => adm pf hg) (rd pf hg m) 0 (launch0 (F := Bits)).win.arr_inj c (launch0 (F := Bits)).arr_whole
      (share_eq pf hg m c) _ _ fun _ => rfl)
    (hpf := hp)
    (X := fun _ => iprop(emp)) (Y := fun _ => iprop(emp)) (Z := fun _ => iprop(emp))
    (hX := fun c => by rw [unscopedRestP0_eq]; iintro -; imodintro; isplitr <;> iempintro)
    (hin := phi0_intro pf hg m)
    (hout := fun c => by rw [hxs]; exact phiN_exit pf hg m c)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)
  iintro Hu
  imodintro
  isplitl [Hu]
  · iapply (show ownU (u₀ pf hg) ⊢ BI.own (EP.toFun (u₀ pf hg)) from .rfl)
    iexact Hu
  rw [BI.bigSep_emp_const]; iempintro

/-- The tables a launch memory holds. -/
def tabs (m : (ℓ : Loc nD τ sig) → Buf (Elt Bits) ℓ) : Tabs := fun k => m ((Dev.tc (⟨0, Nat.one_pos⟩ : Dev nD) : Thread nD τ).loc (pre0.ref k))

theorem tabs_eq (c : Dev nD) (j) : m ((c : Thread nD τ).loc (pre0.ref j)) = tabs m j := by
  obtain rfl : c = ⟨0, Nat.one_pos⟩ := Subsingleton.elim _ _
  rfl

/-- An input's array ends as it was. -/
theorem in_eq (c : Dev nD) (w : Fin (cfgA pf hg).W) (hw : ((cfgA pf hg).win w).isOut = false) {X}
    (h : (rd pf hg m 0 c).ArrAt w (cfgA pf hg).N X) : X = m (((cfgA pf hg).win w).arr.view.loc (c : Thread nD τ)) := by
  rw [(rd pf hg m 0 c).ArrAt_in w hw] at h; exact h

set_option maxHeartbeats 2000000 in
/-- The arguments end unchanged. -/
theorem frame (hg : Good (tabs m)) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  exact (θ_run defs _ _).mono (fun _ h => ⟨fun c => ⟨((h.1 c).2 0).trans (tabs_eq m c 0).symm, ((h.1 c).2 1).trans (tabs_eq m c 1).symm,
    in_eq (tabs m) hg m c (0 : Fin 6) rfl ((h.1 c).1 (0 : Fin 6)), in_eq (tabs m) hg m c (4 : Fin 6) rfl ((h.1 c).1 (4 : Fin 6)), in_eq (tabs m) hg m c (1 : Fin 6) rfl ((h.1 c).1 (1 : Fin 6)),
    in_eq (tabs m) hg m c (2 : Fin 6) rfl ((h.1 c).1 (2 : Fin 6)), in_eq (tabs m) hg m c (3 : Fin 6) rfl ((h.1 c).1 (3 : Fin 6))⟩, h.2⟩)
    (run_main (tabs m) hg m ρ (tabs_eq m))

end Cert.Kernel2.Moe

end
-- ==== Proof.MoePre.lean ====
/- What the precondition gives: every tile's expert is one of the eight. -/
module

public import proofs.«01_k».proof.Proof.Gen.Pre_experts_exist
public import Idealize.ShloMosaic.Lib.Pointwise

@[expose] public section

set_option maxRecDepth 16384
noncomputable section

namespace Cert.MoePre

open Idealize.ShloMosaic
open Cert.Pre_experts_exist

theorem word_lt (e : BitVec 32)
    (h : IntOp.andi (IntOp.cmpi CmpIPredicate.sge e 0#32) (IntOp.cmpi CmpIPredicate.slt e 8#32) = 1#1) : e.toNat < 8 := by
  have hb : ∀ a b : Bool, IntOp.andi (BitVec.ofBool a) (BitVec.ofBool b) = 1#1 → a = true ∧ b = true := by decide
  obtain ⟨h0, h8⟩ := hb (BitVec.sle 0#32 e) (BitVec.slt e 8#32) h
  have h0' : (0#32 : BitVec 32).toInt ≤ e.toInt := by simpa [BitVec.sle] using h0
  have h8' : e.toInt < (8#32 : BitVec 32).toInt := by simpa [BitVec.slt] using h8
  rw [show (0#32 : BitVec 32).toInt = 0 from rfl] at h0'
  rw [show (8#32 : BitVec 32).toInt = 8 from rfl] at h8'
  rw [BitVec.toInt_eq_toNat_cond] at h0' h8'
  have := e.isLt
  split at h0' <;> omega

/-- A tile's expert is below eight. -/
theorem expert_lt {F : FTy → Type} [FloatOps F] (a0 : IVec S72 32) (a1 : IVec S1 32) (a2 : FVec F S36864x1024 .bf16) (a3 : FVec F S36864x128 .f32)
    (a4 a5 : FVec F S8x1024x3584 .bf16) (a6 : FVec F S8x3584x1024 .bf16)
    (h : Cert.Pre_experts_exist.fn a0 a1 a2 a3 a4 a5 a6 = fun _ => 1#1) (x : S72.Idx) : (a0 x).toNat < 8 :=
  word_lt _ (congrFun h x)

end Cert.MoePre

end
-- ==== Proof.MoeTables.lean ====
/- The expert kernel's two tables, the expert of every row tile and the number of tiles in use. Where every expert in the table is one of
   the eight, the blocks the tables ask for lie inside the arrays, whatever the number of tiles in use; and the kernel's branches are
   decided by that number and the grid point. -/
module

public import proofs.«01_k».proof.Proof.MoeWords
public import proofs.«01_k».proof.Proof.Gen.Kernel2Ideal.Flash.Runs

@[expose] public section

set_option maxRecDepth 16384

noncomputable section

namespace Cert.Kernel2Ideal.Moe

open Cert.Kernel2Ideal Cert.Kernel2Ideal.Gen Cert.MoeWords
open Idealize.ShloMosaic

abbrev Tabs := pre0.Contents (Elt Ideal)

/-- The number of tiles in use, as the kernel reads it. -/
def nw (pf : Tabs) : BitVec 32 := pf.at 1 (Rect.unit (s := S1) ![0] S1.size inb_S1_S1_0) numel1_S1

/-- The expert of the tile a grid point is numbered by, as the kernel reads it. -/
def ew (pf : Tabs) (i : grid0.Coords) : BitVec 32 := pf.at 0 (Rect.unit (s := S72) (k0_off1 i) S1.size (k0_off1_inb i)) numel1_S1

theorem rows_eq (pf : Tabs) (i : grid0.Coords) : ix0 pf 0 i = ![tileW (nw pf) (i 0).val, 0] := rfl
theorem gate_eq (pf : Tabs) (i : grid0.Coords) : ix0 pf 1 i = ![(ew pf i).toNat, 0, halfW (nw pf) (i 0).val (i 1).val] := rfl
theorem up_eq (pf : Tabs) (i : grid0.Coords) : ix0 pf 2 i = ![(ew pf i).toNat, 0, halfW (nw pf) (i 0).val (i 1).val] := rfl
theorem down_eq (pf : Tabs) (i : grid0.Coords) : ix0 pf 3 i = ![(ew pf i).toNat, halfW (nw pf) (i 0).val (i 1).val, 0] := rfl
theorem scale_eq (pf : Tabs) (i : grid0.Coords) : ix0 pf 4 i = ![tileW (nw pf) (i 0).val, 0] := rfl
theorem out_eq (pf : Tabs) (i : grid0.Coords) : ix0 pf 5 i = ![tileW (nw pf) (i 0).val, 0] := rfl

theorem tile_lt (i : grid0.Coords) : (i 0).val < 72 := (i 0).isLt
theorem half_lt (i : grid0.Coords) : (i 1).val < 2 := (i 1).isLt

/-- Every expert in the table is one of the eight. -/
def Good (pf : Tabs) : Prop := ∀ x : S72.Idx, (pf 0 x : BitVec 32).toNat < 8

theorem ew_lt {pf : Tabs} (h : Good pf) (i : grid0.Coords) : (ew pf i).toNat < 8 := h _

/-- The blocks the tables ask for lie inside the arrays. -/
theorem ok_of_good {pf : Tabs} (h : Good pf) : ok0 pf := by
  refine ⟨fun i => ⟨?_, ?_⟩, fun i => ⟨?_, ?_⟩, fun i => ⟨?_, ?_⟩, fun i => ⟨?_, ?_⟩, fun i => ⟨?_, ?_⟩, fun i => ⟨?_, ?_⟩⟩
  · have := tileW_lt (nw pf) (tile_lt i)
    show ∀ a, (ix0 pf 0 i a + 1) * _ ≤ _
    rw [rows_eq]
    refine okcons ?_ (okcons ?_ fun a => a.elim0) <;> omega
  · exact .inr (Affine.block_words_dvd (s := S36864x1024) (p := EltTy.packing .bf16) (by decide) (by decide))
  · have := ew_lt h i; have := halfW_lt (nw pf) (i 0).val (half_lt i)
    show ∀ a, (ix0 pf 1 i a + 1) * _ ≤ _
    rw [gate_eq]
    refine okcons ?_ (okcons ?_ (okcons ?_ fun a => a.elim0)) <;> omega
  · exact .inr (Affine.block_words_dvd (s := S8x1024x3584) (p := EltTy.packing .bf16) (by decide) (by decide))
  · have := ew_lt h i; have := halfW_lt (nw pf) (i 0).val (half_lt i)
    show ∀ a, (ix0 pf 2 i a + 1) * _ ≤ _
    rw [up_eq]
    refine okcons ?_ (okcons ?_ (okcons ?_ fun a => a.elim0)) <;> omega
  · exact .inr (Affine.block_words_dvd (s := S8x1024x3584) (p := EltTy.packing .bf16) (by decide) (by decide))
  · have := ew_lt h i; have := halfW_lt (nw pf) (i 0).val (half_lt i)
    show ∀ a, (ix0 pf 3 i a + 1) * _ ≤ _
    rw [down_eq]
    refine okcons ?_ (okcons ?_ (okcons ?_ fun a => a.elim0)) <;> omega
  · exact .inr (Affine.block_words_dvd (s := S8x3584x1024) (p := EltTy.packing .bf16) (by decide) (by decide))
  · have := tileW_lt (nw pf) (tile_lt i)
    show ∀ a, (ix0 pf 4 i a + 1) * _ ≤ _
    rw [scale_eq]
    refine okcons ?_ (okcons ?_ fun a => a.elim0) <;> omega
  · exact .inl rfl
  · have := tileW_lt (nw pf) (tile_lt i)
    show ∀ a, (ix0 pf 5 i a + 1) * _ ≤ _
    rw [out_eq]
    refine okcons ?_ (okcons ?_ fun a => a.elim0) <;> omega
  · exact .inr (Affine.block_words_dvd (s := S36864x1024) (p := EltTy.packing .bf16) (by decide) (by decide))

/-! ## The branches -/

theorem live_iff (i : grid0.Coords) (n : BitVec 32) : k0_cond1 i n = 1#1 ↔ Live n (i 0).val := by
  rw [← slt_iff n (tile_lt i)]
  show BitVec.ofBool (BitVec.setWidth 32 (BitVec.ofBool ((BitVec.ofNat 32 (i 0).val).slt n)) != 0#32) = 1#1 ↔ _
  generalize (BitVec.ofNat 32 (i 0).val).slt n = b
  revert b; decide

/-- The second half's test, as the kernel writes it last. -/
theorem last_iff (i : grid0.Coords) : k0_cond4 i = 1#1 ↔ (i 1).val = 1 := by
  have : ∀ h : Fin 2, (Scalar.cmpi .ne (Scalar.extui (Scalar.cmpi .eq (BitVec.ofNat 32 h.val) 1#32)) 0#32 : BitVec 1) = 1#1 ↔ h.val = 1 := by decide
  exact this (i 1)

theorem first_iff (i : grid0.Coords) :
    (Scalar.cmpi .ne (Scalar.extui (Scalar.cmpi .eq (BitVec.ofNat 32 (i 1).val) 0#32)) 0#32 : BitVec 1) = 1#1 ↔ (i 1).val = 0 := by
  have : ∀ h : Fin 2, (Scalar.cmpi .ne (Scalar.extui (Scalar.cmpi .eq (BitVec.ofNat 32 h.val) 0#32)) 0#32 : BitVec 1) = 1#1 ↔ h.val = 0 := by decide
  exact this (i 1)

theorem later_iff (i : grid0.Coords) :
    (Scalar.cmpi .ne (Scalar.extui (Scalar.cmpi .sgt (BitVec.ofNat 32 (i 1).val) 0#32)) 0#32 : BitVec 1) = 1#1 ↔ (i 1).val = 1 := by
  have : ∀ h : Fin 2, (Scalar.cmpi .ne (Scalar.extui (Scalar.cmpi .sgt (BitVec.ofNat 32 h.val) 0#32)) 0#32 : BitVec 1) = 1#1 ↔ h.val = 1 := by decide
  exact this (i 1)

/-- The number of tiles in use, as the body's load has it. -/
theorem nw_read (pf : Tabs) :
    View.readAt (Elt Ideal) (tbM0_1).view (Rect.unit (s := S1) ![0] S1.size inb_S1_S1_0).toLoadRect (pf 1) (Shape.Idx.first (numel1_S1.symm ▸ Nat.one_pos)) = nw pf := rfl

end Cert.Kernel2Ideal.Moe

end
-- ==== Proof.MoeRuns.lean ====
/- What one grid point of the expert kernel leaves, by the branch it takes: the first half of the hidden width stores its product in the
   scratch buffer, the second adds its own to it and stores the scaled sum as the tile's rows, and a point past the tiles in use
   touches nothing. -/
module

public import proofs.«01_k».proof.Proof.MoeTables
public import Idealize.ShloMosaic.Lib.VecWindow

@[expose] public section

set_option maxRecDepth 16384

noncomputable section

namespace Cert.Kernel2Ideal.Moe

open Cert.Kernel2Ideal Cert.Kernel2Ideal.Gen Cert.MoeWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The rows' scales: the first column of their block. -/
def scaleCol (x4 : Vec Ideal S512x128 .f32) : Vec Ideal S512x1 .f32 :=
  fun y => x4 ((Rect.unit (s := S512x128) ![0, 0] S512x1.size inb_S512x128_S512x1_0_0).toLoadRect.idx y)

/-- The tile's rows: the second half's product added to what the scratch buffer holds, and scaled. -/
def rowsOut (x0 : Vec Ideal S512x1024 .bf16) (x1 x2 : Vec Ideal S1x1024x1792 .bf16) (x3 : Vec Ideal S1x1792x1024 .bf16)
    (x4 : Vec Ideal S512x128 .f32) (p : Vec Ideal S512x1024 .f32) : Vec Ideal S512x1024 .bf16 :=
  k0_pay4 (k0_pay3 x0 x1 x2 x3 p) (scaleCol x4)

section
variable (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x128 .f32) (harg8 : arg8.IsWhole) (arg9 : Memref sig .tc .vmem S512x1024 .bf16) (harg9 : arg9.IsWhole)
  (T0 : S72.Idx → Elt Ideal .i32) (T1 : S1.Idx → Elt Ideal .i32)
  (x0 : S512x1024.Idx → Elt Ideal .bf16) (x1 : S1x1024x1792.Idx → Elt Ideal .bf16) (x2 : S1x1024x1792.Idx → Elt Ideal .bf16)
  (x3 : S1x1792x1024.Idx → Elt Ideal .bf16) (x4 : S512x128.Idx → Elt Ideal .f32)

/-- After the first half the scratch buffer holds its product. -/
theorem scratch_first (k1 k2 k3 k4) :
    scM0_0.view.read (Elt Ideal) (kernelRun0_A c i arg4 harg4 arg5 harg5 arg6 harg6 arg7 harg7 arg8 harg8 arg9 harg9 T0 T1 x0 x1 x2 x3 x4 k1 k2 k3 k4).1
      = k0_pay2 x0 x1 x2 x3 := by
  unfold kernelRun0_A
  dsimp only
  unfold kernelRun0_A.sl.HS0_1
  rw [View.readAt_rep_full arg4.view x0, View.readAt_rep_full arg5.view x1, View.readAt_rep_full arg6.view x2, View.readAt_rep_full arg7.view x3]
  exact View.read_writes_full scM0_0.view _ _ _ _

/-- After the second half the output's staging buffer holds the tile's rows. -/
theorem out_second (xa0 : Buf (Elt Ideal) ((c : Thread nD τ).loc cc0_scratch0)) (p : Vec Ideal S512x1024 .f32)
    (hp : scM0_0.view.read (Elt Ideal) xa0 = p) (f) (k1 k2 k3 k4) :
    arg9.view.read (Elt Ideal) (arg9.view.writes (Elt Ideal) f
        (kernelRun0_B c i arg4 harg4 arg5 harg5 arg6 harg6 arg7 harg7 arg8 harg8 arg9 harg9 T0 T1 x0 x1 x2 x3 x4 xa0 k1 k2 k3 k4).1)
      = rowsOut x0 x1 x2 x3 x4 p := by
  unfold kernelRun0_B
  dsimp only
  unfold kernelRun0_B.sl.HO5_1
  refine (View.read_writes_full arg9.view f _ _ _).trans ?_
  unfold rowsOut
  refine congrArg₂ k0_pay4 ?_ ?_
  · unfold kernelRun0_B.sl.v33 kernelRun0_B.sl.HS0_1
    refine (View.readCov_full scM0_0.view _ _ _ _).trans ?_
    rw [View.readAt_rep_full arg4.view x0, View.readAt_rep_full arg5.view x1, View.readAt_rep_full arg6.view x2, View.readAt_rep_full arg7.view x3]
    exact congrArg (k0_pay3 x0 x1 x2 x3) ((View.readAt_full scM0_0.view xa0 _).trans hp)
  · exact View.readAt_rep _ _ _

set_option backward.proofsInPublic true in
set_option maxHeartbeats 8000000 in
/-- A point past the tiles in use reads their number and returns. -/
theorem run_past (k0_h1 : ¬(k0_cond1 i (View.readAt (Elt Ideal) (tbM0_1).view (Rect.unit (s := S1) ![0] S1.size inb_S1_S1_0).toLoadRect T1 (Shape.Idx.first (numel1_S1.symm ▸ Nat.one_pos))) = 1#1))
    (K : PUnit → sProp 𝕄) :
    iprop((tbM0_1.view.loc (c : Thread nD τ) ↦{fullShare.right} T1)
          ∗ ((tbM0_1.view.loc (c : Thread nD τ) ↦{fullShare.right} T1) -∗ K ⟨⟩))
      ⊢ wp frame (wpE (defs₀ (F := Ideal)) Variants.none c none) Set.univ (cc0_moe_experts i tbM0_0 (Memref.isWhole_whole _) tbM0_1 (Memref.isWhole_whole _) arg4 harg4 arg5 harg5 arg6 harg6 arg7 harg7 arg8 harg8 arg9 harg9 scM0_0 (Memref.isWhole_whole _)) K := by
  rw [cc0_moe_experts_eq_skeleton]; unfold cc0_moe_experts_skel
  iintro ⟨HT1, Hk⟩
  have hT1 : tbM0_1.IsWhole := Memref.isWhole_whole _
  sl_exec! (disch := first | (guard_target = ¬(k0_cond1 _ _ = _); exact k0_h1))
  sl_step
  iapply Hk
  iexact HT1

end

end Cert.Kernel2Ideal.Moe

end
-- ==== Proof.MoeBody.lean ====
/- One grid point of the expert kernel, whatever its tables hold: what the body finds in every window and what it leaves there. -/
module

public import proofs.«01_k».proof.Proof.MoeRuns

@[expose] public section

set_option maxRecDepth 16384

noncomputable section

namespace Cert.Kernel2Ideal.Moe

open Cert.Kernel2Ideal Cert.Kernel2Ideal.Gen Cert.MoeWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

local notation "𝕄" => MT nD τ sig Unit (Elt Ideal) ℕ (UR sig nD τ) ℕ

variable (pf : Tabs) (hg : Good pf) (m : (ℓ : Loc nD τ sig) → Buf (Elt Ideal) ℓ)

/-- The pipeline at the tables' contents. -/
def adm : (pcfg0 (F := Ideal)).Adm := ⟨pf, ok_of_good hg⟩
abbrev cfgA : Pipeline.Cfg sig Λ₀ := cfg0 (F := Ideal) (adm pf hg)
abbrev pcs : Fin 1 → Pipeline.Cfg sig Λ₀ := Pipeline.pin (pcfgs (F := Ideal)) fun _ => adm pf hg

abbrev crd (t : Fin (cfgA pf hg).N) : (cfgA pf hg).grid.Coords := (cfgA pf hg).grid.coords t

theorem crd_val (t : Fin (cfgA pf hg).N) : ((crd pf hg t) 0).val = t.val / 2 ∧ ((crd pf hg t) 1).val = t.val % 2 := by
  have : ∀ t : Fin grid0.N, ((grid0.coords t) 0).val = t.val / 2 ∧ ((grid0.coords t) 1).val = t.val % 2 := by decide +kernel
  exact this t

theorem point_lt (t : Fin (cfgA pf hg).N) : t.val < 144 := t.isLt

abbrev ms_0 (t : Fin (cfgA pf hg).N) : Memref sig .tc .vmem S512x1024 .bf16 := spec0_0.stage ((cfgA pf hg).slots t (0 : Fin 6))
abbrev hs_0 (t : Fin (cfgA pf hg).N) : (ms_0 pf hg t).IsWhole := hstage0_0 (((cfgA pf hg).slots t (0 : Fin 6)).cast nbuf0_0)
abbrev ms_1 (t : Fin (cfgA pf hg).N) : Memref sig .tc .vmem S1x1024x1792 .bf16 := spec0_1.stage ((cfgA pf hg).slots t (1 : Fin 6))
abbrev hs_1 (t : Fin (cfgA pf hg).N) : (ms_1 pf hg t).IsWhole := hstage0_1 (((cfgA pf hg).slots t (1 : Fin 6)).cast nbuf0_1)
abbrev ms_2 (t : Fin (cfgA pf hg).N) : Memref sig .tc .vmem S1x1024x1792 .bf16 := spec0_2.stage ((cfgA pf hg).slots t (2 : Fin 6))
abbrev hs_2 (t : Fin (cfgA pf hg).N) : (ms_2 pf hg t).IsWhole := hstage0_2 (((cfgA pf hg).slots t (2 : Fin 6)).cast nbuf0_2)
abbrev ms_3 (t : Fin (cfgA pf hg).N) : Memref sig .tc .vmem S1x1792x1024 .bf16 := spec0_3.stage ((cfgA pf hg).slots t (3 : Fin 6))
abbrev hs_3 (t : Fin (cfgA pf hg).N) : (ms_3 pf hg t).IsWhole := hstage0_3 (((cfgA pf hg).slots t (3 : Fin 6)).cast nbuf0_3)
abbrev ms_4 (t : Fin (cfgA pf hg).N) : Memref sig .tc .vmem S512x128 .f32 := spec0_4.stage ((cfgA pf hg).slots t (4 : Fin 6))
abbrev hs_4 (t : Fin (cfgA pf hg).N) : (ms_4 pf hg t).IsWhole := hstage0_4 (((cfgA pf hg).slots t (4 : Fin 6)).cast nbuf0_4)
abbrev ms_5 (t : Fin (cfgA pf hg).N) : Memref sig .tc .vmem S512x1024 .bf16 := spec0_5.stage ((cfgA pf hg).slots t (5 : Fin 6))
abbrev hs_5 (t : Fin (cfgA pf hg).N) : (ms_5 pf hg t).IsWhole := hstage0_5 (((cfgA pf hg).slots t (5 : Fin 6)).cast nbuf0_5)

/-- Window `w`'s block at point `t`, read off its array at launch. -/
def iblk (c : Dev nD) (w : Fin (cfgA pf hg).W) (t : Fin (cfgA pf hg).N) :
    (((cfgA pf hg).win w).xblock (crd pf hg t)).Idx → Elt Ideal ((cfgA pf hg).win w).elt :=
  (((cfgA pf hg).win w).blk t).view.read (Elt Ideal) (m (((cfgA pf hg).win w).arr.view.loc (c : Thread nD τ)))

/-- What the first half of a tile leaves in the scratch buffer. -/
def accAt (c : Dev nD) (t : Fin (cfgA pf hg).N) : Vec Ideal S512x1024 .f32 :=
  k0_pay2 (F := Ideal) (iblk pf hg m c (0 : Fin 6) t) (iblk pf hg m c (1 : Fin 6) t) (iblk pf hg m c (2 : Fin 6) t) (iblk pf hg m c (3 : Fin 6) t)

/-- The point before. -/
def prev (t : Fin (cfgA pf hg).N) : Fin (cfgA pf hg).N := ⟨t.val - 1, Nat.lt_of_le_of_lt (Nat.sub_le _ _) t.isLt⟩

/-- What the second half of a tile leaves in the output's staging buffer. -/
def rowsAt (c : Dev nD) (t : Fin (cfgA pf hg).N) : Vec Ideal S512x1024 .bf16 :=
  rowsOut (iblk pf hg m c (0 : Fin 6) t) (iblk pf hg m c (1 : Fin 6) t) (iblk pf hg m c (2 : Fin 6) t) (iblk pf hg m c (3 : Fin 6) t)
    (iblk pf hg m c (4 : Fin 6) t) (accAt pf hg m c (prev pf hg t))

/-- Point `t` is the second half of a tile in use. -/
def Done (t : ℕ) : Prop := Live (nw pf) (t / 2) ∧ t % 2 = 1

/-- Between the points: the scratch buffer holds the first half's product, if the point before was one, and the tables are held. -/
def Phi (c : Dev nD) (t : Fin ((cfgA pf hg).N + 1)) : sProp 𝕄 :=
  iprop((∃ a, ⌜∀ u : Fin (cfgA pf hg).N, u.val + 1 = t.val → u.val % 2 = 0 → Live (nw pf) (u.val / 2) →
        scM0_0.view.read (Elt Ideal) a = accAt pf hg m c u⌝ ∗ (scM0_0.view.loc (c : Thread nD τ) ↦{fullShare} a))
      ∗ (tbM0_0.view.loc (c : Thread nD τ) ↦{fullShare.right} pf 0) ∗ (tbM0_1.view.loc (c : Thread nD τ) ↦{fullShare.right} pf 1))

/-- What the body may leave in a window's buffer, by what it found there: an input as it was; the output its tile's rows at the second
    half of a tile in use, and as it was elsewhere. -/
def afterR (c : Dev nD) (w : Fin (cfgA pf hg).W) (t : Fin (cfgA pf hg).N) (Y X : ((cfgA pf hg).win w).block.Idx → Elt Ideal ((cfgA pf hg).win w).elt) : Prop :=
  match w, Y, X with
  | ⟨0, _⟩, Y, X => X = Y
  | ⟨1, _⟩, Y, X => X = Y
  | ⟨2, _⟩, Y, X => X = Y
  | ⟨3, _⟩, Y, X => X = Y
  | ⟨4, _⟩, Y, X => X = Y
  | ⟨5, _⟩, Y, X => (Done pf t.val → X = rowsAt pf hg m c t) ∧ (¬Done pf t.val → X = Y)

def rd (_ : Fin 1) (c : Dev nD) : RDat τ (Elt Ideal) Unit ℕ (UR sig nD τ) ℕ (cfgA pf hg) c where
  A w := m (((cfgA pf hg).win w).arr.view.loc (c : Thread nD τ))
  after w t := afterR pf hg m c w t
  Φ t := Phi pf hg m c t
  q _ := fullShare
  owed _ := 0

/-! ## The inputs hold their blocks -/

theorem finds_0 (c : Dev nD) (t : Fin (cfgA pf hg).N) (Y) (h : (rd pf hg m 0 c).Finds ((0 : Fin 6) : Fin (cfgA pf hg).W) t Y) :
    Y = iblk pf hg m c (0 : Fin 6) t := by
  obtain ⟨d, hd⟩ := (rd pf hg m 0 c).finds_in_eq_fetched (0 : Fin 6) rfl (fun _ _ _ => rfl) (fun _ _ _ h => h) t Y h
  rw [hd]; unfold RDat.fetched RDat.blockOf iblk; rfl

theorem finds_1 (c : Dev nD) (t : Fin (cfgA pf hg).N) (Y) (h : (rd pf hg m 0 c).Finds ((1 : Fin 6) : Fin (cfgA pf hg).W) t Y) :
    Y = iblk pf hg m c (1 : Fin 6) t := by
  obtain ⟨d, hd⟩ := (rd pf hg m 0 c).finds_in_eq_fetched (1 : Fin 6) rfl (fun _ _ _ => rfl) (fun _ _ _ h => h) t Y h
  rw [hd]; unfold RDat.fetched RDat.blockOf iblk; rfl

theorem finds_2 (c : Dev nD) (t : Fin (cfgA pf hg).N) (Y) (h : (rd pf hg m 0 c).Finds ((2 : Fin 6) : Fin (cfgA pf hg).W) t Y) :
    Y = iblk pf hg m c (2 : Fin 6) t := by
  obtain ⟨d, hd⟩ := (rd pf hg m 0 c).finds_in_eq_fetched (2 : Fin 6) rfl (fun _ _ _ => rfl) (fun _ _ _ h => h) t Y h
  rw [hd]; unfold RDat.fetched RDat.blockOf iblk; rfl

theorem finds_3 (c : Dev nD) (t : Fin (cfgA pf hg).N) (Y) (h : (rd pf hg m 0 c).Finds ((3 : Fin 6) : Fin (cfgA pf hg).W) t Y) :
    Y = iblk pf hg m c (3 : Fin 6) t := by
  obtain ⟨d, hd⟩ := (rd pf hg m 0 c).finds_in_eq_fetched (3 : Fin 6) rfl (fun _ _ _ => rfl) (fun _ _ _ h => h) t Y h
  rw [hd]; unfold RDat.fetched RDat.blockOf iblk; rfl

theorem finds_4 (c : Dev nD) (t : Fin (cfgA pf hg).N) (Y) (h : (rd pf hg m 0 c).Finds ((4 : Fin 6) : Fin (cfgA pf hg).W) t Y) :
    Y = iblk pf hg m c (4 : Fin 6) t := by
  obtain ⟨d, hd⟩ := (rd pf hg m 0 c).finds_in_eq_fetched (4 : Fin 6) rfl (fun _ _ _ => rfl) (fun _ _ _ h => h) t Y h
  rw [hd]; unfold RDat.fetched RDat.blockOf iblk; rfl

/-! ## The body -/

abbrev bodyAt (t : Fin (cfgA pf hg).N) : Prog (TpuEff nD τ sig (Elt Ideal) Λ₀ .tc) PUnit :=
  cc0_moe_experts (crd pf hg t) (Memref.whole main_arg0) (Memref.isWhole_whole _) (Memref.whole main_arg1) (Memref.isWhole_whole _) (ms_0 pf hg t) (hs_0 pf hg t) (ms_1 pf hg t) (hs_1 pf hg t) (ms_2 pf hg t) (hs_2 pf hg t) (ms_3 pf hg t) (hs_3 pf hg t) (ms_4 pf hg t) (hs_4 pf hg t) (ms_5 pf hg t) (hs_5 pf hg t) (Memref.whole cc0_scratch0) (Memref.isWhole_whole _)

set_option maxHeartbeats 4000000 in
theorem sound_body (c : Dev nD) (t : Fin (cfgA pf hg).N) (Y5 : S512x1024.Idx → Elt Ideal .bf16) :
    iprop(Phi pf hg m c t.castSucc ∗ (rd pf hg m 0 c).owesAt () t.castSucc
        ∗ owns (c : Thread nD τ) (ms_0 pf hg t) fullShare (iblk pf hg m c (0 : Fin 6) t)
        ∗ owns (c : Thread nD τ) (ms_1 pf hg t) fullShare (iblk pf hg m c (1 : Fin 6) t)
        ∗ owns (c : Thread nD τ) (ms_2 pf hg t) fullShare (iblk pf hg m c (2 : Fin 6) t)
        ∗ owns (c : Thread nD τ) (ms_3 pf hg t) fullShare (iblk pf hg m c (3 : Fin 6) t)
        ∗ owns (c : Thread nD τ) (ms_4 pf hg t) fullShare (iblk pf hg m c (4 : Fin 6) t)
        ∗ owns (c : Thread nD τ) (ms_5 pf hg t) fullShare Y5)
      ⊢ wp frame (wpE (defs₀ (F := Ideal)) Variants.none c none) Set.univ (bodyAt pf hg t) fun _ =>
          iprop(Phi pf hg m c t.succ ∗ (rd pf hg m 0 c).owesAt () t.castSucc
            ∗ (∃ X, ⌜X = iblk pf hg m c (0 : Fin 6) t⌝ ∗ owns (c : Thread nD τ) (ms_0 pf hg t) fullShare X)
            ∗ (∃ X, ⌜X = iblk pf hg m c (1 : Fin 6) t⌝ ∗ owns (c : Thread nD τ) (ms_1 pf hg t) fullShare X)
            ∗ (∃ X, ⌜X = iblk pf hg m c (2 : Fin 6) t⌝ ∗ owns (c : Thread nD τ) (ms_2 pf hg t) fullShare X)
            ∗ (∃ X, ⌜X = iblk pf hg m c (3 : Fin 6) t⌝ ∗ owns (c : Thread nD τ) (ms_3 pf hg t) fullShare X)
            ∗ (∃ X, ⌜X = iblk pf hg m c (4 : Fin 6) t⌝ ∗ owns (c : Thread nD τ) (ms_4 pf hg t) fullShare X)
            ∗ (∃ X, ⌜(Done pf t.val → X = rowsAt pf hg m c t) ∧ (¬Done pf t.val → X = Y5)⌝ ∗ owns (c : Thread nD τ) (ms_5 pf hg t) fullShare X)) := by
  obtain ⟨e0, e1⟩ := crd_val pf hg t
  unfold Phi
  simp only [Fin.val_castSucc, Fin.val_succ]
  by_cases hl : Live (nw pf) (t.val / 2)
  · have k1 : k0_cond1 (crd pf hg t) (View.readAt (Elt Ideal) (tbM0_1).view (Rect.unit (s := S1) ![0] S1.size inb_S1_S1_0).toLoadRect (pf 1) (Shape.Idx.first (numel1_S1.symm ▸ Nat.one_pos))) = 1#1 := by
      rw [nw_read, live_iff, e0]; exact hl
    by_cases hb : t.val % 2 = 1
    · have k2 := mt (first_iff (crd pf hg t)).mp (by rw [e1, hb]; decide)
      have k3 := (later_iff (crd pf hg t)).mpr (e1.trans hb)
      have k4 := (last_iff (crd pf hg t)).mpr (e1.trans hb)
      iintro ⟨⟨⟨%a0, %ha0, HS0⟩, HT0, HT1⟩, Ho, H0, H1, H2, H3, H4, H5⟩
      have hacc : scM0_0.view.read (Elt Ideal) a0 = accAt pf hg m c (prev pf hg t) :=
        ha0 (prev pf hg t) (by show t.val - 1 + 1 = t.val; omega) (by show (t.val - 1) % 2 = 0; omega)
          (by show Live (nw pf) ((t.val - 1) / 2); rwa [show (t.val - 1) / 2 = t.val / 2 by omega])
      iapply ((kernelRun0_B c (crd pf hg t) (ms_0 pf hg t) (hs_0 pf hg t) (ms_1 pf hg t) (hs_1 pf hg t) (ms_2 pf hg t) (hs_2 pf hg t) (ms_3 pf hg t) (hs_3 pf hg t) (ms_4 pf hg t) (hs_4 pf hg t) (ms_5 pf hg t) (hs_5 pf hg t) (pf 0) (pf 1) (iblk pf hg m c (0 : Fin 6) t) (iblk pf hg m c (1 : Fin 6) t) (iblk pf hg m c (2 : Fin 6) t) (iblk pf hg m c (3 : Fin 6) t) (iblk pf hg m c (4 : Fin 6) t) a0 k1 k2 k3 k4).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      iintro ⟨H0, H1, H2, H3, H4, HT0, HT1, ⟨%e5, H5⟩, HS0⟩
      isplitl [HS0 HT0 HT1]
      · isplitl [HS0]
        · iexists _; isplitr; swap
          · iexact HS0
          · ipureintro; intro u hu hu2; exact absurd hu2 (by omega)
        isplitl [HT0]
        · iexact HT0
        iexact HT1
      isplitl [Ho]; · iexact Ho
      isplitl [H0]
      · iexists _; isplitr; swap
        · iapply owns_of_rep; iexact H0
        · ipureintro; exact rfl
      isplitl [H1]
      · iexists _; isplitr; swap
        · iapply owns_of_rep; iexact H1
        · ipureintro; exact rfl
      isplitl [H2]
      · iexists _; isplitr; swap
        · iapply owns_of_rep; iexact H2
        · ipureintro; exact rfl
      isplitl [H3]
      · iexists _; isplitr; swap
        · iapply owns_of_rep; iexact H3
        · ipureintro; exact rfl
      isplitl [H4]
      · iexists _; isplitr; swap
        · iapply owns_of_rep; iexact H4
        · ipureintro; exact rfl
      iexists _; isplitr; swap
      · unfold owns; iexists _; isplitr; swap
        · iexact H5
        · ipureintro; exact out_second (hp := hacc) ..
      · ipureintro; exact ⟨fun _ => rfl, fun hn => absurd ⟨hl, hb⟩ hn⟩
    · have k2 := (first_iff (crd pf hg t)).mpr (by rw [e1]; omega)
      have k3 := mt (later_iff (crd pf hg t)).mp (by rw [e1]; exact hb)
      have k4 := mt (last_iff (crd pf hg t)).mp (by rw [e1]; exact hb)
      iintro ⟨⟨⟨%a0, %ha0, HS0⟩, HT0, HT1⟩, Ho, H0, H1, H2, H3, H4, H5⟩
      iapply ((kernelRun0_A c (crd pf hg t) (ms_0 pf hg t) (hs_0 pf hg t) (ms_1 pf hg t) (hs_1 pf hg t) (ms_2 pf hg t) (hs_2 pf hg t) (ms_3 pf hg t) (hs_3 pf hg t) (ms_4 pf hg t) (hs_4 pf hg t) (ms_5 pf hg t) (hs_5 pf hg t) (pf 0) (pf 1) (iblk pf hg m c (0 : Fin 6) t) (iblk pf hg m c (1 : Fin 6) t) (iblk pf hg m c (2 : Fin 6) t) (iblk pf hg m c (3 : Fin 6) t) (iblk pf hg m c (4 : Fin 6) t) k1 k2 k3 k4).2 _ a0 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      iintro ⟨H0, H1, H2, H3, H4, HT0, HT1, H5, HS0⟩
      isplitl [HS0 HT0 HT1]
      · isplitl [HS0]
        · iexists _; isplitr; swap
          · iexact HS0
          · ipureintro; intro u hu hu2 _
            obtain rfl : u = t := Fin.ext (by omega)
            exact scratch_first c _ _ _ _ _ _ _ _ _ _ _ _ _ _ _ _ _ _ _ _ _ _ _ _
        isplitl [HT0]
        · iexact HT0
        iexact HT1
      isplitl [Ho]; · iexact Ho
      isplitl [H0]
      · iexists _; isplitr; swap
        · iapply owns_of_rep; iexact H0
        · ipureintro; exact rfl
      isplitl [H1]
      · iexists _; isplitr; swap
        · iapply owns_of_rep; iexact H1
        · ipureintro; exact rfl
      isplitl [H2]
      · iexists _; isplitr; swap
        · iapply owns_of_rep; iexact H2
        · ipureintro; exact rfl
      isplitl [H3]
      · iexists _; isplitr; swap
        · iapply owns_of_rep; iexact H3
        · ipureintro; exact rfl
      isplitl [H4]
      · iexists _; isplitr; swap
        · iapply owns_of_rep; iexact H4
        · ipureintro; exact rfl
      iexists _; isplitr; swap
      · iexact H5
      · ipureintro; exact ⟨fun hd => absurd hd.2 hb, fun _ => rfl⟩
  · have k1 : ¬(k0_cond1 (crd pf hg t) (View.readAt (Elt Ideal) (tbM0_1).view (Rect.unit (s := S1) ![0] S1.size inb_S1_S1_0).toLoadRect (pf 1) (Shape.Idx.first (numel1_S1.symm ▸ Nat.one_pos))) = 1#1) := by
      rw [nw_read, live_iff, e0]; exact hl
    iintro ⟨⟨⟨%a0, %ha0, HS0⟩, HT0, HT1⟩, Ho, H0, H1, H2, H3, H4, H5⟩
    iapply (run_past c (crd pf hg t) (ms_0 pf hg t) (hs_0 pf hg t) (ms_1 pf hg t) (hs_1 pf hg t) (ms_2 pf hg t) (hs_2 pf hg t) (ms_3 pf hg t) (hs_3 pf hg t) (ms_4 pf hg t) (hs_4 pf hg t) (ms_5 pf hg t) (hs_5 pf hg t) (pf 1) k1 _)
    isplitl [HT1]; · iexact HT1
    iintro HT1
    isplitl [HS0 HT0 HT1]
    · isplitl [HS0]
      · iexists _; isplitr; swap
        · iexact HS0
        · ipureintro; intro u hu _ hu3
          exact absurd (by rwa [show u.val / 2 = t.val / 2 by omega] at hu3) hl
      isplitl [HT0]
      · iexact HT0
      iexact HT1
    isplitl [Ho]; · iexact Ho
    isplitl [H0]
    · iexists _; isplitr; swap
      · iexact H0
      · ipureintro; exact rfl
    isplitl [H1]
    · iexists _; isplitr; swap
      · iexact H1
      · ipureintro; exact rfl
    isplitl [H2]
    · iexists _; isplitr; swap
      · iexact H2
      · ipureintro; exact rfl
    isplitl [H3]
    · iexists _; isplitr; swap
      · iexact H3
      · ipureintro; exact rfl
    isplitl [H4]
    · iexists _; isplitr; swap
      · iexact H4
      · ipureintro; exact rfl
    iexists _; isplitr; swap
    · iexact H5
    · ipureintro; exact ⟨fun hd => absurd hd.1 hl, fun _ => rfl⟩

/-- The body at every point, on whatever it may find. -/
theorem body_obligation (c : Dev nD) : (rd pf hg m 0 c).BodyObligation (defs₀ (F := Ideal)) Variants.none () Set.univ := fun t Y hY => by
  have h0 := finds_0 pf hg m c t (Y (0 : Fin 6)) (hY (0 : Fin 6))
  have h1 := finds_1 pf hg m c t (Y (1 : Fin 6)) (hY (1 : Fin 6))
  have h2 := finds_2 pf hg m c t (Y (2 : Fin 6)) (hY (2 : Fin 6))
  have h3 := finds_3 pf hg m c t (Y (3 : Fin 6)) (hY (3 : Fin 6))
  have h4 := finds_4 pf hg m c t (Y (4 : Fin 6)) (hY (4 : Fin 6))
  simp only [bigSep_W0]
  rw [h0, h1, h2, h3, h4]
  exact sound_body pf hg m c t (Y (5 : Fin 6))

end Cert.Kernel2Ideal.Moe

end
-- ==== Proof.MoeLaunch.lean ====
/- The expert kernel's launch: from any memory whose table of experts is good, it ends with every array at what the points leave there,
   its arguments unchanged and every semaphore counter at zero. -/
module

public import proofs.«01_k».proof.Proof.MoeBody

@[expose] public section

set_option maxRecDepth 16384

noncomputable section

namespace Cert.Kernel2Ideal.Moe

open Cert.Kernel2Ideal Cert.Kernel2Ideal.Gen Cert.MoeWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

local notation "𝕄" => MT nD τ sig Unit (Elt Ideal) ℕ (UR sig nD τ) ℕ

abbrev EP : Emb (UR sig nD τ) 𝕄 := emb₁

variable (pf : Tabs) (hg : Good pf) (m : (ℓ : Loc nD τ sig) → Buf (Elt Ideal) ℓ) (ρ : Dev nD → PrngReg)

/-- The launch element of the pipeline's rounds. -/
def u₀ : UR sig nD τ :=
  initOf (Pipeline.cells (pcs pf hg) ((launch0 (F := Ideal)).cellOf_inj fun _ => adm pf hg))
    (Pipeline.launchToks (pcs pf hg) ((launch0 (F := Ideal)).cellOf_inj fun _ => adm pf hg))

theorem share_eq (c : Dev nD) (w : Fin (cfgA pf hg).W) : (rd pf hg m 0 c).share w = fullShare := by unfold RDat.share; split <;> rfl

/-- The tables, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm pf hg).1 ∗ Pipeline.scopedRest spec0 c) ⊢ (rd pf hg m 0 c).Φ 0 := by
  rw [prefHeld_eq, scopedRest0_eq, show (rd pf hg m 0 c).Φ 0 = Phi pf hg m c 0 from rfl]
  unfold Phi
  iintro ⟨-, ⟨HT0, HT1⟩, ⟨%a0, HS0⟩⟩
  isplitl [HS0]
  · iexists a0; isplitr; swap
    · iexact HS0
    · ipureintro; intro u hu; exact absurd hu (Nat.succ_ne_zero _)
  isplitl [HT0]
  · iexact HT0
  iexact HT1

theorem phiN_exit (c : Dev nD) : (rd pf hg m 0 c).Φ (Fin.last (cfgA pf hg).N) ⊢ iprop(BI.emp ∗ BI.emp ∗ Pipeline.scopedRest spec0 c) := by
  rw [scopedRest0_eq, show (rd pf hg m 0 c).Φ (Fin.last (cfgA pf hg).N) = Phi pf hg m c (Fin.last _) from rfl]
  unfold Phi
  iintro ⟨⟨%a0, -, HS0⟩, -, -⟩
  isplitr; · iempintro
  isplitr; · iempintro
  iexists a0; iexact HS0

/-- What the launch ends in. -/
def QC : PUnit × MemSt nD τ sig (Elt Ideal) → Prop := fun r =>
  (∀ c : Dev nD, (∀ w : Fin (cfgA pf hg).W, (rd pf hg m 0 c).ArrAt w (cfgA pf hg).N (r.2.mem (((cfgA pf hg).win w).arr.view.loc (c : Thread nD τ))))
    ∧ ∀ j, r.2.mem ((c : Thread nD τ).loc (pre0.ref j)) = pf j) ∧ r.2.sem = fun _ => 0

set_option backward.isDefEq.respectTransparency.types false in
set_option maxHeartbeats 4000000 in
theorem run_main (hp : ∀ (c : Dev nD) j, m ((c : Thread nD τ).loc (pre0.ref j)) = pf j) :
    θ_run (defs (F := Ideal)) (onTc (τ := τ) (main (F := Ideal))) ⟨m, fun _ => 0, ρ⟩ (QC pf hg m) := by
  classical
  have hxs (c : Dev nD) := Pipeline.ownSems0_none (nD := nD) (τ := τ) (sig := sig) (Ix := Unit) (Val := Elt Ideal) (Name := ℕ) (U := UR sig nD τ) (Lvl := ℕ) c
  refine Pipeline.RDat.θ_run_region_pf_quiescent pcfgs (fun _ => adm pf hg) (rd pf hg m) () ((launch0 (F := Ideal)).cellOf_inj fun _ => adm pf hg) (0 : Fin 1)
    (launch0 (F := Ideal)).win.to₀ (Pipeline.OwnSemFacts.none _) (launch0 (F := Ideal)).pre EP defs₀ Variants.none m ρ main
    (hbody := fun c => body_obligation pf hg m c) (hne := (launch0 (F := Ideal)).block_pos)
    (harr := (launch0 (F := Ideal)).arr_whole) (hstage := (launch0 (F := Ideal)).stage_whole) (howed := fun _ _ => rfl)
    (G := fun _ => BI.emp) (u₀ := u₀ pf hg) (hu₀ := ?_)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.RDat.arrays_split pcfgs (fun _ => adm pf hg) (rd pf hg m) 0 (launch0 (F := Ideal)).win.arr_inj c (launch0 (F := Ideal)).arr_whole
      (share_eq pf hg m c) _ _ fun _ => rfl)
    (hpf := hp)
    (X := fun _ => iprop(emp)) (Y := fun _ => iprop(emp)) (Z := fun _ => iprop(emp))
    (hX := fun c => by rw [unscopedRestP0_eq]; iintro -; imodintro; isplitr <;> iempintro)
    (hin := phi0_intro pf hg m)
    (hout := fun c => by rw [hxs]; exact phiN_exit pf hg m c)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)
  iintro Hu
  imodintro
  isplitl [Hu]
  · iapply (show ownU (u₀ pf hg) ⊢ BI.own (EP.toFun (u₀ pf hg)) from .rfl)
    iexact Hu
  rw [BI.bigSep_emp_const]; iempintro

/-- The tables a launch memory holds. -/
def tabs (m : (ℓ : Loc nD τ sig) → Buf (Elt Ideal) ℓ) : Tabs := fun k => m ((Dev.tc (⟨0, Nat.one_pos⟩ : Dev nD) : Thread nD τ).loc (pre0.ref k))

theorem tabs_eq (c : Dev nD) (j) : m ((c : Thread nD τ).loc (pre0.ref j)) = tabs m j := by
  obtain rfl : c = ⟨0, Nat.one_pos⟩ := Subsingleton.elim _ _
  rfl

/-- An input's array ends as it was. -/
theorem in_eq (c : Dev nD) (w : Fin (cfgA pf hg).W) (hw : ((cfgA pf hg).win w).isOut = false) {X}
    (h : (rd pf hg m 0 c).ArrAt w (cfgA pf hg).N X) : X = m (((cfgA pf hg).win w).arr.view.loc (c : Thread nD τ)) := by
  rw [(rd pf hg m 0 c).ArrAt_in w hw] at h; exact h

set_option maxHeartbeats 2000000 in
/-- The arguments end unchanged. -/
theorem frame (hg : Good (tabs m)) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  exact (θ_run defs _ _).mono (fun _ h => ⟨fun c => ⟨((h.1 c).2 0).trans (tabs_eq m c 0).symm, ((h.1 c).2 1).trans (tabs_eq m c 1).symm,
    in_eq (tabs m) hg m c (0 : Fin 6) rfl ((h.1 c).1 (0 : Fin 6)), in_eq (tabs m) hg m c (4 : Fin 6) rfl ((h.1 c).1 (4 : Fin 6)), in_eq (tabs m) hg m c (1 : Fin 6) rfl ((h.1 c).1 (1 : Fin 6)),
    in_eq (tabs m) hg m c (2 : Fin 6) rfl ((h.1 c).1 (2 : Fin 6)), in_eq (tabs m) hg m c (3 : Fin 6) rfl ((h.1 c).1 (3 : Fin 6))⟩, h.2⟩)
    (run_main (tabs m) hg m ρ (tabs_eq m))

end Cert.Kernel2Ideal.Moe

end
-- ==== Proof.MoeSpec.lean ====
/- The expert layer in formulas, over the extended reals: row `r`'s hidden values under expert `e`, and what they give. -/
module

public import proofs.«01_k».proof.Proof.MoeWords
public import Idealize.ShloMosaic.Lib.Pointwise

@[expose] public section

noncomputable section

namespace Cert.MoeSpec

open Idealize.ShloMosaic

abbrev SX : Shape := ⟨2, ![36864, 1024]⟩
abbrev SG : Shape := ⟨2, ![36864, 128]⟩
abbrev SU : Shape := ⟨3, ![8, 1024, 3584]⟩
abbrev SD : Shape := ⟨3, ![8, 3584, 1024]⟩

variable (x : Vec Ideal SX .bf16) (gs : Vec Ideal SG .f32) (wg wu : Vec Ideal SU .bf16) (wd : Vec Ideal SD .bf16)

/-- Row `r` against column `j` of expert `e`'s matrix. -/
def proj (w : Vec Ideal SU .bf16) (r : Fin 36864) (e : Fin 8) (j : Fin 3584) : EReal := (∑ k : Fin 1024, x (ix2 r k) * w (ix3 e k j) : EReal)

/-- The hidden value: the gate's projection, times its logistic, times the other projection. -/
def hidden (r : Fin 36864) (e : Fin 8) (j : Fin 3584) : EReal :=
  proj x wg r e j * Ideal.div 1 (1 + Ideal.exp (-proj x wg r e j)) * proj x wu r e j

/-- Entry `d` of row `r` under expert `e`. -/
def entry (r : Fin 36864) (e : Fin 8) (d : Fin 1024) : EReal := (∑ j : Fin 3584, hidden x wg wu r e j * wd (ix3 e j d) : EReal)

/-- Hidden value `j` of half `h`. -/
def halfIx (h : Fin 2) (j : Fin 1792) : Fin 3584 := ⟨h.val * 1792 + j.val, by omega⟩

/-- The part of `entry` from half `h` of the hidden width. -/
def part (r : Fin 36864) (e : Fin 8) (d : Fin 1024) (h : Fin 2) : EReal :=
  (∑ j : Fin 1792, hidden x wg wu r e (halfIx h j) * wd (ix3 e (halfIx h j) d) : EReal)

theorem entry_eq (r : Fin 36864) (e : Fin 8) (d : Fin 1024) : entry x wg wu wd r e d = part x wg wu wd r e d 0 + part x wg wu wd r e d 1 := by
  unfold entry part
  rw [show (∑ j : Fin 3584, hidden x wg wu r e j * wd (ix3 e j d) : EReal) = _ from
    Fin.sum_univ_add (a := 1792) (b := 1792) fun j : Fin (1792 + 1792) => (hidden x wg wu r e j * wd (ix3 e j d) : EReal)]
  refine congrArg₂ (fun a b : EReal => a + b) (Finset.sum_congr rfl fun j _ => ?_) (Finset.sum_congr rfl fun j _ => ?_)
  · rw [show (Fin.castAdd 1792 j : Fin (1792 + 1792)) = halfIx 0 j from Fin.ext (by simp [halfIx])]
  · rw [show (Fin.natAdd 1792 j : Fin (1792 + 1792)) = halfIx 1 j from Fin.ext (by simp [halfIx, add_comm])]

end Cert.MoeSpec

end
-- ==== Proof.MoeValue.lean ====
/- What the expert kernel leaves in its result array: every tile in use holds that tile's rows. -/
module

public import proofs.«01_k».proof.Proof.MoeLaunch
public import proofs.«01_k».proof.Proof.MoeSpec
public import Idealize.ShloMosaic.Lib.Pipeline.ArrRel

@[expose] public section

set_option maxRecDepth 16384

noncomputable section

namespace Cert.Kernel2Ideal.Moe

open Cert.Kernel2Ideal Cert.Kernel2Ideal.Gen Cert.MoeWords
open Idealize.ShloMosaic
open Idealize.ShloMosaic.TcCoe Idealize.ShloMosaic.Tactic
open Idealize.ShloMosaic.Pointwise
open Idealize.ShloMosaic.Pipeline (RDat Cfg Window)
open Cert.MoeSpec (proj entry part halfIx)

variable (pf : Tabs) (hg : Good pf) (m : (ℓ : Loc nD τ sig) → Buf (Elt Ideal) ℓ)

/-! ## The points that write the result back -/

/-- The tile a point's rows are. -/
def tileAt (t : ℕ) : ℕ := tileW (nw pf) (t / 2)

theorem out_index (t : Fin (cfgA pf hg).N) : ((cfgA pf hg).win (5 : Fin 6)).index t = ![tileAt pf t.val, 0] := by
  show ix0 pf 5 (crd pf hg t) = _
  rw [out_eq, (crd_val pf hg t).1]; rfl

theorem flush_iff (t : Fin (cfgA pf hg).N) :
    ((cfgA pf hg).win (5 : Fin 6)).flush t = true ↔ t.val = 143 ∨ (t.val < 143 ∧ tileAt pf (t.val + 1) ≠ tileAt pf t.val) := by
  have ht := point_lt pf hg t
  have hN : (cfgA pf hg).grid.N = 144 := rfl
  rw [Window.flush_eq_flushOf]
  unfold Window.flushOf
  rw [show ((cfgA pf hg).win (5 : Fin 6)).isOut = true from rfl, Bool.true_and, Bool.or_eq_true, decide_eq_true_eq, decide_eq_true_eq]
  refine or_congr (by omega) ?_
  have e (h : t.val + 1 < 144) : (((cfgA pf hg).win (5 : Fin 6)).indexMap ((cfgA pf hg).grid.coords ⟨t.val + 1, h⟩) ≠ ((cfgA pf hg).win (5 : Fin 6)).indexMap ((cfgA pf hg).grid.coords t))
      ↔ tileAt pf (t.val + 1) ≠ tileAt pf t.val := by
    rw [show ((cfgA pf hg).win (5 : Fin 6)).indexMap ((cfgA pf hg).grid.coords ⟨t.val + 1, h⟩) = _ from out_index pf hg ⟨t.val + 1, h⟩,
      show ((cfgA pf hg).win (5 : Fin 6)).indexMap ((cfgA pf hg).grid.coords t) = _ from out_index pf hg t]
    refine not_congr ⟨fun h' => congrFun h' 0, fun h' => by rw [h']⟩
  constructor
  · rintro ⟨h, h'⟩; exact ⟨by omega, (e h).mp h'⟩
  · rintro ⟨h, h'⟩; exact ⟨by omega, (e (by omega)).mpr h'⟩

/-- The second half of the tile a point's rows are. -/
def lastOf (t : Fin (cfgA pf hg).N) : Fin (cfgA pf hg).N :=
  ⟨2 * tileAt pf t.val + 1, by
    have : tileAt pf t.val < 72 := tileW_lt _ (by have := point_lt pf hg t; omega)
    show _ < 144; omega⟩

/-- After the second half of a tile in use, and at every point past the tiles in use, the output's staging buffer holds the tile's rows. -/
theorem leaves_rows (c : Dev nD) (hn : 0 < (nw pf).toInt) : ∀ (n : ℕ) (t : Fin (cfgA pf hg).N), t.val = n → (t.val % 2 = 1 ∨ ¬Live (nw pf) (t.val / 2)) →
    ∀ X, (rd pf hg m 0 c).Leaves (5 : Fin 6) t X → X = rowsAt pf hg m c (lastOf pf hg t) := by
  intro n
  induction n with
  | zero =>
    intro t h0 h
    exfalso
    rcases h with h | h
    · omega
    · apply h; unfold Live; rw [h0]; simpa using hn
  | succ n ih =>
    intro t hn1 hcase X hX
    have ht := point_lt pf hg t
    obtain ⟨Y, hY, hXY⟩ := hX
    have hXY' : (Done pf t.val → X = rowsAt pf hg m c t) ∧ (¬Done pf t.val → X = Y) := hXY
    by_cases hl : Live (nw pf) (t.val / 2)
    · have h1 : t.val % 2 = 1 := hcase.resolve_right fun h => h hl
      have : lastOf pf hg t = t := Fin.ext (by
        show 2 * tileW (nw pf) (t.val / 2) + 1 = t.val
        rw [tileW_live (by omega) hl]; omega)
      rw [this]; exact hXY'.1 ⟨hl, h1⟩
    · rw [hXY'.2 fun h => hl h.1]
      have hd := tileW_dead (by omega : t.val / 2 < 72) hn hl
      have hnot : ¬ ((t.val / 2 : ℕ) : ℤ) < (nw pf).toInt := hl
      let p : Fin (cfgA pf hg).N := ⟨t.val - 1, Nat.lt_of_le_of_lt (Nat.sub_le _ _) t.isLt⟩
      have hpv : p.val = t.val - 1 := rfl
      have hp : p.val % 2 = 1 ∨ ¬Live (nw pf) (p.val / 2) := by
        by_cases h1 : p.val % 2 = 1
        · exact .inl h1
        · refine .inr ?_; rw [show p.val / 2 = t.val / 2 by omega]; exact hl
      have htile : tileAt pf p.val = tileAt pf t.val := by
        unfold tileAt
        by_cases hlp : Live (nw pf) (p.val / 2)
        · rw [tileW_live (by omega) hlp]
          have : ((p.val / 2 : ℕ) : ℤ) < (nw pf).toInt := hlp
          omega
        · have := tileW_dead (by omega : p.val / 2 < 72) hn hlp
          omega
      have hnf : ¬ ((cfgA pf hg).win (5 : Fin 6)).flush p = true := by
        rw [flush_iff]
        rintro (h | ⟨-, h⟩)
        · omega
        · apply h; rw [show p.val + 1 = t.val by omega]; exact htile.symm
      have hL := ((rd pf hg m 0 c).finds_of_pos (w := (5 : Fin 6)) (t := t) rfl (by omega) Y).mp hY
      rw [ih p (by omega) hp Y (hL.resolve_left hnf)]
      exact congrArg _ (Fin.ext (by show 2 * tileAt pf p.val + 1 = 2 * tileAt pf t.val + 1; rw [htile]))

/-- Wherever the result is written back while a tile is in use, it is that tile's rows. -/
theorem flush_rows (c : Dev nD) (hn : 0 < (nw pf).toInt) (t : Fin (cfgA pf hg).N) (hf : ((cfgA pf hg).win (5 : Fin 6)).flush t = true)
    (X) (hX : (rd pf hg m 0 c).Leaves (5 : Fin 6) t X) : X = rowsAt pf hg m c (lastOf pf hg t) := by
  refine leaves_rows pf hg m c hn t.val t rfl ?_ X hX
  by_contra hcon
  obtain ⟨h1, h2⟩ := not_or.mp hcon
  have ht := point_lt pf hg t
  rcases (flush_iff pf hg t).mp hf with h | ⟨h, h'⟩
  · omega
  · apply h'; unfold tileAt; rw [show (t.val + 1) / 2 = t.val / 2 by omega]

/-- Every tile in use is written back. -/
theorem flush_ex (k : ℕ) (hk : k < 72) (hl : Live (nw pf) k) :
    ∃ t : Fin (cfgA pf hg).N, ((cfgA pf hg).win (5 : Fin 6)).flush t = true ∧ tileAt pf t.val = k := by
  have hl' : (k : ℤ) < (nw pf).toInt := hl
  by_cases h : k + 1 < 72 ∧ Live (nw pf) (k + 1)
  · refine ⟨⟨2 * k + 1, by show _ < 144; omega⟩, (flush_iff pf hg _).mpr (.inr ⟨by show 2 * k + 1 < 143; omega, ?_⟩), ?_⟩
    · show tileW (nw pf) ((2 * k + 1 + 1) / 2) ≠ tileW (nw pf) ((2 * k + 1) / 2)
      rw [show (2 * k + 1 + 1) / 2 = k + 1 by omega, show (2 * k + 1) / 2 = k by omega, tileW_live h.1 h.2, tileW_live hk hl]; omega
    · show tileW (nw pf) ((2 * k + 1) / 2) = k
      rw [show (2 * k + 1) / 2 = k by omega, tileW_live hk hl]
  · refine ⟨⟨143, by show _ < 144; omega⟩, (flush_iff pf hg _).mpr (.inl rfl), ?_⟩
    unfold tileAt; rw [show (143 : ℕ) / 2 = 71 from rfl]
    by_cases h71 : Live (nw pf) 71
    · have h71' : ((71 : ℕ) : ℤ) < (nw pf).toInt := h71
      have : ¬ k + 1 < 72 := fun hh => h ⟨hh, by show ((k + 1 : ℕ) : ℤ) < _; omega⟩
      rw [tileW_live (by omega) h71]; omega
    · have := tileW_dead (by omega : 71 < 72) (by omega) h71
      have h71' : ¬ ((71 : ℕ) : ℤ) < (nw pf).toInt := h71
      have h' : ¬ ((k + 1 : ℕ) : ℤ) < (nw pf).toInt := fun hh => h ⟨by omega, hh⟩
      omega

/-! ## The blocks -/

section
variable (c : Dev nD) (t : Fin (cfgA pf hg).N)

theorem tileAt_lt : tileAt pf t.val < 72 := tileW_lt _ (by have := point_lt pf hg t; omega)

/-- The array's row of the block's row `r`. -/
def rowG (r : Fin 512) : Fin 36864 := ⟨tileAt pf t.val * 512 + r.val, by have := tileAt_lt pf hg t; omega⟩
/-- The point's expert. -/
def expG : Fin 8 := ⟨(ew pf (crd pf hg t)).toNat, ew_lt hg _⟩
/-- The point's half of the hidden width. -/
def halfG : Fin 2 := ⟨halfW (nw pf) (t.val / 2) (t.val % 2), halfW_lt _ _ (Nat.mod_lt _ (by omega))⟩

theorem ix_rows : ((cfgA pf hg).win (0 : Fin 6)).index t = ![tileAt pf t.val, 0] := by
  show ix0 pf 0 (crd pf hg t) = _
  rw [rows_eq, (crd_val pf hg t).1]; rfl
theorem ix_gate : ((cfgA pf hg).win (1 : Fin 6)).index t = ![(expG pf hg t).val, 0, (halfG pf hg t).val] := by
  show ix0 pf 1 (crd pf hg t) = _
  rw [gate_eq, (crd_val pf hg t).1, (crd_val pf hg t).2]; rfl
theorem ix_up : ((cfgA pf hg).win (2 : Fin 6)).index t = ![(expG pf hg t).val, 0, (halfG pf hg t).val] := by
  show ix0 pf 2 (crd pf hg t) = _
  rw [up_eq, (crd_val pf hg t).1, (crd_val pf hg t).2]; rfl
theorem ix_down : ((cfgA pf hg).win (3 : Fin 6)).index t = ![(expG pf hg t).val, (halfG pf hg t).val, 0] := by
  show ix0 pf 3 (crd pf hg t) = _
  rw [down_eq, (crd_val pf hg t).1, (crd_val pf hg t).2]; rfl
theorem ix_scale : ((cfgA pf hg).win (4 : Fin 6)).index t = ![tileAt pf t.val, 0] := by
  show ix0 pf 4 (crd pf hg t) = _
  rw [scale_eq, (crd_val pf hg t).1]; rfl

theorem emb_out (r : Fin 512) (d : Fin 1024) :
    (((cfgA pf hg).win (5 : Fin 6)).blk t).view.emb (ix2 r d : S512x1024.Idx) = (ix2 (rowG pf hg t r) d : S36864x1024.Idx) := by
  have e0 := congrFun (out_index pf hg t) 0
  have e1 := congrFun (out_index pf hg t) 1
  funext a; apply Fin.ext
  match a with
  | ⟨0, _⟩ => show ((cfgA pf hg).win (5 : Fin 6)).index t (0 : Fin 2) * 512 + 1 * r.val = tileAt pf t.val * 512 + r.val; rw [e0]; show tileAt pf t.val * 512 + _ = _; omega
  | ⟨1, _⟩ => show ((cfgA pf hg).win (5 : Fin 6)).index t (1 : Fin 2) * 1024 + 1 * d.val = d.val; rw [e1]; show 0 * 1024 + _ = _; omega

theorem emb_rows (r : Fin 512) (d : Fin 1024) :
    (((cfgA pf hg).win (0 : Fin 6)).blk t).view.emb (ix2 r d : S512x1024.Idx) = (ix2 (rowG pf hg t r) d : S36864x1024.Idx) := by
  have e0 := congrFun (ix_rows pf hg t) 0
  have e1 := congrFun (ix_rows pf hg t) 1
  funext a; apply Fin.ext
  match a with
  | ⟨0, _⟩ => show ((cfgA pf hg).win (0 : Fin 6)).index t (0 : Fin 2) * 512 + 1 * r.val = tileAt pf t.val * 512 + r.val; rw [e0]; show tileAt pf t.val * 512 + _ = _; omega
  | ⟨1, _⟩ => show ((cfgA pf hg).win (0 : Fin 6)).index t (1 : Fin 2) * 1024 + 1 * d.val = d.val; rw [e1]; show 0 * 1024 + _ = _; omega

theorem emb_scale (r : Fin 512) (d : Fin 128) :
    (((cfgA pf hg).win (4 : Fin 6)).blk t).view.emb (ix2 r d : S512x128.Idx) = (ix2 (rowG pf hg t r) d : S36864x128.Idx) := by
  have e0 := congrFun (ix_scale pf hg t) 0
  have e1 := congrFun (ix_scale pf hg t) 1
  funext a; apply Fin.ext
  match a with
  | ⟨0, _⟩ => show ((cfgA pf hg).win (4 : Fin 6)).index t (0 : Fin 2) * 512 + 1 * r.val = tileAt pf t.val * 512 + r.val; rw [e0]; show tileAt pf t.val * 512 + _ = _; omega
  | ⟨1, _⟩ => show ((cfgA pf hg).win (4 : Fin 6)).index t (1 : Fin 2) * 128 + 1 * d.val = d.val; rw [e1]; show 0 * 128 + _ = _; omega

theorem emb_gate (k : Fin 1024) (j : Fin 1792) :
    (((cfgA pf hg).win (1 : Fin 6)).blk t).view.emb (ix3 0 k j : S1x1024x1792.Idx) = (ix3 (expG pf hg t) k (halfIx (halfG pf hg t) j) : S8x1024x3584.Idx) := by
  have e0 := congrFun (ix_gate pf hg t) 0
  have e1 := congrFun (ix_gate pf hg t) 1
  have e2 := congrFun (ix_gate pf hg t) 2
  funext a; apply Fin.ext
  match a with
  | ⟨0, _⟩ => show ((cfgA pf hg).win (1 : Fin 6)).index t (0 : Fin 3) * 1 + 1 * 0 = (expG pf hg t).val; rw [e0]; show (expG pf hg t).val * 1 + _ = _; omega
  | ⟨1, _⟩ => show ((cfgA pf hg).win (1 : Fin 6)).index t (1 : Fin 3) * 1024 + 1 * k.val = k.val; rw [e1]; show 0 * 1024 + _ = _; omega
  | ⟨2, _⟩ => show ((cfgA pf hg).win (1 : Fin 6)).index t (2 : Fin 3) * 1792 + 1 * j.val = (halfG pf hg t).val * 1792 + j.val; rw [e2]; show (halfG pf hg t).val * 1792 + _ = _; omega

theorem emb_up (k : Fin 1024) (j : Fin 1792) :
    (((cfgA pf hg).win (2 : Fin 6)).blk t).view.emb (ix3 0 k j : S1x1024x1792.Idx) = (ix3 (expG pf hg t) k (halfIx (halfG pf hg t) j) : S8x1024x3584.Idx) := by
  have e0 := congrFun (ix_up pf hg t) 0
  have e1 := congrFun (ix_up pf hg t) 1
  have e2 := congrFun (ix_up pf hg t) 2
  funext a; apply Fin.ext
  match a with
  | ⟨0, _⟩ => show ((cfgA pf hg).win (2 : Fin 6)).index t (0 : Fin 3) * 1 + 1 * 0 = (expG pf hg t).val; rw [e0]; show (expG pf hg t).val * 1 + _ = _; omega
  | ⟨1, _⟩ => show ((cfgA pf hg).win (2 : Fin 6)).index t (1 : Fin 3) * 1024 + 1 * k.val = k.val; rw [e1]; show 0 * 1024 + _ = _; omega
  | ⟨2, _⟩ => show ((cfgA pf hg).win (2 : Fin 6)).index t (2 : Fin 3) * 1792 + 1 * j.val = (halfG pf hg t).val * 1792 + j.val; rw [e2]; show (halfG pf hg t).val * 1792 + _ = _; omega

theorem emb_down (j : Fin 1792) (d : Fin 1024) :
    (((cfgA pf hg).win (3 : Fin 6)).blk t).view.emb (ix3 0 j d : S1x1792x1024.Idx) = (ix3 (expG pf hg t) (halfIx (halfG pf hg t) j) d : S8x3584x1024.Idx) := by
  have e0 := congrFun (ix_down pf hg t) 0
  have e1 := congrFun (ix_down pf hg t) 1
  have e2 := congrFun (ix_down pf hg t) 2
  funext a; apply Fin.ext
  match a with
  | ⟨0, _⟩ => show ((cfgA pf hg).win (3 : Fin 6)).index t (0 : Fin 3) * 1 + 1 * 0 = (expG pf hg t).val; rw [e0]; show (expG pf hg t).val * 1 + _ = _; omega
  | ⟨1, _⟩ => show ((cfgA pf hg).win (3 : Fin 6)).index t (1 : Fin 3) * 1792 + 1 * j.val = (halfG pf hg t).val * 1792 + j.val; rw [e1]; show (halfG pf hg t).val * 1792 + _ = _; omega
  | ⟨2, _⟩ => show ((cfgA pf hg).win (3 : Fin 6)).index t (2 : Fin 3) * 1024 + 1 * d.val = d.val; rw [e2]; show 0 * 1024 + _ = _; omega

abbrev arrX := m ((c : Thread nD τ).loc main_arg2)
abbrev arrS := m ((c : Thread nD τ).loc main_arg3)
abbrev arrG := m ((c : Thread nD τ).loc main_arg4)
abbrev arrU := m ((c : Thread nD τ).loc main_arg5)
abbrev arrD := m ((c : Thread nD τ).loc main_arg6)

theorem blk_rows (r : Fin 512) (k : Fin 1024) : (iblk pf hg m c (0 : Fin 6) t : Vec Ideal S512x1024 .bf16) (ix2 r k) = arrX m c (ix2 (rowG pf hg t r) k) := by
  show arrX m c ((((cfgA pf hg).win (0 : Fin 6)).blk t).view.emb (ix2 r k : S512x1024.Idx)) = _
  rw [emb_rows]
theorem blk_scale (r : Fin 512) (k : Fin 128) : (iblk pf hg m c (4 : Fin 6) t : Vec Ideal S512x128 .f32) (ix2 r k) = arrS m c (ix2 (rowG pf hg t r) k) := by
  show arrS m c ((((cfgA pf hg).win (4 : Fin 6)).blk t).view.emb (ix2 r k : S512x128.Idx)) = _
  rw [emb_scale]
theorem blk_gate (k : Fin 1024) (j : Fin 1792) : (iblk pf hg m c (1 : Fin 6) t : Vec Ideal S1x1024x1792 .bf16) (ix3 0 k j)
    = arrG m c (ix3 (expG pf hg t) k (halfIx (halfG pf hg t) j)) := by
  show arrG m c ((((cfgA pf hg).win (1 : Fin 6)).blk t).view.emb (ix3 0 k j : S1x1024x1792.Idx)) = _
  rw [emb_gate]
theorem blk_up (k : Fin 1024) (j : Fin 1792) : (iblk pf hg m c (2 : Fin 6) t : Vec Ideal S1x1024x1792 .bf16) (ix3 0 k j)
    = arrU m c (ix3 (expG pf hg t) k (halfIx (halfG pf hg t) j)) := by
  show arrU m c ((((cfgA pf hg).win (2 : Fin 6)).blk t).view.emb (ix3 0 k j : S1x1024x1792.Idx)) = _
  rw [emb_up]
theorem blk_down (j : Fin 1792) (d : Fin 1024) : (iblk pf hg m c (3 : Fin 6) t : Vec Ideal S1x1792x1024 .bf16) (ix3 0 j d)
    = arrD m c (ix3 (expG pf hg t) (halfIx (halfG pf hg t) j) d) := by
  show arrD m c ((((cfgA pf hg).win (3 : Fin 6)).blk t).view.emb (ix3 0 j d : S1x1792x1024.Idx)) = _
  rw [emb_down]

end

/-! ## A tile's rows -/

theorem pay1_apply (x0 : Vec Ideal S512x1024 .bf16) (x1 x2 : Vec Ideal S1x1024x1792 .bf16) (x3 : Vec Ideal S1x1792x1024 .bf16)
    (x : Vec Ideal S36864x1024 .bf16) (wg wu : Vec Ideal S8x1024x3584 .bf16) (wd : Vec Ideal S8x3584x1024 .bf16)
    (R : Fin 36864) (e : Fin 8) (h : Fin 2) (r : Fin 512) (d : Fin 1024)
    (h0 : ∀ k, x0 (ix2 r k) = x (ix2 R k)) (h1 : ∀ k j, x1 (ix3 0 k j) = wg (ix3 e k (halfIx h j)))
    (h2 : ∀ k j, x2 (ix3 0 k j) = wu (ix3 e k (halfIx h j))) (h3 : ∀ j d, x3 (ix3 0 j d) = wd (ix3 e (halfIx h j) d)) :
    k0_pay1 (F := Ideal) x0 x1 x2 x3 (ix2 r d) = part x wg wu wd R e d h := by
  unfold k0_pay1
  pointwise
  simp only [h0, h1, h2, h3, zero_sub]
  unfold part MoeSpec.hidden proj
  rfl

theorem scaleCol_apply (x4 : Vec Ideal S512x128 .f32) (r : Fin 512) : scaleCol x4 (ix2 r 0) = x4 (ix2 r 0) := by
  unfold scaleCol
  refine congrArg x4 (funext fun a => Fin.ext ?_)
  match a with
  | ⟨0, _⟩ => show 0 + 1 * r.val = r.val; omega
  | ⟨1, _⟩ => rfl

/-- A tile's expert is the table's word for it. -/
theorem ew_eq (i : grid0.Coords) : ew pf i = pf 0 (ix1 ⟨(i 0).val, tile_lt i⟩) := by
  have hi := tile_lt i
  unfold ew
  show pf 0 _ = pf 0 _
  refine congrArg (pf 0) (funext fun a => Fin.ext ?_)
  match a with
  | ⟨0, _⟩ =>
    show (k0_off1 i) 0 + 1 * _ = (i 0).val
    have : k0_off1 i 0 = (i 0).val := by
      show (BitVec.ofNat 32 (i 0).val).toNat = _
      rw [BitVec.toNat_ofNat]; omega
    rw [this]
    show (i 0).val + 1 * 0 = _
    omega

theorem rowsOut_apply (x0 : Vec Ideal S512x1024 .bf16) (x1 x2 : Vec Ideal S1x1024x1792 .bf16) (x3 : Vec Ideal S1x1792x1024 .bf16)
    (x4 : Vec Ideal S512x128 .f32) (p : Vec Ideal S512x1024 .f32) (r : Fin 512) (d : Fin 1024) :
    rowsOut x0 x1 x2 x3 x4 p (ix2 r d) = ((p (ix2 r d) + k0_pay1 (F := Ideal) x0 x1 x2 x3 (ix2 r d)) * x4 (ix2 r 0) : EReal) := by
  unfold rowsOut k0_pay4 k0_pay3
  pointwise
  rw [scaleCol_apply]

/-- The rows of a tile in use, at an index. -/
theorem rowsAt_apply (c : Dev nD) (k : ℕ) (hk : k < 72) (hl : Live (nw pf) k) (r : Fin 512) (d : Fin 1024) :
    rowsAt pf hg m c ⟨2 * k + 1, by show _ < 144; omega⟩ (ix2 r d)
      = (entry (arrX m c) (arrG m c) (arrU m c) (arrD m c) ⟨k * 512 + r.val, by omega⟩ ⟨(pf 0 (ix1 ⟨k, hk⟩) : BitVec 32).toNat, hg _⟩ d
        * arrS m c (ix2 ⟨k * 512 + r.val, by omega⟩ 0) : EReal) := by
  have hN : 2 * k + 1 < (cfgA pf hg).N := by show _ < 144; omega
  have hN0 : 2 * k < (cfgA pf hg).N := by show _ < 144; omega
  have key (t : Fin (cfgA pf hg).N) (ht : t.val / 2 = k) (h : Fin 2) (hh : t.val % 2 = h.val) (r : Fin 512) :
      rowG pf hg t r = ⟨k * 512 + r.val, by omega⟩ ∧ expG pf hg t = ⟨(pf 0 (ix1 ⟨k, hk⟩) : BitVec 32).toNat, hg _⟩ ∧ halfG pf hg t = h := by
    refine ⟨Fin.ext ?_, Fin.ext ?_, Fin.ext ?_⟩
    · show tileW (nw pf) (t.val / 2) * 512 + _ = _
      rw [ht, tileW_live hk hl]
    · show (ew pf (crd pf hg t)).toNat = _
      rw [ew_eq]
      exact congrArg (fun k : Fin 72 => (pf 0 (ix1 k) : BitVec 32).toNat) (Fin.ext ((crd_val pf hg t).1.trans ht))
    · show halfW (nw pf) (t.val / 2) (t.val % 2) = _
      rw [ht, halfW_live hk (Nat.mod_lt _ (by omega)) hl, hh]
  have hp (t : Fin (cfgA pf hg).N) (ht : t.val / 2 = k) (h : Fin 2) (hh : t.val % 2 = h.val) :
      k0_pay1 (F := Ideal) (iblk pf hg m c (0 : Fin 6) t) (iblk pf hg m c (1 : Fin 6) t) (iblk pf hg m c (2 : Fin 6) t) (iblk pf hg m c (3 : Fin 6) t) (ix2 r d)
        = part (arrX m c) (arrG m c) (arrU m c) (arrD m c) ⟨k * 512 + r.val, by omega⟩ ⟨(pf 0 (ix1 ⟨k, hk⟩) : BitVec 32).toNat, hg _⟩ d h := by
    obtain ⟨k1, k2, k3⟩ := key t ht h hh r
    refine pay1_apply _ _ _ _ _ _ _ _ _ _ _ _ _ (fun k => ?_) (fun k j => ?_) (fun k j => ?_) (fun j d => ?_)
    · rw [blk_rows, k1]
    · rw [blk_gate, k2, k3]
    · rw [blk_up, k2, k3]
    · rw [blk_down, k2, k3]
  have ha : accAt pf hg m c (prev pf hg ⟨2 * k + 1, hN⟩) (ix2 r d)
      = part (arrX m c) (arrG m c) (arrU m c) (arrD m c) ⟨k * 512 + r.val, by omega⟩ ⟨(pf 0 (ix1 ⟨k, hk⟩) : BitVec 32).toNat, hg _⟩ d 0 := by
    rw [show prev pf hg ⟨2 * k + 1, hN⟩ = ⟨2 * k, hN0⟩ from rfl, ← hp ⟨2 * k, hN0⟩ (by show 2 * k / 2 = k; omega) 0 (by show 2 * k % 2 = 0; omega)]
    unfold accAt k0_pay2
    pointwise
  unfold rowsAt
  rw [rowsOut_apply, ha, hp ⟨2 * k + 1, hN⟩ (by show (2 * k + 1) / 2 = k; omega) 1 (by show (2 * k + 1) % 2 = 1; omega), blk_scale,
    (key ⟨2 * k + 1, hN⟩ (by show (2 * k + 1) / 2 = k; omega) 1 (by show (2 * k + 1) % 2 = 1; omega) r).1, MoeSpec.entry_eq]

/-! ## The array -/

/-- What the result's array holds at an index of a tile in use: its tile's rows. -/
def GK (c : Dev nD) (i : S36864x1024.Idx) : Elt Ideal .bf16 :=
  rowsAt pf hg m c ⟨2 * ((i 0).val / 512) + 1, by
    have : (i 0).val < 36864 := (i 0).isLt
    show _ < 144; omega⟩ (ix2 ⟨(i 0).val % 512, Nat.mod_lt _ (by omega)⟩ ⟨(i 1).val, (i 1).isLt⟩ : S512x1024.Idx)

theorem GK_block (c : Dev nD) (t : Fin (cfgA pf hg).N) (r : Fin 512) (d : Fin 1024) :
    GK pf hg m c (ix2 (rowG pf hg t r) d) = rowsAt pf hg m c (lastOf pf hg t) (ix2 r d) := by
  have e0 : (rowG pf hg t r).val = tileAt pf t.val * 512 + r.val := rfl
  have hr := r.isLt
  unfold GK
  have e1 : (⟨2 * ((rowG pf hg t r).val / 512) + 1, by
      have := (rowG pf hg t r).isLt
      show _ < 144; omega⟩ : Fin (cfgA pf hg).N) = lastOf pf hg t := Fin.ext (by
    show 2 * ((rowG pf hg t r).val / 512) + 1 = 2 * tileAt pf t.val + 1
    omega)
  have e2 : (⟨(rowG pf hg t r).val % 512, Nat.mod_lt _ (by omega)⟩ : Fin 512) = r := Fin.ext (by
    show (rowG pf hg t r).val % 512 = r.val
    omega)
  exact congrArg₂ (fun t (r : Fin 512) => rowsAt pf hg m c t (ix2 r d)) e1 e2

/-- After the launch a tile in use holds its rows. -/
theorem out_apply (c : Dev nD) (G : (w : Fin (cfgA pf hg).W) → Buf (Elt Ideal) (((cfgA pf hg).win w).arr.view.loc (c : Thread nD τ)))
    (hG : ∀ w, (rd pf hg m 0 c).ArrAt w (cfgA pf hg).N (G w)) (i : S36864x1024.Idx) (hl : Live (nw pf) ((i 0).val / 512)) :
    (G (5 : Fin 6) : S36864x1024.Idx → Elt Ideal .bf16) i = GK pf hg m c i := by
  have hi0 : (i 0).val < 36864 := (i 0).isLt
  have hn : 0 < (nw pf).toInt := by
    have : (((i 0).val / 512 : ℕ) : ℤ) < (nw pf).toInt := hl
    omega
  obtain ⟨after, hA, hE⟩ := RDat.ArrAt.exists_exact_all hG
  rw [hE (5 : Fin 6)]
  obtain ⟨t, hf, ht⟩ := flush_ex pf hg ((i 0).val / 512) (by omega) hl
  refine ((rd pf hg m 0 c).withAfter after).arrAt_forall_of_flushed (5 : Fin 6) (fun i v => v = GK pf hg m c i) ?_ _ t i t.isLt hf ?_
  · intro t hf y
    have hX := flush_rows pf hg m c hn t hf _ (hA (5 : Fin 6) t t.isLt hf)
    obtain ⟨r, d, rfl⟩ : ∃ (r : Fin 512) (d : Fin 1024), y = (ix2 r d : S512x1024.Idx) :=
      ⟨y 0, y 1, funext fun a => match a with | ⟨0, _⟩ => rfl | ⟨1, _⟩ => rfl⟩
    show after (5 : Fin 6) t (ix2 r d : S512x1024.Idx) = GK pf hg m c ((((cfgA pf hg).win (5 : Fin 6)).blk t).view.emb (ix2 r d : S512x1024.Idx))
    rw [emb_out, GK_block, hX]
  · have e : (((cfgA pf hg).win (5 : Fin 6)).blk t).view.emb
        (ix2 ⟨(i 0).val % 512, Nat.mod_lt _ (by omega)⟩ ⟨(i 1).val, (i 1).isLt⟩ : S512x1024.Idx) = i := by
      rw [emb_out]
      funext a; apply Fin.ext
      match a with
      | ⟨0, _⟩ => show tileAt pf t.val * 512 + (i 0).val % 512 = (i 0).val; omega
      | ⟨1, _⟩ => rfl
    rw [← e]
    exact View.emb_mem_set _ _

end Cert.Kernel2Ideal.Moe

end
-- ==== Proof.MoeRef.lean ====
/- The expert layer's reference, read at an index. -/
module

public import proofs.«01_k».proof.Proof.MoeSpec
public import proofs.«01_k».proof.Proof.Gen.Reference2Ideal.Run

@[expose] public section

set_option maxRecDepth 16384
noncomputable section

namespace Cert.MoeRef

open Idealize.ShloMosaic Idealize.ShloMosaic.TcCoe Idealize.ShloMosaic.Tactic
open Idealize.ShloMosaic.Pointwise Idealize.ShloMosaic.StableHlo
open Idealize.SL Idealize.SL.Sem
open Cert.Reference2Ideal Cert.Reference2Ideal.Gen Cert.Reference2Ideal.Value
open Cert.MoeSpec (proj entry)

/-- Every row's expert. -/
def colA (te : IVec S72 32) : IVec S36864x1 32 :=
  broadcastInDim S36864x1 ![0] bcast_S36864_S36864x1_0 (shapeCast _ (broadcastInDim S72x512 ![0] bcast_S72_S72x512_0 te) shapeCasts_S72x512_S36864)

def projA (x : FVec Ideal S36864x1024 .bf16) (w : FVec Ideal S1x1024x3584 .bf16) : FVec Ideal S36864x3584 .f32 :=
  Host.dotGeneral dot_S36864x1024_S1024x3584_S36864x3584_1_0_0_1_n_n none (extf .f32 x bitsLt_bf16_f32)
    (extf .f32 (shapeCast _ w shapeCasts_S1x1024x3584_S1024x3584) bitsLt_bf16_f32)

/-- One expert's rows, scaled, where the row's expert is that one. -/
def termA (te : IVec S72 32) (n : BitVec 32) (x : FVec Ideal S36864x1024 .bf16) (gs : FVec Ideal S36864x128 .f32)
    (g u : FVec Ideal S1x1024x3584 .bf16) (d : FVec Ideal S1x3584x1024 .bf16) : FVec Ideal S36864x1024 .f32 :=
  select (broadcastInDim S36864x1024 ![0, 1] bcast_S36864x1_S36864x1024_0_1 (cmpi .eq (colA te) (broadcastInDim S36864x1 ![] bcast_S_S36864x1 (constantI S_ 32 n))))
    (mulf (broadcastInDim S36864x1024 ![0, 1] bcast_S36864x1_S36864x1024_0_1 (extractStridedSlice S36864x1 ![0, 0] gs slices_S36864x128_S36864x1_0_0))
      (Host.dotGeneral dot_S36864x3584_S3584x1024_S36864x1024_1_0_0_1_n_n none
        (mulf (mulf (projA x g) (Host.divf (broadcastInDim S36864x3584 ![] bcast_S_S36864x3584 (constant S_ .f32 0x3F800000#32))
          (addf (broadcastInDim S36864x3584 ![] bcast_S_S36864x3584 (constant S_ .f32 0x3F800000#32)) (Host.exp (Host.negf (projA x g)))))) (projA x u))
        (extf .f32 (shapeCast _ d shapeCasts_S1x3584x1024_S3584x1024) bitsLt_bf16_f32)))
    (broadcastInDim S36864x1024 ![] bcast_S_S36864x1024 (id (constant S_ .f32 0x00000000#32)))

theorem colA_apply (te : IVec S72 32) (r : Fin 36864) : colA te (ix2 r 0) = te (ix1 ⟨r.val / 512, by omega⟩) := by
  unfold colA
  pointwise

theorem projA_apply (x : FVec Ideal S36864x1024 .bf16) (w : FVec Ideal S1x1024x3584 .bf16) (r : Fin 36864) (j : Fin 3584) :
    projA x w (ix2 r j) = (∑ k : Fin 1024, x (ix2 r k) * w (ix3 0 k j) : EReal) := by
  unfold projA
  pointwise

theorem bit_iff (a b : BitVec 32) : BitVec.ofBool (a == b) = 1#1 ↔ a = b := by
  by_cases h : a = b
  · subst h; simp
  · rw [beq_eq_false_iff_ne.mpr h]; exact iff_of_false (by decide) h

theorem termA_apply (te : IVec S72 32) (n : BitVec 32) (x : FVec Ideal S36864x1024 .bf16) (gs : FVec Ideal S36864x128 .f32)
    (wg wu : FVec Ideal S8x1024x3584 .bf16) (wd : FVec Ideal S8x3584x1024 .bf16) (e : Fin 8)
    (g u : FVec Ideal S1x1024x3584 .bf16) (d : FVec Ideal S1x3584x1024 .bf16)
    (hg : ∀ k j, g (ix3 0 k j) = wg (ix3 e k j)) (hu : ∀ k j, u (ix3 0 k j) = wu (ix3 e k j)) (hd : ∀ j k, d (ix3 0 j k) = wd (ix3 e j k))
    (r : Fin 36864) (c : Fin 1024) :
    termA te n x gs g u d (ix2 r c) = if te (ix1 ⟨r.val / 512, by omega⟩) = n then (gs (ix2 r 0) * entry x wg wu wd r e c : EReal) else 0 := by
  have hp (j) : projA x g (ix2 r j) = proj x wg r e j := by
    rw [projA_apply]; unfold proj; exact Finset.sum_congr rfl fun k _ => by rw [hg]
  have hq (j) : projA x u (ix2 r j) = proj x wu r e j := by
    rw [projA_apply]; unfold proj; exact Finset.sum_congr rfl fun k _ => by rw [hu]
  unfold termA
  pointwise
  simp only [colA_apply, hp, hq, hd]
  simp only [Scalar.select, IntOp.cmpi]
  refine if_congr (bit_iff _ _) ?_ ?_
  · unfold entry MoeSpec.hidden; rfl
  · show (constant (F := Ideal) S_ FTy.f32 0#32) ix0 = 0
    pointwise

section
variable (te : IVec S72 32) (x : FVec Ideal S36864x1024 .bf16) (gs : FVec Ideal S36864x128 .f32)
    (wg wu : FVec Ideal S8x1024x3584 .bf16) (wd : FVec Ideal S8x3584x1024 .bf16)

/-- The eight experts' rows added up. -/
def sumA : FVec Ideal S36864x1024 .f32 :=
  addf (addf (addf (addf (addf (addf (addf (addf (broadcastInDim S36864x1024 ![] bcast_S_S36864x1024 (constant S_ .f32 0x00000000#32))
    (termA te 0#32 x gs (extractStridedSlice S1x1024x3584 ![0, 0, 0] wg slices_S8x1024x3584_S1x1024x3584_0_0_0) (extractStridedSlice S1x1024x3584 ![0, 0, 0] wu slices_S8x1024x3584_S1x1024x3584_0_0_0)
      (extractStridedSlice S1x3584x1024 ![0, 0, 0] wd slices_S8x3584x1024_S1x3584x1024_0_0_0)))
    (termA te 1#32 x gs (extractStridedSlice S1x1024x3584 ![1, 0, 0] wg slices_S8x1024x3584_S1x1024x3584_1_0_0) (extractStridedSlice S1x1024x3584 ![1, 0, 0] wu slices_S8x1024x3584_S1x1024x3584_1_0_0)
      (extractStridedSlice S1x3584x1024 ![1, 0, 0] wd slices_S8x3584x1024_S1x3584x1024_1_0_0)))
    (termA te 2#32 x gs (extractStridedSlice S1x1024x3584 ![2, 0, 0] wg slices_S8x1024x3584_S1x1024x3584_2_0_0) (extractStridedSlice S1x1024x3584 ![2, 0, 0] wu slices_S8x1024x3584_S1x1024x3584_2_0_0)
      (extractStridedSlice S1x3584x1024 ![2, 0, 0] wd slices_S8x3584x1024_S1x3584x1024_2_0_0)))
    (termA te 3#32 x gs (extractStridedSlice S1x1024x3584 ![3, 0, 0] wg slices_S8x1024x3584_S1x1024x3584_3_0_0) (extractStridedSlice S1x1024x3584 ![3, 0, 0] wu slices_S8x1024x3584_S1x1024x3584_3_0_0)
      (extractStridedSlice S1x3584x1024 ![3, 0, 0] wd slices_S8x3584x1024_S1x3584x1024_3_0_0)))
    (termA te 4#32 x gs (extractStridedSlice S1x1024x3584 ![4, 0, 0] wg slices_S8x1024x3584_S1x1024x3584_4_0_0) (extractStridedSlice S1x1024x3584 ![4, 0, 0] wu slices_S8x1024x3584_S1x1024x3584_4_0_0)
      (extractStridedSlice S1x3584x1024 ![4, 0, 0] wd slices_S8x3584x1024_S1x3584x1024_4_0_0)))
    (termA te 5#32 x gs (extractStridedSlice S1x1024x3584 ![5, 0, 0] wg slices_S8x1024x3584_S1x1024x3584_5_0_0) (extractStridedSlice S1x1024x3584 ![5, 0, 0] wu slices_S8x1024x3584_S1x1024x3584_5_0_0)
      (extractStridedSlice S1x3584x1024 ![5, 0, 0] wd slices_S8x3584x1024_S1x3584x1024_5_0_0)))
    (termA te 6#32 x gs (extractStridedSlice S1x1024x3584 ![6, 0, 0] wg slices_S8x1024x3584_S1x1024x3584_6_0_0) (extractStridedSlice S1x1024x3584 ![6, 0, 0] wu slices_S8x1024x3584_S1x1024x3584_6_0_0)
      (extractStridedSlice S1x3584x1024 ![6, 0, 0] wd slices_S8x3584x1024_S1x3584x1024_6_0_0)))
    (termA te 7#32 x gs (extractStridedSlice S1x1024x3584 ![7, 0, 0] wg slices_S8x1024x3584_S1x1024x3584_7_0_0) (extractStridedSlice S1x1024x3584 ![7, 0, 0] wu slices_S8x1024x3584_S1x1024x3584_7_0_0)
      (extractStridedSlice S1x3584x1024 ![7, 0, 0] wd slices_S8x3584x1024_S1x3584x1024_7_0_0))

end

theorem res_eq (m : (ℓ : Loc nD τ sig) → Buf (Elt Ideal) ℓ) (c : Dev nD) : res_main_v172 (launchContents m c) =
    sumA (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold res_main_v172 res_main_v88
  rfl

section
variable (te : IVec S72 32) (n : BitVec 32) (x : FVec Ideal S36864x1024 .bf16) (gs : FVec Ideal S36864x128 .f32)
    (wg wu : FVec Ideal S8x1024x3584 .bf16) (wd : FVec Ideal S8x3584x1024 .bf16) (r : Fin 36864) (c : Fin 1024)

theorem term0 : termA te 0#32 x gs (extractStridedSlice S1x1024x3584 ![0, 0, 0] wg slices_S8x1024x3584_S1x1024x3584_0_0_0) (extractStridedSlice S1x1024x3584 ![0, 0, 0] wu slices_S8x1024x3584_S1x1024x3584_0_0_0)
      (extractStridedSlice S1x3584x1024 ![0, 0, 0] wd slices_S8x3584x1024_S1x3584x1024_0_0_0) (ix2 r c)
    = if te (ix1 ⟨r.val / 512, by omega⟩) = 0#32 then (gs (ix2 r 0) * entry x wg wu wd r 0 c : EReal) else 0 :=
  termA_apply te 0#32 x gs wg wu wd 0 _ _ _ (fun k j => by pointwise) (fun k j => by pointwise) (fun j k => by pointwise) r c

theorem term1 : termA te 1#32 x gs (extractStridedSlice S1x1024x3584 ![1, 0, 0] wg slices_S8x1024x3584_S1x1024x3584_1_0_0) (extractStridedSlice S1x1024x3584 ![1, 0, 0] wu slices_S8x1024x3584_S1x1024x3584_1_0_0)
      (extractStridedSlice S1x3584x1024 ![1, 0, 0] wd slices_S8x3584x1024_S1x3584x1024_1_0_0) (ix2 r c)
    = if te (ix1 ⟨r.val / 512, by omega⟩) = 1#32 then (gs (ix2 r 0) * entry x wg wu wd r 1 c : EReal) else 0 :=
  termA_apply te 1#32 x gs wg wu wd 1 _ _ _ (fun k j => by pointwise) (fun k j => by pointwise) (fun j k => by pointwise) r c

theorem term2 : termA te 2#32 x gs (extractStridedSlice S1x1024x3584 ![2, 0, 0] wg slices_S8x1024x3584_S1x1024x3584_2_0_0) (extractStridedSlice S1x1024x3584 ![2, 0, 0] wu slices_S8x1024x3584_S1x1024x3584_2_0_0)
      (extractStridedSlice S1x3584x1024 ![2, 0, 0] wd slices_S8x3584x1024_S1x3584x1024_2_0_0) (ix2 r c)
    = if te (ix1 ⟨r.val / 512, by omega⟩) = 2#32 then (gs (ix2 r 0) * entry x wg wu wd r 2 c : EReal) else 0 :=
  termA_apply te 2#32 x gs wg wu wd 2 _ _ _ (fun k j => by pointwise) (fun k j => by pointwise) (fun j k => by pointwise) r c

theorem term3 : termA te 3#32 x gs (extractStridedSlice S1x1024x3584 ![3, 0, 0] wg slices_S8x1024x3584_S1x1024x3584_3_0_0) (extractStridedSlice S1x1024x3584 ![3, 0, 0] wu slices_S8x1024x3584_S1x1024x3584_3_0_0)
      (extractStridedSlice S1x3584x1024 ![3, 0, 0] wd slices_S8x3584x1024_S1x3584x1024_3_0_0) (ix2 r c)
    = if te (ix1 ⟨r.val / 512, by omega⟩) = 3#32 then (gs (ix2 r 0) * entry x wg wu wd r 3 c : EReal) else 0 :=
  termA_apply te 3#32 x gs wg wu wd 3 _ _ _ (fun k j => by pointwise) (fun k j => by pointwise) (fun j k => by pointwise) r c

theorem term4 : termA te 4#32 x gs (extractStridedSlice S1x1024x3584 ![4, 0, 0] wg slices_S8x1024x3584_S1x1024x3584_4_0_0) (extractStridedSlice S1x1024x3584 ![4, 0, 0] wu slices_S8x1024x3584_S1x1024x3584_4_0_0)
      (extractStridedSlice S1x3584x1024 ![4, 0, 0] wd slices_S8x3584x1024_S1x3584x1024_4_0_0) (ix2 r c)
    = if te (ix1 ⟨r.val / 512, by omega⟩) = 4#32 then (gs (ix2 r 0) * entry x wg wu wd r 4 c : EReal) else 0 :=
  termA_apply te 4#32 x gs wg wu wd 4 _ _ _ (fun k j => by pointwise) (fun k j => by pointwise) (fun j k => by pointwise) r c

theorem term5 : termA te 5#32 x gs (extractStridedSlice S1x1024x3584 ![5, 0, 0] wg slices_S8x1024x3584_S1x1024x3584_5_0_0) (extractStridedSlice S1x1024x3584 ![5, 0, 0] wu slices_S8x1024x3584_S1x1024x3584_5_0_0)
      (extractStridedSlice S1x3584x1024 ![5, 0, 0] wd slices_S8x3584x1024_S1x3584x1024_5_0_0) (ix2 r c)
    = if te (ix1 ⟨r.val / 512, by omega⟩) = 5#32 then (gs (ix2 r 0) * entry x wg wu wd r 5 c : EReal) else 0 :=
  termA_apply te 5#32 x gs wg wu wd 5 _ _ _ (fun k j => by pointwise) (fun k j => by pointwise) (fun j k => by pointwise) r c

theorem term6 : termA te 6#32 x gs (extractStridedSlice S1x1024x3584 ![6, 0, 0] wg slices_S8x1024x3584_S1x1024x3584_6_0_0) (extractStridedSlice S1x1024x3584 ![6, 0, 0] wu slices_S8x1024x3584_S1x1024x3584_6_0_0)
      (extractStridedSlice S1x3584x1024 ![6, 0, 0] wd slices_S8x3584x1024_S1x3584x1024_6_0_0) (ix2 r c)
    = if te (ix1 ⟨r.val / 512, by omega⟩) = 6#32 then (gs (ix2 r 0) * entry x wg wu wd r 6 c : EReal) else 0 :=
  termA_apply te 6#32 x gs wg wu wd 6 _ _ _ (fun k j => by pointwise) (fun k j => by pointwise) (fun j k => by pointwise) r c

theorem term7 : termA te 7#32 x gs (extractStridedSlice S1x1024x3584 ![7, 0, 0] wg slices_S8x1024x3584_S1x1024x3584_7_0_0) (extractStridedSlice S1x1024x3584 ![7, 0, 0] wu slices_S8x1024x3584_S1x1024x3584_7_0_0)
      (extractStridedSlice S1x3584x1024 ![7, 0, 0] wd slices_S8x3584x1024_S1x3584x1024_7_0_0) (ix2 r c)
    = if te (ix1 ⟨r.val / 512, by omega⟩) = 7#32 then (gs (ix2 r 0) * entry x wg wu wd r 7 c : EReal) else 0 :=
  termA_apply te 7#32 x gs wg wu wd 7 _ _ _ (fun k j => by pointwise) (fun k j => by pointwise) (fun j k => by pointwise) r c

theorem pick (f : Fin 8 → EReal) (w : BitVec 32) (hw : w.toNat < 8) :
    (0 : EReal) + (if w = 0#32 then f 0 else 0) + (if w = 1#32 then f 1 else 0) + (if w = 2#32 then f 2 else 0) + (if w = 3#32 then f 3 else 0) + (if w = 4#32 then f 4 else 0) + (if w = 5#32 then f 5 else 0) + (if w = 6#32 then f 6 else 0) + (if w = 7#32 then f 7 else 0) = f ⟨w.toNat, hw⟩ := by
  obtain ⟨e, rfl⟩ : ∃ e : Fin 8, w = BitVec.ofNat 32 e.val := ⟨⟨w.toNat, hw⟩, by simp⟩
  have he : (BitVec.ofNat 32 e.val).toNat = e.val := by rw [BitVec.toNat_ofNat]; omega
  rw [show (⟨(BitVec.ofNat 32 e.val).toNat, hw⟩ : Fin 8) = e from Fin.ext he]
  clear hw he
  fin_cases e <;> simp

/-- The sum is the row's own expert's term. -/
theorem sumA_apply (h : (te (ix1 ⟨r.val / 512, by omega⟩) : BitVec 32).toNat < 8) :
    sumA te x gs wg wu wd (ix2 r c) = (gs (ix2 r 0) * entry x wg wu wd r ⟨(te (ix1 ⟨r.val / 512, by omega⟩) : BitVec 32).toNat, h⟩ c : EReal) := by
  unfold sumA
  simp only [addf_apply]
  rw [term0, term1, term2, term3, term4, term5, term6, term7,
    show broadcastInDim S36864x1024 ![] bcast_S_S36864x1024 (constant (F := Ideal) S_ .f32 0x00000000#32) (ix2 r c) = (0 : EReal) from by pointwise]
  exact pick (fun e => (gs (ix2 r 0) * entry x wg wu wd r e c : EReal)) _ h

end

end Cert.MoeRef

end
-- ==== Proof.MoeMask.lean ====
/- The rows the claim about the expert layer speaks of: those of the tiles in use. -/
module

public import proofs.«01_k».proof.Proof.MoeWords
public import proofs.«01_k».proof.Proof.Gen.On_rows_used
public import Idealize.ShloMosaic.Lib.Pointwise

@[expose] public section

set_option maxRecDepth 16384
noncomputable section

namespace Cert.MoeMask

open Idealize.ShloMosaic
open Cert.On_rows_used Cert.MoeWords

theorem toNat_row (r : ℕ) (hr : r < 36864) : (BitVec.ofNat 32 r).toNat = r := by rw [BitVec.toNat_ofNat]; omega

theorem msb_row (r : ℕ) (hr : r < 36864) : (BitVec.ofNat 32 r).msb = false := by
  rw [BitVec.msb_eq_false_iff_two_mul_lt, toNat_row r hr]; omega

theorem div_eq (r : ℕ) (hr : r < 36864) : IntOp.divsi ArithUnit.host (BitVec.ofNat 32 r) 512#32 = BitVec.ofNat 32 (r / 512) := by
  unfold IntOp.divsi
  rw [if_neg (by rintro (h | ⟨-, h⟩) <;> exact absurd h (by decide))]
  apply BitVec.eq_of_toNat_eq
  rw [BitVec.sdiv_eq, msb_row r hr, show (512#32 : BitVec 32).msb = false from rfl]
  show (BitVec.ofNat 32 r / 512#32).toNat = _
  rw [BitVec.toNat_udiv, toNat_row r hr]
  exact (toNat_row _ (show r / 512 < 36864 by omega)).symm

theorem rem_eq (r : ℕ) (hr : r < 36864) : IntOp.remsi ArithUnit.host (BitVec.ofNat 32 r) 512#32 = BitVec.ofNat 32 (r % 512) := by
  unfold IntOp.remsi
  rw [if_neg (by rintro (h | ⟨-, h⟩) <;> exact absurd h (by decide))]
  apply BitVec.eq_of_toNat_eq
  rw [BitVec.srem_eq, msb_row r hr, show (512#32 : BitVec 32).msb = false from rfl]
  show (BitVec.ofNat 32 r % 512#32).toNat = _
  rw [BitVec.toNat_umod, toNat_row r hr]
  exact (toNat_row _ (show r % 512 < 36864 by omega)).symm

theorem bit_iff (b : Bool) : BitVec.ofBool b = 1#1 ↔ b = true := by cases b <;> decide

/-- The quotient needs no correction: a row's number is not negative. -/
theorem floor_eq (r : ℕ) (hr : r < 36864) :
    Scalar.select
        (IntOp.andi
          (IntOp.cmpi CmpIPredicate.ne
            (if BitVec.ofNat 32 r = 0 then 0 else if (BitVec.ofNat 32 r).msb = true then -1 else 1)
            (if (512#32 : BitVec 32) = 0 then 0 else if (512#32 : BitVec 32).msb = true then -1 else (1 : BitVec 32)))
          (IntOp.cmpi CmpIPredicate.ne (BitVec.ofNat 32 (r % 512)) 0#32))
        (IntOp.subi (BitVec.ofNat 32 (r / 512)) 1#32) (BitVec.ofNat 32 (r / 512)) = BitVec.ofNat 32 (r / 512) := by
  by_cases h0 : r = 0
  · subst h0; decide
  · have hne : ¬ BitVec.ofNat 32 r = 0 := fun h => h0 (by rw [← toNat_row r hr, h]; rfl)
    rw [if_neg hne, msb_row r hr]
    generalize BitVec.ofNat 32 (r / 512) = q
    generalize IntOp.cmpi CmpIPredicate.ne (BitVec.ofNat 32 (r % 512)) 0#32 = b
    unfold Scalar.select
    refine if_neg ?_
    revert b; decide

theorem mask_live (a0 : IVec S72 32) (a1 : IVec S1 32) (a2 : FVec Ideal S36864x1024 .bf16) (a3 : FVec Ideal S36864x128 .f32)
    (a4 a5 : FVec Ideal S8x1024x3584 .bf16) (a6 : FVec Ideal S8x3584x1024 .bf16) (r : Fin 36864) (d : Fin 1024)
    (h : Cert.On_rows_used.fn (F := Ideal) a0 a1 a2 a3 a4 a5 a6 (ix2 r d) = 1#1) : Live (a1 (ix1 0)) (r.val / 512) := by
  revert h
  unfold Cert.On_rows_used.fn fn_floor_divide fn_where
  pointwise
  rw [show id (constantI S_ 32 512#32) ix0 = 512#32 from rfl, div_eq r.val r.isLt, rem_eq r.val r.isLt]
  intro h
  have h' := (congrArg (fun q => IntOp.cmpi CmpIPredicate.slt q (a1 (ix1 0))) (floor_eq r.val r.isLt)).symm.trans h
  exact (slt_iff _ (by have := r.isLt; omega : r.val / 512 < 72)).mp ((bit_iff _).mp h')

end Cert.MoeMask

end
-- ==== Proof.MoeEqual.lean ====
/- The expert kernel and its reference agree on the rows of the tiles in use. -/
module

public import proofs.«01_k».proof.Proof.MoeValue
public import proofs.«01_k».proof.Proof.MoeRef
public import proofs.«01_k».proof.Proof.MoeMask

@[expose] public section

set_option maxRecDepth 16384
noncomputable section

namespace Cert.Kernel2Ideal.Moe

open Cert.Kernel2Ideal Cert.Kernel2Ideal.Gen
open Idealize.ShloMosaic Idealize.SL.Sem
open Idealize.ShloMosaic.TcCoe Idealize.ShloMosaic.Tactic
open Idealize.ShloMosaic.Pointwise
open Cert.MoeWords

variable (m : (ℓ : Loc nD τ sig) → Buf (Elt Ideal) ℓ) (ρ : Dev nD → PrngReg)

/-- The number of tiles in use is the second argument's one word. -/
theorem nw_eq (c : Dev nD) : nw (tabs m) = (m ((c : Thread nD τ).loc main_arg1) : IVec S1 32) (ix1 0) := by
  refine Eq.trans ?_ (congrFun (tabs_eq m c 1).symm (ix1 0))
  show (tabs m 1 : IVec S1 32) _ = (tabs m 1 : IVec S1 32) _
  exact congrArg (tabs m 1 : IVec S1 32) (funext fun a : Fin 1 => by fin_cases a; exact Subsingleton.elim (α := Fin 1) _ _)

/-- What the reference computes, of device `c`'s arguments. -/
def sumK (c : Dev nD) : FVec Ideal S36864x1024 .bf16 :=
  truncf .bf16 (MoeRef.sumA (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))) Cert.Reference2Ideal.Facts₀.bitsLt_bf16_f32

/-- An entry of the kernel's array of a tile in use is the reference's. -/
theorem GK_eq (hg : Good (tabs m)) (c : Dev nD) (r : Fin 36864) (d : Fin 1024) (hl : Live (nw (tabs m)) (r.val / 512)) :
    GK (tabs m) hg m c (ix2 r d) = sumK m c (ix2 r d) := by
  have hk : r.val / 512 < 72 := by have := r.isLt; omega
  have hr : (⟨r.val / 512 * 512 + r.val % 512, by have := r.isLt; omega⟩ : Fin 36864) = r := Fin.ext (Nat.div_add_mod' r.val 512)
  have e : (tabs m 0 : IVec S72 32) = (m ((c : Thread nD τ).loc main_arg0) : IVec S72 32) := (tabs_eq m c 0).symm
  have h0 : ((m ((c : Thread nD τ).loc main_arg0) : IVec S72 32) (ix1 ⟨r.val / 512, hk⟩)).toNat < 8 := by
    rw [← e]; exact hg _
  refine (rowsAt_apply (tabs m) hg m c (r.val / 512) hk hl ⟨r.val % 512, Nat.mod_lt _ (by decide)⟩ d).trans ?_
  refine Eq.trans ?_ (MoeRef.sumA_apply _ _ _ _ _ _ r d h0).symm
  simp only [hr]
  rw [mul_comm]
  have he : (⟨((tabs m 0 : IVec S72 32) (ix1 ⟨r.val / 512, hk⟩)).toNat, hg _⟩ : Fin 8)
      = ⟨((m ((c : Thread nD τ).loc main_arg0) : IVec S72 32) (ix1 ⟨r.val / 512, hk⟩)).toNat, h0⟩ :=
    Fin.ext (congrArg (fun f : IVec S72 32 => (f (ix1 ⟨r.val / 512, hk⟩)).toNat) e)
  refine congrArg₂ (fun a b : EReal => a * b) rfl ?_
  exact congrArg (fun j : Fin 8 => (MoeSpec.entry (arrX m c) (arrG m c) (arrU m c) (arrD m c) r j d : EReal)) he

set_option maxHeartbeats 2000000 in
/-- The kernel's run: its rows of tiles in use are the reference's, and the arguments end unchanged. -/
theorem run_rows (hg : Good (tabs m)) :
    θ_run (defs (F := Ideal)) (onTc (τ := τ) (main (F := Ideal))) ⟨m, fun _ => 0, ρ⟩ (fun r => ∀ c : Dev nD,
      (∀ i : S36864x1024.Idx, Live (nw (tabs m)) (i 0 / 512) → r.2.mem ((c.tc : Thread nD τ).loc main_v0) i = sumK m c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact (θ_run defs _ _).mono (fun s h c => ⟨fun i hl => by
      have hs := out_apply (tabs m) hg m c (fun w => s.2.mem ((((cfgA (tabs m) hg).win w).arr.view.loc (c : Thread nD τ)))) (h.1 c).1 i hl
      refine hs.trans ?_
      rw [eq_ix2 i] at hl ⊢
      exact GK_eq m hg c _ _ hl,
    ((h.1 c).2 0).trans (tabs_eq m c 0).symm, ((h.1 c).2 1).trans (tabs_eq m c 1).symm,
    in_eq (tabs m) hg m c (0 : Fin 6) rfl ((h.1 c).1 (0 : Fin 6)), in_eq (tabs m) hg m c (4 : Fin 6) rfl ((h.1 c).1 (4 : Fin 6)), in_eq (tabs m) hg m c (1 : Fin 6) rfl ((h.1 c).1 (1 : Fin 6)),
    in_eq (tabs m) hg m c (2 : Fin 6) rfl ((h.1 c).1 (2 : Fin 6)), in_eq (tabs m) hg m c (3 : Fin 6) rfl ((h.1 c).1 (3 : Fin 6))⟩)
    (run_main (tabs m) hg m ρ (tabs_eq m))

end Cert.Kernel2Ideal.Moe

end
-- ==== Proof.InSpec.lean ====
/- The input projection on plain functions: one row, scaled to unit mean square and weighed, against one column of the weights. -/
module

public import proofs.«01_k».proof.Proof.Ref
public import Idealize.ShloMosaic.Lib.Pointwise

@[expose] public section

noncomputable section

namespace Cert.In

open Idealize.ShloMosaic

/-- The factor that brings a row to unit mean square. -/
def rowScale (v : Fin 1024 → EReal) : EReal :=
  Ideal.rsqrt (Ideal.div (∑ x, v x * v x) (Ideal.ofBits FTy.f32 0x44800000#32) + Ideal.ofBits FTy.f32 0x358637BD#32)

/-- An entry of the normalised row. -/
def nrm (v g : Fin 1024 → EReal) (j : Fin 1024) : EReal := v j * rowScale v * g j

/-- The normalised row against one column of the weights. -/
def proj (v g w : Fin 1024 → EReal) : EReal := ∑ j, nrm v g j * w j

/-- The logistic function. -/
def sigm (y : EReal) : EReal := Ideal.div 1 (1 + Ideal.exp (-y))

/-- An eighth over the logarithm of two is one over the logarithm of 256. -/
theorem qscale_eq : Ideal.div (Ideal.ofBits FTy.f32 0x3E000000#32) (Ideal.log (Ideal.ofBits FTy.f32 0x40000000#32))
    = (((Real.log 256)⁻¹ : ℝ) : EReal) := by
  have e3 : Real.log 256 = 8 * Real.log 2 := by
    rw [show (256 : ℝ) = 2 ^ 8 by norm_num, Real.log_pow]; norm_num
  have e4 : Real.log 2 ≠ 0 := (Real.log_pos (by norm_num)).ne'
  rw [Cert.Stick.Ref.eighth_bits, Cert.Stick.Ref.two_bits, e3, Cert.Stick.log_coe_pos 2 (by norm_num)]
  unfold Ideal.div
  rw [if_neg (by rw [← EReal.coe_zero]; intro h; exact e4 (EReal.coe_injective h)), ← EReal.coe_inv, ← EReal.coe_mul]
  congr 1
  rw [mul_inv]; norm_num

end Cert.In
end
-- ==== Proof.InBlock.lean ====
/- What the input projection's kernel leaves in each of its nine result blocks, from its blocks of the rows, the norm weights and the weights. -/
module

public import proofs.«01_k».proof.Proof.InSpec
public import proofs.«01_k».proof.Proof.Gen.Kernel3Ideal.Value
public import Idealize.ShloMosaic.Lib.Pointwise

@[expose] public section

set_option maxRecDepth 16384
noncomputable section

namespace Cert.In

open Idealize.ShloMosaic Idealize.ShloMosaic.TcCoe Idealize.ShloMosaic.Tactic
open Idealize.ShloMosaic.Pointwise
open Cert.Kernel3Ideal Cert.Kernel3Ideal.Gen

/-- One over the logarithm of 256, as the kernel names it. -/
abbrev qs : Ideal .f32 := Named.named κ "qscale" 0x3E38AA3B#32

theorem norm_apply (X : Vec Ideal S512x1024 .f32) (G : Vec Ideal S1x1024 .f32) (r : Fin 512) (j : Fin 1024) :
    k0_pay3 X G (ix2 r j) = nrm (fun x => X (ix2 r x)) (fun x => G (ix2 0 x)) j := by
  unfold k0_pay3
  pointwise
  rfl

/-! ## Each stored value, from the normalised rows and the columns of the weights it uses -/

theorem query_apply (X : Vec Ideal S512x1024 .f32) (G : Vec Ideal S1x1024 .f32) (W : Vec Ideal S1024x512 .bf16) (r d : Fin 512) :
    k0_pay4 X G W (ix2 r d) = (∑ x, k0_pay3 X G (ix2 r x) * W (ix2 x d)) * qs := by
  unfold k0_pay4
  pointwise

theorem key_apply (X : Vec Ideal S512x1024 .f32) (G : Vec Ideal S1x1024 .f32) (W : Vec Ideal S1024x512 .bf16) (r d : Fin 512) :
    k0_pay5 X G W (ix2 d r) = ∑ x, k0_pay3 X G (ix2 r x) * W (ix2 x d) := by
  unfold k0_pay5
  pointwise
  exact Finset.sum_congr rfl fun x _ => mul_comm (W (ix2 x d) : EReal) (k0_pay3 X G (ix2 r x))

theorem keyCache_apply (X : Vec Ideal S512x1024 .f32) (G : Vec Ideal S1x1024 .f32) (W : Vec Ideal S1024x512 .bf16) (r d : Fin 512) :
    k0_pay6 X G W (ix4 0 0 d r) = ∑ x, k0_pay3 X G (ix2 r x) * W (ix2 x d) := by
  refine Eq.trans ?_ (key_apply X G W r d)
  unfold k0_pay6
  pointwise

theorem keyBlock_apply (X : Vec Ideal S512x1024 .f32) (G : Vec Ideal S1x1024 .f32) (W : Vec Ideal S1024x512 .bf16) (r d : Fin 512) :
    k0_pay7 X G W (ix3 0 d r) = ∑ x, k0_pay3 X G (ix2 r x) * W (ix2 x d) := by
  refine Eq.trans ?_ (key_apply X G W r d)
  unfold k0_pay7
  pointwise

theorem value_apply (N : FVec Ideal S512x1024 .bf16) (W : Vec Ideal S1024x512 .bf16) (r d : Fin 512) :
    k0_pay8 N W (ix2 d r) = ∑ x, N (ix2 r x) * W (ix2 x d) := by
  unfold k0_pay8
  pointwise
  exact Finset.sum_congr rfl fun x _ => mul_comm (W (ix2 x d) : EReal) (N (ix2 r x))

theorem valueCache_apply (N : FVec Ideal S512x1024 .bf16) (W : Vec Ideal S1024x512 .bf16) (r d : Fin 512) :
    k0_pay9 N W (ix4 0 0 d r) = ∑ x, N (ix2 r x) * W (ix2 x d) := by
  refine Eq.trans ?_ (value_apply N W r d)
  unfold k0_pay9
  pointwise

theorem valueBlock_apply (N : FVec Ideal S512x1024 .bf16) (W : Vec Ideal S1024x512 .bf16) (r d : Fin 512) :
    k0_pay10 N W (ix3 0 d r) = ∑ x, N (ix2 r x) * W (ix2 x d) := by
  refine Eq.trans ?_ (value_apply N W r d)
  unfold k0_pay10
  pointwise

theorem bias_apply (N : FVec Ideal S512x1024 .bf16) (W : Vec Ideal S1024x512 .bf16) (r d : Fin 512) :
    k0_pay11 N W (ix2 r d) = ∑ x, N (ix2 r x) * W (ix2 x d) := by
  unfold k0_pay11
  pointwise

theorem prod_apply (N : FVec Ideal S512x1024 .bf16) (W W' : Vec Ideal S1024x512 .bf16) (r d : Fin 512) :
    k0_pay12 N W W' (ix2 r d) = (∑ x, N (ix2 r x) * W (ix2 x d)) * ∑ x, N (ix2 r x) * W' (ix2 x d) := by
  unfold k0_pay12
  pointwise

theorem gateA_apply (N : FVec Ideal S512x1024 .bf16) (W : Vec Ideal S1024x1024 .bf16) (r : Fin 512) (d : Fin 1024) :
    k0_pay1 (k0_pay13 N W) (ix2 r d) = sigm (∑ x, N (ix2 r x) * W (ix2 x d)) := by
  unfold k0_pay1 k0_pay13
  pointwise
  exact congrArg (fun y : EReal => Ideal.div 1 (1 + Ideal.exp y)) (zero_sub (∑ x, (N (ix2 r x) : EReal) * W (ix2 x d)))

theorem gateB_apply (N : FVec Ideal S512x1024 .bf16) (W : Vec Ideal S1024x1024 .bf16) (r : Fin 512) (d : Fin 1024) :
    k0_pay2 N W (ix2 r d) = sigm (∑ x, N (ix2 r x) * W (ix2 x d)) := by
  unfold k0_pay2
  pointwise
  exact congrArg (fun y : EReal => Ideal.div 1 (1 + Ideal.exp y)) (zero_sub (∑ x, (N (ix2 r x) : EReal) * W (ix2 x d)))

/-! ## Each result block -/

/-- Columns `off`, `off + 1`, … of the weights, at an index. -/
theorem cols_apply {n : ℕ} (W : Vec Ideal S1024x5120 .bf16) (off : ℕ) (h : off + n ≤ 5120)
    (inb : ∀ a, (![0, off] : Fin 2 → ℕ) a + (![1024, n] : Fin 2 → ℕ) a ≤ S1024x5120.size a) (j : Fin 1024) (d : Fin n) :
    View.ld W (Rect.unit (s := S1024x5120) ![0, off] ![1024, n] inb) (ix2 j d) = W (ix2 j ⟨off + d.val, by omega⟩) := by
  refine congrArg W (funext fun a => Fin.ext ?_)
  match a with
  | ⟨0, _⟩ => show 0 + 1 * j.val = j.val; omega
  | ⟨1, _⟩ => show off + 1 * d.val = off + d.val; omega

variable (X : Vec Ideal S512x1024 .f32) (G : Vec Ideal S1x1024 .f32) (W : Vec Ideal S1024x5120 .bf16)

/-- The projection of the block's row `r` at column `n` of the weights. -/
def bproj (r : Fin 512) (n : Fin 5120) : EReal := proj (fun x => X (ix2 r x)) (fun x => G (ix2 0 x)) (fun x => W (ix2 x n))

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

theorem load_norm (r : Fin 512) (j : Fin 1024) :
    k0_pay3 (View.ld X r0_0) (View.ld G r0_1) (ix2 r j) = nrm (fun x => X (ix2 r x)) (fun x => G (ix2 0 x)) j := by
  rw [show View.ld X r0_0 = X from View.ld_unit_zero zero2 _ X, show View.ld G r0_1 = G from View.ld_unit_zero zero2 _ G]
  exact norm_apply X G r j

/-- The normalised rows against the columns from `off` on. -/
theorem sum_cols {n : ℕ} (off : ℕ) (h : off + n ≤ 5120)
    (inb : ∀ a, (![0, off] : Fin 2 → ℕ) a + (![1024, n] : Fin 2 → ℕ) a ≤ S1024x5120.size a) (r : Fin 512) (d : Fin n) :
    (∑ x : Fin 1024, (k0_pay3 (View.ld X r0_0) (View.ld G r0_1) (ix2 r x) : EReal)
        * View.ld W (Rect.unit (s := S1024x5120) ![0, off] ![1024, n] inb) (ix2 x d))
      = bproj X G W r ⟨off + d.val, by omega⟩ :=
  Finset.sum_congr rfl fun x _ => congrArg₂ (fun a b : EReal => a * b) (load_norm X G r x) (cols_apply W off h inb x d)

theorem out3_apply (r d : Fin 512) : out0_3 X G W (ix2 r d) = bproj X G W r ⟨0 + d.val, by omega⟩ * qs := by
  refine (congrFun (View.canon_unit_zero zero2 _ _) _).trans ((query_apply _ _ _ r d).trans ?_)
  exact congrArg (fun y : EReal => y * qs) (sum_cols X G W 0 (by omega) _ r d)

theorem out4_apply (r d : Fin 512) : out0_4 X G W (ix4 0 0 d r) = bproj X G W r ⟨512 + d.val, by omega⟩ :=
  (congrFun (View.canon_unit_zero zero4 _ _) _).trans ((keyCache_apply _ _ _ r d).trans (sum_cols X G W 512 (by omega) _ r d))

theorem out5_apply (r d : Fin 512) : out0_5 X G W (ix4 0 0 d r) = bproj X G W r ⟨1024 + d.val, by omega⟩ :=
  (congrFun (View.canon_unit_zero zero4 _ _) _).trans ((valueCache_apply _ _ r d).trans (sum_cols X G W 1024 (by omega) _ r d))

theorem out6_apply (r d : Fin 512) : out0_6 X G W (ix3 0 d r) = bproj X G W r ⟨512 + d.val, by omega⟩ :=
  (congrFun (View.canon_unit_zero zero3 _ _) _).trans ((keyBlock_apply _ _ _ r d).trans (sum_cols X G W 512 (by omega) _ r d))

theorem out7_apply (r d : Fin 512) : out0_7 X G W (ix3 0 d r) = bproj X G W r ⟨1024 + d.val, by omega⟩ :=
  (congrFun (View.canon_unit_zero zero3 _ _) _).trans ((valueBlock_apply _ _ r d).trans (sum_cols X G W 1024 (by omega) _ r d))

theorem out8_apply (r d : Fin 512) : out0_8 X G W (ix2 r d) = bproj X G W r ⟨1536 + d.val, by omega⟩ :=
  (congrFun (View.canon_unit_zero zero2 _ _) _).trans ((bias_apply _ _ r d).trans (sum_cols X G W 1536 (by omega) _ r d))

theorem out9_apply (r d : Fin 512) :
    out0_9 X G W (ix2 r d) = bproj X G W r ⟨2048 + d.val, by omega⟩ * bproj X G W r ⟨2560 + d.val, by omega⟩ :=
  (congrFun (View.canon_unit_zero zero2 _ _) _).trans ((prod_apply _ _ _ r d).trans
    (congrArg₂ (fun a b : EReal => a * b) (sum_cols X G W 2048 (by omega) _ r d) (sum_cols X G W 2560 (by omega) _ r d)))

theorem out10_apply (r : Fin 512) (d : Fin 1024) : out0_10 X G W (ix2 r d) = sigm (bproj X G W r ⟨3072 + d.val, by omega⟩) :=
  (congrFun (View.canon_unit_zero zero2 _ _) _).trans ((gateA_apply _ _ r d).trans (congrArg sigm (sum_cols X G W 3072 (by omega) _ r d)))

theorem out11_apply (r : Fin 512) (d : Fin 1024) : out0_11 X G W (ix2 r d) = sigm (bproj X G W r ⟨4096 + d.val, by omega⟩) :=
  (congrFun (View.canon_unit_zero zero2 _ _) _).trans ((gateB_apply _ _ r d).trans (congrArg sigm (sum_cols X G W 4096 (by omega) _ r d)))

end Cert.In
end
-- ==== Proof.InArray.lean ====
/- The input projection's nine result arrays after the call, entry by entry, from its three arguments. -/
module

public import proofs.«01_k».proof.Proof.InBlock
public import Idealize.ShloMosaic.Lib.StableHlo.Run

@[expose] public section

set_option maxRecDepth 16384
noncomputable section

namespace Cert.In

open Idealize.ShloMosaic Idealize.ShloMosaic.TcCoe Idealize.ShloMosaic.Tactic
open Idealize.ShloMosaic.Pointwise
open Idealize.SL Idealize.SL.Sem
open Cert.Kernel3Ideal Cert.Kernel3Ideal.Gen Cert.Kernel3Ideal.Value

variable (m : (ℓ : Loc nD τ sig) → Buf (Elt Ideal) ℓ) (c : Dev nD)

/-- The input's rows. -/
abbrev xin : FVec Ideal S4x4096x1024 .f32 := m ((c : Thread nD τ).loc main_arg0)
/-- The norm's weights. -/
abbrev gin : FVec Ideal S1024 .f32 := m ((c : Thread nD τ).loc main_arg1)
/-- The projection's weights. -/
abbrev win : FVec Ideal S1024x5120 .f32 := m ((c : Thread nD τ).loc main_arg2)

theorem V_rows : V m c main_v0 = shapeCast S16384x1024 (xin m c) shapeCasts_S4x4096x1024_S16384x1024 := by
  simp only [V, hostOps0, List.flatten_cons, List.flatten_nil, List.append_nil, List.cons_append, List.nil_append,
    StableHlo.TRef.unary, StableHlo.TRef.toBuf, StableHlo.TRef.ofBuf, cast_eq]
  after_results_simp
  rfl

theorem V_norm : V m c main_v1 = shapeCast S1x1024 (gin m c) shapeCasts_S1024_S1x1024 := by
  simp only [V, hostOps0, List.flatten_cons, List.flatten_nil, List.append_nil, List.cons_append, List.nil_append,
    StableHlo.TRef.unary, StableHlo.TRef.toBuf, StableHlo.TRef.ofBuf, cast_eq]
  after_results_simp
  rfl

theorem V_weights : V m c main_v2 = truncf .bf16 (win m c) bitsLt_bf16_f32 := by
  simp only [V, hostOps0, List.flatten_cons, List.flatten_nil, List.append_nil, List.cons_append, List.nil_append,
    StableHlo.TRef.unary, StableHlo.TRef.toBuf, StableHlo.TRef.ofBuf, cast_eq]
  after_results_simp

/-! ## Which rows and columns a grid point holds -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 4) = 0 ∧ win0_4.index t (1 : Fin 4) = t.val / 8
    ∧ win0_4.index t (2 : Fin 4) = 0 ∧ win0_4.index t (3 : Fin 4) = t.val % 8 := (by decide +kernel : ∀ t : Fin grid0.N, _)
theorem idx5 : ∀ t : Fin cfg0.N, win0_5.index t (0 : Fin 4) = 0 ∧ win0_5.index t (1 : Fin 4) = t.val / 8
    ∧ win0_5.index t (2 : Fin 4) = 0 ∧ win0_5.index t (3 : Fin 4) = t.val % 8 := (by decide +kernel : ∀ t : Fin grid0.N, _)
theorem idx6 : ∀ t : Fin cfg0.N, win0_6.index t (0 : Fin 3) = t.val / 8
    ∧ win0_6.index t (1 : Fin 3) = 0 ∧ win0_6.index t (2 : Fin 3) = t.val % 8 := (by decide +kernel : ∀ t : Fin grid0.N, _)
theorem idx7 : ∀ t : Fin cfg0.N, win0_7.index t (0 : Fin 3) = t.val / 8
    ∧ win0_7.index t (1 : Fin 3) = 0 ∧ win0_7.index t (2 : Fin 3) = t.val % 8 := (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

variable (t : Fin cfg0.N)

theorem tlt : t.val < 32 := t.isLt

/-- The row of the whole input that is row `r` of point `t`'s block. -/
def rowG (r : Fin 512) : Fin 16384 := ⟨t.val * 512 + r.val, by have := tlt t; omega⟩
/-- Its batch. -/
def batG : Fin 4 := ⟨t.val / 8, by have := tlt t; omega⟩
/-- Its position in the batch. -/
def posG (r : Fin 512) : Fin 4096 := ⟨t.val % 8 * 512 + r.val, by omega⟩

theorem emb0 (r : Fin 512) (j : Fin 1024) :
    ((cfg0.win 0).blk t).view.emb (ix2 r j : S512x1024.Idx) = (ix2 (rowG t r) j : S16384x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * j.val = j.val; omega

theorem emb1 (j : Fin 1024) : ((cfg0.win 1).blk t).view.emb (ix2 0 j : S1x1024.Idx) = (ix2 0 j : S1x1024.Idx) := by
  obtain ⟨e0, e1⟩ := idx1 t
  funext a; apply Fin.ext
  match a with
  | ⟨0, _⟩ => show win0_1.index t (0 : Fin 2) * 1 + 1 * 0 = 0; omega
  | ⟨1, _⟩ => show win0_1.index t (1 : Fin 2) * 1024 + 1 * j.val = j.val; omega

theorem emb2 (j : Fin 1024) (n : Fin 5120) : ((cfg0.win 2).blk t).view.emb (ix2 j n : S1024x5120.Idx) = (ix2 j n : S1024x5120.Idx) := by
  obtain ⟨e0, e1⟩ := idx2 t
  funext a; apply Fin.ext
  match a with
  | ⟨0, _⟩ => show win0_2.index t (0 : Fin 2) * 1024 + 1 * j.val = j.val; omega
  | ⟨1, _⟩ => show win0_2.index t (1 : Fin 2) * 5120 + 1 * n.val = n.val; omega

theorem iblk0 (r : Fin 512) (j : Fin 1024) :
    (iblk m c 0 t : Vec Ideal S512x1024 .f32) (ix2 r j) = xin m c (ix3 (batG t) (posG t r) j) := by
  show V m c main_v0 (((cfg0.win 0).blk t).view.emb (ix2 r j : S512x1024.Idx)) = _
  rw [emb0, V_rows]
  pointwise
  refine congrArg (xin m c) ?_
  have := tlt t
  funext a; apply Fin.ext
  match a with
  | ⟨0, _⟩ => show (t.val * 512 + r.val) / 4096 = t.val / 8; omega
  | ⟨1, _⟩ => show (t.val * 512 + r.val) % 4096 = t.val % 8 * 512 + r.val; omega
  | ⟨2, _⟩ => rfl

theorem iblk1 (j : Fin 1024) : (iblk m c 1 t : Vec Ideal S1x1024 .f32) (ix2 0 j) = gin m c (ix1 j) := by
  show V m c main_v1 (((cfg0.win 1).blk t).view.emb (ix2 0 j : S1x1024.Idx)) = _
  rw [emb1, V_norm]
  pointwise

theorem iblk2 (j : Fin 1024) (n : Fin 5120) : (iblk m c 2 t : Vec Ideal S1024x5120 .bf16) (ix2 j n) = win m c (ix2 j n) := by
  show V m c main_v2 (((cfg0.win 2).blk t).view.emb (ix2 j n : S1024x5120.Idx)) = _
  rw [emb2, V_weights]
  pointwise

/-- The projection of position `s` of batch `b` at column `n`. -/
def gproj (x : FVec Ideal S4x4096x1024 .f32) (g : FVec Ideal S1024 .f32) (w : FVec Ideal S1024x5120 .f32)
    (b : Fin 4) (s : Fin 4096) (n : Fin 5120) : EReal :=
  proj (fun j => x (ix3 b s j)) (fun j => g (ix1 j)) (fun j => w (ix2 j n))

theorem block_proj (r : Fin 512) (n : Fin 5120) :
    bproj (iblk m c 0 t) (iblk m c 1 t) (iblk m c 2 t) r n = gproj (xin m c) (gin m c) (win m c) (batG t) (posG t r) n := by
  unfold bproj gproj
  rw [show (fun x => (iblk m c 0 t : Vec Ideal S512x1024 .f32) (ix2 r x)) = fun j => xin m c (ix3 (batG t) (posG t r) j) from
      funext fun j => iblk0 m c t r j,
    show (fun x => (iblk m c 1 t : Vec Ideal S1x1024 .f32) (ix2 0 x)) = fun j => gin m c (ix1 j) from funext fun j => iblk1 m c t j,
    show (fun x => (iblk m c 2 t : Vec Ideal S1024x5120 .bf16) (ix2 x n)) = fun j => win m c (ix2 j n) from funext fun j => iblk2 m c t j n]

/-! ## The arrays whose rows are the input's -/

/-- The batch of a row. -/
def bat (R : Fin 16384) : Fin 4 := ⟨R.val / 4096, by omega⟩
/-- The position of a row in its batch. -/
def pos (R : Fin 16384) : Fin 4096 := ⟨R.val % 4096, by omega⟩
/-- The grid point that holds a row. -/
def pt (R : Fin 16384) : Fin cfg0.N := ⟨R.val / 512, by show R.val / 512 < 32; omega⟩
/-- The row's place in that point's block. -/
def plc (R : Fin 16384) : Fin 512 := ⟨R.val % 512, by omega⟩

theorem row_eq (R : Fin 16384) : rowG (pt R) (plc R) = R := Fin.ext (by show R.val / 512 * 512 + R.val % 512 = R.val; omega)

theorem block_row (R : Fin 16384) (n : Fin 5120) :
    bproj (iblk m c 0 (pt R)) (iblk m c 1 (pt R)) (iblk m c 2 (pt R)) (plc R) n = gproj (xin m c) (gin m c) (win m c) (bat R) (pos R) n := by
  rw [block_proj, show batG (pt R) = bat R from Fin.ext (by show R.val / 512 / 8 = R.val / 4096; omega),
    show posG (pt R) (plc R) = pos R from Fin.ext (by show R.val / 512 % 8 * 512 + R.val % 512 = R.val % 4096; omega)]

theorem emb3 (r : Fin 512) (d : Fin 512) :
    ((cfg0.win 3).blk t).view.emb (ix2 r d : S512x512.Idx) = (ix2 (rowG t r) d : S16384x512.Idx) := by
  obtain ⟨e0, e1⟩ := idx3 t
  funext a; apply Fin.ext
  match a with
  | ⟨0, _⟩ => show win0_3.index t (0 : Fin 2) * 512 + 1 * r.val = t.val * 512 + r.val; omega
  | ⟨1, _⟩ => show win0_3.index t (1 : Fin 2) * 512 + 1 * d.val = d.val; omega

theorem final3 (R : Fin 16384) (d : Fin 512) : ((dats m 0 c).arrAt 3 cfg0.N : S16384x512.Idx → EReal) (ix2 R d)
    = gproj (xin m c) (gin m c) (win m c) (bat R) (pos R) ⟨0 + d.val, by omega⟩ * qs := by
  have e : ((cfg0.win 3).blk (pt R)).view.emb (ix2 (plc R) d : S512x512.Idx) = (ix2 R d : S16384x512.Idx) := by rw [emb3, row_eq]
  have h := congrFun ((blocks3 m c (pt R) (flush0_3 _)).trans (flushed3 m c (pt R))) (ix2 (plc R) d)
  refine (congrArg ((dats m 0 c).arrAt 3 cfg0.N) e).symm.trans (h.trans ((out3_apply _ _ _ (plc R) d).trans ?_))
  exact congrArg (fun y : EReal => y * qs) (block_row m c R _)

theorem emb8 (r : Fin 512) (d : Fin 512) :
    ((cfg0.win 8).blk t).view.emb (ix2 r d : S512x512.Idx) = (ix2 (rowG t r) d : S16384x512.Idx) := by
  obtain ⟨e0, e1⟩ := idx8 t
  funext a; apply Fin.ext
  match a with
  | ⟨0, _⟩ => show win0_8.index t (0 : Fin 2) * 512 + 1 * r.val = t.val * 512 + r.val; omega
  | ⟨1, _⟩ => show win0_8.index t (1 : Fin 2) * 512 + 1 * d.val = d.val; omega

theorem final8 (R : Fin 16384) (d : Fin 512) : ((dats m 0 c).arrAt 8 cfg0.N : S16384x512.Idx → EReal) (ix2 R d)
    = gproj (xin m c) (gin m c) (win m c) (bat R) (pos R) ⟨1536 + d.val, by omega⟩ := by
  have e : ((cfg0.win 8).blk (pt R)).view.emb (ix2 (plc R) d : S512x512.Idx) = (ix2 R d : S16384x512.Idx) := by rw [emb8, row_eq]
  have h := congrFun ((blocks8 m c (pt R) (flush0_8 _)).trans (flushed8 m c (pt R))) (ix2 (plc R) d)
  refine (congrArg ((dats m 0 c).arrAt 8 cfg0.N) e).symm.trans (h.trans ((out8_apply _ _ _ (plc R) d).trans ?_))
  exact block_row m c R _

theorem emb9 (r : Fin 512) (d : Fin 512) :
    ((cfg0.win 9).blk t).view.emb (ix2 r d : S512x512.Idx) = (ix2 (rowG t r) d : S16384x512.Idx) := by
  obtain ⟨e0, e1⟩ := idx9 t
  funext a; apply Fin.ext
  match a with
  | ⟨0, _⟩ => show win0_9.index t (0 : Fin 2) * 512 + 1 * r.val = t.val * 512 + r.val; omega
  | ⟨1, _⟩ => show win0_9.index t (1 : Fin 2) * 512 + 1 * d.val = d.val; omega

theorem final9 (R : Fin 16384) (d : Fin 512) : ((dats m 0 c).arrAt 9 cfg0.N : S16384x512.Idx → EReal) (ix2 R d)
    = gproj (xin m c) (gin m c) (win m c) (bat R) (pos R) ⟨2048 + d.val, by omega⟩
      * gproj (xin m c) (gin m c) (win m c) (bat R) (pos R) ⟨2560 + d.val, by omega⟩ := by
  have e : ((cfg0.win 9).blk (pt R)).view.emb (ix2 (plc R) d : S512x512.Idx) = (ix2 R d : S16384x512.Idx) := by rw [emb9, row_eq]
  have h := congrFun ((blocks9 m c (pt R) (flush0_9 _)).trans (flushed9 m c (pt R))) (ix2 (plc R) d)
  refine (congrArg ((dats m 0 c).arrAt 9 cfg0.N) e).symm.trans (h.trans ((out9_apply _ _ _ (plc R) d).trans ?_))
  exact congrArg₂ (fun y z : EReal => y * z) (block_row m c R _) (block_row m c R _)

theorem emb10 (r : Fin 512) (d : Fin 1024) :
    ((cfg0.win 10).blk t).view.emb (ix2 r d : S512x1024.Idx) = (ix2 (rowG t r) d : S16384x1024.Idx) := by
  obtain ⟨e0, e1⟩ := idx10 t
  funext a; apply Fin.ext
  match a with
  | ⟨0, _⟩ => show win0_10.index t (0 : Fin 2) * 512 + 1 * r.val = t.val * 512 + r.val; omega
  | ⟨1, _⟩ => show win0_10.index t (1 : Fin 2) * 1024 + 1 * d.val = d.val; omega

theorem final10 (R : Fin 16384) (d : Fin 1024) : ((dats m 0 c).arrAt 10 cfg0.N : S16384x1024.Idx → EReal) (ix2 R d)
    = sigm (gproj (xin m c) (gin m c) (win m c) (bat R) (pos R) ⟨3072 + d.val, by omega⟩) := by
  have e : ((cfg0.win 10).blk (pt R)).view.emb (ix2 (plc R) d : S512x1024.Idx) = (ix2 R d : S16384x1024.Idx) := by rw [emb10, row_eq]
  have h := congrFun ((blocks10 m c (pt R) (flush0_10 _)).trans (flushed10 m c (pt R))) (ix2 (plc R) d)
  refine (congrArg ((dats m 0 c).arrAt 10 cfg0.N) e).symm.trans (h.trans ((out10_apply _ _ _ (plc R) d).trans ?_))
  exact congrArg sigm (block_row m c R _)

theorem emb11 (r : Fin 512) (d : Fin 1024) :
    ((cfg0.win 11).blk t).view.emb (ix2 r d : S512x1024.Idx) = (ix2 (rowG t r) d : S16384x1024.Idx) := by
  obtain ⟨e0, e1⟩ := idx11 t
  funext a; apply Fin.ext
  match a with
  | ⟨0, _⟩ => show win0_11.index t (0 : Fin 2) * 512 + 1 * r.val = t.val * 512 + r.val; omega
  | ⟨1, _⟩ => show win0_11.index t (1 : Fin 2) * 1024 + 1 * d.val = d.val; omega

theorem final11 (R : Fin 16384) (d : Fin 1024) : ((dats m 0 c).arrAt 11 cfg0.N : S16384x1024.Idx → EReal) (ix2 R d)
    = sigm (gproj (xin m c) (gin m c) (win m c) (bat R) (pos R) ⟨4096 + d.val, by omega⟩) := by
  have e : ((cfg0.win 11).blk (pt R)).view.emb (ix2 (plc R) d : S512x1024.Idx) = (ix2 R d : S16384x1024.Idx) := by rw [emb11, row_eq]
  have h := congrFun ((blocks11 m c (pt R) (flush0_11 _)).trans (flushed11 m c (pt R))) (ix2 (plc R) d)
  refine (congrArg ((dats m 0 c).arrAt 11 cfg0.N) e).symm.trans (h.trans ((out11_apply _ _ _ (plc R) d).trans ?_))
  exact congrArg sigm (block_row m c R _)

/-! ## The transposed arrays: a batch, a column, a position -/

/-- The row of position `s` of batch `b`. -/
def rowOf (b : Fin 4) (s : Fin 4096) : Fin 16384 := ⟨b.val * 4096 + s.val, by omega⟩

theorem bat_rowOf (b : Fin 4) (s : Fin 4096) : bat (rowOf b s) = b := Fin.ext (by show (b.val * 4096 + s.val) / 4096 = b.val; omega)
theorem pos_rowOf (b : Fin 4) (s : Fin 4096) : pos (rowOf b s) = s := Fin.ext (by show (b.val * 4096 + s.val) % 4096 = s.val; omega)

theorem batG_rowOf (b : Fin 4) (s : Fin 4096) : batG (pt (rowOf b s)) = b :=
  Fin.ext (by show (b.val * 4096 + s.val) / 512 / 8 = b.val; omega)
theorem posG_rowOf (b : Fin 4) (s : Fin 4096) : posG (pt (rowOf b s)) (plc (rowOf b s)) = s :=
  Fin.ext (by show (b.val * 4096 + s.val) / 512 % 8 * 512 + (b.val * 4096 + s.val) % 512 = s.val; omega)

theorem block_pos (b : Fin 4) (s : Fin 4096) (n : Fin 5120) :
    bproj (iblk m c 0 (pt (rowOf b s))) (iblk m c 1 (pt (rowOf b s))) (iblk m c 2 (pt (rowOf b s))) (plc (rowOf b s)) n
      = gproj (xin m c) (gin m c) (win m c) b s n := by
  rw [block_row, bat_rowOf, pos_rowOf]

theorem emb4 (d r : Fin 512) :
    ((cfg0.win 4).blk t).view.emb (ix4 0 0 d r : S1x1x512x512.Idx) = (ix4 0 (batG t) d (posG t r) : S2x4x512x4096.Idx) := by
  obtain ⟨e0, e1, e2, e3⟩ := idx4 t
  funext a; apply Fin.ext
  match a with
  | ⟨0, _⟩ => show win0_4.index t (0 : Fin 4) * 1 + 1 * 0 = 0; omega
  | ⟨1, _⟩ => show win0_4.index t (1 : Fin 4) * 1 + 1 * 0 = t.val / 8; omega
  | ⟨2, _⟩ => show win0_4.index t (2 : Fin 4) * 512 + 1 * d.val = d.val; omega
  | ⟨3, _⟩ => show win0_4.index t (3 : Fin 4) * 512 + 1 * r.val = t.val % 8 * 512 + r.val; omega

theorem final4 (b : Fin 4) (d : Fin 512) (s : Fin 4096) : ((dats m 0 c).arrAt 4 cfg0.N : S2x4x512x4096.Idx → EReal) (ix4 0 b d s)
    = gproj (xin m c) (gin m c) (win m c) b s ⟨512 + d.val, by omega⟩ := by
  have e : ((cfg0.win 4).blk (pt (rowOf b s))).view.emb (ix4 0 0 d (plc (rowOf b s)) : S1x1x512x512.Idx)
      = (ix4 0 b d s : S2x4x512x4096.Idx) := by rw [emb4, batG_rowOf, posG_rowOf]
  have h := congrFun ((blocks4 m c (pt (rowOf b s)) (flush0_4 _)).trans (flushed4 m c _)) (ix4 0 0 d (plc (rowOf b s)))
  exact (congrArg ((dats m 0 c).arrAt 4 cfg0.N) e).symm.trans (h.trans ((out4_apply _ _ _ (plc (rowOf b s)) d).trans (block_pos m c b s _)))

theorem emb5 (d r : Fin 512) :
    ((cfg0.win 5).blk t).view.emb (ix4 0 0 d r : S1x1x512x512.Idx) = (ix4 0 (batG t) d (posG t r) : S2x4x512x4096.Idx) := by
  obtain ⟨e0, e1, e2, e3⟩ := idx5 t
  funext a; apply Fin.ext
  match a with
  | ⟨0, _⟩ => show win0_5.index t (0 : Fin 4) * 1 + 1 * 0 = 0; omega
  | ⟨1, _⟩ => show win0_5.index t (1 : Fin 4) * 1 + 1 * 0 = t.val / 8; omega
  | ⟨2, _⟩ => show win0_5.index t (2 : Fin 4) * 512 + 1 * d.val = d.val; omega
  | ⟨3, _⟩ => show win0_5.index t (3 : Fin 4) * 512 + 1 * r.val = t.val % 8 * 512 + r.val; omega

theorem final5 (b : Fin 4) (d : Fin 512) (s : Fin 4096) : ((dats m 0 c).arrAt 5 cfg0.N : S2x4x512x4096.Idx → EReal) (ix4 0 b d s)
    = gproj (xin m c) (gin m c) (win m c) b s ⟨1024 + d.val, by omega⟩ := by
  have e : ((cfg0.win 5).blk (pt (rowOf b s))).view.emb (ix4 0 0 d (plc (rowOf b s)) : S1x1x512x512.Idx)
      = (ix4 0 b d s : S2x4x512x4096.Idx) := by rw [emb5, batG_rowOf, posG_rowOf]
  have h := congrFun ((blocks5 m c (pt (rowOf b s)) (flush0_5 _)).trans (flushed5 m c _)) (ix4 0 0 d (plc (rowOf b s)))
  exact (congrArg ((dats m 0 c).arrAt 5 cfg0.N) e).symm.trans (h.trans ((out5_apply _ _ _ (plc (rowOf b s)) d).trans (block_pos m c b s _)))

theorem emb6 (d r : Fin 512) :
    ((cfg0.win 6).blk t).view.emb (ix3 0 d r : S1x512x512.Idx) = (ix3 (batG t) d (posG t r) : S4x512x4096.Idx) := by
  obtain ⟨e0, e1, e2⟩ := idx6 t
  funext a; apply Fin.ext
  match a with
  | ⟨0, _⟩ => show win0_6.index t (0 : Fin 3) * 1 + 1 * 0 = t.val / 8; omega
  | ⟨1, _⟩ => show win0_6.index t (1 : Fin 3) * 512 + 1 * d.val = d.val; omega
  | ⟨2, _⟩ => show win0_6.index t (2 : Fin 3) * 512 + 1 * r.val = t.val % 8 * 512 + r.val; omega

theorem final6 (b : Fin 4) (d : Fin 512) (s : Fin 4096) : ((dats m 0 c).arrAt 6 cfg0.N : S4x512x4096.Idx → EReal) (ix3 b d s)
    = gproj (xin m c) (gin m c) (win m c) b s ⟨512 + d.val, by omega⟩ := by
  have e : ((cfg0.win 6).blk (pt (rowOf b s))).view.emb (ix3 0 d (plc (rowOf b s)) : S1x512x512.Idx)
      = (ix3 b d s : S4x512x4096.Idx) := by rw [emb6, batG_rowOf, posG_rowOf]
  have h := congrFun ((blocks6 m c (pt (rowOf b s)) (flush0_6 _)).trans (flushed6 m c _)) (ix3 0 d (plc (rowOf b s)))
  exact (congrArg ((dats m 0 c).arrAt 6 cfg0.N) e).symm.trans (h.trans ((out6_apply _ _ _ (plc (rowOf b s)) d).trans (block_pos m c b s _)))

theorem emb7 (d r : Fin 512) :
    ((cfg0.win 7).blk t).view.emb (ix3 0 d r : S1x512x512.Idx) = (ix3 (batG t) d (posG t r) : S4x512x4096.Idx) := by
  obtain ⟨e0, e1, e2⟩ := idx7 t
  funext a; apply Fin.ext
  match a with
  | ⟨0, _⟩ => show win0_7.index t (0 : Fin 3) * 1 + 1 * 0 = t.val / 8; omega
  | ⟨1, _⟩ => show win0_7.index t (1 : Fin 3) * 512 + 1 * d.val = d.val; omega
  | ⟨2, _⟩ => show win0_7.index t (2 : Fin 3) * 512 + 1 * r.val = t.val % 8 * 512 + r.val; omega

theorem final7 (b : Fin 4) (d : Fin 512) (s : Fin 4096) : ((dats m 0 c).arrAt 7 cfg0.N : S4x512x4096.Idx → EReal) (ix3 b d s)
    = gproj (xin m c) (gin m c) (win m c) b s ⟨1024 + d.val, by omega⟩ := by
  have e : ((cfg0.win 7).blk (pt (rowOf b s))).view.emb (ix3 0 d (plc (rowOf b s)) : S1x512x512.Idx)
      = (ix3 b d s : S4x512x4096.Idx) := by rw [emb7, batG_rowOf, posG_rowOf]
  have h := congrFun ((blocks7 m c (pt (rowOf b s)) (flush0_7 _)).trans (flushed7 m c _)) (ix3 0 d (plc (rowOf b s)))
  exact (congrArg ((dats m 0 c).arrAt 7 cfg0.N) e).symm.trans (h.trans ((out7_apply _ _ _ (plc (rowOf b s)) d).trans (block_pos m c b s _)))

end Cert.In
end
-- ==== Proof.InRef.lean ====
/- The input projection's reference: each of its nine results, entry by entry, from the three arguments. -/
module

public import proofs.«01_k».proof.Proof.InSpec
public import proofs.«01_k».proof.Proof.Gen.Reference3Ideal.Run
public import Idealize.ShloMosaic.Lib.Pointwise

@[expose] public section

set_option maxRecDepth 16384
noncomputable section

namespace Cert.In

open Idealize.ShloMosaic Idealize.ShloMosaic.TcCoe Idealize.ShloMosaic.Tactic
open Idealize.ShloMosaic.Pointwise
open Cert.Reference3Ideal Cert.Reference3Ideal.Gen

/-- The normalised rows against all the weights. -/
def allA (x : FVec Ideal S4x4096x1024 .f32) (g : FVec Ideal S1024 .f32) (w : FVec Ideal S1024x5120 .f32) : FVec Ideal S4x4096x5120 .f32 :=
  Host.dotGeneral dot_S4x4096x1024_S1024x5120_S4x4096x5120_2_0_01_1_n_n none
    (mulf (mulf x (broadcastInDim S4x4096x1024 ![0, 1, 2] bcast_S4x4096x1_S4x4096x1024_0_1_2 (Host.rsqrt (addf
      (Host.divf (broadcastInDim S4x4096x1 ![0, 1] bcast_S4x4096_S4x4096x1_0_1
          (Host.reduceAdd (mulf x x) (constant S_ .f32 0x00000000#32) reducesTo_S4x4096x1024_S4x4096_d2 h_S_))
        (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))) w

/-- The projection of position `s` of batch `b` at column `n`. -/
def rproj (x : FVec Ideal S4x4096x1024 .f32) (g : FVec Ideal S1024 .f32) (w : FVec Ideal S1024x5120 .f32)
    (b : Fin 4) (s : Fin 4096) (n : Fin 5120) : EReal :=
  proj (fun j => x (ix3 b s j)) (fun j => g (ix1 j)) (fun j => w (ix2 j n))

theorem allA_apply (x : FVec Ideal S4x4096x1024 .f32) (g : FVec Ideal S1024 .f32) (w : FVec Ideal S1024x5120 .f32)
    (b : Fin 4) (s : Fin 4096) (n : Fin 5120) : allA x g w (ix3 b s n) = rproj x g w b s n := by
  unfold allA
  pointwise
  rfl

variable (P : FVec Ideal S4x4096x5120 .f32)

/-- The scaled queries. -/
def queryA : FVec Ideal S16384x512 .bf16 :=
  truncf .bf16 (shapeCast S16384x512 (mulf (extractStridedSlice S4x4096x512 ![0, 0, 0] P slices_S4x4096x5120_S4x4096x512_0_0_0)
    (broadcastInDim S4x4096x512 ![] bcast_S_S4x4096x512 (Host.divf (constant S_ .f32 0x3E000000#32) (Host.log (constant S_ .f32 0x40000000#32)))))
    shapeCasts_S4x4096x512_S16384x512) bitsLt_bf16_f32
/-- The keys, transposed. -/
def keyA : FVec Ideal S4x512x4096 .f32 :=
  transpose S4x512x4096 [0, 2, 1] (extractStridedSlice S4x4096x512 ![0, 0, 512] P slices_S4x4096x5120_S4x4096x512_0_0_512) transposes_S4x4096x512_S4x512x4096_0_2_1
/-- The values, transposed. -/
def valueA : FVec Ideal S4x512x4096 .f32 :=
  transpose S4x512x4096 [0, 2, 1] (extractStridedSlice S4x4096x512 ![0, 0, 1024] P slices_S4x4096x5120_S4x4096x512_0_0_1024) transposes_S4x4096x512_S4x512x4096_0_2_1
/-- The same array in both layers' slots. -/
def slots (y : FVec Ideal S4x512x4096 .f32) : FVec Ideal S2x4x512x4096 .f32 :=
  broadcastInDim S2x4x512x4096 ![0, 1, 2, 3] bcast_S1x4x512x4096_S2x4x512x4096_0_1_2_3
    (broadcastInDim S1x4x512x4096 ![1, 2, 3] bcast_S4x512x4096_S1x4x512x4096_1_2_3 y)
/-- The convolution's first gate. -/
def bgA : FVec Ideal S16384x512 .bf16 :=
  truncf .bf16 (shapeCast S16384x512 (extractStridedSlice S4x4096x512 ![0, 0, 1536] P slices_S4x4096x5120_S4x4096x512_0_0_1536)
    shapeCasts_S4x4096x512_S16384x512) bitsLt_bf16_f32
/-- The convolution's input: its second gate times its rows. -/
def uA : FVec Ideal S16384x512 .f32 :=
  shapeCast S16384x512 (mulf (extractStridedSlice S4x4096x512 ![0, 0, 2048] P slices_S4x4096x5120_S4x4096x512_0_0_2048)
    (extractStridedSlice S4x4096x512 ![0, 0, 2560] P slices_S4x4096x5120_S4x4096x512_0_0_2560)) shapeCasts_S4x4096x512_S16384x512
/-- A gate: the logistic function of a slice. -/
def sigA (y : FVec Ideal S4x4096x1024 .f32) : FVec Ideal S16384x1024 .bf16 :=
  truncf .bf16 (shapeCast S16384x1024 (Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf y))))
    shapeCasts_S4x4096x1024_S16384x1024) bitsLt_bf16_f32
/-- The slice of the attention's gate. -/
def sliceA : FVec Ideal S4x4096x1024 .f32 := extractStridedSlice S4x4096x1024 ![0, 0, 3072] P slices_S4x4096x5120_S4x4096x1024_0_0_3072
/-- The slice of the convolution's gate. -/
def sliceB : FVec Ideal S4x4096x1024 .f32 := extractStridedSlice S4x4096x1024 ![0, 0, 4096] P slices_S4x4096x5120_S4x4096x1024_0_0_4096

/-- The batch and the position of a row, and a column, as an index. -/
abbrev at3 (R : Fin 16384) (n : Fin 5120) : S4x4096x5120.Idx := ix3 ⟨R.val / 4096, by omega⟩ ⟨R.val % 4096, by omega⟩ n

theorem queryA_apply (R : Fin 16384) (d : Fin 512) :
    queryA P (ix2 R d) = P (at3 R ⟨0 + d.val, by omega⟩) * (((Real.log 256)⁻¹ : ℝ) : EReal) := by
  unfold queryA
  pointwise
  exact congrArg (fun y : EReal => (P (at3 R ⟨d.val, by omega⟩) : EReal) * y) qscale_eq

theorem keyA_apply (b : Fin 4) (d : Fin 512) (s : Fin 4096) : keyA P (ix3 b d s) = P (ix3 b s ⟨512 + d.val, by omega⟩) := by
  unfold keyA
  pointwise

theorem valueA_apply (b : Fin 4) (d : Fin 512) (s : Fin 4096) : valueA P (ix3 b d s) = P (ix3 b s ⟨1024 + d.val, by omega⟩) := by
  unfold valueA
  pointwise

theorem slots_apply (y : FVec Ideal S4x512x4096 .f32) (l : Fin 2) (b : Fin 4) (d : Fin 512) (s : Fin 4096) :
    slots y (ix4 l b d s) = y (ix3 b d s) := by
  unfold slots
  pointwise

theorem bgA_apply (R : Fin 16384) (d : Fin 512) : bgA P (ix2 R d) = P (at3 R ⟨1536 + d.val, by omega⟩) := by
  unfold bgA
  pointwise

theorem uA_apply (R : Fin 16384) (d : Fin 512) :
    uA P (ix2 R d) = (P (at3 R ⟨2048 + d.val, by omega⟩) * P (at3 R ⟨2560 + d.val, by omega⟩) : EReal) := by
  unfold uA
  pointwise

theorem sigA_apply (y : FVec Ideal S4x4096x1024 .f32) (R : Fin 16384) (d : Fin 1024) :
    sigA y (ix2 R d) = sigm (y (ix3 ⟨R.val / 4096, by omega⟩ ⟨R.val % 4096, by omega⟩ d)) := by
  unfold sigA
  pointwise
  rfl

theorem sliceA_apply (b : Fin 4) (s : Fin 4096) (d : Fin 1024) : sliceA P (ix3 b s d) = P (ix3 b s ⟨3072 + d.val, by omega⟩) := by
  unfold sliceA
  pointwise

theorem sliceB_apply (b : Fin 4) (s : Fin 4096) (d : Fin 1024) : sliceB P (ix3 b s d) = P (ix3 b s ⟨4096 + d.val, by omega⟩) := by
  unfold sliceB
  pointwise

end Cert.In
end
-- ==== Proof.InEqual.lean ====
/- The input projection's reference leaves what its kernel leaves: every entry of the nine results, of the two caches in the layer's own slot. -/
module

public import proofs.«01_k».proof.Proof.InArray
public import proofs.«01_k».proof.Proof.InRef
public import proofs.«01_k».proof.On_layer_done

@[expose] public section

set_option maxRecDepth 16384
noncomputable section

namespace Cert.In

open Idealize.ShloMosaic Idealize.ShloMosaic.TcCoe Idealize.ShloMosaic.Tactic
open Idealize.ShloMosaic.Pointwise
open Cert.Kernel3Ideal Cert.Kernel3Ideal.Gen Cert.Kernel3Ideal.Value

variable (m : (ℓ : Loc nD τ sig) → Buf (Elt Ideal) ℓ) (c : Dev nD)

/-- The reference's product, of the kernel's arguments. -/
abbrev allK : FVec Ideal Cert.Reference3Ideal.S4x4096x5120 .f32 := allA (xin m c) (gin m c) (win m c)

theorem all_row (R : Fin 16384) (n : Fin 5120) :
    allK m c (at3 R n) = gproj (xin m c) (gin m c) (win m c) (bat R) (pos R) n := allA_apply _ _ _ _ _ _

theorem all_pos (b : Fin 4) (s : Fin 4096) (n : Fin 5120) :
    allK m c (ix3 b s n) = gproj (xin m c) (gin m c) (win m c) b s n := allA_apply _ _ _ _ _ _

theorem eq3 : queryA (allK m c) = (dats m 0 c).arrAt 3 cfg0.N := by
  funext i
  obtain ⟨R, d, rfl⟩ : ∃ (R : Fin 16384) (d : Fin 512), i = ix2 R d := ⟨i 0, i 1, eq_ix2 i⟩
  refine (queryA_apply _ R d).trans (Eq.trans ?_ (final3 m c R d).symm)
  exact congrArg (fun y : EReal => y * (((Real.log 256)⁻¹ : ℝ) : EReal)) (all_row m c R _)

theorem eq6 : keyA (allK m c) = (dats m 0 c).arrAt 6 cfg0.N := by
  funext i
  obtain ⟨b, d, s, rfl⟩ : ∃ (b : Fin 4) (d : Fin 512) (s : Fin 4096), i = ix3 b d s := ⟨i 0, i 1, i 2, eq_ix3 i⟩
  exact (keyA_apply _ b d s).trans ((all_pos m c b s _).trans (final6 m c b d s).symm)

theorem eq7 : valueA (allK m c) = (dats m 0 c).arrAt 7 cfg0.N := by
  funext i
  obtain ⟨b, d, s, rfl⟩ : ∃ (b : Fin 4) (d : Fin 512) (s : Fin 4096), i = ix3 b d s := ⟨i 0, i 1, i 2, eq_ix3 i⟩
  exact (valueA_apply _ b d s).trans ((all_pos m c b s _).trans (final7 m c b d s).symm)

theorem eq4 (b : Fin 4) (d : Fin 512) (s : Fin 4096) :
    slots (keyA (allK m c)) (ix4 0 b d s) = ((dats m 0 c).arrAt 4 cfg0.N : S2x4x512x4096.Idx → EReal) (ix4 0 b d s) :=
  (slots_apply _ 0 b d s).trans ((keyA_apply _ b d s).trans ((all_pos m c b s _).trans (final4 m c b d s).symm))

theorem eq5 (b : Fin 4) (d : Fin 512) (s : Fin 4096) :
    slots (valueA (allK m c)) (ix4 0 b d s) = ((dats m 0 c).arrAt 5 cfg0.N : S2x4x512x4096.Idx → EReal) (ix4 0 b d s) :=
  (slots_apply _ 0 b d s).trans ((valueA_apply _ b d s).trans ((all_pos m c b s _).trans (final5 m c b d s).symm))

theorem eq8 : bgA (allK m c) = (dats m 0 c).arrAt 8 cfg0.N := by
  funext i
  obtain ⟨R, d, rfl⟩ : ∃ (R : Fin 16384) (d : Fin 512), i = ix2 R d := ⟨i 0, i 1, eq_ix2 i⟩
  exact (bgA_apply _ R d).trans ((all_row m c R _).trans (final8 m c R d).symm)

theorem eq9 : uA (allK m c) = (dats m 0 c).arrAt 9 cfg0.N := by
  funext i
  obtain ⟨R, d, rfl⟩ : ∃ (R : Fin 16384) (d : Fin 512), i = ix2 R d := ⟨i 0, i 1, eq_ix2 i⟩
  exact (uA_apply _ R d).trans ((congrArg₂ (fun y z : EReal => y * z) (all_row m c R _) (all_row m c R _)).trans (final9 m c R d).symm)

theorem eq10 : sigA (sliceA (allK m c)) = (dats m 0 c).arrAt 10 cfg0.N := by
  funext i
  obtain ⟨R, d, rfl⟩ : ∃ (R : Fin 16384) (d : Fin 1024), i = ix2 R d := ⟨i 0, i 1, eq_ix2 i⟩
  exact (sigA_apply _ R d).trans ((congrArg sigm ((sliceA_apply _ _ _ d).trans (all_row m c R _))).trans (final10 m c R d).symm)

theorem eq11 : sigA (sliceB (allK m c)) = (dats m 0 c).arrAt 11 cfg0.N := by
  funext i
  obtain ⟨R, d, rfl⟩ : ∃ (R : Fin 16384) (d : Fin 1024), i = ix2 R d := ⟨i 0, i 1, eq_ix2 i⟩
  exact (sigA_apply _ R d).trans ((congrArg sigm ((sliceB_apply _ _ _ d).trans (all_row m c R _))).trans (final11 m c R d).symm)

/-- Where the mask of a cache is set, the layer's slot is the first. -/
theorem mask_first [Cert.On_layer_done.Facts] (x : FVec Ideal S4x4096x1024 .f32) (g : FVec Ideal S1024 .f32) (w : FVec Ideal S1024x5120 .f32)
    (i : S2x4x512x4096.Idx) (h : (Cert.On_layer_done.fn (F := Ideal) x g w).2.1 i = 1#1) : i = ix4 0 (i 1) (i 2) (i 3) := by
  have e : i 0 = (0 : Fin 2) := by
    change IntOp.cmpi .eq (BitVec.ofNat 32 (i 0).val) 0#32 = 1#1 at h
    generalize (i 0 : Fin 2) = l at h ⊢
    match l, h with
    | ⟨0, _⟩, _ => rfl
    | ⟨1, _⟩, h => exact absurd h (show ¬ IntOp.cmpi .eq 1#32 0#32 = 1#1 by decide)
  exact (eq_ix4 i).trans (congrArg (fun l : Fin 2 => (ix4 l (i 1) (i 2) (i 3) : S2x4x512x4096.Idx)) e)

end Cert.In
end
-- ==== Proof.MixSpec.lean ====
/- The mixer's output and the dense feed-forward on plain functions: one row of the layer. -/
module

public import proofs.«01_k».proof.Proof.InSpec

@[expose] public section

noncomputable section

namespace Cert.Mix

open Idealize.ShloMosaic
open Cert.In (nrm proj sigm)

/-- The convolution at one place: the weights of two rows before, one row before and the row itself. -/
def conv (w0 w1 w2 a b c : EReal) : EReal := w0 * a + w1 * b + w2 * c

/-- The two branches, each against its own weights and under its own gate. -/
def mixed (o p : Fin 512 → EReal) (ga gb : Fin 1024 → EReal) (wa wb : Fin 512 → Fin 1024 → EReal) (j : Fin 1024) : EReal :=
  ga j * (∑ k, o k * wa k j) + gb j * ∑ k, p k * wb k j

/-- The row plus the mixed branches against the output weights. -/
def resid (x mix : Fin 1024 → EReal) (wo : Fin 1024 → Fin 1024 → EReal) (n : Fin 1024) : EReal := x n + ∑ j, mix j * wo j n

/-- A hidden entry of the feed-forward. -/
def hidden (v g : Fin 1024 → EReal) (wg wu : Fin 1024 → Fin 2816 → EReal) (k : Fin 2816) : EReal :=
  proj v g (fun j => wg j k) * sigm (proj v g fun j => wg j k) * proj v g fun j => wu j k

/-- The row plus the feed-forward of its normalised row. -/
def dense (v g : Fin 1024 → EReal) (wg wu : Fin 1024 → Fin 2816 → EReal) (wd : Fin 2816 → Fin 1024 → EReal) (n : Fin 1024) : EReal :=
  v n + ∑ k, hidden v g wg wu k * wd k n

/-- The row `d` rows back in the same sequence of 4096 rows; zero where there is none. -/
def back (d : ℕ) (u : Fin 16384 → Fin 512 → EReal) (R : Fin 16384) (k : Fin 512) : EReal :=
  if R.val % 4096 < d then 0 else u ⟨R.val - d, by omega⟩ k

/-- A row of the layer's output. -/
def layer (x : Fin 16384 → Fin 1024 → EReal) (o bg u : Fin 16384 → Fin 512 → EReal) (ga gb : Fin 16384 → Fin 1024 → EReal)
    (cw : Fin 3 → Fin 512 → EReal) (wa wb : Fin 512 → Fin 1024 → EReal) (wo : Fin 1024 → Fin 1024 → EReal) (g : Fin 1024 → EReal)
    (wg wu : Fin 1024 → Fin 2816 → EReal) (wd : Fin 2816 → Fin 1024 → EReal) (R : Fin 16384) : Fin 1024 → EReal :=
  dense (resid (x R) (mixed (o R) (fun k => bg R k * conv (cw 0 k) (cw 1 k) (cw 2 k) (back 2 u R k) (back 1 u R k) (u R k))
    (ga R) (gb R) wa wb) wo) g wg wu wd

end Cert.Mix
end
-- ==== Proof.MixBlock.lean ====
/- What the dense layer's kernel leaves in its result block, from its blocks of the rows, the branches, the gates and the weights. -/
module

public import proofs.«01_k».proof.Proof.MixSpec
public import proofs.«01_k».proof.Proof.InBlock
public import proofs.«01_k».proof.Proof.Gen.Kernel4Ideal.Value

@[expose] public section

set_option maxRecDepth 16384
noncomputable section

namespace Cert.Mix

open Idealize.ShloMosaic Idealize.ShloMosaic.TcCoe Idealize.ShloMosaic.Tactic
open Idealize.ShloMosaic.Pointwise
open Cert.In (nrm proj sigm zero2)
open Cert.Kernel4Ideal Cert.Kernel4Ideal.Gen

/-- The factor of the rows before the block: nothing at a sequence's first block. -/
theorem keep_eq (i : grid0.Coords) : k0_pay2 (F := Ideal) i = if (i 0).val % 8 = 0 then (0 : EReal) else 1 := by
  unfold k0_pay2
  have key : ∀ n : Fin 32, Scalar.cmpi .eq (Scalar.select
      (Scalar.andi (Scalar.xori (Scalar.cmpi .slt (Scalar.remsi (BitVec.ofNat 32 n.val) (Scalar.select (Scalar.cmpi .eq 8#32 0#32) 1#32 8#32)) 0#32)
        (Scalar.cmpi .slt (Scalar.select (Scalar.cmpi .eq 8#32 0#32) 1#32 8#32 : BitVec 32) 0#32))
        (Scalar.cmpi .ne (Scalar.remsi (BitVec.ofNat 32 n.val) (Scalar.select (Scalar.cmpi .eq 8#32 0#32) 1#32 8#32)) 0#32))
      (Scalar.addi (Scalar.remsi (BitVec.ofNat 32 n.val) (Scalar.select (Scalar.cmpi .eq 8#32 0#32) 1#32 8#32))
        (Scalar.select (Scalar.cmpi .eq 8#32 0#32) 1#32 8#32))
      (Scalar.remsi (BitVec.ofNat 32 n.val) (Scalar.select (Scalar.cmpi .eq 8#32 0#32) 1#32 8#32))) 0#32
      = if n.val % 8 = 0 then 1#1 else 0#1 := by decide +kernel
  refine (congrArg (fun b : BitVec 1 => (Scalar.select b (Scalar.ofBits .f32 0x00000000#32) (Scalar.ofBits .f32 0x3F800000#32) : Ideal .f32))
    (key (i 0))).trans ?_
  by_cases h : (i 0).val % 8 = 0
  · rw [if_pos h, if_pos h]
    show Ideal.ofBits FTy.f32 0x00000000#32 = 0
    pointwise
  · rw [if_neg h, if_neg h]
    show Ideal.ofBits FTy.f32 0x3F800000#32 = 1
    pointwise

/-- Whether a block's row is its first. -/
theorem first_bit : ∀ r : Fin 512, IntOp.cmpi .eq (BitVec.ofNat 32 r.val) 0#32 = if r.val = 0 then 1#1 else 0#1 := by decide +kernel
/-- Whether a block's row is its second. -/
theorem second_bit : ∀ r : Fin 512, IntOp.cmpi .eq (BitVec.ofNat 32 r.val) 1#32 = if r.val = 1 then 1#1 else 0#1 := by decide +kernel

theorem back1_apply (i : grid0.Coords) (U : Vec Ideal S512x512 .f32) (A : Vec Ideal S1x512 .f32) (r k : Fin 512) :
    k0_pay4 i U A (ix2 r k) = if h : r.val = 0 then (A (ix2 0 k) * k0_pay2 (F := Ideal) i : EReal) else U (ix2 ⟨r.val - 1, by omega⟩ k) := by
  unfold k0_pay4 k0_pay3
  pointwise
  rw [first_bit]
  by_cases h : r.val = 0
  · rw [if_pos h, dif_pos h]; rfl
  · rw [if_neg h, dif_neg h]
    exact congrArg (fun a => (U (ix2 a k) : EReal)) (Fin.ext (by show (r.val + 512 - 1) % 512 = r.val - 1; omega))

theorem back2_apply (i : grid0.Coords) (U : Vec Ideal S512x512 .f32) (A B : Vec Ideal S1x512 .f32) (r k : Fin 512) :
    k0_pay5 i U A B (ix2 r k) = if h : r.val = 0 then (B (ix2 0 k) * k0_pay2 (F := Ideal) i : EReal)
      else if h1 : r.val = 1 then (A (ix2 0 k) * k0_pay2 (F := Ideal) i : EReal) else U (ix2 ⟨r.val - 2, by omega⟩ k) := by
  unfold k0_pay5 k0_pay3
  pointwise
  rw [first_bit, second_bit]
  by_cases h : r.val = 0
  · rw [if_pos h, dif_pos h]; rfl
  · rw [if_neg h, dif_neg h]
    by_cases h1 : r.val = 1
    · rw [if_pos h1, dif_pos h1]; rfl
    · rw [if_neg h1, dif_neg h1]
      exact congrArg (fun a => (U (ix2 a k) : EReal)) (Fin.ext (by show (r.val + 512 - 2) % 512 = r.val - 2; omega))

theorem mix_apply (U : Vec Ideal S512x512 .f32) (U1 U2 : FVec Ideal S512x512 .f32) (w0 w1 w2 : Vec Ideal S1x512 .f32)
    (O : Vec Ideal S512x512 .bf16) (Wa : Vec Ideal S512x1024 .bf16) (B : Vec Ideal S512x512 .bf16) (Wb : Vec Ideal S512x1024 .bf16)
    (Ga Gb : Vec Ideal S512x1024 .bf16) (Wo : Vec Ideal S1024x1024 .bf16) (r : Fin 512) (n : Fin 1024) :
    k0_pay6 U U1 U2 w0 w1 w2 O Wa B Wb Ga Gb Wo (ix2 r n)
      = ∑ j : Fin 1024, mixed (fun k => O (ix2 r k))
          (fun k => B (ix2 r k) * conv (w0 (ix2 0 k)) (w1 (ix2 0 k)) (w2 (ix2 0 k)) (U2 (ix2 r k)) (U1 (ix2 r k)) (U (ix2 r k)))
          (fun k => Ga (ix2 r k)) (fun k => Gb (ix2 r k)) (fun k j => Wa (ix2 k j)) (fun k j => Wb (ix2 k j)) j * Wo (ix2 j n) := by
  unfold k0_pay6
  pointwise
  rfl

theorem dense_apply (X M : FVec Ideal S512x1024 .f32) (G : Vec Ideal S1x1024 .f32) (Wg Wu : Vec Ideal S1024x2816 .bf16)
    (Wd : Vec Ideal S2816x1024 .bf16) (r : Fin 512) (n : Fin 1024) :
    k0_pay1 X M G Wg Wu Wd (ix2 r n)
      = dense (fun j => X (ix2 r j) + M (ix2 r j)) (fun j => G (ix2 0 j)) (fun j k => Wg (ix2 j k)) (fun j k => Wu (ix2 j k))
          (fun k n => Wd (ix2 k n)) n := by
  unfold k0_pay1
  pointwise
  simp only [zero_sub]
  rfl

/-- One row of the eight before the block, or of the padded convolution weights, at an index. -/
theorem row_apply (A : Vec Ideal S8x512 .f32) (p : Fin 8) (inb : ∀ a, (![p.val, 0] : Fin 2 → ℕ) a + S1x512.size a ≤ S8x512.size a) (k : Fin 512) :
    View.ld A (Rect.unit (s := S8x512) ![p.val, 0] S1x512.size inb) (ix2 0 k) = A (ix2 p k) := by
  refine congrArg A (funext fun a => Fin.ext ?_)
  match a with
  | ⟨0, _⟩ => show p.val + 1 * 0 = p.val; omega
  | ⟨1, _⟩ => show 0 + 1 * k.val = k.val; omega

/-- The row `d` rows back, from the block and the eight rows before it. -/
def bback (d : Fin 3) (i : grid0.Coords) (U : Vec Ideal S512x512 .f32) (A : Vec Ideal S8x512 .f32) (r k : Fin 512) : EReal :=
  if h : r.val < d.val then A (ix2 ⟨8 + r.val - d.val, by omega⟩ k) * (if (i 0).val % 8 = 0 then 0 else 1)
  else U (ix2 ⟨r.val - d.val, by omega⟩ k)

theorem load_back1 (i : grid0.Coords) (U : Vec Ideal S512x512 .f32) (A : Vec Ideal S8x512 .f32) (r k : Fin 512) :
    k0_pay4 i (View.ld U r0_0) (View.ld A r0_1) (ix2 r k) = bback 1 i U A r k := by
  refine (back1_apply i _ _ r k).trans ?_
  rw [keep_eq, show View.ld U r0_0 = U from View.ld_unit_zero zero2 _ U]
  unfold bback
  by_cases h : r.val = 0
  · have h' : r.val < (1 : Fin 3).val := by show r.val < 1; omega
    rw [dif_pos h, dif_pos h']
    refine congrArg (fun y : EReal => y * _) ((row_apply A 7 _ k).trans ?_)
    exact congrArg (fun a => (A (ix2 a k) : EReal)) (Fin.ext (by show 7 = 8 + r.val - 1; omega))
  · have h' : ¬ r.val < (1 : Fin 3).val := by show ¬ r.val < 1; omega
    rw [dif_neg h, dif_neg h']; rfl

theorem load_back2 (i : grid0.Coords) (U : Vec Ideal S512x512 .f32) (A : Vec Ideal S8x512 .f32) (r k : Fin 512) :
    k0_pay5 i (View.ld U r0_0) (View.ld A r0_1) (View.ld A r0_2) (ix2 r k) = bback 2 i U A r k := by
  refine (back2_apply i _ _ _ r k).trans ?_
  rw [keep_eq, show View.ld U r0_0 = U from View.ld_unit_zero zero2 _ U]
  unfold bback
  by_cases h : r.val = 0
  · have h' : r.val < (2 : Fin 3).val := by show r.val < 2; omega
    rw [dif_pos h, dif_pos h']
    refine congrArg (fun y : EReal => y * _) ((row_apply A 6 _ k).trans ?_)
    exact congrArg (fun a => (A (ix2 a k) : EReal)) (Fin.ext (by show 6 = 8 + r.val - 2; omega))
  · rw [dif_neg h]
    by_cases h1 : r.val = 1
    · have h' : r.val < (2 : Fin 3).val := by show r.val < 2; omega
      rw [dif_pos h1, dif_pos h']
      refine congrArg (fun y : EReal => y * _) ((row_apply A 7 _ k).trans ?_)
      exact congrArg (fun a => (A (ix2 a k) : EReal)) (Fin.ext (by show 7 = 8 + r.val - 2; omega))
    · have h' : ¬ r.val < (2 : Fin 3).val := by show ¬ r.val < 2; omega
      rw [dif_neg h1, dif_neg h']; rfl

theorem out_apply (i : grid0.Coords) (x0 : Vec Ideal S512x1024 .f32) (x1 x2 : Vec Ideal S512x512 .bf16) (x3 : Vec Ideal S512x512 .f32)
    (x4 : Vec Ideal S8x512 .f32) (x5 x6 : Vec Ideal S512x1024 .bf16) (x7 : Vec Ideal S8x512 .f32) (x8 x9 : Vec Ideal S512x1024 .bf16)
    (x10 : Vec Ideal S1024x1024 .bf16) (x11 : Vec Ideal S1x1024 .f32) (x12 x13 : Vec Ideal S1024x2816 .bf16) (x14 : Vec Ideal S2816x1024 .bf16)
    (r : Fin 512) (n : Fin 1024) :
    out0_15 i x0 x1 x2 x3 x4 x5 x6 x7 x8 x9 x10 x11 x12 x13 x14 (ix2 r n)
      = dense (resid (fun j => x0 (ix2 r j)) (mixed (fun k => x1 (ix2 r k))
          (fun k => x2 (ix2 r k) * conv (x7 (ix2 0 k)) (x7 (ix2 1 k)) (x7 (ix2 2 k)) (bback 2 i x3 x4 r k) (bback 1 i x3 x4 r k) (x3 (ix2 r k)))
          (fun j => x5 (ix2 r j)) (fun j => x6 (ix2 r j)) (fun k j => x8 (ix2 k j)) (fun k j => x9 (ix2 k j))) (fun j n => x10 (ix2 j n)))
        (fun j => x11 (ix2 0 j)) (fun j k => x12 (ix2 j k)) (fun j k => x13 (ix2 j k)) (fun k n => x14 (ix2 k n)) n := by
  refine (congrFun (View.canon_unit_zero zero2 _ _) _).trans ((dense_apply _ _ _ _ _ _ r n).trans ?_)
  rw [show View.ld x0 r0_6 = x0 from View.ld_unit_zero zero2 _ x0, show View.ld x11 r0_8 = x11 from View.ld_unit_zero zero2 _ x11,
    show View.ld x12 r0_9 = x12 from View.ld_unit_zero zero2 _ x12, show View.ld x13 r0_9 = x13 from View.ld_unit_zero zero2 _ x13,
    show View.ld x14 r0_10 = x14 from View.ld_unit_zero zero2 _ x14, show View.ld x1 r0_0 = x1 from View.ld_unit_zero zero2 _ x1,
    show View.ld x2 r0_0 = x2 from View.ld_unit_zero zero2 _ x2, show View.ld x5 r0_6 = x5 from View.ld_unit_zero zero2 _ x5,
    show View.ld x6 r0_6 = x6 from View.ld_unit_zero zero2 _ x6, show View.ld x8 r0_6 = x8 from View.ld_unit_zero zero2 _ x8,
    show View.ld x9 r0_6 = x9 from View.ld_unit_zero zero2 _ x9, show View.ld x10 r0_7 = x10 from View.ld_unit_zero zero2 _ x10]
  refine congrArg (fun v : Fin 1024 → EReal => dense v (fun j => x11 (ix2 0 j)) (fun j k => x12 (ix2 j k)) (fun j k => x13 (ix2 j k))
    (fun k n => x14 (ix2 k n)) n) (funext fun j => ?_)
  refine congrArg (fun y : EReal => x0 (ix2 r j) + y) ((mix_apply _ _ _ _ _ _ _ _ _ _ _ _ _ r j).trans ?_)
  refine Finset.sum_congr rfl fun a _ => congrArg (fun p : Fin 512 → EReal => mixed (fun k => x1 (ix2 r k)) p (fun j => x5 (ix2 r j))
    (fun j => x6 (ix2 r j)) (fun k j => x8 (ix2 k j)) (fun k j => x9 (ix2 k j)) a * x10 (ix2 a j)) (funext fun k => ?_)
  refine congrArg (fun y : EReal => x2 (ix2 r k) * y) ?_
  rw [load_back1, load_back2, show View.ld x3 r0_0 = x3 from View.ld_unit_zero zero2 _ x3,
    show View.ld x7 r0_3 (ix2 0 k) = x7 (ix2 0 k) from row_apply x7 0 _ k, show View.ld x7 r0_4 (ix2 0 k) = x7 (ix2 1 k) from row_apply x7 1 _ k,
    show View.ld x7 r0_5 (ix2 0 k) = x7 (ix2 2 k) from row_apply x7 2 _ k]

end Cert.Mix
end
-- ==== Proof.MixArray.lean ====
/- The dense layer's result array after the call, entry by entry, from its fourteen arguments. -/
module

public import proofs.«01_k».proof.Proof.MixBlock
public import Idealize.ShloMosaic.Lib.StableHlo.Run

@[expose] public section

set_option maxRecDepth 16384
noncomputable section

namespace Cert.Mix

open Idealize.ShloMosaic Idealize.ShloMosaic.TcCoe Idealize.ShloMosaic.Tactic
open Idealize.ShloMosaic.Pointwise
open Idealize.SL Idealize.SL.Sem
open Cert.Kernel4Ideal Cert.Kernel4Ideal.Gen Cert.Kernel4Ideal.Value

variable (m : (ℓ : Loc nD τ sig) → Buf (Elt Ideal) ℓ) (c : Dev nD)

/-- The layer's input rows. -/
abbrev xin : FVec Ideal S16384x1024 .f32 := m ((c : Thread nD τ).loc main_arg0)
/-- The attention's output. -/
abbrev oin : FVec Ideal S16384x512 .bf16 := m ((c : Thread nD τ).loc main_arg1)
/-- The convolution's gate. -/
abbrev bgin : FVec Ideal S16384x512 .bf16 := m ((c : Thread nD τ).loc main_arg2)
/-- The convolution's rows. -/
abbrev uin : FVec Ideal S16384x512 .f32 := m ((c : Thread nD τ).loc main_arg3)
/-- The attention's gate. -/
abbrev gain : FVec Ideal S16384x1024 .bf16 := m ((c : Thread nD τ).loc main_arg4)
/-- The gate of the convolution's branch. -/
abbrev gbin : FVec Ideal S16384x1024 .bf16 := m ((c : Thread nD τ).loc main_arg5)
/-- The convolution's weights. -/
abbrev cwin : FVec Ideal S3x512 .f32 := m ((c : Thread nD τ).loc main_arg6)
/-- The weights of the attention's branch. -/
abbrev wain : FVec Ideal S512x1024 .f32 := m ((c : Thread nD τ).loc main_arg7)
/-- The weights of the convolution's branch. -/
abbrev wbin : FVec Ideal S512x1024 .f32 := m ((c : Thread nD τ).loc main_arg8)
/-- The output weights. -/
abbrev woin : FVec Ideal S1024x1024 .f32 := m ((c : Thread nD τ).loc main_arg9)
/-- The norm's weights. -/
abbrev gin : FVec Ideal S1024 .f32 := m ((c : Thread nD τ).loc main_arg10)
/-- The feed-forward's gate weights. -/
abbrev wgin : FVec Ideal S1024x2816 .f32 := m ((c : Thread nD τ).loc main_arg11)
/-- The feed-forward's up weights. -/
abbrev wuin : FVec Ideal S1024x2816 .f32 := m ((c : Thread nD τ).loc main_arg12)
/-- The feed-forward's down weights. -/
abbrev wdin : FVec Ideal S2816x1024 .f32 := m ((c : Thread nD τ).loc main_arg13)

theorem V_arg0 : V m c main_arg0 = xin m c := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_arg1 : V m c main_arg1 = oin m c := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_arg2 : V m c main_arg2 = bgin m c := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_arg3 : V m c main_arg3 = uin m c := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_arg4 : V m c main_arg4 = gain m c := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_arg5 : V m c main_arg5 = gbin m c := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_taps : V m c main_v7 = pad S8x512 ![0, 0] ![5, 0] ![0, 0] (cwin m c) (sitofp .f32 (constantI S_ 32 0#32)) pads_S3x512_S8x512_050_000 h_S_ := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_wa : V m c main_v3 = truncf .bf16 (wain m c) bitsLt_bf16_f32 := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_wb : V m c main_v4 = truncf .bf16 (wbin m c) bitsLt_bf16_f32 := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_wo : V m c main_v5 = truncf .bf16 (woin m c) bitsLt_bf16_f32 := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_wg : V m c main_v0 = truncf .bf16 (wgin m c) bitsLt_bf16_f32 := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_wu : V m c main_v1 = truncf .bf16 (wuin m c) bitsLt_bf16_f32 := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_wd : V m c main_v2 = truncf .bf16 (wdin m c) bitsLt_bf16_f32 := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp

theorem V_norm : V m c main_v6 = shapeCast S1x1024 (gin m c) shapeCasts_S1024_S1x1024 := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp
  rfl

/-! ## Which rows a grid point holds -/

theorem coord : ∀ t : Fin cfg0.N, (grid0.coords t 0).val = t.val := (by decide +kernel : ∀ t : Fin grid0.N, _)
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val * 64 - 1 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)

variable (t : Fin cfg0.N)

theorem tlt : t.val < 32 := t.isLt

/-- The row of the whole input that is row `r` of point `t`'s block. -/
def rowG (r : Fin 512) : Fin 16384 := ⟨t.val * 512 + r.val, by have := tlt t; omega⟩
/-- The row of the whole input that is row `p` of the eight rows before point `t`'s block. -/
def preG (p : Fin 8) : Fin 16384 := ⟨(t.val * 64 - 1) * 8 + p.val, by have := tlt t; omega⟩

theorem emb0 (r : Fin 512) (j : Fin 1024) :
    ((cfg0.win 0).blk t).view.emb (ix2 r j : S512x1024.Idx) = (ix2 (rowG t r) j : S16384x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * j.val = j.val; omega

theorem iblk0 (r : Fin 512) (j : Fin 1024) : (iblk m c 0 t : Vec Ideal S512x1024 .f32) (ix2 r j) = xin m c (ix2 (rowG t r) j) := by
  show V m c main_arg0 (((cfg0.win 0).blk t).view.emb (ix2 r j : S512x1024.Idx)) = _
  rw [emb0, V_arg0]

theorem emb1 (r : Fin 512) (j : Fin 512) :
    ((cfg0.win 1).blk t).view.emb (ix2 r j : S512x512.Idx) = (ix2 (rowG t r) j : S16384x512.Idx) := by
  obtain ⟨e0, e1⟩ := idx1 t
  funext a; apply Fin.ext
  match a with
  | ⟨0, _⟩ => show win0_1.index t (0 : Fin 2) * 512 + 1 * r.val = t.val * 512 + r.val; omega
  | ⟨1, _⟩ => show win0_1.index t (1 : Fin 2) * 512 + 1 * j.val = j.val; omega

theorem iblk1 (r : Fin 512) (j : Fin 512) : (iblk m c 1 t : Vec Ideal S512x512 .bf16) (ix2 r j) = oin m c (ix2 (rowG t r) j) := by
  show V m c main_arg1 (((cfg0.win 1).blk t).view.emb (ix2 r j : S512x512.Idx)) = _
  rw [emb1, V_arg1]

theorem emb2 (r : Fin 512) (j : Fin 512) :
    ((cfg0.win 2).blk t).view.emb (ix2 r j : S512x512.Idx) = (ix2 (rowG t r) j : S16384x512.Idx) := by
  obtain ⟨e0, e1⟩ := idx2 t
  funext a; apply Fin.ext
  match a with
  | ⟨0, _⟩ => show win0_2.index t (0 : Fin 2) * 512 + 1 * r.val = t.val * 512 + r.val; omega
  | ⟨1, _⟩ => show win0_2.index t (1 : Fin 2) * 512 + 1 * j.val = j.val; omega

theorem iblk2 (r : Fin 512) (j : Fin 512) : (iblk m c 2 t : Vec Ideal S512x512 .bf16) (ix2 r j) = bgin m c (ix2 (rowG t r) j) := by
  show V m c main_arg2 (((cfg0.win 2).blk t).view.emb (ix2 r j : S512x512.Idx)) = _
  rw [emb2, V_arg2]

theorem emb3 (r : Fin 512) (j : Fin 512) :
    ((cfg0.win 3).blk t).view.emb (ix2 r j : S512x512.Idx) = (ix2 (rowG t r) j : S16384x512.Idx) := by
  obtain ⟨e0, e1⟩ := idx3 t
  funext a; apply Fin.ext
  match a with
  | ⟨0, _⟩ => show win0_3.index t (0 : Fin 2) * 512 + 1 * r.val = t.val * 512 + r.val; omega
  | ⟨1, _⟩ => show win0_3.index t (1 : Fin 2) * 512 + 1 * j.val = j.val; omega

theorem iblk3 (r : Fin 512) (j : Fin 512) : (iblk m c 3 t : Vec Ideal S512x512 .f32) (ix2 r j) = uin m c (ix2 (rowG t r) j) := by
  show V m c main_arg3 (((cfg0.win 3).blk t).view.emb (ix2 r j : S512x512.Idx)) = _
  rw [emb3, V_arg3]

theorem emb4 (r : Fin 8) (j : Fin 512) :
    ((cfg0.win 4).blk t).view.emb (ix2 r j : S8x512.Idx) = (ix2 (preG t r) j : S16384x512.Idx) := by
  obtain ⟨e0, e1⟩ := idx4 t
  funext a; apply Fin.ext
  match a with
  | ⟨0, _⟩ => show win0_4.index t (0 : Fin 2) * 8 + 1 * r.val = (t.val * 64 - 1) * 8 + r.val; rw [e0]; omega
  | ⟨1, _⟩ => show win0_4.index t (1 : Fin 2) * 512 + 1 * j.val = j.val; omega

theorem iblk4 (r : Fin 8) (j : Fin 512) : (iblk m c 4 t : Vec Ideal S8x512 .f32) (ix2 r j) = uin m c (ix2 (preG t r) j) := by
  show V m c main_arg3 (((cfg0.win 4).blk t).view.emb (ix2 r j : S8x512.Idx)) = _
  rw [emb4, V_arg3]

theorem emb5 (r : Fin 512) (j : Fin 1024) :
    ((cfg0.win 5).blk t).view.emb (ix2 r j : S512x1024.Idx) = (ix2 (rowG t r) j : S16384x1024.Idx) := by
  obtain ⟨e0, e1⟩ := idx5 t
  funext a; apply Fin.ext
  match a with
  | ⟨0, _⟩ => show win0_5.index t (0 : Fin 2) * 512 + 1 * r.val = t.val * 512 + r.val; omega
  | ⟨1, _⟩ => show win0_5.index t (1 : Fin 2) * 1024 + 1 * j.val = j.val; omega

theorem iblk5 (r : Fin 512) (j : Fin 1024) : (iblk m c 5 t : Vec Ideal S512x1024 .bf16) (ix2 r j) = gain m c (ix2 (rowG t r) j) := by
  show V m c main_arg4 (((cfg0.win 5).blk t).view.emb (ix2 r j : S512x1024.Idx)) = _
  rw [emb5, V_arg4]

theorem emb6 (r : Fin 512) (j : Fin 1024) :
    ((cfg0.win 6).blk t).view.emb (ix2 r j : S512x1024.Idx) = (ix2 (rowG t r) j : S16384x1024.Idx) := by
  obtain ⟨e0, e1⟩ := idx6 t
  funext a; apply Fin.ext
  match a with
  | ⟨0, _⟩ => show win0_6.index t (0 : Fin 2) * 512 + 1 * r.val = t.val * 512 + r.val; omega
  | ⟨1, _⟩ => show win0_6.index t (1 : Fin 2) * 1024 + 1 * j.val = j.val; omega

theorem iblk6 (r : Fin 512) (j : Fin 1024) : (iblk m c 6 t : Vec Ideal S512x1024 .bf16) (ix2 r j) = gbin m c (ix2 (rowG t r) j) := by
  show V m c main_arg5 (((cfg0.win 6).blk t).view.emb (ix2 r j : S512x1024.Idx)) = _
  rw [emb6, V_arg5]

theorem emb7 (r : Fin 8) (j : Fin 512) :
    ((cfg0.win 7).blk t).view.emb (ix2 r j : S8x512.Idx) = (ix2 r j : S8x512.Idx) := by
  obtain ⟨e0, e1⟩ := idx7 t
  funext a; apply Fin.ext
  match a with
  | ⟨0, _⟩ => show win0_7.index t (0 : Fin 2) * 8 + 1 * r.val = r.val; omega
  | ⟨1, _⟩ => show win0_7.index t (1 : Fin 2) * 512 + 1 * j.val = j.val; omega

/-- The first three rows of the padded weights are the weights. -/
theorem iblk7 (p : Fin 3) (k : Fin 512) : (iblk m c 7 t : Vec Ideal S8x512 .f32) (ix2 ⟨p.val, by omega⟩ k) = cwin m c (ix2 p k) := by
  show V m c main_v7 (((cfg0.win 7).blk t).view.emb (ix2 ⟨p.val, by omega⟩ k : S8x512.Idx)) = _
  rw [emb7, V_taps]
  pointwise

theorem emb8 (r : Fin 512) (j : Fin 1024) :
    ((cfg0.win 8).blk t).view.emb (ix2 r j : S512x1024.Idx) = (ix2 r j : S512x1024.Idx) := by
  obtain ⟨e0, e1⟩ := idx8 t
  funext a; apply Fin.ext
  match a with
  | ⟨0, _⟩ => show win0_8.index t (0 : Fin 2) * 512 + 1 * r.val = r.val; omega
  | ⟨1, _⟩ => show win0_8.index t (1 : Fin 2) * 1024 + 1 * j.val = j.val; omega

theorem iblk8 (r : Fin 512) (j : Fin 1024) : (iblk m c 8 t : Vec Ideal S512x1024 .bf16) (ix2 r j) = wain m c (ix2 r j) := by
  show V m c main_v3 (((cfg0.win 8).blk t).view.emb (ix2 r j : S512x1024.Idx)) = _
  rw [emb8, V_wa]
  pointwise

theorem emb9 (r : Fin 512) (j : Fin 1024) :
    ((cfg0.win 9).blk t).view.emb (ix2 r j : S512x1024.Idx) = (ix2 r j : S512x1024.Idx) := by
  obtain ⟨e0, e1⟩ := idx9 t
  funext a; apply Fin.ext
  match a with
  | ⟨0, _⟩ => show win0_9.index t (0 : Fin 2) * 512 + 1 * r.val = r.val; omega
  | ⟨1, _⟩ => show win0_9.index t (1 : Fin 2) * 1024 + 1 * j.val = j.val; omega

theorem iblk9 (r : Fin 512) (j : Fin 1024) : (iblk m c 9 t : Vec Ideal S512x1024 .bf16) (ix2 r j) = wbin m c (ix2 r j) := by
  show V m c main_v4 (((cfg0.win 9).blk t).view.emb (ix2 r j : S512x1024.Idx)) = _
  rw [emb9, V_wb]
  pointwise

theorem emb10 (r : Fin 1024) (j : Fin 1024) :
    ((cfg0.win 10).blk t).view.emb (ix2 r j : S1024x1024.Idx) = (ix2 r j : S1024x1024.Idx) := by
  obtain ⟨e0, e1⟩ := idx10 t
  funext a; apply Fin.ext
  match a with
  | ⟨0, _⟩ => show win0_10.index t (0 : Fin 2) * 1024 + 1 * r.val = r.val; omega
  | ⟨1, _⟩ => show win0_10.index t (1 : Fin 2) * 1024 + 1 * j.val = j.val; omega

theorem iblk10 (r : Fin 1024) (j : Fin 1024) : (iblk m c 10 t : Vec Ideal S1024x1024 .bf16) (ix2 r j) = woin m c (ix2 r j) := by
  show V m c main_v5 (((cfg0.win 10).blk t).view.emb (ix2 r j : S1024x1024.Idx)) = _
  rw [emb10, V_wo]
  pointwise

theorem emb11 (j : Fin 1024) :
    ((cfg0.win 11).blk t).view.emb (ix2 0 j : S1x1024.Idx) = (ix2 0 j : S1x1024.Idx) := by
  obtain ⟨e0, e1⟩ := idx11 t
  funext a; apply Fin.ext
  match a with
  | ⟨0, _⟩ => show win0_11.index t (0 : Fin 2) * 1 + 1 * 0 = 0; omega
  | ⟨1, _⟩ => show win0_11.index t (1 : Fin 2) * 1024 + 1 * j.val = j.val; omega

theorem iblk11 (j : Fin 1024) : (iblk m c 11 t : Vec Ideal S1x1024 .f32) (ix2 0 j) = gin m c (ix1 j) := by
  show V m c main_v6 (((cfg0.win 11).blk t).view.emb (ix2 0 j : S1x1024.Idx)) = _
  rw [emb11, V_norm]
  pointwise

theorem emb12 (r : Fin 1024) (j : Fin 2816) :
    ((cfg0.win 12).blk t).view.emb (ix2 r j : S1024x2816.Idx) = (ix2 r j : S1024x2816.Idx) := by
  obtain ⟨e0, e1⟩ := idx12 t
  funext a; apply Fin.ext
  match a with
  | ⟨0, _⟩ => show win0_12.index t (0 : Fin 2) * 1024 + 1 * r.val = r.val; omega
  | ⟨1, _⟩ => show win0_12.index t (1 : Fin 2) * 2816 + 1 * j.val = j.val; omega

theorem iblk12 (r : Fin 1024) (j : Fin 2816) : (iblk m c 12 t : Vec Ideal S1024x2816 .bf16) (ix2 r j) = wgin m c (ix2 r j) := by
  show V m c main_v0 (((cfg0.win 12).blk t).view.emb (ix2 r j : S1024x2816.Idx)) = _
  rw [emb12, V_wg]
  pointwise

theorem emb13 (r : Fin 1024) (j : Fin 2816) :
    ((cfg0.win 13).blk t).view.emb (ix2 r j : S1024x2816.Idx) = (ix2 r j : S1024x2816.Idx) := by
  obtain ⟨e0, e1⟩ := idx13 t
  funext a; apply Fin.ext
  match a with
  | ⟨0, _⟩ => show win0_13.index t (0 : Fin 2) * 1024 + 1 * r.val = r.val; omega
  | ⟨1, _⟩ => show win0_13.index t (1 : Fin 2) * 2816 + 1 * j.val = j.val; omega

theorem iblk13 (r : Fin 1024) (j : Fin 2816) : (iblk m c 13 t : Vec Ideal S1024x2816 .bf16) (ix2 r j) = wuin m c (ix2 r j) := by
  show V m c main_v1 (((cfg0.win 13).blk t).view.emb (ix2 r j : S1024x2816.Idx)) = _
  rw [emb13, V_wu]
  pointwise

theorem emb14 (r : Fin 2816) (j : Fin 1024) :
    ((cfg0.win 14).blk t).view.emb (ix2 r j : S2816x1024.Idx) = (ix2 r j : S2816x1024.Idx) := by
  obtain ⟨e0, e1⟩ := idx14 t
  funext a; apply Fin.ext
  match a with
  | ⟨0, _⟩ => show win0_14.index t (0 : Fin 2) * 2816 + 1 * r.val = r.val; omega
  | ⟨1, _⟩ => show win0_14.index t (1 : Fin 2) * 1024 + 1 * j.val = j.val; omega

theorem iblk14 (r : Fin 2816) (j : Fin 1024) : (iblk m c 14 t : Vec Ideal S2816x1024 .bf16) (ix2 r j) = wdin m c (ix2 r j) := by
  show V m c main_v2 (((cfg0.win 14).blk t).view.emb (ix2 r j : S2816x1024.Idx)) = _
  rw [emb14, V_wd]
  pointwise

theorem emb15 (r : Fin 512) (j : Fin 1024) :
    ((cfg0.win 15).blk t).view.emb (ix2 r j : S512x1024.Idx) = (ix2 (rowG t r) j : S16384x1024.Idx) := by
  obtain ⟨e0, e1⟩ := idx15 t
  funext a; apply Fin.ext
  match a with
  | ⟨0, _⟩ => show win0_15.index t (0 : Fin 2) * 512 + 1 * r.val = t.val * 512 + r.val; omega
  | ⟨1, _⟩ => show win0_15.index t (1 : Fin 2) * 1024 + 1 * j.val = j.val; omega

/-- The rows before a block's row, from the block and the eight rows before it, are the rows before it in its sequence. -/
theorem back_block (d : Fin 3) (r k : Fin 512) :
    bback d (grid0.coords t) (iblk m c 3 t) (iblk m c 4 t) r k = back d.val (fun R k => uin m c (ix2 R k)) (rowG t r) k := by
  have ht := tlt t
  have hd := d.isLt
  have hr : (rowG t r).val = t.val * 512 + r.val := rfl
  unfold bback back
  by_cases h : r.val < d.val
  · rw [dif_pos h, coord]
    by_cases h8 : t.val % 8 = 0
    · rw [if_pos h8, if_pos (by omega)]
      exact mul_zero _
    · rw [if_neg h8, if_neg (by omega)]
      refine (mul_one _).trans ((iblk4 m c t _ k).trans ?_)
      exact congrArg (fun a => (uin m c (ix2 a k) : EReal)) (Fin.ext (by
        show (t.val * 64 - 1) * 8 + (8 + r.val - d.val) = t.val * 512 + r.val - d.val; omega))
  · rw [dif_neg h, if_neg (by omega)]
    refine (iblk3 m c t _ k).trans ?_
    exact congrArg (fun a => (uin m c (ix2 a k) : EReal)) (Fin.ext (by
      show t.val * 512 + (r.val - d.val) = t.val * 512 + r.val - d.val; omega))

/-- A row of the layer's output, of the call's arguments. -/
abbrev layerK (R : Fin 16384) : Fin 1024 → EReal :=
  layer (fun R j => xin m c (ix2 R j)) (fun R k => oin m c (ix2 R k)) (fun R k => bgin m c (ix2 R k)) (fun R k => uin m c (ix2 R k))
    (fun R j => gain m c (ix2 R j)) (fun R j => gbin m c (ix2 R j)) (fun p k => cwin m c (ix2 p k)) (fun k j => wain m c (ix2 k j))
    (fun k j => wbin m c (ix2 k j)) (fun j n => woin m c (ix2 j n)) (fun j => gin m c (ix1 j)) (fun j k => wgin m c (ix2 j k))
    (fun j k => wuin m c (ix2 j k)) (fun k n => wdin m c (ix2 k n)) R

theorem block_row (r : Fin 512) (n : Fin 1024) :
    out0_15 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) (ix2 r n)
      = layerK m c (rowG t r) n := by
  refine (out_apply _ _ _ _ _ _ _ _ _ _ _ _ _ _ _ _ r n).trans ?_
  show _ = dense (resid _ (mixed _ _ _ _ _ _) _) _ _ _ _ n
  congr 1
  · congr 1
    · exact funext fun j => iblk0 m c t r j
    · congr 1
      · exact funext fun k => iblk1 m c t r k
      · funext k
        refine congrArg₂ (fun a b : EReal => a * b) (iblk2 m c t r k) ?_
        congr 1
        · exact iblk7 m c t 0 k
        · exact iblk7 m c t 1 k
        · exact iblk7 m c t 2 k
        · exact back_block m c t 2 r k
        · exact back_block m c t 1 r k
        · exact iblk3 m c t r k
      · exact funext fun j => iblk5 m c t r j
      · exact funext fun j => iblk6 m c t r j
      · exact funext fun k => funext fun j => iblk8 m c t k j
      · exact funext fun k => funext fun j => iblk9 m c t k j
    · exact funext fun j => funext fun n => iblk10 m c t j n
  · exact funext fun j => iblk11 m c t j
  · exact funext fun j => funext fun k => iblk12 m c t j k
  · exact funext fun j => funext fun k => iblk13 m c t j k
  · exact funext fun k => funext fun n => iblk14 m c t k n

/-- The grid point that holds a row. -/
def pt (R : Fin 16384) : Fin cfg0.N := ⟨R.val / 512, by show R.val / 512 < 32; omega⟩
/-- The row's place in that point's block. -/
def plc (R : Fin 16384) : Fin 512 := ⟨R.val % 512, by omega⟩

theorem row_eq (R : Fin 16384) : rowG (pt R) (plc R) = R := Fin.ext (by show R.val / 512 * 512 + R.val % 512 = R.val; omega)

theorem final15 (R : Fin 16384) (n : Fin 1024) :
    ((dats m 0 c).arrAt 15 cfg0.N : S16384x1024.Idx → EReal) (ix2 R n) = layerK m c R n := by
  have e : ((cfg0.win 15).blk (pt R)).view.emb (ix2 (plc R) n : S512x1024.Idx) = (ix2 R n : S16384x1024.Idx) := by rw [emb15, row_eq]
  have h := congrFun ((blocks15 m c (pt R) (flush0_15 _)).trans (flushed15 m c (pt R))) (ix2 (plc R) n)
  refine (congrArg ((dats m 0 c).arrAt 15 cfg0.N) e).symm.trans (h.trans ((block_row m c (pt R) (plc R) n).trans ?_))
  rw [row_eq]

end Cert.Mix
end
-- ==== Proof.MixRef.lean ====
/- The dense layer's reference, entry by entry, from its fourteen arguments. -/
module

public import proofs.«01_k».proof.Proof.MixSpec
public import proofs.«01_k».proof.Proof.Gen.Reference4Ideal.Run
public import Idealize.ShloMosaic.Lib.Pointwise

@[expose] public section

set_option maxRecDepth 16384
noncomputable section

namespace Cert.Mix

open Idealize.ShloMosaic Idealize.ShloMosaic.TcCoe Idealize.ShloMosaic.Tactic
open Idealize.ShloMosaic.Pointwise
open Cert.In (nrm proj sigm)
open Cert.Reference4Ideal Cert.Reference4Ideal.Gen

/-- Each sequence's rows after two rows of zeros. -/
def histA (u : FVec Ideal S16384x512 .f32) : FVec Ideal S4x4098x512 .f32 :=
  concatenate S4x4098x512 1 [⟨S4x2x512, broadcastInDim S4x2x512 ![] bcast_S_S4x2x512 (constant S_ .f32 0x00000000#32)⟩,
    ⟨S4x4096x512, shapeCast S4x4096x512 u shapeCasts_S16384x512_S4x4096x512⟩] concatenates_S4x2x512_S4x4096x512_S4x4098x512_d1
/-- A weight of the convolution at every row. -/
def tap (w : FVec Ideal S1x512 .f32) : FVec Ideal S4x4096x512 .f32 :=
  broadcastInDim S4x4096x512 ![0, 1, 2] bcast_S1x1x512_S4x4096x512_0_1_2
    (broadcastInDim S1x1x512 ![2] bcast_S512_S1x1x512_2 (shapeCast S512 w shapeCasts_S1x512_S512))
/-- The convolution of the rows. -/
def convA (u : FVec Ideal S16384x512 .f32) (cw : FVec Ideal S3x512 .f32) : FVec Ideal S16384x512 .f32 :=
  shapeCast S16384x512 (addf (addf
      (mulf (tap (extractStridedSlice S1x512 ![0, 0] cw slices_S3x512_S1x512_0_0))
        (extractStridedSlice S4x4096x512 ![0, 0, 0] (histA u) slices_S4x4098x512_S4x4096x512_0_0_0))
      (mulf (tap (extractStridedSlice S1x512 ![1, 0] cw slices_S3x512_S1x512_1_0))
        (extractStridedSlice S4x4096x512 ![0, 1, 0] (histA u) slices_S4x4098x512_S4x4096x512_0_1_0)))
    (mulf (tap (extractStridedSlice S1x512 ![2, 0] cw slices_S3x512_S1x512_2_0))
      (extractStridedSlice S4x4096x512 ![0, 2, 0] (histA u) slices_S4x4098x512_S4x4096x512_0_2_0))) shapeCasts_S4x4096x512_S16384x512
/-- The rows plus the mixed branches against the output weights. -/
def residA (x : FVec Ideal S16384x1024 .f32) (o bg : FVec Ideal S16384x512 .bf16) (cv : FVec Ideal S16384x512 .f32)
    (ga gb : FVec Ideal S16384x1024 .bf16) (wa wb : FVec Ideal S512x1024 .f32) (wo : FVec Ideal S1024x1024 .f32) : FVec Ideal S16384x1024 .f32 :=
  addf x (Host.dotGeneral dot_S16384x1024_S1024x1024_S16384x1024_1_0_0_1_n_n none
    (addf (mulf (extf .f32 ga bitsLt_bf16_f32)
        (Host.dotGeneral dot_S16384x512_S512x1024_S16384x1024_1_0_0_1_n_n none (extf .f32 o bitsLt_bf16_f32) wa))
      (mulf (extf .f32 gb bitsLt_bf16_f32)
        (Host.dotGeneral dot_S16384x512_S512x1024_S16384x1024_1_0_0_1_n_n none (mulf (extf .f32 bg bitsLt_bf16_f32) cv) wb))) wo)
/-- The normalised rows. -/
def normA (v : FVec Ideal S16384x1024 .f32) (g : FVec Ideal S1024 .f32) : FVec Ideal S16384x1024 .f32 :=
  mulf (mulf v (broadcastInDim S16384x1024 ![0, 1] bcast_S16384x1_S16384x1024_0_1 (Host.rsqrt (addf
      (Host.divf (broadcastInDim S16384x1 ![0] bcast_S16384_S16384x1_0
          (Host.reduceAdd (mulf v v) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))
/-- The feed-forward's first product. -/
def wideA (v : FVec Ideal S16384x1024 .f32) (w : FVec Ideal S1024x2816 .f32) : FVec Ideal S16384x2816 .f32 :=
  Host.dotGeneral dot_S16384x1024_S1024x2816_S16384x2816_1_0_0_1_n_n none v w
/-- A product times its logistic function. -/
def siluA (y : FVec Ideal S16384x2816 .f32) : FVec Ideal S16384x2816 .f32 :=
  mulf y (Host.divf (broadcastInDim S16384x2816 ![] bcast_S_S16384x2816 (constant S_ .f32 0x3F800000#32))
    (addf (broadcastInDim S16384x2816 ![] bcast_S_S16384x2816 (constant S_ .f32 0x3F800000#32)) (Host.exp (Host.negf y))))
/-- The rows plus the feed-forward of the normalised rows. -/
def denseA (v : FVec Ideal S16384x1024 .f32) (g : FVec Ideal S1024 .f32) (wg wu : FVec Ideal S1024x2816 .f32)
    (wd : FVec Ideal S2816x1024 .f32) : FVec Ideal S16384x1024 .f32 :=
  addf v (Host.dotGeneral dot_S16384x2816_S2816x1024_S16384x1024_1_0_0_1_n_n none
    (mulf (siluA (wideA (normA v g) wg)) (wideA (normA v g) wu)) wd)

theorem histA_apply (u : FVec Ideal S16384x512 .f32) (b : Fin 4) (s : Fin 4098) (k : Fin 512) :
    histA u (ix3 b s k) = if h : s.val < 2 then (0 : EReal) else u (ix2 ⟨b.val * 4096 + (s.val - 2), by omega⟩ k) := by
  unfold histA
  pointwise

/-- The padded rows of a sequence `2 - d` places on are the rows `d` places back. -/
theorem hist_back (u : FVec Ideal S16384x512 .f32) (d : ℕ) (hd : d ≤ 2) (R : Fin 16384) (k : Fin 512) (b : Fin 4) (s : Fin 4098)
    (hb : b.val = R.val / 4096) (hs : s.val = 2 - d + R.val % 4096) :
    histA u (ix3 b s k) = back d (fun R k => u (ix2 R k)) R k := by
  refine (histA_apply u b s k).trans ?_
  unfold back
  by_cases h : R.val % 4096 < d
  · rw [dif_pos (by omega), if_pos h]
  · rw [dif_neg (by omega), if_neg h]
    exact congrArg (fun a => (u (ix2 a k) : EReal)) (Fin.ext (by show b.val * 4096 + (s.val - 2) = R.val - d; omega))

theorem back_zero (u : Fin 16384 → Fin 512 → EReal) (R : Fin 16384) (k : Fin 512) : back 0 u R k = u R k := rfl

theorem convA_apply (u : FVec Ideal S16384x512 .f32) (cw : FVec Ideal S3x512 .f32) (R : Fin 16384) (k : Fin 512) :
    convA u cw (ix2 R k) = conv (cw (ix2 0 k)) (cw (ix2 1 k)) (cw (ix2 2 k)) (back 2 (fun R k => u (ix2 R k)) R k)
      (back 1 (fun R k => u (ix2 R k)) R k) (u (ix2 R k)) := by
  unfold convA tap
  pointwise
  refine congrArg₂ (fun a b : EReal => a + b) (congrArg₂ (fun a b : EReal => a + b) ?_ ?_) ?_
  · exact congrArg (fun y : EReal => cw (ix2 0 k) * y) (hist_back u 2 (by omega) R k _ _ rfl (by show R.val % 4096 = 2 - 2 + R.val % 4096; omega))
  · exact congrArg (fun y : EReal => cw (ix2 1 k) * y) (hist_back u 1 (by omega) R k _ _ rfl rfl)
  · exact congrArg (fun y : EReal => cw (ix2 2 k) * y) ((hist_back u 0 (by omega) R k _ _ rfl rfl).trans (back_zero _ R k))

theorem residA_apply (x : FVec Ideal S16384x1024 .f32) (o bg : FVec Ideal S16384x512 .bf16) (cv : FVec Ideal S16384x512 .f32)
    (ga gb : FVec Ideal S16384x1024 .bf16) (wa wb : FVec Ideal S512x1024 .f32) (wo : FVec Ideal S1024x1024 .f32) (R : Fin 16384) (n : Fin 1024) :
    residA x o bg cv ga gb wa wb wo (ix2 R n) = resid (fun j => x (ix2 R j)) (mixed (fun k => o (ix2 R k)) (fun k => bg (ix2 R k) * cv (ix2 R k))
      (fun j => ga (ix2 R j)) (fun j => gb (ix2 R j)) (fun k j => wa (ix2 k j)) (fun k j => wb (ix2 k j))) (fun j n => wo (ix2 j n)) n := by
  unfold residA
  pointwise
  rfl

theorem normA_apply (v : FVec Ideal S16384x1024 .f32) (g : FVec Ideal S1024 .f32) (R : Fin 16384) (j : Fin 1024) :
    normA v g (ix2 R j) = nrm (fun j => v (ix2 R j)) (fun j => g (ix1 j)) j := by
  unfold normA
  pointwise
  rfl

theorem wideA_apply (v : FVec Ideal S16384x1024 .f32) (w : FVec Ideal S1024x2816 .f32) (R : Fin 16384) (k : Fin 2816) :
    wideA v w (ix2 R k) = ∑ j : Fin 1024, (v (ix2 R j) * w (ix2 j k) : EReal) := by
  unfold wideA
  pointwise

theorem siluA_apply (y : FVec Ideal S16384x2816 .f32) (R : Fin 16384) (k : Fin 2816) :
    siluA y (ix2 R k) = (y (ix2 R k) * sigm (y (ix2 R k)) : EReal) := by
  unfold siluA
  pointwise
  rfl

theorem denseA_apply (v : FVec Ideal S16384x1024 .f32) (g : FVec Ideal S1024 .f32) (wg wu : FVec Ideal S1024x2816 .f32)
    (wd : FVec Ideal S2816x1024 .f32) (R : Fin 16384) (n : Fin 1024) :
    denseA v g wg wu wd (ix2 R n) = dense (fun j => v (ix2 R j)) (fun j => g (ix1 j)) (fun j k => wg (ix2 j k)) (fun j k => wu (ix2 j k))
      (fun k n => wd (ix2 k n)) n := by
  have hw : ∀ (w : FVec Ideal S1024x2816 .f32) (k : Fin 2816), wideA (normA v g) w (ix2 R k)
      = proj (fun j => v (ix2 R j)) (fun j => g (ix1 j)) (fun j => w (ix2 j k)) := fun w k =>
    (wideA_apply _ w R k).trans (Finset.sum_congr rfl fun j _ => congrArg (fun y : EReal => y * w (ix2 j k)) (normA_apply v g R j))
  unfold denseA
  pointwise
  refine congrArg (fun y : EReal => v (ix2 R n) + y) (Finset.sum_congr rfl fun k _ => congrArg (fun y : EReal => y * wd (ix2 k n)) ?_)
  refine congrArg₂ (fun a b : EReal => a * b) ((siluA_apply _ R k).trans ?_) (hw wu k)
  rw [hw wg k]

/-- The reference's result is the layer's rows. -/
theorem layerA_apply (x : FVec Ideal S16384x1024 .f32) (o bg : FVec Ideal S16384x512 .bf16) (u : FVec Ideal S16384x512 .f32)
    (ga gb : FVec Ideal S16384x1024 .bf16) (cw : FVec Ideal S3x512 .f32) (wa wb : FVec Ideal S512x1024 .f32) (wo : FVec Ideal S1024x1024 .f32)
    (g : FVec Ideal S1024 .f32) (wg wu : FVec Ideal S1024x2816 .f32) (wd : FVec Ideal S2816x1024 .f32) (R : Fin 16384) (n : Fin 1024) :
    denseA (residA x o bg (convA u cw) ga gb wa wb wo) g wg wu wd (ix2 R n)
      = layer (fun R j => x (ix2 R j)) (fun R k => o (ix2 R k)) (fun R k => bg (ix2 R k)) (fun R k => u (ix2 R k)) (fun R j => ga (ix2 R j))
          (fun R j => gb (ix2 R j)) (fun p k => cw (ix2 p k)) (fun k j => wa (ix2 k j)) (fun k j => wb (ix2 k j)) (fun j n => wo (ix2 j n))
          (fun j => g (ix1 j)) (fun j k => wg (ix2 j k)) (fun j k => wu (ix2 j k)) (fun k n => wd (ix2 k n)) R n := by
  refine (denseA_apply _ g wg wu wd R n).trans ?_
  refine congrArg (fun v : Fin 1024 → EReal => dense v (fun j => g (ix1 j)) (fun j k => wg (ix2 j k)) (fun j k => wu (ix2 j k))
    (fun k n => wd (ix2 k n)) n) (funext fun j => (residA_apply x o bg _ ga gb wa wb wo R j).trans ?_)
  refine congrArg (fun p : Fin 512 → EReal => resid (fun j => x (ix2 R j)) (mixed (fun k => o (ix2 R k)) p (fun j => ga (ix2 R j))
    (fun j => gb (ix2 R j)) (fun k j => wa (ix2 k j)) (fun k j => wb (ix2 k j))) (fun j n => wo (ix2 j n)) j) (funext fun k => ?_)
  exact congrArg (fun y : EReal => bg (ix2 R k) * y) (convA_apply u cw R k)

/-- The reference's result, in the parts above. -/
theorem res_eq (m : (ℓ : Loc nD τ sig) → Buf (Elt Ideal) ℓ) (c : Dev nD) : Value.res_main_v54 m c
    = denseA (residA (m ((c.tc : Thread nD τ).loc main_arg0)) (m ((c.tc : Thread nD τ).loc main_arg1)) (m ((c.tc : Thread nD τ).loc main_arg2))
        (convA (m ((c.tc : Thread nD τ).loc main_arg3)) (m ((c.tc : Thread nD τ).loc main_arg6))) (m ((c.tc : Thread nD τ).loc main_arg4))
        (m ((c.tc : Thread nD τ).loc main_arg5)) (m ((c.tc : Thread nD τ).loc main_arg7)) (m ((c.tc : Thread nD τ).loc main_arg8))
        (m ((c.tc : Thread nD τ).loc main_arg9)))
      (m ((c.tc : Thread nD τ).loc main_arg10)) (m ((c.tc : Thread nD τ).loc main_arg11)) (m ((c.tc : Thread nD τ).loc main_arg12))
      (m ((c.tc : Thread nD τ).loc main_arg13)) := by
  unfold Value.res_main_v54
  rfl

end Cert.Mix
end
-- ==== Proof.MixEqual.lean ====
/- The dense layer's reference leaves what its kernel leaves, at every entry. -/
module

public import proofs.«01_k».proof.Proof.MixArray
public import proofs.«01_k».proof.Proof.MixRef

@[expose] public section

set_option maxRecDepth 16384
noncomputable section

namespace Cert.Mix

open Idealize.ShloMosaic Idealize.ShloMosaic.TcCoe Idealize.ShloMosaic.Tactic
open Idealize.ShloMosaic.Pointwise
open Cert.Kernel4Ideal Cert.Kernel4Ideal.Gen Cert.Kernel4Ideal.Value

variable (m : (ℓ : Loc nD τ sig) → Buf (Elt Ideal) ℓ) (c : Dev nD)

theorem eq15 : denseA (residA (xin m c) (oin m c) (bgin m c) (convA (uin m c) (cwin m c)) (gain m c) (gbin m c) (wain m c) (wbin m c) (woin m c))
    (gin m c) (wgin m c) (wuin m c) (wdin m c) = (dats m 0 c).arrAt 15 cfg0.N := by
  funext i
  obtain ⟨R, n, rfl⟩ : ∃ (R : Fin 16384) (n : Fin 1024), i = ix2 R n := ⟨i 0, i 1, eq_ix2 i⟩
  exact (layerA_apply _ _ _ _ _ _ _ _ _ _ _ _ _ _ R n).trans (final15 m c R n).symm

end Cert.Mix
end
-- ==== Proof.RouteBlock.lean ====
/- What the expert layer's mixing kernel leaves in its two blocks of rows, from its blocks of the rows, the branches, the gates and the weights. -/
module

public import proofs.«01_k».proof.Proof.MixBlock
public import proofs.«01_k».proof.Proof.Gen.Kernel5Ideal.Value

@[expose] public section

set_option maxRecDepth 16384
noncomputable section

namespace Cert.Route

open Idealize.ShloMosaic Idealize.ShloMosaic.TcCoe Idealize.ShloMosaic.Tactic
open Idealize.ShloMosaic.Pointwise
open Cert.In (nrm zero2)
open Cert.Mix (conv mixed resid bback row_apply)
open Cert.Kernel5Ideal Cert.Kernel5Ideal.Gen

/-- A row of the block plus its mixed branches. -/
def bresid (i : grid0.Coords) (x0 : Vec Ideal S512x1024 .f32) (x1 x2 : Vec Ideal S512x512 .bf16) (x3 : Vec Ideal S512x512 .f32)
    (x4 : Vec Ideal S8x512 .f32) (x5 x6 : Vec Ideal S512x1024 .bf16) (x7 : Vec Ideal S8x512 .f32) (x8 x9 : Vec Ideal S512x1024 .bf16)
    (x10 : Vec Ideal S1024x1024 .bf16) (r : Fin 512) : Fin 1024 → EReal :=
  resid (fun j => x0 (ix2 r j)) (mixed (fun k => x1 (ix2 r k))
    (fun k => x2 (ix2 r k) * conv (x7 (ix2 0 k)) (x7 (ix2 1 k)) (x7 (ix2 2 k)) (bback 2 i x3 x4 r k) (bback 1 i x3 x4 r k) (x3 (ix2 r k)))
    (fun j => x5 (ix2 r j)) (fun j => x6 (ix2 r j)) (fun k j => x8 (ix2 k j)) (fun k j => x9 (ix2 k j))) (fun j n => x10 (ix2 j n))

/-! This kernel's rows before the block and its mixing are the dense layer's. -/

theorem load_back1 (i : grid0.Coords) (U : Vec Ideal S512x512 .f32) (A : Vec Ideal S8x512 .f32) (r k : Fin 512) :
    k0_pay4 i (View.ld U r0_0) (View.ld A r0_1) (ix2 r k) = bback 1 i U A r k := Cert.Mix.load_back1 i U A r k

theorem load_back2 (i : grid0.Coords) (U : Vec Ideal S512x512 .f32) (A : Vec Ideal S8x512 .f32) (r k : Fin 512) :
    k0_pay5 i (View.ld U r0_0) (View.ld A r0_1) (View.ld A r0_2) (ix2 r k) = bback 2 i U A r k := Cert.Mix.load_back2 i U A r k

theorem mix_apply (U : Vec Ideal S512x512 .f32) (U1 U2 : FVec Ideal S512x512 .f32) (w0 w1 w2 : Vec Ideal S1x512 .f32)
    (O : Vec Ideal S512x512 .bf16) (Wa : Vec Ideal S512x1024 .bf16) (B : Vec Ideal S512x512 .bf16) (Wb : Vec Ideal S512x1024 .bf16)
    (Ga Gb : Vec Ideal S512x1024 .bf16) (Wo : Vec Ideal S1024x1024 .bf16) (r : Fin 512) (n : Fin 1024) :
    k0_pay6 U U1 U2 w0 w1 w2 O Wa B Wb Ga Gb Wo (ix2 r n)
      = ∑ j : Fin 1024, mixed (fun k => O (ix2 r k))
          (fun k => B (ix2 r k) * conv (w0 (ix2 0 k)) (w1 (ix2 0 k)) (w2 (ix2 0 k)) (U2 (ix2 r k)) (U1 (ix2 r k)) (U (ix2 r k)))
          (fun k => Ga (ix2 r k)) (fun k => Gb (ix2 r k)) (fun k j => Wa (ix2 k j)) (fun k j => Wb (ix2 k j)) j * Wo (ix2 j n) :=
  Cert.Mix.mix_apply U U1 U2 w0 w1 w2 O Wa B Wb Ga Gb Wo r n

theorem total_apply (i : grid0.Coords) (x0 : Vec Ideal S512x1024 .f32) (x1 x2 : Vec Ideal S512x512 .bf16) (x3 : Vec Ideal S512x512 .f32)
    (x4 : Vec Ideal S8x512 .f32) (x5 x6 : Vec Ideal S512x1024 .bf16) (x7 : Vec Ideal S8x512 .f32) (x8 x9 : Vec Ideal S512x1024 .bf16)
    (x10 : Vec Ideal S1024x1024 .bf16) (x11 : Vec Ideal S1x1024 .f32) (x12 : Vec Ideal S16x1024 .f32) (x13 : Vec Ideal S512x512 .bf16)
    (r : Fin 512) (j : Fin 1024) :
    k0_pay7 (View.ld x0 r0_6) (k0_pay26 i x0 x1 x2 x3 x4 x5 x6 x7 x8 x9 x10 x11 x12 x13) (ix2 r j) = bresid i x0 x1 x2 x3 x4 x5 x6 x7 x8 x9 x10 r j := by
  unfold k0_pay26
  rw [show View.ld x0 r0_6 = x0 from View.ld_unit_zero zero2 _ x0, show View.ld x1 r0_0 = x1 from View.ld_unit_zero zero2 _ x1,
    show View.ld x2 r0_0 = x2 from View.ld_unit_zero zero2 _ x2, show View.ld x5 r0_6 = x5 from View.ld_unit_zero zero2 _ x5,
    show View.ld x6 r0_6 = x6 from View.ld_unit_zero zero2 _ x6, show View.ld x8 r0_6 = x8 from View.ld_unit_zero zero2 _ x8,
    show View.ld x9 r0_6 = x9 from View.ld_unit_zero zero2 _ x9, show View.ld x10 r0_7 = x10 from View.ld_unit_zero zero2 _ x10]
  refine congrArg (fun y : EReal => x0 (ix2 r j) + y) ((mix_apply _ _ _ _ _ _ _ _ _ _ _ _ _ r j).trans ?_)
  refine Finset.sum_congr rfl fun a _ => congrArg (fun p : Fin 512 → EReal => mixed (fun k => x1 (ix2 r k)) p (fun j => x5 (ix2 r j))
    (fun j => x6 (ix2 r j)) (fun k j => x8 (ix2 k j)) (fun k j => x9 (ix2 k j)) a * x10 (ix2 a j)) (funext fun k => ?_)
  refine congrArg (fun y : EReal => x2 (ix2 r k) * y) ?_
  rw [load_back1, load_back2, show View.ld x3 r0_0 = x3 from View.ld_unit_zero zero2 _ x3,
    show View.ld x7 r0_3 (ix2 0 k) = x7 (ix2 0 k) from row_apply x7 0 _ k, show View.ld x7 r0_4 (ix2 0 k) = x7 (ix2 1 k) from row_apply x7 1 _ k,
    show View.ld x7 r0_5 (ix2 0 k) = x7 (ix2 2 k) from row_apply x7 2 _ k]

theorem sum_apply (i : grid0.Coords) (x0 : Vec Ideal S512x1024 .f32) (x1 x2 : Vec Ideal S512x512 .bf16) (x3 : Vec Ideal S512x512 .f32)
    (x4 : Vec Ideal S8x512 .f32) (x5 x6 : Vec Ideal S512x1024 .bf16) (x7 : Vec Ideal S8x512 .f32) (x8 x9 : Vec Ideal S512x1024 .bf16)
    (x10 : Vec Ideal S1024x1024 .bf16) (x11 : Vec Ideal S1x1024 .f32) (x12 : Vec Ideal S16x1024 .f32) (x13 : Vec Ideal S512x512 .bf16)
    (r : Fin 512) (n : Fin 1024) :
    out0_14 i x0 x1 x2 x3 x4 x5 x6 x7 x8 x9 x10 x11 x12 x13 (ix2 r n) = bresid i x0 x1 x2 x3 x4 x5 x6 x7 x8 x9 x10 r n :=
  (congrFun (View.canon_unit_zero zero2 _ _) _).trans (total_apply i x0 x1 x2 x3 x4 x5 x6 x7 x8 x9 x10 x11 x12 x13 r n)

/-- The normalised rows of the block. -/
theorem nrm_apply (X M : FVec Ideal S512x1024 .f32) (G : Vec Ideal S1x1024 .f32) (r : Fin 512) (n : Fin 1024) :
    k0_pay9 X M G (ix2 r n) = nrm (fun j => k0_pay7 X M (ix2 r j)) (fun j => G (ix2 0 j)) n := by
  unfold k0_pay9 k0_pay8
  pointwise
  rfl

theorem norm_apply (i : grid0.Coords) (x0 : Vec Ideal S512x1024 .f32) (x1 x2 : Vec Ideal S512x512 .bf16) (x3 : Vec Ideal S512x512 .f32)
    (x4 : Vec Ideal S8x512 .f32) (x5 x6 : Vec Ideal S512x1024 .bf16) (x7 : Vec Ideal S8x512 .f32) (x8 x9 : Vec Ideal S512x1024 .bf16)
    (x10 : Vec Ideal S1024x1024 .bf16) (x11 : Vec Ideal S1x1024 .f32) (x12 : Vec Ideal S16x1024 .f32) (x13 : Vec Ideal S512x512 .bf16)
    (r : Fin 512) (n : Fin 1024) :
    out0_15 i x0 x1 x2 x3 x4 x5 x6 x7 x8 x9 x10 x11 x12 x13 (ix2 r n)
      = nrm (bresid i x0 x1 x2 x3 x4 x5 x6 x7 x8 x9 x10 r) (fun j => x11 (ix2 0 j)) n := by
  refine (congrFun (View.canon_unit_zero zero2 _ _) _).trans ((nrm_apply _ _ _ r n).trans ?_)
  rw [show View.ld x11 r0_8 = x11 from View.ld_unit_zero zero2 _ x11]
  exact congrArg (fun v : Fin 1024 → EReal => nrm v (fun j => x11 (ix2 0 j)) n)
    (funext fun j => total_apply i x0 x1 x2 x3 x4 x5 x6 x7 x8 x9 x10 x11 x12 x13 r j)

end Cert.Route
end
-- ==== Proof.RouteArray.lean ====
/- The two row results of the expert layer's mixing call, entry by entry, from the call's arguments. -/
module

public import proofs.«01_k».proof.Proof.RouteBlock
public import Idealize.ShloMosaic.Lib.StableHlo.Run

@[expose] public section

set_option maxRecDepth 16384
noncomputable section

namespace Cert.Route

open Idealize.ShloMosaic Idealize.ShloMosaic.TcCoe Idealize.ShloMosaic.Tactic
open Idealize.ShloMosaic.Pointwise
open Idealize.SL Idealize.SL.Sem
open Cert.In (nrm)
open Cert.Mix (conv mixed resid back bback)
open Cert.Kernel5Ideal Cert.Kernel5Ideal.Gen Cert.Kernel5Ideal.Value

variable (m : (ℓ : Loc nD τ sig) → Buf (Elt Ideal) ℓ) (c : Dev nD)

/-- The layer's input rows. -/
abbrev xin : FVec Ideal S16384x1024 .f32 := m ((c : Thread nD τ).loc main_arg0)
/-- The attention's output. -/
abbrev oin : FVec Ideal S16384x512 .bf16 := m ((c : Thread nD τ).loc main_arg1)
/-- The convolution's gate. -/
abbrev bgin : FVec Ideal S16384x512 .bf16 := m ((c : Thread nD τ).loc main_arg2)
/-- The convolution's rows. -/
abbrev uin : FVec Ideal S16384x512 .f32 := m ((c : Thread nD τ).loc main_arg3)
/-- The attention's gate. -/
abbrev gain : FVec Ideal S16384x1024 .bf16 := m ((c : Thread nD τ).loc main_arg4)
/-- The gate of the convolution's branch. -/
abbrev gbin : FVec Ideal S16384x1024 .bf16 := m ((c : Thread nD τ).loc main_arg5)
/-- The convolution's weights. -/
abbrev cwin : FVec Ideal S3x512 .f32 := m ((c : Thread nD τ).loc main_arg6)
/-- The weights of the attention's branch. -/
abbrev wain : FVec Ideal S512x1024 .f32 := m ((c : Thread nD τ).loc main_arg7)
/-- The weights of the convolution's branch. -/
abbrev wbin : FVec Ideal S512x1024 .f32 := m ((c : Thread nD τ).loc main_arg8)
/-- The output weights. -/
abbrev woin : FVec Ideal S1024x1024 .f32 := m ((c : Thread nD τ).loc main_arg9)
/-- The norm's weights. -/
abbrev gin : FVec Ideal S1024 .f32 := m ((c : Thread nD τ).loc main_arg10)
theorem V_taps : V m c main_v4 = pad S8x512 ![0, 0] ![5, 0] ![0, 0] (cwin m c) (sitofp .f32 (constantI S_ 32 0#32)) pads_S3x512_S8x512_050_000 h_S_ := by
  simp only [V, hostOps0, hostOps0_1, hostOps0_2, hostOps0_3, hostOps0_4, hostOps0_5, hostOps0_6, List.flatten_cons, List.flatten_nil,
    List.append_nil, List.cons_append, List.nil_append, StableHlo.TRef.unary, StableHlo.TRef.binary, StableHlo.TRef.toBuf,
    StableHlo.TRef.ofBuf, cast_eq]
  after_results_simp

theorem V_wa : V m c main_v0 = truncf .bf16 (wain m c) bitsLt_bf16_f32 := by
  simp only [V, hostOps0, hostOps0_1, hostOps0_2, hostOps0_3, hostOps0_4, hostOps0_5, hostOps0_6, List.flatten_cons, List.flatten_nil,
    List.append_nil, List.cons_append, List.nil_append, StableHlo.TRef.unary, StableHlo.TRef.binary, StableHlo.TRef.toBuf,
    StableHlo.TRef.ofBuf, cast_eq]
  after_results_simp

theorem V_wb : V m c main_v1 = truncf .bf16 (wbin m c) bitsLt_bf16_f32 := by
  simp only [V, hostOps0, hostOps0_1, hostOps0_2, hostOps0_3, hostOps0_4, hostOps0_5, hostOps0_6, List.flatten_cons, List.flatten_nil,
    List.append_nil, List.cons_append, List.nil_append, StableHlo.TRef.unary, StableHlo.TRef.binary, StableHlo.TRef.toBuf,
    StableHlo.TRef.ofBuf, cast_eq]
  after_results_simp

theorem V_wo : V m c main_v2 = truncf .bf16 (woin m c) bitsLt_bf16_f32 := by
  simp only [V, hostOps0, hostOps0_1, hostOps0_2, hostOps0_3, hostOps0_4, hostOps0_5, hostOps0_6, List.flatten_cons, List.flatten_nil,
    List.append_nil, List.cons_append, List.nil_append, StableHlo.TRef.unary, StableHlo.TRef.binary, StableHlo.TRef.toBuf,
    StableHlo.TRef.ofBuf, cast_eq]
  after_results_simp

theorem V_norm : V m c main_v3 = shapeCast S1x1024 (gin m c) shapeCasts_S1024_S1x1024 := by
  simp only [V, hostOps0, hostOps0_1, hostOps0_2, hostOps0_3, hostOps0_4, hostOps0_5, hostOps0_6, List.flatten_cons, List.flatten_nil,
    List.append_nil, List.cons_append, List.nil_append, StableHlo.TRef.unary, StableHlo.TRef.binary, StableHlo.TRef.toBuf,
    StableHlo.TRef.ofBuf, cast_eq]
  after_results_simp
  rfl

/-! ## Which rows a grid point holds -/

theorem coord : ∀ t : Fin cfg0.N, (grid0.coords t 0).val = t.val := (by decide +kernel : ∀ t : Fin grid0.N, _)
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val * 64 - 1 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)

variable (t : Fin cfg0.N)

theorem tlt : t.val < 32 := t.isLt

/-- The row of the whole input that is row `r` of point `t`'s block. -/
def rowG (r : Fin 512) : Fin 16384 := ⟨t.val * 512 + r.val, by have := tlt t; omega⟩
/-- The row of the whole input that is row `p` of the eight rows before point `t`'s block. -/
def preG (p : Fin 8) : Fin 16384 := ⟨(t.val * 64 - 1) * 8 + p.val, by have := tlt t; omega⟩

theorem emb0 (r : Fin 512) (j : Fin 1024) :
    ((cfg0.win 0).blk t).view.emb (ix2 r j : S512x1024.Idx) = (ix2 (rowG t r) j : S16384x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * j.val = j.val; omega

theorem iblk0 (r : Fin 512) (j : Fin 1024) : (iblk m c 0 t : Vec Ideal S512x1024 .f32) (ix2 r j) = xin m c (ix2 (rowG t r) j) := by
  show V m c main_arg0 (((cfg0.win 0).blk t).view.emb (ix2 r j : S512x1024.Idx)) = _
  rw [emb0, V_main_arg0]

theorem emb1 (r : Fin 512) (j : Fin 512) :
    ((cfg0.win 1).blk t).view.emb (ix2 r j : S512x512.Idx) = (ix2 (rowG t r) j : S16384x512.Idx) := by
  obtain ⟨e0, e1⟩ := idx1 t
  funext a; apply Fin.ext
  match a with
  | ⟨0, _⟩ => show win0_1.index t (0 : Fin 2) * 512 + 1 * r.val = t.val * 512 + r.val; omega
  | ⟨1, _⟩ => show win0_1.index t (1 : Fin 2) * 512 + 1 * j.val = j.val; omega

theorem iblk1 (r : Fin 512) (j : Fin 512) : (iblk m c 1 t : Vec Ideal S512x512 .bf16) (ix2 r j) = oin m c (ix2 (rowG t r) j) := by
  show V m c main_arg1 (((cfg0.win 1).blk t).view.emb (ix2 r j : S512x512.Idx)) = _
  rw [emb1, V_main_arg1]

theorem emb2 (r : Fin 512) (j : Fin 512) :
    ((cfg0.win 2).blk t).view.emb (ix2 r j : S512x512.Idx) = (ix2 (rowG t r) j : S16384x512.Idx) := by
  obtain ⟨e0, e1⟩ := idx2 t
  funext a; apply Fin.ext
  match a with
  | ⟨0, _⟩ => show win0_2.index t (0 : Fin 2) * 512 + 1 * r.val = t.val * 512 + r.val; omega
  | ⟨1, _⟩ => show win0_2.index t (1 : Fin 2) * 512 + 1 * j.val = j.val; omega

theorem iblk2 (r : Fin 512) (j : Fin 512) : (iblk m c 2 t : Vec Ideal S512x512 .bf16) (ix2 r j) = bgin m c (ix2 (rowG t r) j) := by
  show V m c main_arg2 (((cfg0.win 2).blk t).view.emb (ix2 r j : S512x512.Idx)) = _
  rw [emb2, V_main_arg2]

theorem emb3 (r : Fin 512) (j : Fin 512) :
    ((cfg0.win 3).blk t).view.emb (ix2 r j : S512x512.Idx) = (ix2 (rowG t r) j : S16384x512.Idx) := by
  obtain ⟨e0, e1⟩ := idx3 t
  funext a; apply Fin.ext
  match a with
  | ⟨0, _⟩ => show win0_3.index t (0 : Fin 2) * 512 + 1 * r.val = t.val * 512 + r.val; omega
  | ⟨1, _⟩ => show win0_3.index t (1 : Fin 2) * 512 + 1 * j.val = j.val; omega

theorem iblk3 (r : Fin 512) (j : Fin 512) : (iblk m c 3 t : Vec Ideal S512x512 .f32) (ix2 r j) = uin m c (ix2 (rowG t r) j) := by
  show V m c main_arg3 (((cfg0.win 3).blk t).view.emb (ix2 r j : S512x512.Idx)) = _
  rw [emb3, V_main_arg3]

theorem emb4 (r : Fin 8) (j : Fin 512) :
    ((cfg0.win 4).blk t).view.emb (ix2 r j : S8x512.Idx) = (ix2 (preG t r) j : S16384x512.Idx) := by
  obtain ⟨e0, e1⟩ := idx4 t
  funext a; apply Fin.ext
  match a with
  | ⟨0, _⟩ => show win0_4.index t (0 : Fin 2) * 8 + 1 * r.val = (t.val * 64 - 1) * 8 + r.val; rw [e0]; omega
  | ⟨1, _⟩ => show win0_4.index t (1 : Fin 2) * 512 + 1 * j.val = j.val; omega

theorem iblk4 (r : Fin 8) (j : Fin 512) : (iblk m c 4 t : Vec Ideal S8x512 .f32) (ix2 r j) = uin m c (ix2 (preG t r) j) := by
  show V m c main_arg3 (((cfg0.win 4).blk t).view.emb (ix2 r j : S8x512.Idx)) = _
  rw [emb4, V_main_arg3]

theorem emb5 (r : Fin 512) (j : Fin 1024) :
    ((cfg0.win 5).blk t).view.emb (ix2 r j : S512x1024.Idx) = (ix2 (rowG t r) j : S16384x1024.Idx) := by
  obtain ⟨e0, e1⟩ := idx5 t
  funext a; apply Fin.ext
  match a with
  | ⟨0, _⟩ => show win0_5.index t (0 : Fin 2) * 512 + 1 * r.val = t.val * 512 + r.val; omega
  | ⟨1, _⟩ => show win0_5.index t (1 : Fin 2) * 1024 + 1 * j.val = j.val; omega

theorem iblk5 (r : Fin 512) (j : Fin 1024) : (iblk m c 5 t : Vec Ideal S512x1024 .bf16) (ix2 r j) = gain m c (ix2 (rowG t r) j) := by
  show V m c main_arg4 (((cfg0.win 5).blk t).view.emb (ix2 r j : S512x1024.Idx)) = _
  rw [emb5, V_main_arg4]

theorem emb6 (r : Fin 512) (j : Fin 1024) :
    ((cfg0.win 6).blk t).view.emb (ix2 r j : S512x1024.Idx) = (ix2 (rowG t r) j : S16384x1024.Idx) := by
  obtain ⟨e0, e1⟩ := idx6 t
  funext a; apply Fin.ext
  match a with
  | ⟨0, _⟩ => show win0_6.index t (0 : Fin 2) * 512 + 1 * r.val = t.val * 512 + r.val; omega
  | ⟨1, _⟩ => show win0_6.index t (1 : Fin 2) * 1024 + 1 * j.val = j.val; omega

theorem iblk6 (r : Fin 512) (j : Fin 1024) : (iblk m c 6 t : Vec Ideal S512x1024 .bf16) (ix2 r j) = gbin m c (ix2 (rowG t r) j) := by
  show V m c main_arg5 (((cfg0.win 6).blk t).view.emb (ix2 r j : S512x1024.Idx)) = _
  rw [emb6, V_main_arg5]

theorem emb7 (r : Fin 8) (j : Fin 512) :
    ((cfg0.win 7).blk t).view.emb (ix2 r j : S8x512.Idx) = (ix2 r j : S8x512.Idx) := by
  obtain ⟨e0, e1⟩ := idx7 t
  funext a; apply Fin.ext
  match a with
  | ⟨0, _⟩ => show win0_7.index t (0 : Fin 2) * 8 + 1 * r.val = r.val; omega
  | ⟨1, _⟩ => show win0_7.index t (1 : Fin 2) * 512 + 1 * j.val = j.val; omega

/-- The first three rows of the padded weights are the weights. -/
theorem iblk7 (p : Fin 3) (k : Fin 512) : (iblk m c 7 t : Vec Ideal S8x512 .f32) (ix2 ⟨p.val, by omega⟩ k) = cwin m c (ix2 p k) := by
  show V m c main_v4 (((cfg0.win 7).blk t).view.emb (ix2 ⟨p.val, by omega⟩ k : S8x512.Idx)) = _
  rw [emb7, V_taps]
  pointwise

theorem emb8 (r : Fin 512) (j : Fin 1024) :
    ((cfg0.win 8).blk t).view.emb (ix2 r j : S512x1024.Idx) = (ix2 r j : S512x1024.Idx) := by
  obtain ⟨e0, e1⟩ := idx8 t
  funext a; apply Fin.ext
  match a with
  | ⟨0, _⟩ => show win0_8.index t (0 : Fin 2) * 512 + 1 * r.val = r.val; omega
  | ⟨1, _⟩ => show win0_8.index t (1 : Fin 2) * 1024 + 1 * j.val = j.val; omega

theorem iblk8 (r : Fin 512) (j : Fin 1024) : (iblk m c 8 t : Vec Ideal S512x1024 .bf16) (ix2 r j) = wain m c (ix2 r j) := by
  show V m c main_v0 (((cfg0.win 8).blk t).view.emb (ix2 r j : S512x1024.Idx)) = _
  rw [emb8, V_wa]
  pointwise

theorem emb9 (r : Fin 512) (j : Fin 1024) :
    ((cfg0.win 9).blk t).view.emb (ix2 r j : S512x1024.Idx) = (ix2 r j : S512x1024.Idx) := by
  obtain ⟨e0, e1⟩ := idx9 t
  funext a; apply Fin.ext
  match a with
  | ⟨0, _⟩ => show win0_9.index t (0 : Fin 2) * 512 + 1 * r.val = r.val; omega
  | ⟨1, _⟩ => show win0_9.index t (1 : Fin 2) * 1024 + 1 * j.val = j.val; omega

theorem iblk9 (r : Fin 512) (j : Fin 1024) : (iblk m c 9 t : Vec Ideal S512x1024 .bf16) (ix2 r j) = wbin m c (ix2 r j) := by
  show V m c main_v1 (((cfg0.win 9).blk t).view.emb (ix2 r j : S512x1024.Idx)) = _
  rw [emb9, V_wb]
  pointwise

theorem emb10 (r : Fin 1024) (j : Fin 1024) :
    ((cfg0.win 10).blk t).view.emb (ix2 r j : S1024x1024.Idx) = (ix2 r j : S1024x1024.Idx) := by
  obtain ⟨e0, e1⟩ := idx10 t
  funext a; apply Fin.ext
  match a with
  | ⟨0, _⟩ => show win0_10.index t (0 : Fin 2) * 1024 + 1 * r.val = r.val; omega
  | ⟨1, _⟩ => show win0_10.index t (1 : Fin 2) * 1024 + 1 * j.val = j.val; omega

theorem iblk10 (r : Fin 1024) (j : Fin 1024) : (iblk m c 10 t : Vec Ideal S1024x1024 .bf16) (ix2 r j) = woin m c (ix2 r j) := by
  show V m c main_v2 (((cfg0.win 10).blk t).view.emb (ix2 r j : S1024x1024.Idx)) = _
  rw [emb10, V_wo]
  pointwise

theorem emb11 (j : Fin 1024) :
    ((cfg0.win 11).blk t).view.emb (ix2 0 j : S1x1024.Idx) = (ix2 0 j : S1x1024.Idx) := by
  obtain ⟨e0, e1⟩ := idx11 t
  funext a; apply Fin.ext
  match a with
  | ⟨0, _⟩ => show win0_11.index t (0 : Fin 2) * 1 + 1 * 0 = 0; omega
  | ⟨1, _⟩ => show win0_11.index t (1 : Fin 2) * 1024 + 1 * j.val = j.val; omega

theorem iblk11 (j : Fin 1024) : (iblk m c 11 t : Vec Ideal S1x1024 .f32) (ix2 0 j) = gin m c (ix1 j) := by
  show V m c main_v3 (((cfg0.win 11).blk t).view.emb (ix2 0 j : S1x1024.Idx)) = _
  rw [emb11, V_norm]
  pointwise

theorem emb14 (r : Fin 512) (j : Fin 1024) :
    ((cfg0.win 14).blk t).view.emb (ix2 r j : S512x1024.Idx) = (ix2 (rowG t r) j : S16384x1024.Idx) := by
  obtain ⟨e0, e1⟩ := idx14 t
  funext a; apply Fin.ext
  match a with
  | ⟨0, _⟩ => show win0_14.index t (0 : Fin 2) * 512 + 1 * r.val = t.val * 512 + r.val; omega
  | ⟨1, _⟩ => show win0_14.index t (1 : Fin 2) * 1024 + 1 * j.val = j.val; omega

theorem emb15 (r : Fin 512) (j : Fin 1024) :
    ((cfg0.win 15).blk t).view.emb (ix2 r j : S512x1024.Idx) = (ix2 (rowG t r) j : S16384x1024.Idx) := by
  obtain ⟨e0, e1⟩ := idx15 t
  funext a; apply Fin.ext
  match a with
  | ⟨0, _⟩ => show win0_15.index t (0 : Fin 2) * 512 + 1 * r.val = t.val * 512 + r.val; omega
  | ⟨1, _⟩ => show win0_15.index t (1 : Fin 2) * 1024 + 1 * j.val = j.val; omega

/-- The rows before a block's row, from the block and the eight rows before it, are the rows before it in its sequence. -/
theorem back_block (d : Fin 3) (r k : Fin 512) :
    bback d (grid0.coords t) (iblk m c 3 t) (iblk m c 4 t) r k = back d.val (fun R k => uin m c (ix2 R k)) (rowG t r) k := by
  have ht := tlt t
  have hd := d.isLt
  have hr : (rowG t r).val = t.val * 512 + r.val := rfl
  unfold bback back
  by_cases h : r.val < d.val
  · rw [dif_pos h, coord]
    by_cases h8 : t.val % 8 = 0
    · rw [if_pos h8, if_pos (by omega)]
      exact mul_zero _
    · rw [if_neg h8, if_neg (by omega)]
      refine (mul_one _).trans ((iblk4 m c t _ k).trans ?_)
      exact congrArg (fun a => (uin m c (ix2 a k) : EReal)) (Fin.ext (by
        show (t.val * 64 - 1) * 8 + (8 + r.val - d.val) = t.val * 512 + r.val - d.val; omega))
  · rw [dif_neg h, if_neg (by omega)]
    refine (iblk3 m c t _ k).trans ?_
    exact congrArg (fun a => (uin m c (ix2 a k) : EReal)) (Fin.ext (by
      show t.val * 512 + (r.val - d.val) = t.val * 512 + r.val - d.val; omega))

/-- A row of the mixer's output, of the call's arguments. -/
abbrev rowK (R : Fin 16384) : Fin 1024 → EReal :=
  resid (fun j => xin m c (ix2 R j)) (mixed (fun k => oin m c (ix2 R k))
    (fun k => bgin m c (ix2 R k) * conv (cwin m c (ix2 0 k)) (cwin m c (ix2 1 k)) (cwin m c (ix2 2 k))
      (back 2 (fun R k => uin m c (ix2 R k)) R k) (back 1 (fun R k => uin m c (ix2 R k)) R k) (uin m c (ix2 R k)))
    (fun j => gain m c (ix2 R j)) (fun j => gbin m c (ix2 R j)) (fun k j => wain m c (ix2 k j)) (fun k j => wbin m c (ix2 k j)))
    (fun j n => woin m c (ix2 j n))

theorem block_mix (r : Fin 512) :
    bresid (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) r = rowK m c (rowG t r) := by
  unfold bresid
  show resid _ (mixed _ _ _ _ _ _) _ = resid _ (mixed _ _ _ _ _ _) _
  congr 1
  · exact funext fun j => iblk0 m c t r j
  · congr 1
    · exact funext fun k => iblk1 m c t r k
    · funext k
      refine congrArg₂ (fun a b : EReal => a * b) (iblk2 m c t r k) ?_
      congr 1
      · exact iblk7 m c t 0 k
      · exact iblk7 m c t 1 k
      · exact iblk7 m c t 2 k
      · exact back_block m c t 2 r k
      · exact back_block m c t 1 r k
      · exact iblk3 m c t r k
    · exact funext fun j => iblk5 m c t r j
    · exact funext fun j => iblk6 m c t r j
    · exact funext fun k => funext fun j => iblk8 m c t k j
    · exact funext fun k => funext fun j => iblk9 m c t k j
  · exact funext fun j => funext fun n => iblk10 m c t j n

/-- The grid point that holds a row. -/
def pt (R : Fin 16384) : Fin cfg0.N := ⟨R.val / 512, by show R.val / 512 < 32; omega⟩
/-- The row's place in that point's block. -/
def plc (R : Fin 16384) : Fin 512 := ⟨R.val % 512, by omega⟩

theorem row_eq (R : Fin 16384) : rowG (pt R) (plc R) = R := Fin.ext (by show R.val / 512 * 512 + R.val % 512 = R.val; omega)

theorem final14 (R : Fin 16384) (n : Fin 1024) :
    ((dats m 0 c).arrAt 14 cfg0.N : S16384x1024.Idx → EReal) (ix2 R n) = rowK m c R n := by
  have e : ((cfg0.win 14).blk (pt R)).view.emb (ix2 (plc R) n : S512x1024.Idx) = (ix2 R n : S16384x1024.Idx) := by rw [emb14, row_eq]
  have h := congrFun ((blocks14 m c (pt R) (flush0_14 _)).trans (flushed14 m c (pt R))) (ix2 (plc R) n)
  refine (congrArg ((dats m 0 c).arrAt 14 cfg0.N) e).symm.trans (h.trans ((sum_apply _ _ _ _ _ _ _ _ _ _ _ _ _ _ _ (plc R) n).trans ?_))
  rw [block_mix, row_eq]

theorem final15 (R : Fin 16384) (n : Fin 1024) :
    ((dats m 0 c).arrAt 15 cfg0.N : S16384x1024.Idx → EReal) (ix2 R n) = nrm (rowK m c R) (fun j => gin m c (ix1 j)) n := by
  have e : ((cfg0.win 15).blk (pt R)).view.emb (ix2 (plc R) n : S512x1024.Idx) = (ix2 R n : S16384x1024.Idx) := by rw [emb15, row_eq]
  have h := congrFun ((blocks15 m c (pt R) (flush0_15 _)).trans (flushed15 m c (pt R))) (ix2 (plc R) n)
  refine (congrArg ((dats m 0 c).arrAt 15 cfg0.N) e).symm.trans (h.trans ((norm_apply _ _ _ _ _ _ _ _ _ _ _ _ _ _ _ (plc R) n).trans ?_))
  rw [block_mix, row_eq]
  exact congrArg (fun g : Fin 1024 → EReal => nrm (rowK m c R) g n) (funext fun j => iblk11 m c (pt R) j)

end Cert.Route
end
-- ==== Proof.RouteEqual.lean ====
/- The reference of the expert layer's mixing call leaves what its kernel leaves, at every entry of the two arrays of rows. -/
module

public import proofs.«01_k».proof.Proof.RouteArray
public import proofs.«01_k».proof.Proof.MixRef
public import proofs.«01_k».proof.Proof.Gen.Reference5Ideal.Run

@[expose] public section

set_option maxRecDepth 16384
noncomputable section

namespace Cert.Route

open Idealize.ShloMosaic Idealize.ShloMosaic.TcCoe Idealize.ShloMosaic.Tactic
open Idealize.ShloMosaic.Pointwise
open Cert.In (nrm)
open Cert.Mix (convA residA normA convA_apply residA_apply normA_apply mixed resid)

section Ref
open Cert.Reference5Ideal Cert.Reference5Ideal.Gen
variable (m : (ℓ : Loc nD τ sig) → Buf (Elt Ideal) ℓ) (c : Dev nD)

/-- The reference's first result: the mixer's output. -/
abbrev sumR : FVec Ideal Cert.Reference4Ideal.S16384x1024 .f32 :=
  residA (m ((c.tc : Thread nD τ).loc main_arg0)) (m ((c.tc : Thread nD τ).loc main_arg1)) (m ((c.tc : Thread nD τ).loc main_arg2))
    (convA (m ((c.tc : Thread nD τ).loc main_arg3)) (m ((c.tc : Thread nD τ).loc main_arg6))) (m ((c.tc : Thread nD τ).loc main_arg4))
    (m ((c.tc : Thread nD τ).loc main_arg5)) (m ((c.tc : Thread nD τ).loc main_arg7)) (m ((c.tc : Thread nD τ).loc main_arg8))
    (m ((c.tc : Thread nD τ).loc main_arg9))

/-- The reference's second result: the normalised rows of the first. -/
theorem res_norm : Value.res_out1 m c
    = truncf .bf16 (normA (sumR m c) (m ((c.tc : Thread nD τ).loc main_arg10))) Cert.Reference5Ideal.Gen.bitsLt_bf16_f32 := by
  unfold Value.res_out1 Value.res_main_v81
  rfl

end Ref

open Cert.Kernel5Ideal Cert.Kernel5Ideal.Gen Cert.Kernel5Ideal.Value

variable (m : (ℓ : Loc nD τ sig) → Buf (Elt Ideal) ℓ) (c : Dev nD)

/-- The mixer's output of the call's arguments, as the reference computes it. -/
abbrev sumA : FVec Ideal S16384x1024 .f32 :=
  residA (xin m c) (oin m c) (bgin m c) (convA (uin m c) (cwin m c)) (gain m c) (gbin m c) (wain m c) (wbin m c) (woin m c)

theorem sumA_row (R : Fin 16384) (n : Fin 1024) : sumA m c (ix2 R n) = rowK m c R n := by
  refine (residA_apply _ _ _ _ _ _ _ _ _ R n).trans ?_
  exact congrArg (fun p : Fin 512 → EReal => resid (fun j => xin m c (ix2 R j)) (mixed (fun k => oin m c (ix2 R k)) p (fun j => gain m c (ix2 R j))
    (fun j => gbin m c (ix2 R j)) (fun k j => wain m c (ix2 k j)) (fun k j => wbin m c (ix2 k j))) (fun j n => woin m c (ix2 j n)) n)
    (funext fun k => congrArg (fun y : EReal => bgin m c (ix2 R k) * y) (convA_apply (uin m c) (cwin m c) R k))

theorem eq14 : sumA m c = (dats m 0 c).arrAt 14 cfg0.N := by
  funext i
  obtain ⟨R, n, rfl⟩ : ∃ (R : Fin 16384) (n : Fin 1024), i = ix2 R n := ⟨i 0, i 1, eq_ix2 i⟩
  exact (sumA_row m c R n).trans (final14 m c R n).symm

theorem eq15 : truncf .bf16 (normA (sumA m c) (gin m c)) bitsLt_bf16_f32 = (dats m 0 c).arrAt 15 cfg0.N := by
  funext i
  obtain ⟨R, n, rfl⟩ : ∃ (R : Fin 16384) (n : Fin 1024), i = ix2 R n := ⟨i 0, i 1, eq_ix2 i⟩
  refine Eq.trans ?_ (final15 m c R n).symm
  refine (show truncf .bf16 (normA (sumA m c) (gin m c)) bitsLt_bf16_f32 (ix2 R n) = normA (sumA m c) (gin m c) (ix2 R n) from rfl).trans
    ((normA_apply _ _ R n).trans ?_)
  exact congrArg (fun v : Fin 1024 → EReal => nrm v (fun j => gin m c (ix1 j)) n) (funext fun j => sumA_row m c R j)

end Cert.Route
end
-- ==== Proof.TopTwo.lean ====
/- The two greatest of eight values: by two rounds of maximum and first index, and by a stable sort. -/
module

public import Idealize.ShloMosaic.Lib.SortPrefix
public import Idealize.ShloMosaic.Lib.SortFacts
public import Idealize.ShloMosaic.Lib.Pointwise

@[expose] public section

noncomputable section

namespace Cert.Top

open Idealize.ShloMosaic

variable {n : ℕ}

/-- The first place of the greatest value. -/
def IsFirst (l : Fin n → EReal) (a : Fin n) : Prop := (∀ e, l e ≤ l a) ∧ ∀ e, e < a → l e < l a

/-- The first place of the greatest of the other values. -/
def IsSecond (l : Fin n → EReal) (a b : Fin n) : Prop := b ≠ a ∧ (∀ e, e ≠ a → l e ≤ l b) ∧ ∀ e, e ≠ a → e < b → l e < l b

/-- Of the places in a non-empty set, the first with the greatest value. -/
theorem first_of (l : Fin n → EReal) (P : Fin n → Prop) (h : ∃ a, P a) :
    ∃ a, P a ∧ (∀ e, P e → l e ≤ l a) ∧ ∀ e, P e → e < a → l e < l a := by
  classical
  obtain ⟨m, hm, hmax⟩ := Finset.exists_max_image (Finset.univ.filter P) l
    (by obtain ⟨a, ha⟩ := h; exact ⟨a, Finset.mem_filter.2 ⟨Finset.mem_univ _, ha⟩⟩)
  have hmP := (Finset.mem_filter.1 hm).2
  obtain ⟨a, ha, hmin⟩ := Finset.exists_min_image (Finset.univ.filter fun e => P e ∧ l e = l m) id
    ⟨m, Finset.mem_filter.2 ⟨Finset.mem_univ _, hmP, rfl⟩⟩
  obtain ⟨haP, hae⟩ := (Finset.mem_filter.1 ha).2
  refine ⟨a, haP, fun e he => ?_, fun e he hlt => ?_⟩
  · rw [hae]; exact hmax e (Finset.mem_filter.2 ⟨Finset.mem_univ _, he⟩)
  · rw [hae]
    refine lt_of_le_of_ne (hmax e (Finset.mem_filter.2 ⟨Finset.mem_univ _, he⟩)) fun heq => ?_
    exact absurd (hmin e (Finset.mem_filter.2 ⟨Finset.mem_univ _, he, heq⟩)) (not_le.2 hlt)

theorem exists_first (l : Fin 8 → EReal) : ∃ a, IsFirst l a := by
  obtain ⟨a, _, h1, h2⟩ := first_of l (fun _ => True) ⟨0, trivial⟩
  exact ⟨a, fun e => h1 e trivial, fun e => h2 e trivial⟩

/-- The place of the greatest of eight values. -/
def top1 (l : Fin 8 → EReal) : Fin 8 := (exists_first l).choose
theorem top1_spec (l : Fin 8 → EReal) : IsFirst l (top1 l) := (exists_first l).choose_spec

theorem exists_second (l : Fin 8 → EReal) (a : Fin 8) : ∃ b, IsSecond l a b := by
  obtain ⟨b, h0, h1, h2⟩ := first_of l (fun e => e ≠ a) (by revert a; decide)
  exact ⟨b, h0, h1, h2⟩

/-- The place of the second greatest of eight values. -/
def top2 (l : Fin 8 → EReal) : Fin 8 := (exists_second l (top1 l)).choose
theorem top2_spec (l : Fin 8 → EReal) : IsSecond l (top1 l) (top2 l) := (exists_second l (top1 l)).choose_spec

/-! ## One round: the maximum and its first place -/

theorem fold_max (f : Fin n → EReal) (a : Fin n) (h : ∀ e, f e ≤ f a) : Finset.fold max (⊥ : EReal) f Finset.univ = f a :=
  le_antisymm (Finset.fold_max_le (c := f a) |>.2 ⟨bot_le, fun e _ => h e⟩)
    ((Finset.le_fold_max (f a)).2 (Or.inr ⟨a, Finset.mem_univ _, le_rfl⟩))

theorem le_minsi (x y z : BitVec 32) : x.toInt ≤ (IntOp.minsi y z).toInt ↔ x.toInt ≤ y.toInt ∧ x.toInt ≤ z.toInt := by
  unfold IntOp.minsi
  by_cases h : y.slt z = true
  · rw [if_pos h]
    rw [BitVec.slt_eq_decide, decide_eq_true_eq] at h
    exact ⟨fun hx => ⟨hx, by omega⟩, fun hx => hx.1⟩
  · rw [if_neg h]
    rw [BitVec.slt_eq_decide, decide_eq_true_eq] at h
    exact ⟨fun hx => ⟨by omega, hx⟩, fun hx => hx.2⟩

theorem fold_minsi (f : Fin n → BitVec 32) (a : Fin n) (h : ∀ e, (f a).toInt ≤ (f e).toInt) :
    Finset.fold IntOp.minsi (2147483647#32) f Finset.univ = f a := by
  have key : ∀ c : BitVec 32, c.toInt ≤ (Finset.fold IntOp.minsi (2147483647#32) f Finset.univ).toInt
      ↔ c.toInt ≤ (2147483647#32 : BitVec 32).toInt ∧ ∀ e ∈ Finset.univ, c.toInt ≤ (f e).toInt := fun c =>
    Finset.fold_op_rel_iff_and (r := fun x y : BitVec 32 => x.toInt ≤ y.toInt) (fun {x y z} => le_minsi x y z)
  refine BitVec.eq_of_toInt_eq (le_antisymm (((key _).1 le_rfl).2 a (Finset.mem_univ _)) ((key _).2 ⟨?_, fun e _ => h e⟩))
  have := BitVec.toInt_lt (x := f a)
  have e : (2147483647#32 : BitVec 32).toInt = 2147483647 := by decide
  rw [e]; omega

theorem small_toInt : ∀ x : Fin 17, (BitVec.ofNat 32 x.val).toInt = (x.val : ℤ) := by decide

theorem bit_select {α : Type} (p : Prop) [Decidable p] (x y : α) : Scalar.select (BitVec.ofBool (decide p)) x y = if p then x else y := by
  by_cases h : p <;> simp [h, Scalar.select]

/-- The least place at which a column is its greatest value. -/
theorem fold_first (L : Fin 16 → EReal) (a : Fin 16) (h : IsFirst L a) :
    Finset.fold IntOp.minsi (2147483647#32)
      (fun x : Fin 16 => Scalar.select (Ideal.cmp .oeq (L x) (L a)) (BitVec.ofNat 32 x.val) (16#32)) Finset.univ = BitVec.ofNat 32 a.val := by
  have hs : ∀ x : Fin 16, Scalar.select (Ideal.cmp .oeq (L x) (L a)) (BitVec.ofNat 32 x.val) (16#32)
      = if L x = L a then BitVec.ofNat 32 x.val else 16#32 := fun x => bit_select _ _ _
  refine (fold_minsi _ a fun e => ?_).trans ?_
  · show (Scalar.select _ _ _ : BitVec 32).toInt ≤ (Scalar.select _ _ _ : BitVec 32).toInt
    rw [hs, hs, if_pos rfl]
    have ha := small_toInt ⟨a.val, by omega⟩
    rw [ha]
    by_cases he : L e = L a
    · rw [if_pos he, small_toInt ⟨e.val, by omega⟩]
      have : ¬ e < a := fun hlt => absurd he (h.2 e hlt).ne
      have h' : a.val ≤ e.val := not_lt.1 this
      exact_mod_cast h'
    · rw [if_neg he, show (16#32 : BitVec 32).toInt = 16 by decide]
      have := a.isLt
      omega
  · show (Scalar.select _ _ _ : BitVec 32) = _
    rw [hs, if_pos rfl]

/-! ## The stable sort's first two places -/

theorem insert_congr {ι : Type} (B B' : ι → ι → Bool) (a : ι) (L : List ι) (h : ∀ b ∈ L, B b a = B' b a) :
    insertBefore B a L = insertBefore B' a L := by
  induction L with
  | nil => rfl
  | cons b L ih =>
    unfold insertBefore
    rw [h b (List.mem_cons_self ..), ih fun c hc => h c (List.mem_cons_of_mem _ hc)]

theorem mem_insert {ι : Type} (B : ι → ι → Bool) (a x : ι) (L : List ι) : x ∈ insertBefore B a L → x = a ∨ x ∈ L := by
  induction L with
  | nil => intro h; exact Or.inl (List.mem_singleton.1 h)
  | cons b L ih =>
    unfold insertBefore
    split
    · intro h
      rcases List.mem_cons.1 h with h | h
      · exact Or.inr (h ▸ List.mem_cons_self ..)
      · exact (ih h).imp id fun h => List.mem_cons_of_mem _ h
    · intro h; exact List.mem_cons.1 h

theorem mem_stable {ι : Type} (B : ι → ι → Bool) (x : ι) (L : List ι) : x ∈ stableSort B L → x ∈ L := by
  induction L with
  | nil => exact id
  | cons a L ih =>
    intro h
    rcases mem_insert B a x _ h with h | h
    · exact h ▸ List.mem_cons_self ..
    · exact List.mem_cons_of_mem _ (ih h)

/-- Among ascending positions a stable sort may as well compare the positions last. -/
theorem stable_congr (B B' : Fin n → Fin n → Bool) (h : ∀ a b, a < b → B b a = B' b a) (L : List (Fin n)) (hL : L.Pairwise (· < ·)) :
    stableSort B L = stableSort B' L := by
  induction L with
  | nil => rfl
  | cons a L ih =>
    rw [List.pairwise_cons] at hL
    unfold stableSort
    rw [ih hL.2]
    exact insert_congr B B' a _ fun b hb => h a b (hL.1 b (mem_stable _ _ _ hb))

/-- The order by value, the greater first, and then by place. -/
def ahead (l : Fin 8 → EReal) (k k' : Fin 8) : Bool := decide (l k' < l k) || (decide (l k = l k') && decide (k < k'))

theorem ahead_total (l : Fin 8 → EReal) : StrictTotalBefore (ahead l) :=
  StrictTotalBefore.of_key_then_position (fun a b : EReal => decide (b < a)) l (fun a => by simp)
    (fun a b c h1 h2 => by simp only [decide_eq_true_eq] at *; exact lt_trans h2 h1)
    fun a b => by simp only [decide_eq_true_eq]; rcases lt_trichotomy a b with h | h | h <;> simp [h]

theorem sorted_eq (l : Fin 8 → EReal) (k : Fin 8) :
    sortedFrom (fun k k' => Ideal.cmp .ogt (l k) (l k') == 1#1) k = sortedFrom (ahead l) k := by
  have e : sortPositions 8 (fun k k' => Ideal.cmp .ogt (l k) (l k') == 1#1) = sortPositions 8 (ahead l) := by
    refine stable_congr _ _ (fun a b hab => ?_) _ (List.pairwise_lt_finRange 8)
    have hb : (Ideal.cmp .ogt (l b) (l a) == 1#1) = decide (l a < l b) := by
      show (BitVec.ofBool (decide (l a < l b)) == 1#1) = _
      by_cases h : l a < l b <;> simp [h]
    rw [hb]
    unfold ahead
    rw [show decide (b < a) = false from decide_eq_false (not_lt.2 hab.le)]
    simp
  have g : ∀ (P Q : List (Fin 8)) (hP : P.length = 8) (hQ : Q.length = 8), P = Q → P.get (k.cast hP.symm) = Q.get (k.cast hQ.symm) := by
    rintro P Q hP hQ rfl; rfl
  exact g _ _ (length_sortPositions 8 _) (length_sortPositions 8 _) e

theorem sorted_two (l : Fin 8 → EReal) (i : Fin 2) :
    sortedFrom (fun k k' => Ideal.cmp .ogt (l k) (l k') == 1#1) (i.castLE (by decide)) = if i = 0 then top1 l else top2 l := by
  obtain ⟨a1, a2⟩ := top1_spec l
  obtain ⟨b0, b1, b2⟩ := top2_spec l
  rw [sorted_eq]
  have no : ∀ p q : Fin 8, ahead l p q = false ↔ ¬ (l q < l p ∨ (l p = l q ∧ p < q)) := fun p q => by
    unfold ahead; rw [← Bool.not_eq_true]; simp
  refine (ahead_total l).sortedFrom_eq_of_prefix (by decide) (fun i : Fin 2 => if i = 0 then top1 l else top2 l) ?_ ?_ ?_ i
  · intro i j hij
    by_cases hi : i = 0 <;> by_cases hj : j = 0
    · rw [hi, hj]
    · simp only [if_pos hi, if_neg hj] at hij; exact absurd hij.symm b0
    · simp only [if_neg hi, if_pos hj] at hij; exact absurd hij b0
    · omega
  · intro i j hij
    have hi : i = 0 := by omega
    have hj : j = 1 := by omega
    subst hi; subst hj
    refine (no _ _).2 ?_
    simp only [if_pos, if_neg (show ¬ (1 : Fin 2) = 0 by decide)]
    rintro (h | ⟨h, h'⟩)
    · exact absurd h (not_lt.2 (a1 _))
    · exact absurd h (a2 _ h').ne
  · intro i p hp
    refine (no _ _).2 ?_
    have hp0 : p ≠ top1 l := fun h => hp 0 (by simp [h])
    have hp1 : p ≠ top2 l := fun h => hp 1 (by simp [h])
    by_cases hi : i = 0
    · simp only [hi, if_true]
      rintro (h | ⟨h, h'⟩)
      · exact absurd h (not_lt.2 (a1 _))
      · exact absurd h (a2 _ h').ne
    · simp only [hi, if_false]
      rintro (h | ⟨h, h'⟩)
      · exact absurd h (not_lt.2 (b1 _ hp0))
      · exact absurd h (b2 _ hp0 h').ne

end Cert.Top
end
-- ==== Proof.RouteTop.lean ====
/- The expert layer's choice of experts, their gates and their counts within a block, from the block's logits. -/
module

public import proofs.«01_k».proof.Proof.TopTwo
public import proofs.«01_k».proof.Proof.RouteBlock

@[expose] public section

set_option maxRecDepth 16384
noncomputable section

namespace Cert.Route

open Idealize.ShloMosaic Idealize.ShloMosaic.TcCoe Idealize.ShloMosaic.Tactic
open Idealize.ShloMosaic.Pointwise
open Cert.Top
open Cert.Kernel5Ideal Cert.Kernel5Ideal.Gen

/-- Whether a row goes to an expert: one or zero. -/
def hot (l : Fin 8 → EReal) (e : Fin 8) : EReal := if e = top1 l ∨ e = top2 l then 1 else 0
/-- How many of a tile's rows before row `r` go to an expert. -/
def before (ls : Fin 512 → Fin 8 → EReal) (r : Fin 512) (e : Fin 8) : EReal := ∑ t : Fin 512, if t.val < r.val then hot (ls t) e else 0
/-- How many of a tile's rows go to an expert. -/
def count (ls : Fin 512 → Fin 8 → EReal) (e : Fin 8) : EReal := ∑ t : Fin 512, hot (ls t) e
/-- How much less the second logit's exponential is than the first's. -/
def drop (l : Fin 8 → EReal) : EReal := Ideal.exp (l (top2 l) - l (top1 l))
/-- The first expert's gate. -/
def gate1 (l : Fin 8 → EReal) : EReal := Ideal.div 1 (1 + drop l)
/-- The second expert's gate. -/
def gate2 (l : Fin 8 → EReal) : EReal := Ideal.div (drop l) (1 + drop l)

/-- One of the eight experts among the sixteen rows of a block of logits. -/
def wide (e : Fin 8) : Fin 16 := ⟨e.val, by omega⟩

/-- A block of logits: the eight experts' rows, and eight rows that no row chooses. -/
def Logits (L : FVec Ideal S16x512 .f32) (ls : Fin 512 → Fin 8 → EReal) : Prop :=
  ∀ (e : Fin 16) (r : Fin 512), L (ix2 e r) = if h : e.val < 8 then ls r ⟨e.val, h⟩ else ⊥

/-- Where a block's logit is its row's greatest. -/
def Peaks (L : FVec Ideal S16x512 .f32) (ls : Fin 512 → Fin 8 → EReal) (B : IVec S16x512 1) : Prop :=
  ∀ (e : Fin 16) (r : Fin 512), B (ix2 e r) = Ideal.cmp .oeq (L (ix2 e r)) (ls r (top1 (ls r)))

/-- A block's row numbers. -/
abbrev nums : IVec S16x512 32 := iota .tc S16x512 32 [0] iota_S16x512_d0_w32

theorem negInf : Ideal.ofBits FTy.f32 4286578688#32 = ⊥ := by
  simp [Ideal.ofBits, Ideal.ieee]

theorem eq_bit : ∀ e a : Fin 16, IntOp.cmpi .eq (BitVec.ofNat 32 e.val) (BitVec.ofNat 32 a.val) = BitVec.ofBool (decide (e = a)) := by decide +kernel

variable {L : FVec Ideal S16x512 .f32} {ls : Fin 512 → Fin 8 → EReal} {B : IVec S16x512 1}

theorem at_wide (hL : Logits L ls) (e : Fin 8) (r : Fin 512) : L (ix2 (wide e) r) = ls r e := by
  rw [hL (wide e) r, dif_pos (show (wide e).val < 8 from e.isLt)]; rfl

theorem first_wide (hL : Logits L ls) (hf : ∀ r e, ls r e ≠ ⊥) (r : Fin 512) : IsFirst (fun e => L (ix2 e r)) (wide (top1 (ls r))) := by
  obtain ⟨h1, h2⟩ := top1_spec (ls r)
  refine ⟨fun e => ?_, fun e he => ?_⟩
  · show L (ix2 e r) ≤ L (ix2 (wide _) r)
    rw [at_wide hL, hL e r]
    split
    · exact h1 _
    · exact bot_le
  · show L (ix2 e r) < L (ix2 (wide _) r)
    rw [at_wide hL, hL e r]
    split
    · exact h2 _ he
    · exact bot_lt_iff_ne_bot.2 (hf r _)

/-- The logits without each row's first choice. -/
def rest (L : FVec Ideal S16x512 .f32) (ls : Fin 512 → Fin 8 → EReal) (e : Fin 16) (r : Fin 512) : EReal :=
  if e = wide (top1 (ls r)) then ⊥ else L (ix2 e r)

theorem rest_wide (hL : Logits L ls) (r : Fin 512) : rest L ls (wide (top2 (ls r))) r = ls r (top2 (ls r)) := by
  unfold rest
  rw [if_neg, at_wide hL]
  intro h
  have h' : (wide (top2 (ls r))).val = (wide (top1 (ls r))).val := congrArg Fin.val h
  exact (top2_spec (ls r)).1 (Fin.ext h')

theorem second_wide (hL : Logits L ls) (hf : ∀ r e, ls r e ≠ ⊥) (r : Fin 512) : IsFirst (fun e => rest L ls e r) (wide (top2 (ls r))) := by
  obtain ⟨h0, h1, h2⟩ := top2_spec (ls r)
  have ne : ∀ (e : Fin 16) (h : e.val < 8), e ≠ wide (top1 (ls r)) → (⟨e.val, h⟩ : Fin 8) ≠ top1 (ls r) := fun e h hne heq =>
    hne (Fin.ext (show e.val = (top1 (ls r)).val by rw [← heq]))
  refine ⟨fun e => ?_, fun e he => ?_⟩
  · show rest L ls e r ≤ rest L ls _ r
    rw [rest_wide hL]
    unfold rest
    split
    · exact bot_le
    · rename_i hne
      rw [hL e r]
      split
      · rename_i h; exact h1 _ (ne e h hne)
      · exact bot_le
  · show rest L ls e r < rest L ls _ r
    rw [rest_wide hL]
    unfold rest
    split
    · exact bot_lt_iff_ne_bot.2 (hf r _)
    · rename_i hne
      rw [hL e r]
      split
      · rename_i h; exact h2 _ (ne e h hne) he
      · exact bot_lt_iff_ne_bot.2 (hf r _)

/-! ## The first choice -/

theorem max_apply (X M : FVec Ideal S512x1024 .f32) (G : Vec Ideal S1x1024 .f32) (W : Vec Ideal S16x1024 .f32)
    (hL : Logits (k0_pay10 X M G W) ls) (hf : ∀ r e, ls r e ≠ ⊥) (r : Fin 512) : k0_pay11 X M G W (ix2 0 r) = ls r (top1 (ls r)) := by
  unfold k0_pay11
  pointwise
  rw [negInf]
  exact (fold_max _ _ (first_wide hL hf r).1).trans (at_wide hL _ r)

theorem peaks_apply (X M : FVec Ideal S512x1024 .f32) (G : Vec Ideal S1x1024 .f32) (W : Vec Ideal S16x1024 .f32)
    (hL : Logits (k0_pay10 X M G W) ls) (hf : ∀ r e, ls r e ≠ ⊥) : Peaks (k0_pay10 X M G W) ls (k0_pay12 X M G W) := by
  intro e r
  rw [← max_apply X M G W hL hf r]
  unfold k0_pay12
  pointwise

theorem place1_apply (hL : Logits L ls) (hB : Peaks L ls B) (hf : ∀ r e, ls r e ≠ ⊥) (r : Fin 512) :
    k0_pay13 nums B (ix2 0 r) = BitVec.ofNat 32 (wide (top1 (ls r))).val := by
  unfold k0_pay13
  pointwise
  refine Eq.trans ?_ (fold_first (fun e => L (ix2 e r)) _ (first_wide hL hf r))
  refine congrArg (fun f : Fin 16 → BitVec 32 => Finset.fold IntOp.minsi (2147483647#32) f Finset.univ) (funext fun x => ?_)
  rw [hB x r, at_wide hL]

/-! ## The second choice -/

theorem rest_apply (hL : Logits L ls) (hB : Peaks L ls B) (hf : ∀ r e, ls r e ≠ ⊥) (e : Fin 16) (r : Fin 512) :
    k0_pay14 nums L B (ix2 e r) = rest L ls e r := by
  unfold k0_pay14
  pointwise
  rw [place1_apply hL hB hf, eq_bit, negInf]
  exact bit_select _ _ _

theorem max2_apply (hL : Logits L ls) (hB : Peaks L ls B) (hf : ∀ r e, ls r e ≠ ⊥) (r : Fin 512) :
    k0_pay15 nums L B (ix2 0 r) = ls r (top2 (ls r)) := by
  unfold k0_pay15
  pointwise
  rw [negInf]
  refine (congrArg (fun f : Fin 16 → EReal => Finset.fold max ⊥ f Finset.univ) (funext fun x => rest_apply hL hB hf x r)).trans ?_
  exact (fold_max _ _ (second_wide hL hf r).1).trans (rest_wide hL r)

theorem place2_apply (hL : Logits L ls) (hB : Peaks L ls B) (hf : ∀ r e, ls r e ≠ ⊥) (r : Fin 512) :
    k0_pay16 nums L B (ix2 0 r) = BitVec.ofNat 32 (wide (top2 (ls r))).val := by
  unfold k0_pay16
  pointwise
  refine Eq.trans ?_ (fold_first (fun e => rest L ls e r) _ (second_wide hL hf r))
  refine congrArg (fun f : Fin 16 → BitVec 32 => Finset.fold IntOp.minsi (2147483647#32) f Finset.univ) (funext fun x => ?_)
  rw [rest_apply hL hB hf, max2_apply hL hB hf, rest_wide hL]
  exact (bit_select _ _ _).symm

/-! ## The gates -/

theorem drop_apply (M1 : FVec Ideal S1x512 .f32) (hM : ∀ r, M1 (ix2 0 r) = ls r (top1 (ls r))) (hL : Logits L ls) (hB : Peaks L ls B)
    (hf : ∀ r e, ls r e ≠ ⊥) (r : Fin 512) : k0_pay17 nums L M1 B (ix2 0 r) = drop (ls r) := by
  unfold k0_pay17
  pointwise
  rw [max2_apply hL hB hf, hM]
  rfl

theorem gate1_apply (M1 : FVec Ideal S1x512 .f32) (hM : ∀ r, M1 (ix2 0 r) = ls r (top1 (ls r))) (hL : Logits L ls) (hB : Peaks L ls B)
    (hf : ∀ r e, ls r e ≠ ⊥) (r : Fin 512) : k0_pay18 nums L M1 B (ix2 0 r) = gate1 (ls r) := by
  unfold k0_pay18
  pointwise
  rw [drop_apply M1 hM hL hB hf]
  rfl

theorem gate2_apply (M1 : FVec Ideal S1x512 .f32) (hM : ∀ r, M1 (ix2 0 r) = ls r (top1 (ls r))) (hL : Logits L ls) (hB : Peaks L ls B)
    (hf : ∀ r e, ls r e ≠ ⊥) (r : Fin 512) : k0_pay19 nums L M1 B (ix2 0 r) = gate2 (ls r) := by
  unfold k0_pay19
  pointwise
  rw [drop_apply M1 hM hL hB hf]
  rfl

/-! ## The counts -/

/-- Whether a row goes to an expert, on the sixteen rows. -/
def hotW (l : Fin 8 → EReal) (e : Fin 16) : EReal := if h : e.val < 8 then hot l ⟨e.val, h⟩ else 0

theorem hot_apply (hL : Logits L ls) (hB : Peaks L ls B) (hf : ∀ r e, ls r e ≠ ⊥) (e : Fin 16) (r : Fin 512) :
    k0_pay20 (F := Ideal) nums L B (ix2 e r) = hotW (ls r) e := by
  unfold k0_pay20
  pointwise
  rw [place1_apply hL hB hf, place2_apply hL hB hf, eq_bit, eq_bit]
  have hor : ∀ p q : Bool, IntOp.ori (BitVec.ofBool p) (BitVec.ofBool q) = BitVec.ofBool (p || q) := by decide
  rw [hor, ← Bool.decide_or]
  refine (bit_select _ _ _).trans ?_
  unfold hotW hot
  by_cases h : e.val < 8
  · rw [dif_pos h]
    have hw : ∀ a : Fin 8, e = wide a ↔ (⟨e.val, h⟩ : Fin 8) = a := fun a =>
      Fin.ext_iff.trans (Fin.ext_iff (a := (⟨e.val, h⟩ : Fin 8)) (b := a)).symm
    simp only [hw]
  · rw [dif_neg h, if_neg]
    have hw : ∀ a : Fin 8, e ≠ wide a := fun a he => h (by rw [he]; exact a.isLt)
    rintro (he | he) <;> exact hw _ he

/-- The triangle that picks the rows before a row. -/
def Tri (T : Vec Ideal S512x512 .bf16) : Prop := ∀ t r : Fin 512, T (ix2 t r) = if t.val < r.val then (1 : EReal) else 0

theorem before_apply {T : Vec Ideal S512x512 .bf16} (hT : Tri T) (hL : Logits L ls) (hB : Peaks L ls B) (hf : ∀ r e, ls r e ≠ ⊥)
    (e : Fin 8) (r : Fin 512) : k0_pay21 nums L B T (ix2 (wide e) r) = before ls r e := by
  unfold k0_pay21
  pointwise
  refine Finset.sum_congr rfl fun t _ => ?_
  rw [hot_apply hL hB hf, hT t r]
  unfold hotW
  rw [dif_pos (show (wide e).val < 8 from e.isLt)]
  by_cases h : t.val < r.val
  · rw [if_pos h, if_pos h]; exact mul_one _
  · rw [if_neg h, if_neg h]; exact mul_zero _

theorem pick_row (a : Fin 16) (f : Fin 16 → EReal) :
    ∑ x : Fin 16, Scalar.select (IntOp.cmpi .eq (BitVec.ofNat 32 x.val) (BitVec.ofNat 32 a.val)) (f x) 0 = f a := by
  refine (Finset.sum_congr rfl fun x _ => (congrArg (fun b => Scalar.select b (f x) 0) (eq_bit x a)).trans (bit_select _ _ _)).trans ?_
  rw [Finset.sum_ite_eq' Finset.univ a f, if_pos (Finset.mem_univ _)]

theorem rank1_apply {T : Vec Ideal S512x512 .bf16} (hT : Tri T) (hL : Logits L ls) (hB : Peaks L ls B) (hf : ∀ r e, ls r e ≠ ⊥) (r : Fin 512) :
    k0_pay22 nums L B T (ix2 0 r) = FloatOps.fptosi (F := Ideal) (φ := .f32) 32 (before ls r (top1 (ls r))) := by
  unfold k0_pay22
  pointwise
  refine congrArg (FloatOps.fptosi (F := Ideal) (φ := .f32) 32) ?_
  rw [place1_apply hL hB hf]
  exact (pick_row _ _).trans (before_apply hT hL hB hf _ r)

theorem slot0 : ∀ s : Fin 8, IntOp.cmpi .eq (BitVec.ofNat 32 s.val) 0#32 = BitVec.ofBool (decide (s.val = 0)) := by decide +kernel
theorem slot1 : ∀ s : Fin 8, IntOp.cmpi .eq (BitVec.ofNat 32 s.val) 1#32 = BitVec.ofBool (decide (s.val = 1)) := by decide +kernel
theorem slot2 : ∀ s : Fin 8, IntOp.cmpi .eq (BitVec.ofNat 32 s.val) 2#32 = BitVec.ofBool (decide (s.val = 2)) := by decide +kernel
theorem slot3 : ∀ s : Fin 8, IntOp.cmpi .eq (BitVec.ofNat 32 s.val) 3#32 = BitVec.ofBool (decide (s.val = 3)) := by decide +kernel

/-- What the first of the three routing results holds for a row. -/
def ranks (ls : Fin 512 → Fin 8 → EReal) (s : Fin 8) (r : Fin 512) : BitVec 32 :=
  if s.val = 0 then BitVec.ofNat 32 (top1 (ls r)).val
  else if s.val = 1 then BitVec.ofNat 32 (top2 (ls r)).val
  else if s.val = 2 then FloatOps.fptosi (F := Ideal) (φ := .f32) 32 (before ls r (top1 (ls r)))
  else if s.val = 3 then FloatOps.fptosi (F := Ideal) (φ := .f32) 32 (before ls r (top2 (ls r)))
  else 0#32

/-- What the second holds. -/
def gates (l : Fin 8 → EReal) (s : Fin 8) : EReal := if s.val = 0 then gate1 l else if s.val = 1 then gate2 l else 0

theorem ranks_apply {T : Vec Ideal S512x512 .bf16} (hT : Tri T) (hL : Logits L ls) (hB : Peaks L ls B) (hf : ∀ r e, ls r e ≠ ⊥) (s : Fin 8) (r : Fin 512) :
    k0_pay23 nums (k0_pay13 nums B) (k0_pay16 nums L B) (k0_pay21 nums L B T) (k0_pay22 nums L B T) (ix2 s r)
      = ranks ls s r := by
  unfold k0_pay23
  pointwise
  rw [place1_apply hL hB hf, place2_apply hL hB hf, rank1_apply hT hL hB hf, slot0, slot1, slot2, slot3,
    (pick_row (wide (top2 (ls r))) fun x => k0_pay21 nums L B T (ix2 x r)).trans (before_apply hT hL hB hf (top2 (ls r)) r)]
  refine (bit_select _ _ _).trans (congrArg (fun b : BitVec 32 => if s.val = 0 then BitVec.ofNat 32 (top1 (ls r)).val else b) ?_)
  refine (bit_select _ _ _).trans (congrArg (fun b : BitVec 32 => if s.val = 1 then BitVec.ofNat 32 (top2 (ls r)).val else b) ?_)
  refine (bit_select _ _ _).trans (congrArg (fun b : BitVec 32 => if s.val = 2 then FloatOps.fptosi (F := Ideal) (φ := .f32) 32 (before ls r (top1 (ls r))) else b) ?_)
  exact bit_select _ _ _

theorem gates_apply (g1 g2 : FVec Ideal S1x512 .f32) (s : Fin 8) (r : Fin 512) :
    k0_pay24 g1 g2 (ix2 s r) = if s.val = 0 then g1 (ix2 0 r) else if s.val = 1 then g2 (ix2 0 r) else 0 := by
  unfold k0_pay24
  pointwise
  rw [slot0, slot1]
  refine (bit_select _ _ _).trans (congrArg (fun b : EReal => if s.val = 0 then g1 (ix2 0 r) else b) ?_)
  exact bit_select _ _ _

/-- What the third holds. -/
def counts (ls : Fin 512 → Fin 8 → EReal) (e : Fin 16) : EReal := if h : e.val < 8 then count ls ⟨e.val, h⟩ else 0

theorem count_apply (hL : Logits L ls) (hB : Peaks L ls B) (hf : ∀ r e, ls r e ≠ ⊥) (e : Fin 16) (c : Fin 128) :
    k0_pay1 (k0_pay25 (k0_pay20 (F := Ideal) nums L B)) (ix3 0 e c) = counts ls e := by
  unfold k0_pay1 k0_pay25
  pointwise
  refine (Finset.sum_congr rfl fun t _ => hot_apply hL hB hf _ _).trans ?_
  unfold hotW counts
  by_cases h : e.val < 8
  · simp only [dif_pos h]; rfl
  · simp only [dif_neg h]; exact Finset.sum_const_zero

end Cert.Route
end
-- ==== Proof.RouteOut.lean ====
/- The three routing blocks that a grid point of the expert layer's mixing call leaves, from the blocks it reads. -/
module

public import proofs.«01_k».proof.Proof.RouteTop

@[expose] public section

set_option maxRecDepth 16384
noncomputable section

namespace Cert.Route

open Idealize.ShloMosaic Idealize.ShloMosaic.TcCoe Idealize.ShloMosaic.Tactic
open Idealize.ShloMosaic.Pointwise
open Cert.In (nrm rowScale zero2)
open Cert.Top
open Cert.Kernel5Ideal Cert.Kernel5Ideal.Gen

/-! ## Finite rows -/

/-- A value that is a real number. -/
def Fine (x : EReal) : Prop := ∃ a : ℝ, x = a

theorem Fine.mul {x y : EReal} (hx : Fine x) (hy : Fine y) : Fine (x * y) := by
  obtain ⟨a, rfl⟩ := hx; obtain ⟨b, rfl⟩ := hy
  exact ⟨a * b, (EReal.coe_mul a b).symm⟩

theorem Fine.sum {ι : Type} (s : Finset ι) (f : ι → EReal) (h : ∀ k, Fine (f k)) : Fine (∑ k ∈ s, f k) := by
  choose a ha using h
  refine ⟨∑ k ∈ s, a k, ?_⟩
  simp only [ha]
  exact (map_sum (⟨⟨(fun x : ℝ => (x : EReal)), EReal.coe_zero⟩, EReal.coe_add⟩ : ℝ →+ EReal) a s).symm

theorem Fine.ne_bot {x : EReal} (h : Fine x) : x ≠ ⊥ := by
  obtain ⟨a, rfl⟩ := h; exact EReal.coe_ne_bot a

theorem Fine.sub_self {x : EReal} (h : Fine x) : x - x = 0 := by
  obtain ⟨a, rfl⟩ := h
  rw [← EReal.coe_sub, _root_.sub_self, EReal.coe_zero]

theorem sq_nonneg' (x : EReal) : 0 ≤ x * x := by
  induction x with
  | bot => simp
  | top => simp
  | coe a => rw [← EReal.coe_mul]; exact EReal.coe_nonneg.2 (mul_self_nonneg a)

theorem width_val : Ideal.ofBits FTy.f32 0x44800000#32 = ((1024 : ℝ) : EReal) := by
  simp [Ideal.ofBits, Ideal.ieee, -EReal.coe_mul]; norm_num

theorem eps_val : Ideal.ofBits FTy.f32 0x358637BD#32 = ((8796093 / 2 ^ 43 : ℝ) : EReal) := by
  simp [Ideal.ofBits, Ideal.ieee, -EReal.coe_mul]; norm_num

/-- A row's normalised entries are real numbers whatever the row, when the scale is. -/
theorem nrm_fine (v g : Fin 1024 → EReal) (hg : ∀ j, Fine (g j)) (j : Fin 1024) : Fine (nrm v g j) := by
  unfold nrm
  refine Fine.mul ?_ (hg j)
  by_cases h : ∀ k, Fine (v k)
  · refine Fine.mul (h j) ?_
    obtain ⟨q, hq⟩ := Fine.sum Finset.univ (fun x => v x * v x) fun k => (h k).mul (h k)
    have hq0 : 0 ≤ q := by
      have : (0 : EReal) ≤ (q : EReal) := hq ▸ Finset.sum_nonneg fun k _ => sq_nonneg' (v k)
      exact EReal.coe_nonneg.1 this
    have hp : 0 < q / 1024 + 8796093 / 2 ^ 43 := by positivity
    refine ⟨(Real.sqrt (q / 1024 + 8796093 / 2 ^ 43))⁻¹, ?_⟩
    unfold rowScale
    rw [hq, width_val, eps_val]
    have hd : Ideal.div (q : EReal) ((1024 : ℝ) : EReal) = ((q / 1024 : ℝ) : EReal) := by
      simp only [Ideal.div]
      rw [if_neg (EReal.coe_ne_zero.2 (by norm_num)), ← EReal.coe_inv, ← EReal.coe_mul]; rfl
    rw [hd, ← EReal.coe_add, Ideal.rsqrt_coe, if_neg (not_lt.2 hp.le), if_neg hp.ne']
  · have hk : ∃ k, v k * v k = ⊤ := by
      by_contra hc
      refine h fun k => ?_
      have hk : v k * v k ≠ ⊤ := fun e => hc ⟨k, e⟩
      revert hk
      induction v k with
      | bot => intro hk; exact absurd (by simp) hk
      | top => intro hk; exact absurd (by simp) hk
      | coe a => intro _; exact ⟨a, rfl⟩
    obtain ⟨k, hk⟩ := hk
    have hs : ∑ x, v x * v x = ⊤ :=
      top_le_iff.1 (hk ▸ Finset.single_le_sum (f := fun x => v x * v x) (fun x _ => sq_nonneg' (v x)) (Finset.mem_univ k))
    have hr : rowScale v = 0 := by
      unfold rowScale
      rw [hs, width_val, eps_val]
      have hd : Ideal.div ⊤ ((1024 : ℝ) : EReal) = ⊤ := by
        simp only [Ideal.div]
        rw [if_neg (EReal.coe_ne_zero.2 (by norm_num)), ← EReal.coe_inv]
        exact EReal.top_mul_coe_of_pos (by norm_num)
      rw [hd, EReal.top_add_coe, Ideal.rsqrt_top]
    exact ⟨0, by rw [hr, mul_zero, EReal.coe_zero]⟩

/-! ## The logits -/

/-- A row's logits: the normalised row against the router. -/
def lg (v g : Fin 1024 → EReal) (w : Fin 1024 → Fin 8 → EReal) (e : Fin 8) : EReal := ∑ j, nrm v g j * w j e

theorem lg_fine (v g : Fin 1024 → EReal) (w : Fin 1024 → Fin 8 → EReal) (hg : ∀ j, Fine (g j)) (hw : ∀ j e, Fine (w j e)) (e : Fin 8) :
    Fine (lg v g w e) := Fine.sum _ _ fun j => (nrm_fine v g hg j).mul (hw j e)

theorem below8 : ∀ e : Fin 16, IntOp.cmpi .slt (BitVec.ofNat 32 e.val) 8#32 = BitVec.ofBool (decide (e.val < 8)) := by decide +kernel

theorem logits_apply (X M : FVec Ideal S512x1024 .f32) (G : Vec Ideal S1x1024 .f32) (W : Vec Ideal S16x1024 .f32) (w : Fin 1024 → Fin 8 → EReal)
    (hW : ∀ (e : Fin 8) (j : Fin 1024), W (ix2 (wide e) j) = w j e) (hw : ∀ j e, Fine (w j e)) (hg : ∀ j : Fin 1024, Fine (G (ix2 0 j))) :
    Logits (k0_pay10 X M G W) fun r => lg (fun j => k0_pay7 X M (ix2 r j)) (fun j => G (ix2 0 j)) w := by
  intro e r
  unfold k0_pay10
  pointwise
  rw [below8, negInf]
  refine (bit_select _ _ _).trans ?_
  by_cases h : e.val < 8
  · rw [if_pos h, dif_pos h]
    have hWe : ∀ j : Fin 1024, W (ix2 e j) = w j ⟨e.val, h⟩ := fun j => hW ⟨e.val, h⟩ j
    have hn : ∀ j : Fin 1024, k0_pay8 X M G (ix2 r j) = nrm (fun j => k0_pay7 X M (ix2 r j)) (fun j => G (ix2 0 j)) j := fun j => nrm_apply X M G r j
    have h1 : ∑ x : Fin 1024, (W (ix2 e x) - W (ix2 e x)) * k0_pay9 X M G (ix2 r x) = 0 :=
      Finset.sum_eq_zero fun x _ => by rw [hWe x, (hw x _).sub_self]; exact zero_mul _
    have h2 : ∑ x : Fin 1024, W (ix2 e x) * (k0_pay8 X M G (ix2 r x) - k0_pay9 X M G (ix2 r x)) = 0 :=
      Finset.sum_eq_zero fun x _ => by rw [hn, nrm_apply, (nrm_fine _ _ hg x).sub_self]; exact mul_zero _
    refine (congrArg₂ (fun a b : EReal => ∑ x : Fin 1024, W (ix2 e x) * k0_pay9 X M G (ix2 r x) + a + b) h1 h2).trans ?_
    show _ + (0 : EReal) + 0 = _
    rw [add_zero, add_zero]
    refine Finset.sum_congr rfl fun x _ => ?_
    rw [hWe, nrm_apply]
    exact mul_comm _ _
  · rw [if_neg h, dif_neg h]

/-! ## The blocks left -/

theorem zero3 : (![0, 0, 0] : Fin 3 → Nat) = fun _ => 0 := by decide

variable (i : grid0.Coords) (x0 : Vec Ideal S512x1024 .f32) (x1 x2 : Vec Ideal S512x512 .bf16) (x3 : Vec Ideal S512x512 .f32)
    (x4 : Vec Ideal S8x512 .f32) (x5 x6 : Vec Ideal S512x1024 .bf16) (x7 : Vec Ideal S8x512 .f32) (x8 x9 : Vec Ideal S512x1024 .bf16)
    (x10 : Vec Ideal S1024x1024 .bf16) (x11 : Vec Ideal S1x1024 .f32) (x12 : Vec Ideal S16x1024 .f32) (x13 : Vec Ideal S512x512 .bf16)

/-- The logits of a block's rows. -/
def blg (w : Fin 1024 → Fin 8 → EReal) (r : Fin 512) : Fin 8 → EReal :=
  lg (bresid i x0 x1 x2 x3 x4 x5 x6 x7 x8 x9 x10 r) (fun j => x11 (ix2 0 j)) w

variable (w : Fin 1024 → Fin 8 → EReal) (hW : ∀ (e : Fin 8) (j : Fin 1024), x12 (ix2 (wide e) j) = w j e) (hw : ∀ j e, Fine (w j e))
    (hg : ∀ j : Fin 1024, Fine (x11 (ix2 0 j)))
include hW hw hg

theorem block_logits : Logits (k0_pay28 i x0 x1 x2 x3 x4 x5 x6 x7 x8 x9 x10 x11 x12 x13) (blg i x0 x1 x2 x3 x4 x5 x6 x7 x8 x9 x10 x11 w) := by
  intro e r
  have h := logits_apply (View.ld x0 r0_6) (k0_pay26 i x0 x1 x2 x3 x4 x5 x6 x7 x8 x9 x10 x11 x12 x13) x11 x12 w hW hw hg e r
  unfold k0_pay28
  rw [show View.ld x11 r0_8 = x11 from View.ld_unit_zero zero2 _ x11, show View.ld x12 r0_9 = x12 from View.ld_unit_zero zero2 _ x12]
  refine h.trans ?_
  have e2 : (fun j => k0_pay7 (View.ld x0 r0_6) (k0_pay26 i x0 x1 x2 x3 x4 x5 x6 x7 x8 x9 x10 x11 x12 x13) (ix2 r j))
      = bresid i x0 x1 x2 x3 x4 x5 x6 x7 x8 x9 x10 r := funext fun j => total_apply i x0 x1 x2 x3 x4 x5 x6 x7 x8 x9 x10 x11 x12 x13 r j
  simp only [e2]
  rfl

theorem block_fine (r : Fin 512) (e : Fin 8) : blg i x0 x1 x2 x3 x4 x5 x6 x7 x8 x9 x10 x11 w r e ≠ ⊥ := (lg_fine _ _ _ hg hw e).ne_bot

theorem block_max (r : Fin 512) : k0_pay29 i x0 x1 x2 x3 x4 x5 x6 x7 x8 x9 x10 x11 x12 x13 (ix2 0 r)
    = blg i x0 x1 x2 x3 x4 x5 x6 x7 x8 x9 x10 x11 w r (top1 (blg i x0 x1 x2 x3 x4 x5 x6 x7 x8 x9 x10 x11 w r)) :=
  max_apply _ _ _ _ (block_logits i x0 x1 x2 x3 x4 x5 x6 x7 x8 x9 x10 x11 x12 x13 w hW hw hg)
    (block_fine i x0 x1 x2 x3 x4 x5 x6 x7 x8 x9 x10 x11 x12 w hW hw hg) r

theorem block_peaks : Peaks (k0_pay28 i x0 x1 x2 x3 x4 x5 x6 x7 x8 x9 x10 x11 x12 x13) (blg i x0 x1 x2 x3 x4 x5 x6 x7 x8 x9 x10 x11 w)
    (k0_pay30 i x0 x1 x2 x3 x4 x5 x6 x7 x8 x9 x10 x11 x12 x13) :=
  peaks_apply _ _ _ _ (block_logits i x0 x1 x2 x3 x4 x5 x6 x7 x8 x9 x10 x11 x12 x13 w hW hw hg)
    (block_fine i x0 x1 x2 x3 x4 x5 x6 x7 x8 x9 x10 x11 x12 w hW hw hg)

theorem out16_apply (hT : Tri x13) (s : Fin 8) (r : Fin 512) :
    out0_16 (F := Ideal) i x0 x1 x2 x3 x4 x5 x6 x7 x8 x9 x10 x11 x12 x13 (ix2 s r) = ranks (blg i x0 x1 x2 x3 x4 x5 x6 x7 x8 x9 x10 x11 w) s r := by
  refine (congrFun (View.canon_unit_zero zero2 _ _) _).trans ?_
  rw [show View.ld x13 r0_0 = x13 from View.ld_unit_zero zero2 _ x13]
  exact ranks_apply hT (block_logits i x0 x1 x2 x3 x4 x5 x6 x7 x8 x9 x10 x11 x12 x13 w hW hw hg)
    (block_peaks i x0 x1 x2 x3 x4 x5 x6 x7 x8 x9 x10 x11 x12 x13 w hW hw hg)
    (block_fine i x0 x1 x2 x3 x4 x5 x6 x7 x8 x9 x10 x11 x12 w hW hw hg) s r

theorem out17_apply (s : Fin 8) (r : Fin 512) :
    out0_17 i x0 x1 x2 x3 x4 x5 x6 x7 x8 x9 x10 x11 x12 x13 (ix2 s r) = gates (blg i x0 x1 x2 x3 x4 x5 x6 x7 x8 x9 x10 x11 w r) s := by
  refine (congrFun (View.canon_unit_zero zero2 _ _) _).trans ((gates_apply _ _ s r).trans ?_)
  have hL := block_logits i x0 x1 x2 x3 x4 x5 x6 x7 x8 x9 x10 x11 x12 x13 w hW hw hg
  have hB := block_peaks i x0 x1 x2 x3 x4 x5 x6 x7 x8 x9 x10 x11 x12 x13 w hW hw hg
  have hf := block_fine i x0 x1 x2 x3 x4 x5 x6 x7 x8 x9 x10 x11 x12 w hW hw hg
  have hM := block_max i x0 x1 x2 x3 x4 x5 x6 x7 x8 x9 x10 x11 x12 x13 w hW hw hg
  unfold gates
  exact congrArg₂ (fun a b : EReal => if s.val = 0 then a else if s.val = 1 then b else 0) (gate1_apply _ hM hL hB hf r) (gate2_apply _ hM hL hB hf r)

theorem out18_apply (e : Fin 16) (k : Fin 128) :
    out0_18 i x0 x1 x2 x3 x4 x5 x6 x7 x8 x9 x10 x11 x12 x13 (ix3 0 e k) = counts (blg i x0 x1 x2 x3 x4 x5 x6 x7 x8 x9 x10 x11 w) e := by
  refine (congrFun (View.canon_unit_zero zero3 _ _) _).trans ?_
  exact count_apply (block_logits i x0 x1 x2 x3 x4 x5 x6 x7 x8 x9 x10 x11 x12 x13 w hW hw hg)
    (block_peaks i x0 x1 x2 x3 x4 x5 x6 x7 x8 x9 x10 x11 x12 x13 w hW hw hg)
    (block_fine i x0 x1 x2 x3 x4 x5 x6 x7 x8 x9 x10 x11 x12 w hW hw hg) e k

end Cert.Route
end
-- ==== Proof.RouteFinal.lean ====
/- The expert layer's mixing call leaves, in its three routing arrays, what each row's logits choose. -/
module

public import proofs.«01_k».proof.Proof.RouteArray
public import proofs.«01_k».proof.Proof.RouteOut

@[expose] public section

set_option maxRecDepth 16384
noncomputable section

namespace Cert.Route

open Idealize.ShloMosaic Idealize.ShloMosaic.TcCoe Idealize.ShloMosaic.Tactic
open Idealize.ShloMosaic.Pointwise
open Cert.Kernel5Ideal Cert.Kernel5Ideal.Gen Cert.Kernel5Ideal.Value

variable (m : (ℓ : Loc nD τ sig) → Buf (Elt Ideal) ℓ) (c : Dev nD)

/-! ## The router and the triangle as the call finds them -/

/-- The router. -/
abbrev rin : FVec Ideal S1024x8 .f32 := m ((c : Thread nD τ).loc main_arg11)

theorem V_router : V m c main_v6 = pad S16x1024 ![0, 0] ![8, 0] ![0, 0] (transpose S8x1024 [1, 0] (rin m c) transposes_S1024x8_S8x1024_1_0)
    (sitofp .f32 (constantI S_ 32 0#32)) pads_S8x1024_S16x1024_080_000 h_S_ := by
  simp only [V, hostOps0, hostOps0_1, hostOps0_2, hostOps0_3, hostOps0_4, hostOps0_5, hostOps0_6, List.flatten_cons, List.flatten_nil,
    List.append_nil, List.cons_append, List.nil_append, StableHlo.TRef.unary, StableHlo.TRef.binary, StableHlo.TRef.toBuf,
    StableHlo.TRef.ofBuf, cast_eq]
  after_results_simp

theorem V_tri : V m c main_v11 = truncf .bf16 (select (cmpi .slt (iotaInDim S512x512 32 0) (iotaInDim S512x512 32 1))
    (broadcastInDim S512x512 ![] bcast_S_S512x512 (constant (F := Ideal) S_ .f32 0x3F800000#32))
    (broadcastInDim S512x512 ![] bcast_S_S512x512 (constant (F := Ideal) S_ .f32 0x00000000#32))) bitsLt_bf16_f32 := by
  simp only [V, hostOps0, hostOps0_1, hostOps0_2, hostOps0_3, hostOps0_4, hostOps0_5, hostOps0_6, List.flatten_cons, List.flatten_nil,
    List.append_nil, List.cons_append, List.nil_append, StableHlo.TRef.unary, StableHlo.TRef.binary, StableHlo.TRef.toBuf,
    StableHlo.TRef.ofBuf, cast_eq]
  after_results_simp
  rfl

theorem slt_small (a b : Fin 512) : IntOp.cmpi .slt (BitVec.ofNat 32 a.val) (BitVec.ofNat 32 b.val) = BitVec.ofBool (decide (a.val < b.val)) := by
  have hv : ∀ x : Fin 512, (BitVec.ofNat 32 x.val).toInt = (x.val : ℤ) := by
    intro x
    have hx := x.isLt
    have hn : (BitVec.ofNat 32 x.val).toNat = x.val := by rw [BitVec.toNat_ofNat]; omega
    rw [BitVec.toInt_eq_toNat_of_lt (by rw [hn]; omega), hn]
  show BitVec.ofBool (BitVec.slt _ _) = _
  rw [BitVec.slt_eq_decide, hv, hv]
  simp only [Nat.cast_lt]

theorem one_val : Ideal.ofBits FTy.f32 1065353216#32 = 1 := by
  have h : Ideal.ofBits FTy.f32 1065353216#32 = ((8388608 * (2 ^ 23)⁻¹ : ℝ) : EReal) := by
    simp [Ideal.ofBits, Ideal.ieee, -EReal.coe_mul]
  rw [h, show (8388608 * (2 ^ 23)⁻¹ : ℝ) = 1 by norm_num, EReal.coe_one]

theorem tri_apply : Tri (V m c main_v11 : FVec Ideal S512x512 .bf16) := by
  intro t r
  rw [V_tri]
  pointwise
  rw [slt_small]
  exact Cert.Top.bit_select _ _ _

/-! ## The blocks -/

theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 2) = 0 ∧ win0_13.index t (1 : Fin 2) = 0 := (by decide +kernel : ∀ t : Fin grid0.N, _)
theorem idx16 : ∀ t : Fin cfg0.N, win0_16.index t (0 : Fin 2) = 0 ∧ win0_16.index t (1 : Fin 2) = t.val := (by decide +kernel : ∀ t : Fin grid0.N, _)
theorem idx17 : ∀ t : Fin cfg0.N, win0_17.index t (0 : Fin 2) = 0 ∧ win0_17.index t (1 : Fin 2) = t.val := (by decide +kernel : ∀ t : Fin grid0.N, _)
theorem idx18 : ∀ t : Fin cfg0.N, win0_18.index t (0 : Fin 3) = t.val ∧ win0_18.index t (1 : Fin 3) = 0 ∧ win0_18.index t (2 : Fin 3) = 0 :=
  (by decide +kernel : ∀ t : Fin grid0.N, _)

variable (t : Fin cfg0.N)

theorem emb12 (r : Fin 16) (j : Fin 1024) : ((cfg0.win 12).blk t).view.emb (ix2 r j : S16x1024.Idx) = (ix2 r j : S16x1024.Idx) := by
  obtain ⟨e0, e1⟩ := idx12 t
  funext a; apply Fin.ext
  match a with
  | ⟨0, _⟩ => show win0_12.index t (0 : Fin 2) * 16 + 1 * r.val = r.val; omega
  | ⟨1, _⟩ => show win0_12.index t (1 : Fin 2) * 1024 + 1 * j.val = j.val; omega

theorem iblk12 (e : Fin 8) (j : Fin 1024) : (iblk m c 12 t : Vec Ideal S16x1024 .f32) (ix2 (wide e) j) = rin m c (ix2 j e) := by
  show V m c main_v6 (((cfg0.win 12).blk t).view.emb (ix2 (wide e) j : S16x1024.Idx)) = _
  rw [emb12, V_router]
  unfold wide
  pointwise

theorem emb13 (r j : Fin 512) : ((cfg0.win 13).blk t).view.emb (ix2 r j : S512x512.Idx) = (ix2 r j : S512x512.Idx) := by
  obtain ⟨e0, e1⟩ := idx13 t
  funext a; apply Fin.ext
  match a with
  | ⟨0, _⟩ => show win0_13.index t (0 : Fin 2) * 512 + 1 * r.val = r.val; omega
  | ⟨1, _⟩ => show win0_13.index t (1 : Fin 2) * 512 + 1 * j.val = j.val; omega

theorem iblk13 : Tri (iblk m c 13 t : Vec Ideal S512x512 .bf16) := by
  intro r j
  show V m c main_v11 (((cfg0.win 13).blk t).view.emb (ix2 r j : S512x512.Idx)) = _
  rw [emb13]
  exact tri_apply m c r j

theorem emb16 (s : Fin 8) (r : Fin 512) : ((cfg0.win 16).blk t).view.emb (ix2 s r : S8x512.Idx) = (ix2 s (rowG t r) : S8x16384.Idx) := by
  obtain ⟨e0, e1⟩ := idx16 t
  funext a; apply Fin.ext
  match a with
  | ⟨0, _⟩ => show win0_16.index t (0 : Fin 2) * 8 + 1 * s.val = s.val; omega
  | ⟨1, _⟩ => show win0_16.index t (1 : Fin 2) * 512 + 1 * r.val = t.val * 512 + r.val; omega

theorem emb17 (s : Fin 8) (r : Fin 512) : ((cfg0.win 17).blk t).view.emb (ix2 s r : S8x512.Idx) = (ix2 s (rowG t r) : S8x16384.Idx) := by
  obtain ⟨e0, e1⟩ := idx17 t
  funext a; apply Fin.ext
  match a with
  | ⟨0, _⟩ => show win0_17.index t (0 : Fin 2) * 8 + 1 * s.val = s.val; omega
  | ⟨1, _⟩ => show win0_17.index t (1 : Fin 2) * 512 + 1 * r.val = t.val * 512 + r.val; omega

theorem emb18 (e : Fin 16) (k : Fin 128) : ((cfg0.win 18).blk t).view.emb (ix3 0 e k : S1x16x128.Idx) = (ix3 ⟨t.val, tlt t⟩ e k : S32x16x128.Idx) := by
  obtain ⟨e0, e1, e2⟩ := idx18 t
  funext a; apply Fin.ext
  match a with
  | ⟨0, _⟩ => show win0_18.index t (0 : Fin 3) * 1 + 1 * 0 = t.val; omega
  | ⟨1, _⟩ => show win0_18.index t (1 : Fin 3) * 16 + 1 * e.val = e.val; omega
  | ⟨2, _⟩ => show win0_18.index t (2 : Fin 3) * 128 + 1 * k.val = k.val; omega

/-- A row's logits, of the call's arguments. -/
abbrev rowL (R : Fin 16384) : Fin 8 → EReal := lg (rowK m c R) (fun j => gin m c (ix1 j)) (fun j e => rin m c (ix2 j e))

theorem block_lg : blg (grid0.coords t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (fun j e => rin m c (ix2 j e)) = fun r => rowL m c (rowG t r) := by
  funext r
  unfold blg
  rw [block_mix]
  exact congrArg (fun g : Fin 1024 → EReal => lg (rowK m c (rowG t r)) g fun j e => rin m c (ix2 j e)) (funext fun j => iblk11 m c t j)

/-! ## The three arrays -/

variable (hg : ∀ j : Fin 1024, Fine (gin m c (ix1 j))) (hw : ∀ (j : Fin 1024) (e : Fin 8), Fine (rin m c (ix2 j e)))
include hg hw

theorem final16 (s : Fin 8) (r : Fin 512) :
    ((dats m 0 c).arrAt 16 cfg0.N : S8x16384.Idx → BitVec 32) (ix2 s (rowG t r)) = ranks (fun q => rowL m c (rowG t q)) s r := by
  have h := congrFun ((blocks16 m c t (flush0_16 _)).trans (flushed16 m c t)) (ix2 s r)
  refine (congrArg ((dats m 0 c).arrAt 16 cfg0.N) (emb16 t s r)).symm.trans (h.trans ((out16_apply _ _ _ _ _ _ _ _ _ _ _ _ _ _ _
    (fun j e => rin m c (ix2 j e)) (iblk12 m c t) hw (fun j => (iblk11 m c t j).symm ▸ hg j) (iblk13 m c t) s r).trans ?_))
  rw [block_lg]

theorem final17 (s : Fin 8) (r : Fin 512) :
    ((dats m 0 c).arrAt 17 cfg0.N : S8x16384.Idx → EReal) (ix2 s (rowG t r)) = gates (rowL m c (rowG t r)) s := by
  have h := congrFun ((blocks17 m c t (flush0_17 _)).trans (flushed17 m c t)) (ix2 s r)
  refine (congrArg ((dats m 0 c).arrAt 17 cfg0.N) (emb17 t s r)).symm.trans (h.trans ((out17_apply _ _ _ _ _ _ _ _ _ _ _ _ _ _ _
    (fun j e => rin m c (ix2 j e)) (iblk12 m c t) hw (fun j => (iblk11 m c t j).symm ▸ hg j) s r).trans ?_))
  rw [block_lg]

theorem final18 (e : Fin 16) (k : Fin 128) :
    ((dats m 0 c).arrAt 18 cfg0.N : S32x16x128.Idx → EReal) (ix3 ⟨t.val, tlt t⟩ e k) = counts (fun q => rowL m c (rowG t q)) e := by
  have h := congrFun ((blocks18 m c t (flush0_18 _)).trans (flushed18 m c t)) (ix3 0 e k)
  refine (congrArg ((dats m 0 c).arrAt 18 cfg0.N) (emb18 t e k)).symm.trans (h.trans ((out18_apply _ _ _ _ _ _ _ _ _ _ _ _ _ _ _
    (fun j e => rin m c (ix2 j e)) (iblk12 m c t) hw (fun j => (iblk11 m c t j).symm ▸ hg j) e k).trans ?_))
  rw [block_lg]

end Cert.Route
end
-- ==== Proof.RouteRef.lean ====
/- The reference's choice of experts from an array of logits: the two greatest of a row, their gates, their ranks, the counts. -/
module

public import proofs.«01_k».proof.Proof.RouteOut
public import proofs.«01_k».proof.Proof.Ref
public import proofs.«01_k».proof.Proof.Gen.Reference5Ideal.Run

@[expose] public section

set_option maxRecDepth 16384
noncomputable section

namespace Cert.Route

open Idealize.ShloMosaic Idealize.ShloMosaic.TcCoe Idealize.ShloMosaic.Tactic
open Idealize.ShloMosaic.Pointwise
open Cert.Top
open Cert.Reference5Ideal Cert.Reference5Ideal.Gen

variable (L : FVec Ideal S16384x8 .f32)

/-! ## The reference's operations, on the logits -/

/-- The two greatest logits of each row and their places. -/
abbrev twoA : FVec Ideal S16384x2 .f32 × IVec S16384x2 32 := Host.topK S16384x2 1 (FloatOps.cmpfTotal .gt) L sliceFits_S16384x8_S16384x2

/-- Which expert each choice is. -/
def hotA : FVec Ideal S16384x2x8 .f32 :=
  uitofp .f32 (cmpi .eq (broadcastInDim S16384x2x8 ![0, 1, 2] bcast_S16384x2x1_S16384x2x8_0_1_2
      (broadcastInDim S16384x2x1 ![0, 1] bcast_S16384x2_S16384x2x1_0_1 (twoA L).2))
    (broadcastInDim S16384x2x8 ![0, 1, 2] bcast_S1x1x8_S16384x2x8_0_1_2 (iotaInDim S1x1x8 32 2)))

/-- Which experts each row goes to, a tile at a time. -/
def tilesA : FVec Ideal S32x512x8 .f32 :=
  shapeCast _ (Host.reduceAdd (hotA L) (constant S_ .f32 0x00000000#32) reducesTo_S16384x2x8_S16384x8_d1 h_S_) shapeCasts_S16384x8_S32x512x8

/-- How many of a tile's rows up to each row go to each expert. -/
def uptoA : FVec Ideal S32x512x8 .f32 :=
  Host.reduceWindowAdd ![1, 512, 1] ![1, 1, 1] ![0, 511, 0] ![0, 0, 0] (tilesA L) (broadcastInDim S_ ![] bcast_S_S_ (constant S_ .f32 0x00000000#32))
    reduceWindows_S32x512x8_S32x512x8_w1s1p0_0_w512s1p511_0_w1s1p0_0 h_S_

/-- Each choice's place among its tile's rows of the same expert. -/
def rankA : IVec S16384x2 32 :=
  fptosi 32 (Host.reduceAdd (mulf (hotA L) (broadcastInDim S16384x2x8 ![0, 1, 2] bcast_S16384x1x8_S16384x2x8_0_1_2
    (shapeCast _ (subf (uptoA L) (tilesA L)) shapeCasts_S32x512x8_S16384x1x8))) (constant S_ .f32 0x00000000#32) reducesTo_S16384x2x8_S16384x2_d2 h_S_
    : FVec Ideal S16384x2 .f32)

/-- The places and the ranks, with rows of zeros after them. -/
def ranksA : IVec S8x16384 32 :=
  concatenate S8x16384 0 [⟨S2x16384, transpose S2x16384 [1, 0] (twoA L).2 transposes_S16384x2_S2x16384_1_0⟩,
    ⟨S2x16384, transpose S2x16384 [1, 0] (rankA L) transposes_S16384x2_S2x16384_1_0⟩,
    ⟨S4x16384, broadcastInDim S4x16384 ![] bcast_S_S4x16384 (constantI S_ 32 0#32)⟩] concatenates_S2x16384_S2x16384_S4x16384_S8x16384_d0

/-- The exponentials of the two logits less the greater. -/
def dropsA : FVec Ideal S16384x2 .f32 :=
  Host.exp (subf (twoA L).1 (broadcastInDim S16384x2 ![0, 1] bcast_S16384x1_S16384x2_0_1 (broadcastInDim S16384x1 ![0] bcast_S16384_S16384x1_0
    (maximumf (broadcastInDim S16384 ![] bcast_S_S16384 (constant S_ .f32 0xFF800000#32))
      (Host.reduce FloatOps.maximumf (twoA L).1 (constant S_ .f32 0xFF800000#32) reducesTo_S16384x2_S16384_d1 h_S_)))))

/-- The two gates. -/
def gateA : FVec Ideal S16384x2 .f32 :=
  Host.divf (dropsA L) (broadcastInDim S16384x2 ![0, 1] bcast_S16384x1_S16384x2_0_1 (broadcastInDim S16384x1 ![0] bcast_S16384_S16384x1_0
    (Host.reduceAdd (dropsA L) (constant S_ .f32 0x00000000#32) reducesTo_S16384x2_S16384_d1 h_S_)))

/-- The gates, with rows of zeros after them. -/
def gatesA : FVec Ideal S8x16384 .f32 :=
  concatenate S8x16384 0 [⟨S2x16384, transpose S2x16384 [1, 0] (gateA L) transposes_S16384x2_S2x16384_1_0⟩,
    ⟨S6x16384, broadcastInDim S6x16384 ![] bcast_S_S6x16384 (constant S_ .f32 0x00000000#32)⟩] concatenates_S2x16384_S6x16384_S8x16384_d0

/-- The counts of each tile, in every lane. -/
def countsA : FVec Ideal S32x16x128 .f32 :=
  broadcastInDim S32x16x128 ![0, 1, 2] bcast_S32x16x1_S32x16x128_0_1_2 (broadcastInDim S32x16x1 ![0, 1] bcast_S32x16_S32x16x1_0_1
    (concatenate S32x16 1 [⟨S32x8, Host.reduceAdd (tilesA L) (constant S_ .f32 0x00000000#32) reducesTo_S32x512x8_S32x8_d1 h_S_⟩,
      ⟨S32x8, broadcastInDim S32x8 ![] bcast_S_S32x8 (constant S_ .f32 0x00000000#32)⟩] concatenates_S32x8_S32x8_S32x16_d1))

/-! ## Their entries -/

/-- A row of the logits. -/
abbrev row (R : Fin 16384) : Fin 8 → EReal := fun e => L (ix2 R e)

/-- A row's first or second choice. -/
def pickAt (l : Fin 8 → EReal) (k : Fin 2) : Fin 8 := if k = 0 then top1 l else top2 l

theorem two_apply (R : Fin 16384) (k : Fin 2) :
    (twoA L).1 (ix2 R k) = L (ix2 R (pickAt (row L R) k)) ∧ (twoA L).2 (ix2 R k) = BitVec.ofNat 32 (pickAt (row L R) k).val := by
  have h : sortedFrom (fun a b => Ideal.cmp .ogt (L (ix2 R a)) (L (ix2 R b)) == 1#1) (k.castLE (by decide)) = pickAt (row L R) k := sorted_two (row L R) k
  have ha : ∀ (j : S16384x8.Idx) (a : Fin 8), j 0 = R → j.along 1 a = ix2 R a := by
    intro j a hj
    funext x
    match x with
    | ⟨0, _⟩ => exact hj
    | ⟨1, _⟩ => rfl
  have hp : ∀ j : S16384x8.Idx, j 0 = R → j 1 = k.castLE (by decide) →
      sortedFrom (fun a b : Fin 8 => Ideal.cmp .ogt (L (j.along 1 a)) (L (j.along 1 b)) == 1#1) (j 1) = pickAt (row L R) k := by
    intro j h0 h1
    rw [h1]
    simp only [ha j _ h0]
    exact h
  have hs : ∀ j : S16384x8.Idx, j 0 = R → j 1 = k.castLE (by decide) →
      j.along 1 (sortedFrom (fun a b : Fin 8 => Ideal.cmp .ogt (L (j.along 1 a)) (L (j.along 1 b)) == 1#1) (j 1)) = ix2 R (pickAt (row L R) k) :=
    fun j h0 h1 => (congrArg (j.along 1) (hp j h0 h1)).trans (ha j _ h0)
  refine ⟨congrArg L (hs _ (Fin.ext (Nat.zero_add _)) (Fin.ext (Nat.zero_add _))), ?_⟩
  exact congrArg (fun i : S16384x8.Idx => BitVec.ofNat 32 (i 1).val) (hs _ (Fin.ext (Nat.zero_add _)) (Fin.ext (Nat.zero_add _)))

theorem pick_bit : ∀ a b : Fin 8, IntOp.cmpi .eq (BitVec.ofNat 32 a.val) (BitVec.ofNat 32 b.val) = BitVec.ofBool (decide (a = b)) := by decide +kernel

theorem bit_one : FloatOps.uitofp (F := Ideal) FTy.f32 1#1 = (1 : EReal) := by
  show ((((1#1 : BitVec 1).toNat : ℝ)) : EReal) = 1
  simp

theorem bit_zero : FloatOps.uitofp (F := Ideal) FTy.f32 0#1 = (0 : EReal) := by
  show ((((0#1 : BitVec 1).toNat : ℝ)) : EReal) = 0
  simp

theorem hotA_apply (R : Fin 16384) (k : Fin 2) (e : Fin 8) : hotA L (ix3 R k e) = if pickAt (row L R) k = e then 1 else 0 := by
  unfold hotA
  pointwise
  rw [(two_apply L R k).2, pick_bit]
  by_cases h : pickAt (row L R) k = e
  · rw [if_pos h, decide_eq_true h]; exact bit_one
  · rw [if_neg h, decide_eq_false h]; exact bit_zero

/-- A tile's row. -/
def rowT (t : Fin 32) (q : Fin 512) : Fin 16384 := ⟨t.val * 512 + q.val, by omega⟩

theorem pick_hot (l : Fin 8 → EReal) (e : Fin 8) : ∑ k : Fin 2, (if pickAt l k = e then (1 : EReal) else 0) = hot l e := by
  have h0 := (top2_spec l).1
  unfold hot pickAt
  rw [Fin.sum_univ_two, if_pos rfl, if_neg (show ¬ (1 : Fin 2) = 0 by decide)]
  by_cases h1 : top1 l = e
  · rw [if_pos h1, if_neg fun h2 => h0 (h2.trans h1.symm), if_pos (Or.inl h1.symm), add_zero]
  · rw [if_neg h1, zero_add]
    by_cases h2 : top2 l = e
    · rw [if_pos h2, if_pos (Or.inr h2.symm)]
    · rw [if_neg h2, if_neg (by rintro (h | h); exacts [h1 h.symm, h2 h.symm])]

theorem tilesA_apply (t : Fin 32) (q : Fin 512) (e : Fin 8) : tilesA L (ix3 t q e) = hot (row L (rowT t q)) e := by
  rw [← pick_hot]
  unfold tilesA
  pointwise
  exact Finset.sum_congr rfl fun k _ => hotA_apply L _ k e

/-- The window's places are a tile's rows. -/
def rowEquiv : (⟨3, ![1, 512, 1]⟩ : Shape).Idx ≃ Fin 512 where
  toFun w := w 1
  invFun n := ix3 0 n 0
  left_inv w := by
    funext a
    match a with
    | ⟨0, _⟩ => exact Fin.ext (Nat.lt_one_iff.1 (w 0).isLt).symm
    | ⟨1, _⟩ => rfl
    | ⟨2, _⟩ => exact Fin.ext (Nat.lt_one_iff.1 (w 2).isLt).symm
  right_inv _ := rfl

/-- A sum over the rows up to a row, from the last one back. -/
theorem sum_back (f : ℕ → EReal) (q : Fin 512) :
    ∑ n : Fin 512, (if 511 ≤ q.val + n.val then f (q.val + n.val - 511) else 0) = ∑ n : Fin 512, if n.val ≤ q.val then f n.val else 0 := by
  have hq := q.isLt
  refine (Equiv.sum_comp Fin.revPerm _).symm.trans ?_
  have e : ∀ n : Fin 512, (if 511 ≤ q.val + (Fin.revPerm n).val then f (q.val + (Fin.revPerm n).val - 511) else 0)
      = (fun n : ℕ => if n ≤ q.val then f (q.val - n) else 0) n.val := by
    intro n
    have hn := n.isLt
    have hv : (Fin.revPerm n).val = 511 - n.val := by simp [Fin.revPerm, Fin.val_rev]
    rw [hv]
    by_cases h : n.val ≤ q.val
    · rw [if_pos (by omega)]
      simp only [if_pos h]
      congr 1; omega
    · rw [if_neg (by omega)]
      simp only [if_neg h]
  rw [Finset.sum_congr rfl fun n _ => e n, Fin.sum_univ_eq_sum_range (fun n => if n ≤ q.val then f (q.val - n) else 0) 512,
    Fin.sum_univ_eq_sum_range (fun n => if n ≤ q.val then f n else 0) 512]
  have cut : ∀ g : ℕ → EReal, ∑ n ∈ Finset.range 512, (if n ≤ q.val then g n else 0) = ∑ n ∈ Finset.range (q.val + 1), g n := by
    intro g
    refine (Finset.sum_subset (s₁ := Finset.range (q.val + 1)) (fun n hn => ?_) (fun n _ hn => ?_)).symm.trans (Finset.sum_congr rfl fun n hn => ?_)
    · rw [Finset.mem_range] at hn ⊢; omega
    · rw [Finset.mem_range] at hn; exact if_neg (by omega)
    · rw [Finset.mem_range] at hn; exact if_pos (by omega)
  rw [cut (fun n => f (q.val - n)), cut]
  exact Finset.sum_range_reflect f (q.val + 1)

theorem uptoA_apply (t : Fin 32) (q : Fin 512) (e : Fin 8) :
    uptoA L (ix3 t q e) = ∑ n : Fin 512, if n.val ≤ q.val then tilesA L (ix3 t n e) else 0 := by
  have hv : (broadcastInDim S_ ![] bcast_S_S_ (constant (F := Ideal) S_ .f32 0x00000000#32) (Shape.Idx.first h_S_) : EReal) = 0 := by
    pointwise
  set f : ℕ → EReal := fun n => if h : n < 512 then tilesA L (ix3 t ⟨n, h⟩ e) else 0 with hf
  have hfn : ∀ n : Fin 512, f n.val = tilesA L (ix3 t n e) := fun n => dif_pos n.isLt
  unfold uptoA
  rw [Cert.Stick.Ref.window_add, hv]
  refine (Cert.Stick.Ref.foldl_sum _ _ _).trans ?_
  rw [zero_add, ← Fin.sum_univ_def]
  have key : ∀ w : (⟨3, ![1, 512, 1]⟩ : Shape).Idx,
      (if hin : ∀ a : Fin 3, (![0, 511, 0] : Fin 3 → ℕ) a ≤ (ix3 t q e a).val * (![1, 1, 1] : Fin 3 → ℕ) a + (w a).val
          ∧ (ix3 t q e a).val * (![1, 1, 1] : Fin 3 → ℕ) a + (w a).val - (![0, 511, 0] : Fin 3 → ℕ) a < S32x512x8.size a
        then tilesA L (fun a => ⟨(ix3 t q e a).val * (![1, 1, 1] : Fin 3 → ℕ) a + (w a).val - (![0, 511, 0] : Fin 3 → ℕ) a, (hin a).2⟩) else (0 : EReal))
      = if 511 ≤ q.val + (rowEquiv w).val then f (q.val + (rowEquiv w).val - 511) else 0 := by
    intro w
    have w0 : (w 0).val = 0 := by have := (w 0).isLt; exact Nat.lt_one_iff.1 this
    have w2 : (w 2).val = 0 := by have := (w 2).isLt; exact Nat.lt_one_iff.1 this
    have w1 : (rowEquiv w).val = (w 1).val := rfl
    have hw : (rowEquiv w).val < 512 := (rowEquiv w).isLt
    have ht := t.isLt
    have hq := q.isLt
    have he := e.isLt
    by_cases hs : 511 ≤ q.val + (rowEquiv w).val
    · rw [if_pos hs]
      rw [dif_pos (fun a => by
        match a with
        | ⟨0, _⟩ => show 0 ≤ t.val * 1 + (w 0).val ∧ t.val * 1 + (w 0).val - 0 < 32; omega
        | ⟨1, _⟩ => show 511 ≤ q.val * 1 + (w 1).val ∧ q.val * 1 + (w 1).val - 511 < 512; omega
        | ⟨2, _⟩ => show 0 ≤ e.val * 1 + (w 2).val ∧ e.val * 1 + (w 2).val - 0 < 8; omega)]
      refine Eq.trans ?_ (hfn ⟨q.val + (rowEquiv w).val - 511, by omega⟩).symm
      refine congrArg (tilesA L) (funext fun a => Fin.ext ?_)
      match a with
      | ⟨0, _⟩ => show t.val * 1 + (w 0).val - 0 = t.val; omega
      | ⟨1, _⟩ => show q.val * 1 + (w 1).val - 511 = q.val + (rowEquiv w).val - 511; omega
      | ⟨2, _⟩ => show e.val * 1 + (w 2).val - 0 = e.val; omega
    · rw [if_neg hs]
      refine dif_neg fun hin => hs ?_
      have h1 := (hin 1).1
      change 511 ≤ q.val * 1 + (w 1).val at h1
      omega
  refine (Finset.sum_congr rfl fun n _ => key _).trans ?_
  refine (Equiv.sum_comp ((⟨3, ![1, 512, 1]⟩ : Shape).rowMajor.symm)
    (fun w => if 511 ≤ q.val + (rowEquiv w).val then f (q.val + (rowEquiv w).val - 511) else 0)).trans ?_
  refine (Equiv.sum_comp rowEquiv (fun n : Fin 512 => if 511 ≤ q.val + n.val then f (q.val + n.val - 511) else 0)).trans ?_
  refine (sum_back f q).trans (Finset.sum_congr rfl fun n _ => ?_)
  rw [hfn]

/-- The logits of a tile's rows. -/
abbrev tileRows (t : Fin 32) (q : Fin 512) : Fin 8 → EReal := row L (rowT t q)

theorem hot_fine (l : Fin 8 → EReal) (e : Fin 8) : Fine (hot l e) := by
  unfold hot
  split
  · exact ⟨1, EReal.coe_one.symm⟩
  · exact ⟨0, EReal.coe_zero.symm⟩

theorem before_fine (ls : Fin 512 → Fin 8 → EReal) (q : Fin 512) (e : Fin 8) : Fine (before ls q e) :=
  Fine.sum _ _ fun t => by
    split
    · exact hot_fine _ _
    · exact ⟨0, EReal.coe_zero.symm⟩

/-- The rows up to a row, without it, are the rows before it. -/
theorem before_eq (t : Fin 32) (q : Fin 512) (e : Fin 8) : uptoA L (ix3 t q e) - tilesA L (ix3 t q e) = before (tileRows L t) q e := by
  have hsum : uptoA L (ix3 t q e) = before (tileRows L t) q e + hot (tileRows L t q) e := by
    rw [uptoA_apply]
    have h1 : hot (tileRows L t q) e = ∑ n : Fin 512, if n = q then hot (tileRows L t n) e else 0 := by
      rw [Finset.sum_ite_eq' Finset.univ q fun n => hot (tileRows L t n) e, if_pos (Finset.mem_univ _)]
    rw [h1]
    unfold before
    rw [← Finset.sum_add_distrib]
    refine Finset.sum_congr rfl fun n _ => ?_
    rw [tilesA_apply]
    rcases lt_trichotomy n.val q.val with h | h | h
    · rw [if_pos h.le, if_pos h, if_neg fun hn => h.ne (congrArg Fin.val hn), add_zero]
    · rw [if_pos h.le, if_neg (by omega), if_pos (Fin.ext h), zero_add]
    · rw [if_neg (by omega), if_neg (by omega), if_neg fun hn => h.ne' (congrArg Fin.val hn), add_zero]
  rw [hsum, tilesA_apply]
  obtain ⟨a, ha⟩ := before_fine (tileRows L t) q e
  obtain ⟨b, hb⟩ := hot_fine (tileRows L t q) e
  show before (tileRows L t) q e + hot (tileRows L t q) e - hot (tileRows L t q) e = _
  rw [ha, hb, ← EReal.coe_add, ← EReal.coe_sub, add_sub_cancel_right]

theorem rankA_apply (t : Fin 32) (q : Fin 512) (k : Fin 2) :
    rankA L (ix2 (rowT t q) k) = FloatOps.fptosi (F := Ideal) (φ := .f32) 32 (before (tileRows L t) q (pickAt (tileRows L t q) k)) := by
  have ht : ∀ h, (⟨(rowT t q).val / 512, h⟩ : Fin 32) = t := fun h => Fin.ext (by show (t.val * 512 + q.val) / 512 = t.val; omega)
  have hq : ∀ h, (⟨(rowT t q).val % 512, h⟩ : Fin 512) = q := fun h => Fin.ext (by show (t.val * 512 + q.val) % 512 = q.val; omega)
  unfold rankA
  pointwise
  refine congrArg (FloatOps.fptosi (F := Ideal) (φ := .f32) 32) ?_
  refine (Finset.sum_congr rfl fun x _ => ?_).trans
    ((Finset.sum_ite_eq Finset.univ (pickAt (tileRows L t q) k) (before (tileRows L t) q)).trans (if_pos (Finset.mem_univ _)))
  rw [ht, hq, hotA_apply]
  refine (congrArg (fun y : EReal => (if pickAt (tileRows L t q) k = x then (1 : EReal) else 0) * y) (before_eq L t q x)).trans ?_
  by_cases h : pickAt (tileRows L t q) k = x
  · rw [if_pos h, if_pos h]; exact one_mul _
  · rw [if_neg h, if_neg h]; exact zero_mul _

theorem dropsA_apply (hL : ∀ R e, Fine (L (ix2 R e))) (R : Fin 16384) (k : Fin 2) :
    dropsA L (ix2 R k) = if k = 0 then 1 else drop (row L R) := by
  unfold dropsA
  pointwise
  rw [negInf]
  have hm : Finset.fold max ⊥ (fun x : Fin 2 => (twoA L).1 (ix2 R x)) Finset.univ = row L R (top1 (row L R)) := by
    refine (fold_max _ (0 : Fin 2) fun x => ?_).trans ((two_apply L R 0).1)
    show (twoA L).1 (ix2 R x) ≤ (twoA L).1 (ix2 R 0)
    rw [(two_apply L R x).1, (two_apply L R 0).1]
    exact (top1_spec (row L R)).1 _
  refine (congrArg (fun y : EReal => Ideal.exp ((twoA L).1 (ix2 R k) - max ⊥ y)) hm).trans ?_
  show Ideal.exp ((twoA L).1 (ix2 R k) - max ⊥ (row L R (top1 (row L R)))) = _
  rw [max_eq_right bot_le, (two_apply L R k).1]
  by_cases h : k = 0
  · rw [if_pos h, h]
    refine (congrArg Ideal.exp (hL R (top1 (row L R))).sub_self).trans ?_
    rw [← EReal.coe_zero, Ideal.exp_coe, Real.exp_zero, EReal.coe_one]
  · rw [if_neg h]
    unfold pickAt
    rw [if_neg h]
    rfl

theorem gateA_apply (hL : ∀ R e, Fine (L (ix2 R e))) (R : Fin 16384) (k : Fin 2) :
    gateA L (ix2 R k) = if k = 0 then gate1 (row L R) else gate2 (row L R) := by
  unfold gateA
  pointwise
  rw [Fin.sum_univ_two, dropsA_apply L hL, dropsA_apply L hL, dropsA_apply L hL, if_pos rfl, if_neg (show ¬ (1 : Fin 2) = 0 by decide)]
  by_cases h : k = 0
  · rw [if_pos h, if_pos h]; rfl
  · rw [if_neg h, if_neg h]; rfl

theorem ranksA_apply (s : Fin 8) (t : Fin 32) (q : Fin 512) : ranksA L (ix2 s (rowT t q)) = ranks (tileRows L t) s q := by
  unfold ranksA
  pointwise
  have h1 := fun k => (two_apply L (rowT t q) k).2
  have h2 := rankA_apply L t q
  obtain ⟨s, hs⟩ := s
  unfold ranks
  interval_cases s <;> simp [h1, h2, pickAt]

theorem gatesA_apply (hL : ∀ R e, Fine (L (ix2 R e))) (s : Fin 8) (R : Fin 16384) : gatesA L (ix2 s R) = gates (row L R) s := by
  unfold gatesA
  pointwise
  have h1 := gateA_apply L hL R
  obtain ⟨s, hs⟩ := s
  unfold gates
  interval_cases s <;> simp [h1]

theorem countsA_apply (t : Fin 32) (e : Fin 16) (x : Fin 128) : countsA L (ix3 t e x) = counts (tileRows L t) e := by
  unfold countsA
  pointwise
  unfold counts count
  by_cases h : e.val < 8
  · rw [dif_pos h, dif_pos h]; exact Finset.sum_congr rfl fun q _ => tilesA_apply L t q _
  · rw [dif_neg h, dif_neg h]

end Cert.Route
end
-- ==== Proof.RouteChoice.lean ====
/- The reference of the expert layer's mixing call leaves what its kernel leaves, at every entry of the three routing arrays. -/
module

public import proofs.«01_k».proof.Proof.RouteEqual
public import proofs.«01_k».proof.Proof.RouteFinal
public import proofs.«01_k».proof.Proof.RouteRef

@[expose] public section

set_option maxRecDepth 16384
noncomputable section

namespace Cert.Route

open Idealize.ShloMosaic Idealize.ShloMosaic.TcCoe Idealize.ShloMosaic.Tactic
open Idealize.ShloMosaic.Pointwise
open Cert.In (nrm)
open Cert.Mix (normA normA_apply)

section Ref
open Cert.Reference5Ideal Cert.Reference5Ideal.Gen

/-- The logits of an array of rows: the normalised rows against the router. -/
def logitsA (y : FVec Ideal Cert.Reference4Ideal.S16384x1024 .f32) (g : FVec Ideal S1024 .f32) (w : FVec Ideal S1024x8 .f32) : FVec Ideal S16384x8 .f32 :=
  Host.dotGeneral dot_S16384x1024_S1024x8_S16384x8_1_0_0_1_n_n none (normA y g) w

theorem logitsA_apply (y : FVec Ideal Cert.Reference4Ideal.S16384x1024 .f32) (g : FVec Ideal S1024 .f32) (w : FVec Ideal S1024x8 .f32)
    (R : Fin 16384) (e : Fin 8) :
    logitsA y g w (ix2 R e) = lg (fun j => y (ix2 R j)) (fun j => g (ix1 j)) (fun j e => w (ix2 j e)) e := by
  unfold logitsA
  pointwise
  exact Finset.sum_congr rfl fun j _ => congrArg (fun a : EReal => a * w (ix2 j e)) (normA_apply y g R j)

variable (m : (ℓ : Loc nD τ sig) → Buf (Elt Ideal) ℓ) (c : Dev nD)

/-- The reference's logits. -/
abbrev logitsR : FVec Ideal S16384x8 .f32 :=
  logitsA (sumR m c) (m ((c.tc : Thread nD τ).loc main_arg10)) (m ((c.tc : Thread nD τ).loc main_arg11))

theorem res_ranks : Value.res_out2 m c = ranksA (logitsR m c) := by
  unfold Value.res_out2 Value.res_main_v75
  rfl

theorem res_gates : Value.res_out3 m c = gatesA (logitsR m c) := by
  unfold Value.res_out3 Value.res_main_v78
  rfl

theorem res_counts : Value.res_out4 m c = countsA (logitsR m c) := by
  unfold Value.res_out4 Value.res_main_v83
  rfl

end Ref

open Cert.Kernel5Ideal Cert.Kernel5Ideal.Gen Cert.Kernel5Ideal.Value

variable (m : (ℓ : Loc nD τ sig) → Buf (Elt Ideal) ℓ) (c : Dev nD)

/-- The logits of the call's arguments, as the reference computes them. -/
abbrev logitsK : FVec Ideal Cert.Reference5Ideal.S16384x8 .f32 := logitsA (sumA m c) (gin m c) (rin m c)

theorem logitsK_row (R : Fin 16384) : row (logitsK m c) R = rowL m c R := by
  funext e
  refine (logitsA_apply _ _ _ R e).trans ?_
  exact congrArg (fun v : Fin 1024 → EReal => lg v (fun j => gin m c (ix1 j)) (fun j e => rin m c (ix2 j e)) e) (funext fun j => sumA_row m c R j)

theorem tile_rows (t : Fin 32) : tileRows (logitsK m c) t = fun q => rowL m c (rowT t q) := funext fun q => logitsK_row m c (rowT t q)

variable (hg : ∀ j : Fin 1024, Fine (gin m c (ix1 j))) (hw : ∀ (j : Fin 1024) (e : Fin 8), Fine (rin m c (ix2 j e)))
include hg hw

theorem logitsK_fine (R : Fin 16384) (e : Fin 8) : Fine (logitsK m c (ix2 R e)) :=
  (congrArg Fine (congrFun (logitsK_row m c R) e)).mpr (lg_fine _ _ _ hg hw e)

theorem eq16 : ranksA (logitsK m c) = (dats m 0 c).arrAt 16 cfg0.N := by
  funext i
  obtain ⟨s, R, rfl⟩ : ∃ (s : Fin 8) (R : Fin 16384), i = ix2 s R := ⟨i 0, i 1, eq_ix2 i⟩
  rw [← row_eq R]
  refine Eq.trans ?_ (final16 m c (pt R) hg hw s (plc R)).symm
  exact (ranksA_apply (logitsK m c) s (pt R) (plc R)).trans (congrArg (fun ls => ranks ls s (plc R)) (tile_rows m c (pt R)))

theorem eq17 : gatesA (logitsK m c) = (dats m 0 c).arrAt 17 cfg0.N := by
  funext i
  obtain ⟨s, R, rfl⟩ : ∃ (s : Fin 8) (R : Fin 16384), i = ix2 s R := ⟨i 0, i 1, eq_ix2 i⟩
  rw [← row_eq R]
  refine Eq.trans ?_ (final17 m c (pt R) hg hw s (plc R)).symm
  refine (gatesA_apply (logitsK m c) (logitsK_fine m c hg hw) s _).trans ?_
  exact congrArg (fun l => gates l s) (logitsK_row m c _)

theorem eq18 : countsA (logitsK m c) = (dats m 0 c).arrAt 18 cfg0.N := by
  funext i
  obtain ⟨t, e, k, rfl⟩ : ∃ (t : Fin 32) (e : Fin 16) (k : Fin 128), i = ix3 t e k := ⟨i 0, i 1, i 2, eq_ix3 i⟩
  refine Eq.trans ?_ (final18 m c t hg hw e k).symm
  exact (countsA_apply (logitsK m c) t e k).trans (congrArg (fun ls => counts ls e) (tile_rows m c t))

end Cert.Route
end
-- ==== Proof.RoutePre.lean ====
/- What the precondition gives: the router and the scale of the norm are real numbers. -/
module

public import proofs.«01_k».proof.Proof.RouteOut
public import proofs.«01_k».proof.Proof.Gen.Pre_router_finite
public import proofs.«01_k».proof.Proof.Gen.On_rows_out

@[expose] public section

set_option maxRecDepth 16384
noncomputable section

namespace Cert.Route

open Idealize.ShloMosaic Idealize.ShloMosaic.TcCoe Idealize.ShloMosaic.Tactic
open Idealize.ShloMosaic.Pointwise

section Pre
open Cert.Pre_router_finite

theorem both_bits : ∀ a b : Bool, IntOp.andi (BitVec.ofBool a) (BitVec.ofBool b) = 1#1 → a = true ∧ b = true := by
  decide

/-- A value whose magnitude is below infinity is a real number. -/
theorem fine_of_abs (x : EReal) (h : FloatOps.absf (F := Ideal) (φ := .f32) x < ⊤) : Fine x := by
  induction x with
  | bot => exact absurd h (by rw [Ideal.absf_def]; simp)
  | coe a => exact ⟨a, rfl⟩
  | top => exact absurd h (by rw [Ideal.absf_def]; simp)

theorem posInf : Ideal.ofBits FTy.f32 2139095040#32 = ⊤ := by
  simp [Ideal.ofBits, Ideal.ieee]

variable (a0 : FVec Ideal S16384x1024 .f32) (a1 a2 : FVec Ideal S16384x512 .bf16) (a3 : FVec Ideal S16384x512 .f32) (a4 a5 : FVec Ideal S16384x1024 .bf16)
  (a6 : FVec Ideal S3x512 .f32) (a7 a8 : FVec Ideal S512x1024 .f32) (a9 : FVec Ideal S1024x1024 .f32) (a10 : FVec Ideal S1024 .f32)
  (a11 : FVec Ideal S1024x8 .f32)

/-- The precondition at an entry: the router's weight and the norm's are real numbers. -/
theorem finite_of (h : Cert.Pre_router_finite.fn (F := Ideal) a0 a1 a2 a3 a4 a5 a6 a7 a8 a9 a10 a11 = fun _ => 1#1) (j : Fin 1024) (e : Fin 8) :
    Fine (a11 (ix2 j e)) ∧ Fine (a10 (ix1 j)) := by
  have h1 := congrFun h (ix2 j e)
  revert h1
  unfold Cert.Pre_router_finite.fn
  pointwise
  intro h1
  have h2 := both_bits _ _ h1
  have h3 := of_decide_eq_true h2.1
  have h4 := of_decide_eq_true h2.2
  rw [posInf] at h3 h4
  exact ⟨fine_of_abs _ h3, fine_of_abs _ h4⟩

end Pre

section Mask
open Cert.On_rows_out

variable (a0 : FVec Ideal S16384x1024 .f32) (a1 a2 : FVec Ideal S16384x512 .bf16) (a3 : FVec Ideal S16384x512 .f32) (a4 a5 : FVec Ideal S16384x1024 .bf16)
  (a6 : FVec Ideal S3x512 .f32) (a7 a8 : FVec Ideal S512x1024 .f32) (a9 : FVec Ideal S1024x1024 .f32) (a10 : FVec Ideal S1024 .f32)
  (a11 : FVec Ideal S1024x8 .f32)

/-- The mask keeps no entry of the three routing results. -/
theorem mask_rest :
    (∀ i, (Cert.On_rows_out.fn (F := Ideal) a0 a1 a2 a3 a4 a5 a6 a7 a8 a9 a10 a11).2.2.1 i ≠ 1#1)
    ∧ (∀ i, (Cert.On_rows_out.fn (F := Ideal) a0 a1 a2 a3 a4 a5 a6 a7 a8 a9 a10 a11).2.2.2.1 i ≠ 1#1)
    ∧ (∀ i, (Cert.On_rows_out.fn (F := Ideal) a0 a1 a2 a3 a4 a5 a6 a7 a8 a9 a10 a11).2.2.2.2 i ≠ 1#1) :=
  ⟨fun _ h => absurd (show (0#1 : BitVec 1) = 1#1 from h) (by decide), fun _ h => absurd (show (0#1 : BitVec 1) = 1#1 from h) (by decide),
    fun _ h => absurd (show (0#1 : BitVec 1) = 1#1 from h) (by decide)⟩

end Mask

end Cert.Route
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.On_layer_done
public import proofs.«01_k».proof.Proof.Gen.Pre_experts_exist
public import proofs.«01_k».proof.Proof.Gen.On_rows_used
public import proofs.«01_k».proof.Proof.Gen.Pre_router_finite
public import proofs.«01_k».proof.Proof.Gen.On_rows_out
public import proofs.«01_k».proof.Proof.Equal
public import proofs.«01_k».proof.Proof.MoeBitsLaunch
public import proofs.«01_k».proof.Proof.MoePre
public import proofs.«01_k».proof.Proof.MoeEqual
public import proofs.«01_k».proof.Proof.InEqual
public import proofs.«01_k».proof.Proof.MixEqual
public import proofs.«01_k».proof.Proof.RouteChoice
public import proofs.«01_k».proof.Proof.RoutePre
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant is the printed one's value at the extended reals. -/
theorem preserves : Cert.preserves_Kernel_KernelIdeal :=
  IdealRules.named_const.statement Cert.KernelIdeal.κ "log2e" .f32 0x3FB8AA3B#32 (((Real.log 2)⁻¹ : ℝ) : EReal) rfl

/-- Of arguments that agree, the kernel and the reference end with one result array. -/
theorem algebraic : Cert.algebraic_KernelIdeal_ReferenceIdeal := by
  intro m ρ m' ρ' _ hagree
  refine ⟨fun c => Cert.Stick.GK m c, ?_, ?_⟩
  · exact (θ_run Cert.KernelIdeal.defs _ _).mono (fun _ h c => ⟨(h c).1.trans (Cert.Stick.final5 m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.Stick.Ref.res_eq, (hagree c).1, (hagree c).2.1, (hagree c).2.2.1, (hagree c).2.2.2]
    exact Cert.Stick.out_eq _ _ _ _

/-- Every expert of the table is one of the eight. -/
theorem good_k2 (m) (h : Cert.Pre_Kernel2 m) : Cert.Kernel2.Moe.Good (Cert.Kernel2.Moe.tabs m) := fun x =>
  Cert.MoePre.expert_lt _ _ _ _ _ _ _ (h (⟨0, Nat.one_pos⟩ : Dev Cert.Kernel2.nD)) x

theorem good_k2i (m) (h : Cert.Pre_Kernel2Ideal m) : Cert.Kernel2Ideal.Moe.Good (Cert.Kernel2Ideal.Moe.tabs m) := fun x =>
  Cert.MoePre.expert_lt _ _ _ _ _ _ _ (h (⟨0, Nat.one_pos⟩ : Dev Cert.Kernel2Ideal.nD)) x

theorem frame_p2 : Cert.quiescent_Kernel2 := fun m ρ h => Cert.Kernel2.Moe.frame m ρ (good_k2 m h)
theorem frame_pi2 : Cert.quiescent_Kernel2Ideal := fun m ρ h => Cert.Kernel2Ideal.Moe.frame m ρ (good_k2i m h)
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves2 : Cert.preserves_Kernel2_Kernel2Ideal := trivial

/-- Of arguments that agree, the expert kernel and its reference end with one array on the rows of the tiles in use. -/
theorem algebraic2 : Cert.algebraic_Kernel2Ideal_Reference2Ideal_on_rows_used := by
  intro m ρ m' ρ' hpre hagree
  refine ⟨fun c => Cert.Kernel2Ideal.Moe.sumK m c, ?_, ?_⟩
  · refine (θ_run Cert.Kernel2Ideal.defs _ _).mono (fun _ h c => ⟨fun i hi => (h c).1 i ?_, (h c).2⟩)
      (Cert.Kernel2Ideal.Moe.run_rows m ρ (good_k2i m hpre))
    rw [Cert.Kernel2Ideal.Moe.nw_eq m c]
    rw [eq_ix2 i] at hi
    exact Cert.MoeMask.mask_live _ _ _ _ _ _ _ _ _ hi
  · refine (θ_run Cert.Reference2Ideal.defs _ _).mono (fun _ h c => ⟨fun i _ => congrFun ((h c).1.trans ?_) i, (h c).2⟩)
      (Cert.Reference2Ideal.Value.run (F := Ideal) m' ρ')
    obtain ⟨h0, h1, h2, h3, h4, h5, h6⟩ := hagree c
    rw [Cert.MoeRef.res_eq, h0, h2, h3, h4, h5, h6]
    rfl

/-! ## The third program: the input projection -/

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2.2.2.2.2.2.2.2.2,
      Idealize.ShloMosaic.sem_eq_zero_of_no_sems (by decide) r.2⟩)
    (Cert.Reference3Ideal.Value.run (F := Ideal) m ρ)

/-- Its one named constant is one over the logarithm of 256. -/
theorem preserves3 : Cert.preserves_Kernel3_Kernel3Ideal :=
  IdealRules.named_const.statement Cert.Kernel3Ideal.κ "qscale" .f32 0x3E38AA3B#32 (((Real.log 256)⁻¹ : ℝ) : EReal) rfl

/-- Of arguments that agree, the projection and its reference end with the same nine arrays, of the two caches in the layer's own slot. -/
theorem algebraic3 : Cert.algebraic_Kernel3Ideal_Reference3Ideal_on_layer_done := by
  intro m ρ m' ρ' _ hagree
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N,
    fun c => (Cert.Kernel3Ideal.Gen.dats m 0 c).arrAt 5 Cert.Kernel3Ideal.cfg0.N, fun c => (Cert.Kernel3Ideal.Gen.dats m 0 c).arrAt 6 Cert.Kernel3Ideal.cfg0.N,
    fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N, fun c => (Cert.Kernel3Ideal.Gen.dats m 0 c).arrAt 10 Cert.Kernel3Ideal.cfg0.N,
    fun c => (Cert.Kernel3Ideal.Gen.dats m 0 c).arrAt 11 Cert.Kernel3Ideal.cfg0.N, ?_, ?_⟩
  · refine (θ_run Cert.Kernel3Ideal.defs _ _).mono (fun _ h c => ?_) (Cert.Kernel3Ideal.Value.run_blocks (F := Ideal) m ρ)
    obtain ⟨h0, h1, h2, h3, h4, h5, h6, h7, h8, ha⟩ := h c
    exact ⟨fun i _ => congrFun h0 i, fun i _ => congrFun h1 i, fun i _ => congrFun h2 i, fun i _ => congrFun h3 i, fun i _ => congrFun h4 i,
      fun i _ => congrFun h5 i, fun i _ => congrFun h6 i, fun i _ => congrFun h7 i, fun i _ => congrFun h8 i, ha⟩
  · refine (θ_run Cert.Reference3Ideal.defs _ _).mono (fun _ h c => ?_) (Cert.Reference3Ideal.Value.run (F := Ideal) m' ρ')
    obtain ⟨a0, a1, a2⟩ := hagree c
    obtain ⟨h0, h1, h2, h3, h4, h5, h6, h7, h8, ha⟩ := h c
    rw [a0, a1, a2] at h0 h1 h2 h3 h4 h5 h6 h7 h8
    refine ⟨fun i _ => congrFun (h0.trans (Cert.In.eq3 m c)) i, fun i hi => ?_, fun i hi => ?_, fun i _ => congrFun (h3.trans (Cert.In.eq6 m c)) i,
      fun i _ => congrFun (h4.trans (Cert.In.eq7 m c)) i, fun i _ => congrFun (h5.trans (Cert.In.eq8 m c)) i,
      fun i _ => congrFun (h6.trans (Cert.In.eq9 m c)) i, fun i _ => congrFun (h7.trans (Cert.In.eq10 m c)) i,
      fun i _ => congrFun (h8.trans (Cert.In.eq11 m c)) i, ha⟩
    · rw [Cert.In.mask_first (Cert.In.xin m c) (Cert.In.gin m c) (Cert.In.win m c) i hi]
      exact (congrFun h1 _).trans (Cert.In.eq4 m c _ _ _)
    · rw [Cert.In.mask_first (Cert.In.xin m c) (Cert.In.gin m c) (Cert.In.win m c) i hi]
      exact (congrFun h2 _).trans (Cert.In.eq5 m c _ _ _)

/-! ## The fourth program: the dense layer -/

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- It names no constant. -/
theorem preserves4 : Cert.preserves_Kernel4_Kernel4Ideal := trivial

/-- Of arguments that agree, the dense layer's call and its reference end with the same rows. -/
theorem algebraic4 : Cert.algebraic_Kernel4Ideal_Reference4Ideal := by
  intro m ρ m' ρ' _ hagree
  refine ⟨fun c => (Cert.Kernel4Ideal.Gen.dats m 0 c).arrAt 15 Cert.Kernel4Ideal.cfg0.N, ?_, ?_⟩
  · exact Cert.Kernel4Ideal.Value.run_blocks (F := Ideal) m ρ
  · refine (θ_run Cert.Reference4Ideal.defs _ _).mono (fun _ h c => ⟨(h c).1.trans ?_, (h c).2⟩)
      (Cert.Reference4Ideal.Value.run (F := Ideal) m' ρ')
    obtain ⟨e0, e1, e2, e3, e4, e5, e6, e7, e8, e9, e10, e11, e12, e13⟩ := hagree c
    rw [Cert.Mix.res_eq, e0, e1, e2, e3, e4, e5, e6, e7, e8, e9, e10, e11, e12, e13]
    exact Cert.Mix.eq15 m c

/-! ## The fifth program: the mixing in the expert layer -/

theorem frame_p5 : Cert.quiescent_Kernel5 := fun m ρ _ => Cert.Kernel5.Gen.frame m ρ

theorem frame_pi5 : Cert.quiescent_Kernel5Ideal := fun m ρ _ => Cert.Kernel5Ideal.Gen.frame m ρ

theorem frame_pi5_finite : Cert.quiescent_Kernel5Ideal_pre_router_finite := fun m ρ _ => Cert.Kernel5Ideal.Gen.frame m ρ

theorem frame_ri5 : Cert.quiescent_Reference5Ideal := fun m ρ _ =>
  (θ_run Cert.Reference5Ideal.defs _ _).mono (fun r h => ⟨fun c => (h c).2.2.2.2.2,
      Idealize.ShloMosaic.sem_eq_zero_of_no_sems (by decide) r.2⟩)
    (Cert.Reference5Ideal.Value.run (F := Ideal) m ρ)

theorem frame_ri5_finite : Cert.quiescent_Reference5Ideal_pre_router_finite := fun m ρ _ => frame_ri5 m ρ trivial

/-- It names no constant. -/
theorem preserves5 : Cert.preserves_Kernel5_Kernel5Ideal := trivial

/-- Of arguments that agree, the reference's first array of rows is the kernel's. -/
theorem sums_agree (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (e0 : m' ((c.tc : Thread Cert.Reference5Ideal.nD Cert.Reference5Ideal.τ).loc Cert.Reference5Ideal.main_arg0)
      = m ((c.tc : Thread Cert.Kernel5Ideal.nD Cert.Kernel5Ideal.τ).loc Cert.Kernel5Ideal.main_arg0))
    (e1 : m' ((c.tc : Thread Cert.Reference5Ideal.nD Cert.Reference5Ideal.τ).loc Cert.Reference5Ideal.main_arg1)
      = m ((c.tc : Thread Cert.Kernel5Ideal.nD Cert.Kernel5Ideal.τ).loc Cert.Kernel5Ideal.main_arg1))
    (e2 : m' ((c.tc : Thread Cert.Reference5Ideal.nD Cert.Reference5Ideal.τ).loc Cert.Reference5Ideal.main_arg2)
      = m ((c.tc : Thread Cert.Kernel5Ideal.nD Cert.Kernel5Ideal.τ).loc Cert.Kernel5Ideal.main_arg2))
    (e3 : m' ((c.tc : Thread Cert.Reference5Ideal.nD Cert.Reference5Ideal.τ).loc Cert.Reference5Ideal.main_arg3)
      = m ((c.tc : Thread Cert.Kernel5Ideal.nD Cert.Kernel5Ideal.τ).loc Cert.Kernel5Ideal.main_arg3))
    (e4 : m' ((c.tc : Thread Cert.Reference5Ideal.nD Cert.Reference5Ideal.τ).loc Cert.Reference5Ideal.main_arg4)
      = m ((c.tc : Thread Cert.Kernel5Ideal.nD Cert.Kernel5Ideal.τ).loc Cert.Kernel5Ideal.main_arg4))
    (e5 : m' ((c.tc : Thread Cert.Reference5Ideal.nD Cert.Reference5Ideal.τ).loc Cert.Reference5Ideal.main_arg5)
      = m ((c.tc : Thread Cert.Kernel5Ideal.nD Cert.Kernel5Ideal.τ).loc Cert.Kernel5Ideal.main_arg5))
    (e6 : m' ((c.tc : Thread Cert.Reference5Ideal.nD Cert.Reference5Ideal.τ).loc Cert.Reference5Ideal.main_arg6)
      = m ((c.tc : Thread Cert.Kernel5Ideal.nD Cert.Kernel5Ideal.τ).loc Cert.Kernel5Ideal.main_arg6))
    (e7 : m' ((c.tc : Thread Cert.Reference5Ideal.nD Cert.Reference5Ideal.τ).loc Cert.Reference5Ideal.main_arg7)
      = m ((c.tc : Thread Cert.Kernel5Ideal.nD Cert.Kernel5Ideal.τ).loc Cert.Kernel5Ideal.main_arg7))
    (e8 : m' ((c.tc : Thread Cert.Reference5Ideal.nD Cert.Reference5Ideal.τ).loc Cert.Reference5Ideal.main_arg8)
      = m ((c.tc : Thread Cert.Kernel5Ideal.nD Cert.Kernel5Ideal.τ).loc Cert.Kernel5Ideal.main_arg8))
    (e9 : m' ((c.tc : Thread Cert.Reference5Ideal.nD Cert.Reference5Ideal.τ).loc Cert.Reference5Ideal.main_arg9)
      = m ((c.tc : Thread Cert.Kernel5Ideal.nD Cert.Kernel5Ideal.τ).loc Cert.Kernel5Ideal.main_arg9))
    : Cert.Route.sumR m' c = Cert.Route.sumA m c := by
  unfold Cert.Route.sumR
  rw [e0, e1, e2, e3, e4, e5, e6, e7, e8, e9]

/-- Of arguments that agree, the expert layer's mixing call and its reference end with the same two arrays of rows. -/
theorem algebraic5_rows : Cert.algebraic_Kernel5Ideal_Reference5Ideal_on_rows_out := by
  intro m ρ m' ρ' _ hagree
  refine ⟨fun c => (Cert.Kernel5Ideal.Gen.dats m 0 c).arrAt 14 Cert.Kernel5Ideal.cfg0.N,
    fun c => (Cert.Kernel5Ideal.Gen.dats m 0 c).arrAt 15 Cert.Kernel5Ideal.cfg0.N,
    fun c => (Cert.Kernel5Ideal.Gen.dats m 0 c).arrAt 16 Cert.Kernel5Ideal.cfg0.N,
    fun c => (Cert.Kernel5Ideal.Gen.dats m 0 c).arrAt 17 Cert.Kernel5Ideal.cfg0.N,
    fun c => (Cert.Kernel5Ideal.Gen.dats m 0 c).arrAt 18 Cert.Kernel5Ideal.cfg0.N, ?_, ?_⟩
  · refine (θ_run Cert.Kernel5Ideal.defs _ _).mono (fun _ h c => ?_) (Cert.Kernel5Ideal.Value.run_blocks (F := Ideal) m ρ)
    obtain ⟨h0, h1, h2, h3, h4, ha⟩ := h c
    exact ⟨fun i _ => congrFun h0 i, fun i _ => congrFun h1 i, fun i _ => congrFun h2 i, fun i _ => congrFun h3 i, fun i _ => congrFun h4 i, ha⟩
  · refine (θ_run Cert.Reference5Ideal.defs _ _).mono (fun _ h c => ⟨fun i _ => congrFun ((h c).1.trans ?_) i,
        fun i _ => congrFun ((h c).2.1.trans ?_) i, fun i hi => absurd hi ((Cert.Route.mask_rest _ _ _ _ _ _ _ _ _ _ _ _).1 i),
        fun i hi => absurd hi ((Cert.Route.mask_rest _ _ _ _ _ _ _ _ _ _ _ _).2.1 i),
        fun i hi => absurd hi ((Cert.Route.mask_rest _ _ _ _ _ _ _ _ _ _ _ _).2.2 i), (h c).2.2.2.2.2⟩)
      (Cert.Reference5Ideal.Value.run (F := Ideal) m' ρ')
    all_goals
      obtain ⟨e0, e1, e2, e3, e4, e5, e6, e7, e8, e9, e10, _⟩ := hagree c
      have hs := sums_agree m m' c e0 e1 e2 e3 e4 e5 e6 e7 e8 e9
    · exact Eq.trans hs (Cert.Route.eq14 m c)
    · refine (Cert.Route.res_norm m' c).trans ?_
      rw [hs, e10]
      exact Cert.Route.eq15 m c

/-- Where the router and the scale of the norm are real numbers, the two end with the same routing as well: the same ranks, gates and
    counts. -/
theorem algebraic5 : Cert.algebraic_Kernel5Ideal_Reference5Ideal_pre_router_finite := by
  intro m ρ m' ρ' hpre hagree
  refine ⟨fun c => (Cert.Kernel5Ideal.Gen.dats m 0 c).arrAt 14 Cert.Kernel5Ideal.cfg0.N,
    fun c => (Cert.Kernel5Ideal.Gen.dats m 0 c).arrAt 15 Cert.Kernel5Ideal.cfg0.N,
    fun c => (Cert.Kernel5Ideal.Gen.dats m 0 c).arrAt 16 Cert.Kernel5Ideal.cfg0.N,
    fun c => (Cert.Kernel5Ideal.Gen.dats m 0 c).arrAt 17 Cert.Kernel5Ideal.cfg0.N,
    fun c => (Cert.Kernel5Ideal.Gen.dats m 0 c).arrAt 18 Cert.Kernel5Ideal.cfg0.N, ?_, ?_⟩
  · exact Cert.Kernel5Ideal.Value.run_blocks (F := Ideal) m ρ
  · refine (θ_run Cert.Reference5Ideal.defs _ _).mono (fun _ h c => ⟨(h c).1.trans ?_, (h c).2.1.trans ?_, (h c).2.2.1.trans ?_,
        (h c).2.2.2.1.trans ?_, (h c).2.2.2.2.1.trans ?_, (h c).2.2.2.2.2⟩)
      (Cert.Reference5Ideal.Value.run (F := Ideal) m' ρ')
    all_goals
      obtain ⟨e0, e1, e2, e3, e4, e5, e6, e7, e8, e9, e10, e11⟩ := hagree c
      have hs := sums_agree m m' c e0 e1 e2 e3 e4 e5 e6 e7 e8 e9
      have hg := fun j => (Cert.Route.finite_of _ _ _ _ _ _ _ _ _ _ _ _ (hpre c) j 0).2
      have hw := fun j e => (Cert.Route.finite_of _ _ _ _ _ _ _ _ _ _ _ _ (hpre c) j e).1
    · exact Eq.trans hs (Cert.Route.eq14 m c)
    · refine (Cert.Route.res_norm m' c).trans ?_
      rw [hs, e10]
      exact Cert.Route.eq15 m c
    · refine (Cert.Route.res_ranks m' c).trans ?_
      unfold Cert.Route.logitsR
      rw [hs, e10, e11]
      exact Cert.Route.eq16 m c hg hw
    · refine (Cert.Route.res_gates m' c).trans ?_
      unfold Cert.Route.logitsR
      rw [hs, e10, e11]
      exact Cert.Route.eq17 m c hg hw
    · refine (Cert.Route.res_counts m' c).trans ?_
      unfold Cert.Route.logitsR
      rw [hs, e10, e11]
      exact Cert.Route.eq18 m c hg hw

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts,
    Cert.Pre_experts_exist.Gen.facts, Cert.Pre_router_finite.Gen.facts, Cert.On_rows_used.Gen.facts, Cert.On_layer_done.Gen.facts,
    Cert.On_rows_out.Gen.facts, frame_p, frame_pi, frame_ri, frame_p2, frame_pi2,
    frame_ri2, frame_p3, frame_pi3, frame_ri3, frame_p4, frame_pi4, frame_ri4, frame_p5, frame_pi5,
    frame_pi5_finite, frame_ri5, frame_ri5_finite, preserves, algebraic, preserves2, algebraic2, preserves3, algebraic3,
    preserves4, algebraic4, preserves5, algebraic5_rows, algebraic5⟩

end Cert.Proof

end
